-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_v41) = v1 c
          ∧ r.2.mem ((c.tc : Thread Cert.Reference5Ideal.nD Cert.Reference5Ideal.τ).loc Cert.Reference5Ideal.main_v42) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_v18) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v17) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v40) = v0 c
          ∧ r.2.mem ((c.tc : Thread Cert.Reference9Ideal.nD Cert.Reference9Ideal.τ).loc Cert.Reference9Ideal.main_v41) = v1 c
          ∧ r.2.mem ((c.tc : Thread Cert.Reference9Ideal.nD Cert.Reference9Ideal.τ).loc Cert.Reference9Ideal.main_v42) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v12) = v0 c
          ∧ r.2.mem ((c.tc : Thread Cert.Reference10Ideal.nD Cert.Reference10Ideal.τ).loc Cert.Reference10Ideal.main_v18) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v38) = v0 c
          ∧ r.2.mem ((c.tc : Thread Cert.Reference15Ideal.nD Cert.Reference15Ideal.τ).loc Cert.Reference15Ideal.main_v39) = v1 c
          ∧ r.2.mem ((c.tc : Thread Cert.Reference15Ideal.nD Cert.Reference15Ideal.τ).loc Cert.Reference15Ideal.main_v40) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v12) = v0 c
          ∧ r.2.mem ((c.tc : Thread Cert.Reference16Ideal.nD Cert.Reference16Ideal.τ).loc Cert.Reference16Ideal.main_v16) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v9) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v7) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v9) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v9) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v6) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v6) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Kernel.lean ====
abbrev S8192x3072 : Shape := ⟨2, ![8192, 3072]⟩
abbrev S8192x1024 : Shape := ⟨2, ![8192, 1024]⟩
abbrev S3x1024 : Shape := ⟨2, ![3, 1024]⟩
abbrev S8x1024 : Shape := ⟨2, ![8, 1024]⟩
abbrev S256x3072 : Shape := ⟨2, ![256, 3072]⟩
abbrev S32x3072 : Shape := ⟨2, ![32, 3072]⟩
abbrev S256x1024 : Shape := ⟨2, ![256, 1024]⟩
abbrev S32x1024 : Shape := ⟨2, ![32, 1024]⟩
abbrev S288x1024 : Shape := ⟨2, ![288, 1024]⟩
abbrev S8x288x1024 : Shape := ⟨3, ![8, 288, 1024]⟩
abbrev S280x1024 : Shape := ⟨2, ![280, 1024]⟩
abbrev S1x280x1024 : Shape := ⟨3, ![1, 280, 1024]⟩
abbrev S1x128 : Shape := ⟨2, ![1, 128]⟩
abbrev S1x64x128 : Shape := ⟨3, ![1, 64, 128]⟩
abbrev S64x128 : Shape := ⟨2, ![64, 128]⟩
abbrev S128 : Shape := ⟨1, ![128]⟩

abbrev nBuf : Space → Nat
  | .hbm => 5
  | .vmem => 18
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .f32⟩
  | .hbm, ⟨2, _⟩ => ⟨S3x1024, .f32⟩
  | .hbm, ⟨3, _⟩ => ⟨S8192x3072, .bf16⟩
  | .hbm, ⟨4, _⟩ => ⟨S8x1024, .f32⟩
  | .local _ .vmem, ⟨0, _⟩ => ⟨S256x3072, .bf16⟩
  | .local _ .vmem, ⟨1, _⟩ => ⟨S256x3072, .bf16⟩
  | .local _ .vmem, ⟨2, _⟩ => ⟨S32x3072, .bf16⟩
  | .local _ .vmem, ⟨3, _⟩ => ⟨S32x3072, .bf16⟩
  | .local _ .vmem, ⟨4, _⟩ => ⟨S32x3072, .bf16⟩
  | .local _ .vmem, ⟨5, _⟩ => ⟨S32x3072, .bf16⟩
  | .local _ .vmem, ⟨6, _⟩ => ⟨S256x1024, .f32⟩
  | .local _ .vmem, ⟨7, _⟩ => ⟨S256x1024, .f32⟩
  | .local _ .vmem, ⟨8, _⟩ => ⟨S32x1024, .f32⟩
  | .local _ .vmem, ⟨9, _⟩ => ⟨S32x1024, .f32⟩
  | .local _ .vmem, ⟨10, _⟩ => ⟨S3x1024, .f32⟩
  | .local _ .vmem, ⟨11, _⟩ => ⟨S256x3072, .bf16⟩
  | .local _ .vmem, ⟨12, _⟩ => ⟨S256x3072, .bf16⟩
  | .local _ .vmem, ⟨13, _⟩ => ⟨S8x1024, .f32⟩
  | .local _ .vmem, ⟨14, _⟩ => ⟨S288x1024, .f32⟩
  | .local _ .vmem, ⟨15, _⟩ => ⟨S288x1024, .f32⟩
  | .local _ .vmem, ⟨16, _⟩ => ⟨S8x288x1024, .f32⟩
  | .local _ .vmem, ⟨17, _⟩ => ⟨S8x288x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S8192x3072 : Shape := ⟨2, ![8192, 3072]⟩
abbrev S8192x1024 : Shape := ⟨2, ![8192, 1024]⟩
abbrev S3x1024 : Shape := ⟨2, ![3, 1024]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩
abbrev S1024 : Shape := ⟨1, ![1024]⟩
abbrev S8x1024 : Shape := ⟨2, ![8, 1024]⟩

abbrev nBuf : Space → Nat
  | .hbm => 91
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .f32⟩
  | .hbm, ⟨2, _⟩ => ⟨S3x1024, .f32⟩
  | .hbm, ⟨3, _⟩ => ⟨S8192x3072, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S2x1024, .f32⟩
  | .hbm, ⟨10, _⟩ => ⟨S8194x1024, .f32⟩
  | .hbm, ⟨11, _⟩ => ⟨S_, .f32⟩
  | .hbm, ⟨12, _⟩ => ⟨S2x1024, .f32⟩
  | .hbm, ⟨13, _⟩ => ⟨S1x1024, .f32⟩
  | .hbm, ⟨14, _⟩ => ⟨S1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S1024, .f32⟩
  | .hbm, ⟨47, _⟩ => ⟨S_, .f32⟩
  | .hbm, ⟨48, _⟩ => ⟨S8194x1024, .f32⟩
  | .hbm, ⟨49, _⟩ => ⟨S1x1024, .f32⟩
  | .hbm, ⟨50, _⟩ => ⟨S_, .f32⟩
  | .hbm, ⟨51, _⟩ => ⟨S3x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S_, .f32⟩
  | .hbm, ⟨61, _⟩ => ⟨S8194x1024, .f32⟩
  | .hbm, ⟨62, _⟩ => ⟨S8194x1024, .f32⟩
  | .hbm, ⟨63, _⟩ => ⟨S1x1024, .f32⟩
  | .hbm, ⟨64, _⟩ => ⟨S_, .f32⟩
  | .hbm, ⟨65, _⟩ => ⟨S3x1024, .f32⟩
  | .hbm, ⟨66, _⟩ => ⟨S3x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S1024, .f32⟩
  | .hbm, ⟨75, _⟩ => ⟨S_, .f32⟩
  | .hbm, ⟨76, _⟩ => ⟨S8194x1024, .f32⟩
  | .hbm, ⟨77, _⟩ => ⟨S8194x1024, .f32⟩
  | .hbm, ⟨78, _⟩ => ⟨S1x1024, .f32⟩
  | .hbm, ⟨79, _⟩ => ⟨S_, .f32⟩
  | .hbm, ⟨80, _⟩ => ⟨S3x1024, .f32⟩
  | .hbm, ⟨81, _⟩ => ⟨S3x1024, .f32⟩
  | .hbm, ⟨82, _⟩ => ⟨S2x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x3072, .f32⟩
  | .hbm, ⟨87, _⟩ => ⟨S8192x3072, .bf16⟩
  | .hbm, ⟨88, _⟩ => ⟨S_, .i32⟩
  | .hbm, ⟨89, _⟩ => ⟨S_, .f32⟩
  | .hbm, ⟨90, _⟩ => ⟨S8x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_9 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_13 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_c : Ref sig .tc := ⟨.hbm, 88, rfl⟩
abbrev main_call0_v0 : Ref sig .tc := ⟨.hbm, 89, rfl⟩
abbrev main_v70 : Ref sig .tc := ⟨.hbm, 90, rfl⟩

abbrev nD : Nat := 1
abbrev τ : Topo := Topo.v7x

variable {F : FTy → Type} [FloatOps F]
-- ==== Kernel2.lean ====
abbrev S8192x1024 : Shape := ⟨2, ![8192, 1024]⟩
abbrev S2x4096x1024 : Shape := ⟨3, ![2, 4096, 1024]⟩
abbrev S8192x4096 : Shape := ⟨2, ![8192, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S2x4096x1024, .bf16⟩
  | .hbm, ⟨2, _⟩ => ⟨S8192x4096, .bf16⟩
  | .hbm, ⟨3, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def k0_cond3 (i : grid0.Coords) : BitVec 1 :=
  let arg2 : BitVec 32 := BitVec.ofNat 32 (i 2).val
  let c0_i32_3 : BitVec 32 := 0#32
  let v8 : BitVec 1 := Scalar.cmpi .eq arg2 c0_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.muli v16 c1_i32_4
  let c0_i32_5 : BitVec 32 := 0#32
  let v18 : BitVec 32 := Scalar.subi arg2 c0_i32_5
  let c0_i32_6 : BitVec 32 := 0#32
  let c0_i32_7 : BitVec 32 := 0#32
  let v19 : BitVec 32 := Scalar.maxsi c0_i32_6 v18
  let v20 : BitVec 32 := Scalar.minsi c0_i32_7 v19
  let v21 : BitVec 32 := Scalar.addi v17 v20
  let c0_i32_8 : BitVec 32 := 0#32
  ![arg0.toNat, v21.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 32 := Scalar.subi arg2 c0_i32_3
  let c0_i32_4 : BitVec 32 := 0#32
  let c0_i32_5 : BitVec 32 := 0#32
  let v11 : BitVec 32 := Scalar.maxsi c0_i32_4 v10
  let v12 : BitVec 32 := Scalar.minsi c0_i32_5 v11
  let c1_i32_6 : BitVec 32 := 1#32
  let c0_i32_7 : BitVec 32 := 0#32
  ![c1_i32_6.toNat, v9.toNat, v12.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8192x1024 : Shape := ⟨2, ![8192, 1024]⟩
abbrev S2x4096x1024 : Shape := ⟨3, ![2, 4096, 1024]⟩
abbrev S8192x4096 : Shape := ⟨2, ![8192, 4096]⟩
abbrev S1x4096x1024 : Shape := ⟨3, ![1, 4096, 1024]⟩
abbrev S4096x1024 : Shape := ⟨2, ![4096, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x4096x1024, .bf16⟩
  | .hbm, ⟨2, _⟩ => ⟨S8192x4096, .bf16⟩
  | .hbm, ⟨3, _⟩ => ⟨S1x4096x1024, .bf16⟩
  | .hbm, ⟨4, _⟩ => ⟨S4096x1024, .bf16⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .i1⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S4096x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel3.lean ====
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_7 : BitVec 32 := 1#32
  let v14 : BitVec 1 := Scalar.cmpi .eq arg2 c1_i32_7
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg2 c2_i32_3
  let c0_i32_4 : BitVec 32 := 0#32
  let v11 : BitVec 1 := Scalar.cmpi .sgt arg2 c0_i32_4
  let v12 : BitVec 32 := Scalar.extui v11
  let c0_i32_5 : BitVec 32 := 0#32
  let v13 : BitVec 1 := Scalar.cmpi .slt arg2 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg2 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c4_i32 : BitVec 32 := 4#32
  let v27 : BitVec 32 := Scalar.muli v26 c4_i32
  let v28 : BitVec 32 := Scalar.addi v27 arg0
  let c0_i32_10 : BitVec 32 := 0#32
  ![v9.toNat, v28.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg2 c2_i32_3
  let c0_i32_4 : BitVec 32 := 0#32
  let v11 : BitVec 1 := Scalar.cmpi .sgt arg2 c0_i32_4
  let v12 : BitVec 32 := Scalar.extui v11
  let c0_i32_5 : BitVec 32 := 0#32
  let v13 : BitVec 1 := Scalar.cmpi .slt arg2 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg2 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.muli v26 c1_i32_10
  let v28 : BitVec 32 := Scalar.addi v27 arg1
  let c0_i32_11 : BitVec 32 := 0#32
  ![v9.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .bf16⟩
  | .hbm, ⟨3, _⟩ => ⟨S4096x1024, .bf16⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S4096x1024, .f32⟩
  | .hbm, ⟨10, _⟩ => ⟨S8192x1024, .f32⟩
  | .hbm, ⟨11, _⟩ => ⟨S8192x1024, .f32⟩
  | .hbm, ⟨12, _⟩ => ⟨S1024x4096, .f32⟩
  | .hbm, ⟨13, _⟩ => ⟨S4096x1024, .f32⟩
  | .hbm, ⟨14, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel4.lean ====
abbrev S8192x1024 : Shape := ⟨2, ![8192, 1024]⟩
abbrev S8192x4096 : Shape := ⟨2, ![8192, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg2 c2_i32_3
  let c0_i32_4 : BitVec 32 := 0#32
  let v11 : BitVec 1 := Scalar.cmpi .sgt arg2 c0_i32_4
  let v12 : BitVec 32 := Scalar.extui v11
  let c0_i32_5 : BitVec 32 := 0#32
  let v13 : BitVec 1 := Scalar.cmpi .slt arg2 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg2 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.muli v26 c1_i32_10
  let v28 : BitVec 32 := Scalar.addi v27 arg0
  let c0_i32_11 : BitVec 32 := 0#32
  ![v9.toNat, v28.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg2 c2_i32_3
  let c0_i32_4 : BitVec 32 := 0#32
  let v11 : BitVec 1 := Scalar.cmpi .sgt arg2 c0_i32_4
  let v12 : BitVec 32 := Scalar.extui v11
  let c0_i32_5 : BitVec 32 := 0#32
  let v13 : BitVec 1 := Scalar.cmpi .slt arg2 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg2 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c4_i32 : BitVec 32 := 4#32
  let v27 : BitVec 32 := Scalar.muli v26 c4_i32
  let v28 : BitVec 32 := Scalar.addi v27 arg1
  let c0_i32_10 : BitVec 32 := 0#32
  ![v9.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .bf16⟩
  | .hbm, ⟨3, _⟩ => ⟨S1024x4096, .bf16⟩
  | .hbm, ⟨4, _⟩ => ⟨S8192x1024, .f32⟩
  | .hbm, ⟨5, _⟩ => ⟨S1024x4096, .f32⟩
  | .hbm, ⟨6, _⟩ => ⟨S8192x4096, .f32⟩
  | .hbm, ⟨7, _⟩ => ⟨S8192x4096, .f32⟩
  | .hbm, ⟨8, _⟩ => ⟨S4096x1024, .f32⟩
  | .hbm, ⟨9, _⟩ => ⟨S1024x4096, .f32⟩
  | .hbm, ⟨10, _⟩ => ⟨S1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8192x4096 : Shape := ⟨2, ![8192, 4096]⟩
abbrev S2x1024x4096 : Shape := ⟨3, ![2, 1024, 4096]⟩
abbrev S8192x1024 : Shape := ⟨2, ![8192, 1024]⟩
abbrev S1x1024 : Shape := ⟨2, ![1, 1024]⟩
abbrev S8x1024 : Shape := ⟨2, ![8, 1024]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S8192x4096, .bf16⟩
  | .hbm, ⟨1, _⟩ => ⟨S2x1024x4096, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S8x1024, .f32⟩
  | .local _ .vmem, ⟨14, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c3_i32_10 : BitVec 32 := 3#32
  let v17 : BitVec 1 := Scalar.cmpi .eq arg1 c3_i32_10
  let v18 : BitVec 32 := Scalar.extui v17
  let c0_i32_11 : BitVec 32 := 0#32
  let v19 : BitVec 1 := Scalar.cmpi .ne v18 c0_i32_11
  v19

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let arg1 : BitVec 32 := BitVec.ofNat 32 (i 1).val
  let c0_i32_4 : BitVec 32 := 0#32
  let v5 : BitVec 1 := Scalar.cmpi .eq arg1 c0_i32_4
  let v6 : BitVec 1 := Scalar.andi v4 v5
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference5Ideal.lean ====
abbrev S8192x4096 : Shape := ⟨2, ![8192, 4096]⟩
abbrev S2x1024x4096 : Shape := ⟨3, ![2, 1024, 4096]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1x1024x4096 : Shape := ⟨3, ![1, 1024, 4096]⟩
abbrev S1024x4096 : Shape := ⟨2, ![1024, 4096]⟩
abbrev S1024 : Shape := ⟨1, ![1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x1024x4096, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1x1024x4096, .bf16⟩
  | .hbm, ⟨25, _⟩ => ⟨S1024x4096, .bf16⟩
  | .hbm, ⟨26, _⟩ => ⟨S1024x4096, .f32⟩
  | .hbm, ⟨27, _⟩ => ⟨S8192x4096, .f32⟩
  | .hbm, ⟨28, _⟩ => ⟨S8192x4096, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .bf16⟩
  | .hbm, ⟨55, _⟩ => ⟨S_, .i32⟩
  | .hbm, ⟨56, _⟩ => ⟨S_, .f32⟩
  | .hbm, ⟨57, _⟩ => ⟨S8x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c : Ref sig .tc := ⟨.hbm, 55, rfl⟩
abbrev main_call0_v0 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S2x1024x4096 : Shape := ⟨3, ![2, 1024, 4096]⟩
abbrev S8192x4096 : Shape := ⟨2, ![8192, 4096]⟩
abbrev S2048x1024 : Shape := ⟨2, ![2048, 1024]⟩
abbrev S1x1024x1024 : Shape := ⟨3, ![1, 1024, 1024]⟩
abbrev S2048 : Shape := ⟨1, ![2048]⟩
abbrev S2048x1 : Shape := ⟨2, ![2048, 1]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2x1024x4096, .bf16⟩
  | .hbm, ⟨3, _⟩ => ⟨S8192x1024, .bf16⟩
  | .hbm, ⟨4, _⟩ => ⟨S8192x4096, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S8192x1024 : Shape := ⟨2, ![8192, 1024]⟩
abbrev S1x1024 : Shape := ⟨2, ![1, 1024]⟩
abbrev S2x1024x4096 : Shape := ⟨3, ![2, 1024, 4096]⟩
abbrev S_ : Shape := ⟨0, ![]⟩
abbrev S8192 : Shape := ⟨1, ![8192]⟩
abbrev S8192x1 : Shape := ⟨2, ![8192, 1]⟩
abbrev S1x1024x4096 : Shape := ⟨3, ![1, 1024, 4096]⟩
abbrev S1024x4096 : Shape := ⟨2, ![1024, 4096]⟩
abbrev S8192x4096 : Shape := ⟨2, ![8192, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2x1024x4096, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S1x1024x4096, .bf16⟩
  | .hbm, ⟨20, _⟩ => ⟨S1024x4096, .bf16⟩
  | .hbm, ⟨21, _⟩ => ⟨S8192x1024, .f32⟩
  | .hbm, ⟨22, _⟩ => ⟨S1024x4096, .f32⟩
  | .hbm, ⟨23, _⟩ => ⟨S8192x4096, .f32⟩
  | .hbm, ⟨24, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel7.lean ====
abbrev S8192x4096 : Shape := ⟨2, ![8192, 4096]⟩
abbrev S2x4096x1024 : Shape := ⟨3, ![2, 4096, 1024]⟩
abbrev S8192x1024 : Shape := ⟨2, ![8192, 1024]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S2x4096x1024, .bf16⟩
  | .hbm, ⟨2, _⟩ => ⟨S8192x1024, .f32⟩
  | .hbm, ⟨3, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32_8 : BitVec 32 := 1#32
  let v15 : BitVec 1 := Scalar.cmpi .eq arg2 c1_i32_8
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli v16 c2_i32
  let v18 : BitVec 32 := Scalar.addi v17 arg2
  let c0_i32_5 : BitVec 32 := 0#32
  ![arg0.toNat, v18.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S8192x4096 : Shape := ⟨2, ![8192, 4096]⟩
abbrev S2x4096x1024 : Shape := ⟨3, ![2, 4096, 1024]⟩
abbrev S8192x1024 : Shape := ⟨2, ![8192, 1024]⟩
abbrev S1x4096x1024 : Shape := ⟨3, ![1, 4096, 1024]⟩
abbrev S4096x1024 : Shape := ⟨2, ![4096, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x1024, .bf16⟩
  | .hbm, ⟨2, _⟩ => ⟨S8192x1024, .f32⟩
  | .hbm, ⟨3, _⟩ => ⟨S1x4096x1024, .bf16⟩
  | .hbm, ⟨4, _⟩ => ⟨S4096x1024, .bf16⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S4096x1024, .f32⟩
  | .hbm, ⟨11, _⟩ => ⟨S8192x1024, .f32⟩
  | .hbm, ⟨12, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel8.lean ====
abbrev S8192x1024 : Shape := ⟨2, ![8192, 1024]⟩
abbrev S2x4096x1024 : Shape := ⟨3, ![2, 4096, 1024]⟩
abbrev S8192x4096 : Shape := ⟨2, ![8192, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S2x4096x1024, .bf16⟩
  | .hbm, ⟨2, _⟩ => ⟨S8192x4096, .bf16⟩
  | .hbm, ⟨3, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def k0_cond3 (i : grid0.Coords) : BitVec 1 :=
  let arg2 : BitVec 32 := BitVec.ofNat 32 (i 2).val
  let c0_i32_3 : BitVec 32 := 0#32
  let v8 : BitVec 1 := Scalar.cmpi .eq arg2 c0_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.muli v16 c1_i32_4
  let c0_i32_5 : BitVec 32 := 0#32
  let v18 : BitVec 32 := Scalar.subi arg2 c0_i32_5
  let c0_i32_6 : BitVec 32 := 0#32
  let c0_i32_7 : BitVec 32 := 0#32
  let v19 : BitVec 32 := Scalar.maxsi c0_i32_6 v18
  let v20 : BitVec 32 := Scalar.minsi c0_i32_7 v19
  let v21 : BitVec 32 := Scalar.addi v17 v20
  let c0_i32_8 : BitVec 32 := 0#32
  ![arg0.toNat, v21.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 32 := Scalar.subi arg2 c0_i32_3
  let c0_i32_4 : BitVec 32 := 0#32
  let c0_i32_5 : BitVec 32 := 0#32
  let v11 : BitVec 32 := Scalar.maxsi c0_i32_4 v10
  let v12 : BitVec 32 := Scalar.minsi c0_i32_5 v11
  let c0_i32_6 : BitVec 32 := 0#32
  let c0_i32_7 : BitVec 32 := 0#32
  ![c0_i32_6.toNat, v9.toNat, v12.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S8192x1024 : Shape := ⟨2, ![8192, 1024]⟩
abbrev S2x4096x1024 : Shape := ⟨3, ![2, 4096, 1024]⟩
abbrev S8192x4096 : Shape := ⟨2, ![8192, 4096]⟩
abbrev S1x4096x1024 : Shape := ⟨3, ![1, 4096, 1024]⟩
abbrev S4096x1024 : Shape := ⟨2, ![4096, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x4096x1024, .bf16⟩
  | .hbm, ⟨2, _⟩ => ⟨S8192x4096, .bf16⟩
  | .hbm, ⟨3, _⟩ => ⟨S1x4096x1024, .bf16⟩
  | .hbm, ⟨4, _⟩ => ⟨S4096x1024, .bf16⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .i1⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S4096x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel9.lean ====
abbrev S8192x4096 : Shape := ⟨2, ![8192, 4096]⟩
abbrev S2x1024x4096 : Shape := ⟨3, ![2, 1024, 4096]⟩
abbrev S8192x1024 : Shape := ⟨2, ![8192, 1024]⟩
abbrev S1x1024 : Shape := ⟨2, ![1, 1024]⟩
abbrev S8x1024 : Shape := ⟨2, ![8, 1024]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S8192x4096, .bf16⟩
  | .hbm, ⟨1, _⟩ => ⟨S2x1024x4096, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S8x1024, .f32⟩
  | .local _ .vmem, ⟨14, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c3_i32_10 : BitVec 32 := 3#32
  let v17 : BitVec 1 := Scalar.cmpi .eq arg1 c3_i32_10
  let v18 : BitVec 32 := Scalar.extui v17
  let c0_i32_11 : BitVec 32 := 0#32
  let v19 : BitVec 1 := Scalar.cmpi .ne v18 c0_i32_11
  v19

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let arg1 : BitVec 32 := BitVec.ofNat 32 (i 1).val
  let c0_i32_4 : BitVec 32 := 0#32
  let v5 : BitVec 1 := Scalar.cmpi .eq arg1 c0_i32_4
  let v6 : BitVec 1 := Scalar.andi v4 v5
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference9Ideal.lean ====
abbrev S8192x4096 : Shape := ⟨2, ![8192, 4096]⟩
abbrev S2x1024x4096 : Shape := ⟨3, ![2, 1024, 4096]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1x1024x4096 : Shape := ⟨3, ![1, 1024, 4096]⟩
abbrev S1024x4096 : Shape := ⟨2, ![1024, 4096]⟩
abbrev S1024 : Shape := ⟨1, ![1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x1024x4096, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1x1024x4096, .bf16⟩
  | .hbm, ⟨25, _⟩ => ⟨S1024x4096, .bf16⟩
  | .hbm, ⟨26, _⟩ => ⟨S1024x4096, .f32⟩
  | .hbm, ⟨27, _⟩ => ⟨S8192x4096, .f32⟩
  | .hbm, ⟨28, _⟩ => ⟨S8192x4096, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .bf16⟩
  | .hbm, ⟨55, _⟩ => ⟨S_, .i32⟩
  | .hbm, ⟨56, _⟩ => ⟨S_, .f32⟩
  | .hbm, ⟨57, _⟩ => ⟨S8x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c : Ref sig .tc := ⟨.hbm, 55, rfl⟩
abbrev main_call0_v0 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel10.lean ====
abbrev S8192x1024 : Shape := ⟨2, ![8192, 1024]⟩
abbrev S1x1024 : Shape := ⟨2, ![1, 1024]⟩
abbrev S2x1024x4096 : Shape := ⟨3, ![2, 1024, 4096]⟩
abbrev S8192x4096 : Shape := ⟨2, ![8192, 4096]⟩
abbrev S2048x1024 : Shape := ⟨2, ![2048, 1024]⟩
abbrev S1x1024x1024 : Shape := ⟨3, ![1, 1024, 1024]⟩
abbrev S2048 : Shape := ⟨1, ![2048]⟩
abbrev S2048x1 : Shape := ⟨2, ![2048, 1]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2x1024x4096, .bf16⟩
  | .hbm, ⟨3, _⟩ => ⟨S8192x1024, .bf16⟩
  | .hbm, ⟨4, _⟩ => ⟨S8192x4096, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference10Ideal.lean ====
abbrev S8192x1024 : Shape := ⟨2, ![8192, 1024]⟩
abbrev S1x1024 : Shape := ⟨2, ![1, 1024]⟩
abbrev S2x1024x4096 : Shape := ⟨3, ![2, 1024, 4096]⟩
abbrev S_ : Shape := ⟨0, ![]⟩
abbrev S8192 : Shape := ⟨1, ![8192]⟩
abbrev S8192x1 : Shape := ⟨2, ![8192, 1]⟩
abbrev S1x1024x4096 : Shape := ⟨3, ![1, 1024, 4096]⟩
abbrev S1024x4096 : Shape := ⟨2, ![1024, 4096]⟩
abbrev S8192x4096 : Shape := ⟨2, ![8192, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2x1024x4096, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S1x1024x4096, .bf16⟩
  | .hbm, ⟨20, _⟩ => ⟨S1024x4096, .bf16⟩
  | .hbm, ⟨21, _⟩ => ⟨S8192x1024, .f32⟩
  | .hbm, ⟨22, _⟩ => ⟨S1024x4096, .f32⟩
  | .hbm, ⟨23, _⟩ => ⟨S8192x4096, .f32⟩
  | .hbm, ⟨24, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel11.lean ====
abbrev S8192x4096 : Shape := ⟨2, ![8192, 4096]⟩
abbrev S2x4096x1024 : Shape := ⟨3, ![2, 4096, 1024]⟩
abbrev S8192x1024 : Shape := ⟨2, ![8192, 1024]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S2x4096x1024, .bf16⟩
  | .hbm, ⟨2, _⟩ => ⟨S8192x1024, .f32⟩
  | .hbm, ⟨3, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32_8 : BitVec 32 := 1#32
  let v15 : BitVec 1 := Scalar.cmpi .eq arg2 c1_i32_8
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli v16 c2_i32
  let v18 : BitVec 32 := Scalar.addi v17 arg2
  let c0_i32_5 : BitVec 32 := 0#32
  ![arg0.toNat, v18.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S8192x4096 : Shape := ⟨2, ![8192, 4096]⟩
abbrev S2x4096x1024 : Shape := ⟨3, ![2, 4096, 1024]⟩
abbrev S8192x1024 : Shape := ⟨2, ![8192, 1024]⟩
abbrev S1x4096x1024 : Shape := ⟨3, ![1, 4096, 1024]⟩
abbrev S4096x1024 : Shape := ⟨2, ![4096, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x1024, .bf16⟩
  | .hbm, ⟨2, _⟩ => ⟨S8192x1024, .f32⟩
  | .hbm, ⟨3, _⟩ => ⟨S1x4096x1024, .bf16⟩
  | .hbm, ⟨4, _⟩ => ⟨S4096x1024, .bf16⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S4096x1024, .f32⟩
  | .hbm, ⟨11, _⟩ => ⟨S8192x1024, .f32⟩
  | .hbm, ⟨12, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | .local _ .vmem, ⟨5, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_3 : BitVec 32 := 0#32
  let v8 : BitVec 1 := Scalar.cmpi .eq arg2 c0_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let c0_i32_6 : BitVec 32 := 0#32
  let v18 : BitVec 32 := Scalar.subi arg2 c0_i32_6
  let c0_i32_7 : BitVec 32 := 0#32
  let c0_i32_8 : BitVec 32 := 0#32
  let v19 : BitVec 32 := Scalar.maxsi c0_i32_7 v18
  let v20 : BitVec 32 := Scalar.minsi c0_i32_8 v19
  let v21 : BitVec 32 := Scalar.addi v17 v20
  let c0_i32_9 : BitVec 32 := 0#32
  ![arg0.toNat, v21.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg2 c2_i32_3
  let c0_i32_4 : BitVec 32 := 0#32
  let v11 : BitVec 1 := Scalar.cmpi .sgt arg2 c0_i32_4
  let v12 : BitVec 32 := Scalar.extui v11
  let c0_i32_5 : BitVec 32 := 0#32
  let v13 : BitVec 1 := Scalar.cmpi .slt arg2 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg2 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.muli v26 c1_i32_10
  let v28 : BitVec 32 := Scalar.addi v27 arg0
  let c0_i32_11 : BitVec 32 := 0#32
  ![v9.toNat, v28.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg2 c2_i32_3
  let c0_i32_4 : BitVec 32 := 0#32
  let v11 : BitVec 1 := Scalar.cmpi .sgt arg2 c0_i32_4
  let v12 : BitVec 32 := Scalar.extui v11
  let c0_i32_5 : BitVec 32 := 0#32
  let v13 : BitVec 1 := Scalar.cmpi .slt arg2 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg2 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.muli v26 c1_i32_10
  let v28 : BitVec 32 := Scalar.addi v27 arg1
  let c0_i32_11 : BitVec 32 := 0#32
  ![v9.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .bf16⟩
  | .hbm, ⟨3, _⟩ => ⟨S1024x1024, .bf16⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel14.lean ====
abbrev S8192x1024 : Shape := ⟨2, ![8192, 1024]⟩
abbrev S8192x3072 : Shape := ⟨2, ![8192, 3072]⟩
abbrev S1024x3072 : Shape := ⟨2, ![1024, 3072]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg2 c2_i32_3
  let c0_i32_4 : BitVec 32 := 0#32
  let v11 : BitVec 1 := Scalar.cmpi .sgt arg2 c0_i32_4
  let v12 : BitVec 32 := Scalar.extui v11
  let c0_i32_5 : BitVec 32 := 0#32
  let v13 : BitVec 1 := Scalar.cmpi .slt arg2 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg2 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.muli v26 c1_i32_10
  let v28 : BitVec 32 := Scalar.addi v27 arg0
  let c0_i32_11 : BitVec 32 := 0#32
  ![v9.toNat, v28.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg2 c2_i32_3
  let c0_i32_4 : BitVec 32 := 0#32
  let v11 : BitVec 1 := Scalar.cmpi .sgt arg2 c0_i32_4
  let v12 : BitVec 32 := Scalar.extui v11
  let c0_i32_5 : BitVec 32 := 0#32
  let v13 : BitVec 1 := Scalar.cmpi .slt arg2 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg2 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c3_i32 : BitVec 32 := 3#32
  let v27 : BitVec 32 := Scalar.muli v26 c3_i32
  let v28 : BitVec 32 := Scalar.addi v27 arg1
  let c0_i32_10 : BitVec 32 := 0#32
  ![v9.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .bf16⟩
  | .hbm, ⟨3, _⟩ => ⟨S1024x3072, .bf16⟩
  | .hbm, ⟨4, _⟩ => ⟨S8192x1024, .f32⟩
  | .hbm, ⟨5, _⟩ => ⟨S1024x3072, .f32⟩
  | .hbm, ⟨6, _⟩ => ⟨S8192x3072, .f32⟩
  | .hbm, ⟨7, _⟩ => ⟨S8192x3072, .f32⟩
  | .hbm, ⟨8, _⟩ => ⟨S3072x1024, .f32⟩
  | .hbm, ⟨9, _⟩ => ⟨S1024x3072, .f32⟩
  | .hbm, ⟨10, _⟩ => ⟨S1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel15.lean ====
abbrev S8192x3072 : Shape := ⟨2, ![8192, 3072]⟩
abbrev S1024x3072 : Shape := ⟨2, ![1024, 3072]⟩
abbrev S8192x1024 : Shape := ⟨2, ![8192, 1024]⟩
abbrev S1x1024 : Shape := ⟨2, ![1, 1024]⟩
abbrev S8x1024 : Shape := ⟨2, ![8, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S8x1024, .f32⟩
  | .local _ .vmem, ⟨14, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![8, 3], ![false, false]⟩

def k0_cond4 (i : grid0.Coords) : BitVec 1 :=
  let arg1 : BitVec 32 := BitVec.ofNat 32 (i 1).val
  let c2_i32_9 : BitVec 32 := 2#32
  let v16 : BitVec 1 := Scalar.cmpi .eq arg1 c2_i32_9
  let v17 : BitVec 32 := Scalar.extui v16
  let c0_i32_10 : BitVec 32 := 0#32
  let v18 : BitVec 1 := Scalar.cmpi .ne v17 c0_i32_10
  v18

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let arg1 : BitVec 32 := BitVec.ofNat 32 (i 1).val
  let c0_i32_3 : BitVec 32 := 0#32
  let v4 : BitVec 1 := Scalar.cmpi .eq arg1 c0_i32_3
  let v5 : BitVec 1 := Scalar.andi v3 v4
  let v6 : BitVec 32 := Scalar.extui v5
  let c0_i32_4 : BitVec 32 := 0#32
  let v7 : BitVec 1 := Scalar.cmpi .ne v6 c0_i32_4
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference15Ideal.lean ====
abbrev S8192x3072 : Shape := ⟨2, ![8192, 3072]⟩
abbrev S1024x3072 : Shape := ⟨2, ![1024, 3072]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x1024 : Shape := ⟨2, ![8, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x3072, .f32⟩
  | .hbm, ⟨25, _⟩ => ⟨S8192x3072, .f32⟩
  | .hbm, ⟨26, _⟩ => ⟨S8192x3072, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .bf16⟩
  | .hbm, ⟨53, _⟩ => ⟨S_, .i32⟩
  | .hbm, ⟨54, _⟩ => ⟨S_, .f32⟩
  | .hbm, ⟨55, _⟩ => ⟨S8x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c : Ref sig .tc := ⟨.hbm, 53, rfl⟩
abbrev main_call0_v0 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel16.lean ====
abbrev S8192x1024 : Shape := ⟨2, ![8192, 1024]⟩
abbrev S1x1024 : Shape := ⟨2, ![1, 1024]⟩
abbrev S1024x3072 : Shape := ⟨2, ![1024, 3072]⟩
abbrev S8192x3072 : Shape := ⟨2, ![8192, 3072]⟩
abbrev S2048x1024 : Shape := ⟨2, ![2048, 1024]⟩
abbrev S1024x1024 : Shape := ⟨2, ![1024, 1024]⟩
abbrev S2048 : Shape := ⟨1, ![2048]⟩
abbrev S2048x1 : Shape := ⟨2, ![2048, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .bf16⟩
  | .hbm, ⟨3, _⟩ => ⟨S8192x1024, .bf16⟩
  | .hbm, ⟨4, _⟩ => ⟨S8192x3072, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference16Ideal.lean ====
abbrev S8192x1024 : Shape := ⟨2, ![8192, 1024]⟩
abbrev S1x1024 : Shape := ⟨2, ![1, 1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S8192x3072 : Shape := ⟨2, ![8192, 3072]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x1024, .f32⟩
  | .hbm, ⟨20, _⟩ => ⟨S1024x3072, .f32⟩
  | .hbm, ⟨21, _⟩ => ⟨S8192x3072, .f32⟩
  | .hbm, ⟨22, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg0.toNat, v18.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c0_i32_6 : BitVec 32 := 0#32
  ![arg0.toNat, v18.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel19.lean ====
abbrev S8192x1024 : Shape := ⟨2, ![8192, 1024]⟩
abbrev S1024x1536 : Shape := ⟨2, ![1024, 1536]⟩
abbrev S8192x1536 : Shape := ⟨2, ![8192, 1536]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1536, .bf16⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .bf16⟩
  | .local _ .vmem, ⟨5, _⟩ => ⟨S2048x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.muli v16 c1_i32_4
  let v18 : BitVec 32 := Scalar.addi v17 arg2
  let c0_i32_5 : BitVec 32 := 0#32
  ![arg0.toNat, v18.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg2.toNat, v9.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x1024 : Shape := ⟨2, ![8192, 1024]⟩
abbrev S1024x1536 : Shape := ⟨2, ![1024, 1536]⟩
abbrev S8192x1536 : Shape := ⟨2, ![8192, 1536]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1024, .f32⟩
  | .hbm, ⟨3, _⟩ => ⟨S1024x1536, .f32⟩
  | .hbm, ⟨4, _⟩ => ⟨S8192x1536, .f32⟩
  | .hbm, ⟨5, _⟩ => ⟨S8192x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S8192x1024 : Shape := ⟨2, ![8192, 1024]⟩
abbrev S1024x1024 : Shape := ⟨2, ![1024, 1024]⟩
abbrev S8192x1536 : Shape := ⟨2, ![8192, 1536]⟩
abbrev S1024x1536 : Shape := ⟨2, ![1024, 1536]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 5
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1536, .bf16⟩
  | .hbm, ⟨3, _⟩ => ⟨S1024x1536, .bf16⟩
  | .hbm, ⟨4, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x768, .bf16⟩
  | .local _ .vmem, ⟨5, _⟩ => ⟨S2048x768, .bf16⟩
  | .local _ .vmem, ⟨6, _⟩ => ⟨S1024x768, .bf16⟩
  | .local _ .vmem, ⟨7, _⟩ => ⟨S1024x768, .bf16⟩
  | .local _ .vmem, ⟨8, _⟩ => ⟨S2048x1024, .f32⟩
  | .local _ .vmem, ⟨9, _⟩ => ⟨S2048x1024, .f32⟩
  | .local _ .vmem, ⟨10, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 1, 3], ![false, false, false]⟩

def k0_cond4 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let c0_i32_6 : BitVec 32 := 0#32
  let v18 : BitVec 32 := Scalar.subi arg2 c0_i32_6
  let c0_i32_7 : BitVec 32 := 0#32
  let c0_i32_8 : BitVec 32 := 0#32
  let v19 : BitVec 32 := Scalar.maxsi c0_i32_7 v18
  let v20 : BitVec 32 := Scalar.minsi c0_i32_8 v19
  let v21 : BitVec 32 := Scalar.addi v17 v20
  let c0_i32_9 : BitVec 32 := 0#32
  ![arg0.toNat, v21.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli v16 c2_i32
  let c1_i32_5 : BitVec 32 := 1#32
  let v18 : BitVec 32 := Scalar.subi arg2 c1_i32_5
  let c0_i32_6 : BitVec 32 := 0#32
  let c1_i32_7 : BitVec 32 := 1#32
  let v19 : BitVec 32 := Scalar.maxsi c0_i32_6 v18
  let v20 : BitVec 32 := Scalar.minsi c1_i32_7 v19
  let v21 : BitVec 32 := Scalar.addi v17 v20
  let c0_i32_8 : BitVec 32 := 0#32
  ![arg0.toNat, v21.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c1_i32_0 : BitVec 32 := 1#32
  let v1 : BitVec 32 := Scalar.maxsi c0_i32 v0
  let v2 : BitVec 32 := Scalar.minsi c1_i32_0 v1
  let c0_i32_1 : BitVec 32 := 0#32
  let c0_i32_2 : BitVec 32 := 0#32
  ![c0_i32_1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference20Ideal.lean ====
abbrev S8192x1024 : Shape := ⟨2, ![8192, 1024]⟩
abbrev S1024x1024 : Shape := ⟨2, ![1024, 1024]⟩
abbrev S8192x1536 : Shape := ⟨2, ![8192, 1536]⟩
abbrev S1024x1536 : Shape := ⟨2, ![1024, 1536]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1536, .bf16⟩
  | .hbm, ⟨3, _⟩ => ⟨S1024x1536, .bf16⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1536, .f32⟩
  | .hbm, ⟨8, _⟩ => ⟨S1024x1024, .f32⟩
  | .hbm, ⟨9, _⟩ => ⟨S8192x1024, .f32⟩
  | .hbm, ⟨10, _⟩ => ⟨S1024x1536, .f32⟩
  | .hbm, ⟨11, _⟩ => ⟨S8192x1536, .f32⟩
  | .hbm, ⟨12, _⟩ => ⟨S8192x1024, .f32⟩
  | .hbm, ⟨13, _⟩ => ⟨S8192x1024, .f32⟩
  | .hbm, ⟨14, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel21.lean ====
abbrev S8192x1024 : Shape := ⟨2, ![8192, 1024]⟩
abbrev S8192x1536 : Shape := ⟨2, ![8192, 1536]⟩
abbrev S1024x1536 : Shape := ⟨2, ![1024, 1536]⟩
abbrev S4096x1024 : Shape := ⟨2, ![4096, 1024]⟩
abbrev S4096x768 : Shape := ⟨2, ![4096, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x1536, .bf16⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg2 c2_i32_3
  let c0_i32_4 : BitVec 32 := 0#32
  let v11 : BitVec 1 := Scalar.cmpi .sgt arg2 c0_i32_4
  let v12 : BitVec 32 := Scalar.extui v11
  let c0_i32_5 : BitVec 32 := 0#32
  let v13 : BitVec 1 := Scalar.cmpi .slt arg2 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg2 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.muli v26 c1_i32_10
  let v28 : BitVec 32 := Scalar.addi v27 arg0
  let c0_i32_11 : BitVec 32 := 0#32
  ![v9.toNat, v28.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg2 c2_i32_3
  let c0_i32_4 : BitVec 32 := 0#32
  let v11 : BitVec 1 := Scalar.cmpi .sgt arg2 c0_i32_4
  let v12 : BitVec 32 := Scalar.extui v11
  let c0_i32_5 : BitVec 32 := 0#32
  let v13 : BitVec 1 := Scalar.cmpi .slt arg2 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg2 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c2_i32_10 : BitVec 32 := 2#32
  let v27 : BitVec 32 := Scalar.muli v26 c2_i32_10
  let v28 : BitVec 32 := Scalar.addi v27 arg1
  let c0_i32_11 : BitVec 32 := 0#32
  ![v9.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S_, .bf16⟩
  | .hbm, ⟨3, _⟩ => ⟨S1024x1536, .bf16⟩
  | .hbm, ⟨4, _⟩ => ⟨S8192x1024, .f32⟩
  | .hbm, ⟨5, _⟩ => ⟨S1024x1536, .f32⟩
  | .hbm, ⟨6, _⟩ => ⟨S8192x1536, .f32⟩
  | .hbm, ⟨7, _⟩ => ⟨S8192x1536, .f32⟩
  | .hbm, ⟨8, _⟩ => ⟨S1536x1024, .f32⟩
  | .hbm, ⟨9, _⟩ => ⟨S1024x1536, .f32⟩
  | .hbm, ⟨10, _⟩ => ⟨S1024x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel22.lean ====
abbrev S2048x4096 : Shape := ⟨2, ![2048, 4096]⟩
abbrev S1024x1536 : Shape := ⟨2, ![1024, 1536]⟩
abbrev S2048x6144 : Shape := ⟨2, ![2048, 6144]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S1024x1536, .bf16⟩
  | .hbm, ⟨2, _⟩ => ⟨S2048x6144, .bf16⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .bf16⟩
  | .local _ .vmem, ⟨5, _⟩ => ⟨S2048x512, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.muli v16 c1_i32_4
  let v18 : BitVec 32 := Scalar.addi v17 arg2
  let c0_i32_5 : BitVec 32 := 0#32
  ![arg0.toNat, v18.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg2.toNat, v9.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S2048x4096 : Shape := ⟨2, ![2048, 4096]⟩
abbrev S1024x1536 : Shape := ⟨2, ![1024, 1536]⟩
abbrev S8192x1024 : Shape := ⟨2, ![8192, 1024]⟩
abbrev S8192x1536 : Shape := ⟨2, ![8192, 1536]⟩
abbrev S2048x6144 : Shape := ⟨2, ![2048, 6144]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S1024x1536, .bf16⟩
  | .hbm, ⟨2, _⟩ => ⟨S8192x1024, .bf16⟩
  | .hbm, ⟨3, _⟩ => ⟨S8192x1024, .f32⟩
  | .hbm, ⟨4, _⟩ => ⟨S1024x1536, .f32⟩
  | .hbm, ⟨5, _⟩ => ⟨S8192x1536, .f32⟩
  | .hbm, ⟨6, _⟩ => ⟨S8192x1536, .bf16⟩
  | .hbm, ⟨7, _⟩ => ⟨S2048x6144, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel23.lean ====
abbrev S512x16384 : Shape := ⟨2, ![512, 16384]⟩
abbrev S1024x1536 : Shape := ⟨2, ![1024, 1536]⟩
abbrev S512x24576 : Shape := ⟨2, ![512, 24576]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x16384, .bf16⟩
  | .hbm, ⟨1, _⟩ => ⟨S1024x1536, .bf16⟩
  | .hbm, ⟨2, _⟩ => ⟨S512x24576, .bf16⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .bf16⟩
  | .local _ .vmem, ⟨5, _⟩ => ⟨S512x512, .bf16⟩
  | _, _ => ⟨S512x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 48, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.muli v16 c1_i32_4
  let v18 : BitVec 32 := Scalar.addi v17 arg2
  let c0_i32_5 : BitVec 32 := 0#32
  ![arg0.toNat, v18.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg2.toNat, v9.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S512x16384 : Shape := ⟨2, ![512, 16384]⟩
abbrev S1024x1536 : Shape := ⟨2, ![1024, 1536]⟩
abbrev S8192x1024 : Shape := ⟨2, ![8192, 1024]⟩
abbrev S8192x1536 : Shape := ⟨2, ![8192, 1536]⟩
abbrev S512x24576 : Shape := ⟨2, ![512, 24576]⟩

abbrev nBuf : Space → Nat
  | .hbm => 8
  | .vmem => 0
  | .smem => 0
  | _ => 0

abbrev bufTy : (tb : Table) → Fin (tcTables nBuf tb) → BufTy
  | .hbm, ⟨0, _⟩ => ⟨S512x16384, .bf16⟩
  | .hbm, ⟨1, _⟩ => ⟨S1024x1536, .bf16⟩
  | .hbm, ⟨2, _⟩ => ⟨S8192x1024, .bf16⟩
  | .hbm, ⟨3, _⟩ => ⟨S8192x1024, .f32⟩
  | .hbm, ⟨4, _⟩ => ⟨S1024x1536, .f32⟩
  | .hbm, ⟨5, _⟩ => ⟨S8192x1536, .f32⟩
  | .hbm, ⟨6, _⟩ => ⟨S8192x1536, .bf16⟩
  | .hbm, ⟨7, _⟩ => ⟨S512x24576, .bf16⟩
  | _, _ => ⟨S512x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel24.lean ====
abbrev S2048x4096 : Shape := ⟨2, ![2048, 4096]⟩
abbrev S2048x6144 : Shape := ⟨2, ![2048, 6144]⟩
abbrev S1024x1536 : Shape := ⟨2, ![1024, 1536]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S2048x6144, .bf16⟩
  | .hbm, ⟨2, _⟩ => ⟨S1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg2 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c1_i32_4 : BitVec 32 := 1#32
  let v10 : BitVec 32 := Scalar.divsi arg2 c1_i32_4
  let c0_i32_5 : BitVec 32 := 0#32
  let v11 : BitVec 1 := Scalar.cmpi .sgt arg2 c0_i32_5
  let v12 : BitVec 32 := Scalar.extui v11
  let c0_i32_6 : BitVec 32 := 0#32
  let v13 : BitVec 1 := Scalar.cmpi .slt arg2 c0_i32_6
  let v14 : BitVec 32 := Scalar.extui v13
  let v15 : BitVec 32 := Scalar.subi v12 v14
  let c0_i32_7 : BitVec 32 := 0#32
  let v16 : BitVec 1 := Scalar.cmpi .sgt c1_i32_4 c0_i32_7
  let v17 : BitVec 32 := Scalar.extui v16
  let c0_i32_8 : BitVec 32 := 0#32
  let v18 : BitVec 1 := Scalar.cmpi .slt c1_i32_4 c0_i32_8
  let v19 : BitVec 32 := Scalar.extui v18
  let v20 : BitVec 32 := Scalar.subi v17 v19
  let v21 : BitVec 1 := Scalar.cmpi .ne v15 v20
  let v22 : BitVec 32 := Scalar.remsi arg2 c1_i32_4
  let c0_i32_9 : BitVec 32 := 0#32
  let v23 : BitVec 1 := Scalar.cmpi .ne v22 c0_i32_9
  let v24 : BitVec 1 := Scalar.andi v21 v23
  let c1_i32_10 : BitVec 32 := 1#32
  let v25 : BitVec 32 := Scalar.subi v10 c1_i32_10
  let v26 : BitVec 32 := Scalar.select v24 v25 v10
  let c1_i32_11 : BitVec 32 := 1#32
  let v27 : BitVec 32 := Scalar.muli v26 c1_i32_11
  let v28 : BitVec 32 := Scalar.addi v27 arg0
  let c0_i32_12 : BitVec 32 := 0#32
  ![v9.toNat, v28.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg2 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c1_i32_4 : BitVec 32 := 1#32
  let v10 : BitVec 32 := Scalar.divsi arg2 c1_i32_4
  let c0_i32_5 : BitVec 32 := 0#32
  let v11 : BitVec 1 := Scalar.cmpi .sgt arg2 c0_i32_5
  let v12 : BitVec 32 := Scalar.extui v11
  let c0_i32_6 : BitVec 32 := 0#32
  let v13 : BitVec 1 := Scalar.cmpi .slt arg2 c0_i32_6
  let v14 : BitVec 32 := Scalar.extui v13
  let v15 : BitVec 32 := Scalar.subi v12 v14
  let c0_i32_7 : BitVec 32 := 0#32
  let v16 : BitVec 1 := Scalar.cmpi .sgt c1_i32_4 c0_i32_7
  let v17 : BitVec 32 := Scalar.extui v16
  let c0_i32_8 : BitVec 32 := 0#32
  let v18 : BitVec 1 := Scalar.cmpi .slt c1_i32_4 c0_i32_8
  let v19 : BitVec 32 := Scalar.extui v18
  let v20 : BitVec 32 := Scalar.subi v17 v19
  let v21 : BitVec 1 := Scalar.cmpi .ne v15 v20
  let v22 : BitVec 32 := Scalar.remsi arg2 c1_i32_4
  let c0_i32_9 : BitVec 32 := 0#32
  let v23 : BitVec 1 := Scalar.cmpi .ne v22 c0_i32_9
  let v24 : BitVec 1 := Scalar.andi v21 v23
  let c1_i32_10 : BitVec 32 := 1#32
  let v25 : BitVec 32 := Scalar.subi v10 c1_i32_10
  let v26 : BitVec 32 := Scalar.select v24 v25 v10
  let c2_i32 : BitVec 32 := 2#32
  let v27 : BitVec 32 := Scalar.muli v26 c2_i32
  let v28 : BitVec 32 := Scalar.addi v27 arg1
  let c0_i32_11 : BitVec 32 := 0#32
  ![v9.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S2048x4096 : Shape := ⟨2, ![2048, 4096]⟩
abbrev S2048x6144 : Shape := ⟨2, ![2048, 6144]⟩
abbrev S_ : Shape := ⟨0, ![]⟩
abbrev S1024x1536 : Shape := ⟨2, ![1024, 1536]⟩
abbrev S8192x1024 : Shape := ⟨2, ![8192, 1024]⟩
abbrev S8192x1536 : Shape := ⟨2, ![8192, 1536]⟩
abbrev S1536x1024 : Shape := ⟨2, ![1536, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x6144, .bf16⟩
  | .hbm, ⟨2, _⟩ => ⟨S_, .bf16⟩
  | .hbm, ⟨3, _⟩ => ⟨S1024x1536, .bf16⟩
  | .hbm, ⟨4, _⟩ => ⟨S8192x1024, .bf16⟩
  | .hbm, ⟨5, _⟩ => ⟨S8192x1024, .f32⟩
  | .hbm, ⟨6, _⟩ => ⟨S1024x1536, .f32⟩
  | .hbm, ⟨7, _⟩ => ⟨S8192x1536, .f32⟩
  | .hbm, ⟨8, _⟩ => ⟨S2048x6144, .f32⟩
  | .hbm, ⟨9, _⟩ => ⟨S8192x1536, .f32⟩
  | .hbm, ⟨10, _⟩ => ⟨S1536x1024, .f32⟩
  | .hbm, ⟨11, _⟩ => ⟨S1024x1536, .f32⟩
  | .hbm, ⟨12, _⟩ => ⟨S1024x1536, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel25.lean ====
abbrev S512x16384 : Shape := ⟨2, ![512, 16384]⟩
abbrev S512x24576 : Shape := ⟨2, ![512, 24576]⟩
abbrev S1024x1536 : Shape := ⟨2, ![1024, 1536]⟩
abbrev S512x1024 : Shape := ⟨2, ![512, 1024]⟩
abbrev S512x768 : Shape := ⟨2, ![512, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S512x16384, .bf16⟩
  | .hbm, ⟨1, _⟩ => ⟨S512x24576, .bf16⟩
  | .hbm, ⟨2, _⟩ => ⟨S1024x1536, .bf16⟩
  | .local _ .vmem, ⟨0, _⟩ => ⟨S512x1024, .bf16⟩
  | .local _ .vmem, ⟨1, _⟩ => ⟨S512x1024, .bf16⟩
  | .local _ .vmem, ⟨2, _⟩ => ⟨S512x768, .bf16⟩
  | .local _ .vmem, ⟨3, _⟩ => ⟨S512x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S512x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond3 (i : grid0.Coords) : BitVec 1 :=
  let arg2 : BitVec 32 := BitVec.ofNat 32 (i 2).val
  let c15_i32_6 : BitVec 32 := 15#32
  let v11 : BitVec 1 := Scalar.cmpi .eq arg2 c15_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg2 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c1_i32_4 : BitVec 32 := 1#32
  let v10 : BitVec 32 := Scalar.divsi arg2 c1_i32_4
  let c0_i32_5 : BitVec 32 := 0#32
  let v11 : BitVec 1 := Scalar.cmpi .sgt arg2 c0_i32_5
  let v12 : BitVec 32 := Scalar.extui v11
  let c0_i32_6 : BitVec 32 := 0#32
  let v13 : BitVec 1 := Scalar.cmpi .slt arg2 c0_i32_6
  let v14 : BitVec 32 := Scalar.extui v13
  let v15 : BitVec 32 := Scalar.subi v12 v14
  let c0_i32_7 : BitVec 32 := 0#32
  let v16 : BitVec 1 := Scalar.cmpi .sgt c1_i32_4 c0_i32_7
  let v17 : BitVec 32 := Scalar.extui v16
  let c0_i32_8 : BitVec 32 := 0#32
  let v18 : BitVec 1 := Scalar.cmpi .slt c1_i32_4 c0_i32_8
  let v19 : BitVec 32 := Scalar.extui v18
  let v20 : BitVec 32 := Scalar.subi v17 v19
  let v21 : BitVec 1 := Scalar.cmpi .ne v15 v20
  let v22 : BitVec 32 := Scalar.remsi arg2 c1_i32_4
  let c0_i32_9 : BitVec 32 := 0#32
  let v23 : BitVec 1 := Scalar.cmpi .ne v22 c0_i32_9
  let v24 : BitVec 1 := Scalar.andi v21 v23
  let c1_i32_10 : BitVec 32 := 1#32
  let v25 : BitVec 32 := Scalar.subi v10 c1_i32_10
  let v26 : BitVec 32 := Scalar.select v24 v25 v10
  let c1_i32_11 : BitVec 32 := 1#32
  let v27 : BitVec 32 := Scalar.muli v26 c1_i32_11
  let v28 : BitVec 32 := Scalar.addi v27 arg0
  let c0_i32_12 : BitVec 32 := 0#32
  ![v9.toNat, v28.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg2 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c1_i32_4 : BitVec 32 := 1#32
  let v10 : BitVec 32 := Scalar.divsi arg2 c1_i32_4
  let c0_i32_5 : BitVec 32 := 0#32
  let v11 : BitVec 1 := Scalar.cmpi .sgt arg2 c0_i32_5
  let v12 : BitVec 32 := Scalar.extui v11
  let c0_i32_6 : BitVec 32 := 0#32
  let v13 : BitVec 1 := Scalar.cmpi .slt arg2 c0_i32_6
  let v14 : BitVec 32 := Scalar.extui v13
  let v15 : BitVec 32 := Scalar.subi v12 v14
  let c0_i32_7 : BitVec 32 := 0#32
  let v16 : BitVec 1 := Scalar.cmpi .sgt c1_i32_4 c0_i32_7
  let v17 : BitVec 32 := Scalar.extui v16
  let c0_i32_8 : BitVec 32 := 0#32
  let v18 : BitVec 1 := Scalar.cmpi .slt c1_i32_4 c0_i32_8
  let v19 : BitVec 32 := Scalar.extui v18
  let v20 : BitVec 32 := Scalar.subi v17 v19
  let v21 : BitVec 1 := Scalar.cmpi .ne v15 v20
  let v22 : BitVec 32 := Scalar.remsi arg2 c1_i32_4
  let c0_i32_9 : BitVec 32 := 0#32
  let v23 : BitVec 1 := Scalar.cmpi .ne v22 c0_i32_9
  let v24 : BitVec 1 := Scalar.andi v21 v23
  let c1_i32_10 : BitVec 32 := 1#32
  let v25 : BitVec 32 := Scalar.subi v10 c1_i32_10
  let v26 : BitVec 32 := Scalar.select v24 v25 v10
  let c2_i32 : BitVec 32 := 2#32
  let v27 : BitVec 32 := Scalar.muli v26 c2_i32
  let v28 : BitVec 32 := Scalar.addi v27 arg1
  let c0_i32_11 : BitVec 32 := 0#32
  ![v9.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S512x16384 : Shape := ⟨2, ![512, 16384]⟩
abbrev S512x24576 : Shape := ⟨2, ![512, 24576]⟩
abbrev S_ : Shape := ⟨0, ![]⟩
abbrev S1024x1536 : Shape := ⟨2, ![1024, 1536]⟩
abbrev S8192x1024 : Shape := ⟨2, ![8192, 1024]⟩
abbrev S8192x1536 : Shape := ⟨2, ![8192, 1536]⟩
abbrev S1536x1024 : Shape := ⟨2, ![1536, 1024]⟩

abbrev nBuf : Space → Nat
  | .hbm => 13
  | .vmem => 0
  | .smem => 0
  | _ => 0

abbrev bufTy : (tb : Table) → Fin (tcTables nBuf tb) → BufTy
  | .hbm, ⟨0, _⟩ => ⟨S512x16384, .bf16⟩
  | .hbm, ⟨1, _⟩ => ⟨S512x24576, .bf16⟩
  | .hbm, ⟨2, _⟩ => ⟨S_, .bf16⟩
  | .hbm, ⟨3, _⟩ => ⟨S1024x1536, .bf16⟩
  | .hbm, ⟨4, _⟩ => ⟨S8192x1024, .bf16⟩
  | .hbm, ⟨5, _⟩ => ⟨S8192x1024, .f32⟩
  | .hbm, ⟨6, _⟩ => ⟨S1024x1536, .f32⟩
  | .hbm, ⟨7, _⟩ => ⟨S8192x1536, .f32⟩
  | .hbm, ⟨8, _⟩ => ⟨S512x24576, .f32⟩
  | .hbm, ⟨9, _⟩ => ⟨S8192x1536, .f32⟩
  | .hbm, ⟨10, _⟩ => ⟨S1536x1024, .f32⟩
  | .hbm, ⟨11, _⟩ => ⟨S1024x1536, .f32⟩
  | .hbm, ⟨12, _⟩ => ⟨S1024x1536, .bf16⟩
  | _, _ => ⟨S512x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel26.lean ====
abbrev S2048x6144 : Shape := ⟨2, ![2048, 6144]⟩
abbrev S1024x1536 : Shape := ⟨2, ![1024, 1536]⟩
abbrev S2048x4096 : Shape := ⟨2, ![2048, 4096]⟩
abbrev S2048x768 : Shape := ⟨2, ![2048, 768]⟩
abbrev S1024x768 : Shape := ⟨2, ![1024, 768]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x6144, .bf16⟩
  | .hbm, ⟨1, _⟩ => ⟨S1024x1536, .bf16⟩
  | .hbm, ⟨2, _⟩ => ⟨S2048x4096, .f32⟩
  | .local _ .vmem, ⟨0, _⟩ => ⟨S2048x768, .bf16⟩
  | .local _ .vmem, ⟨1, _⟩ => ⟨S2048x768, .bf16⟩
  | .local _ .vmem, ⟨2, _⟩ => ⟨S1024x768, .bf16⟩
  | .local _ .vmem, ⟨3, _⟩ => ⟨S1024x768, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli v16 c2_i32
  let c0_i32_5 : BitVec 32 := 0#32
  let v18 : BitVec 32 := Scalar.subi arg2 c0_i32_5
  let c0_i32_6 : BitVec 32 := 0#32
  let c1_i32_7 : BitVec 32 := 1#32
  let v19 : BitVec 32 := Scalar.maxsi c0_i32_6 v18
  let v20 : BitVec 32 := Scalar.minsi c1_i32_7 v19
  let v21 : BitVec 32 := Scalar.addi v17 v20
  let c0_i32_8 : BitVec 32 := 0#32
  ![arg0.toNat, v21.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S2048x6144 : Shape := ⟨2, ![2048, 6144]⟩
abbrev S1024x1536 : Shape := ⟨2, ![1024, 1536]⟩
abbrev S_ : Shape := ⟨0, ![]⟩
abbrev S8192x1024 : Shape := ⟨2, ![8192, 1024]⟩
abbrev S8192x1536 : Shape := ⟨2, ![8192, 1536]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S1024x1536, .bf16⟩
  | .hbm, ⟨2, _⟩ => ⟨S_, .f32⟩
  | .hbm, ⟨3, _⟩ => ⟨S8192x1024, .f32⟩
  | .hbm, ⟨4, _⟩ => ⟨S2048x6144, .f32⟩
  | .hbm, ⟨5, _⟩ => ⟨S8192x1536, .f32⟩
  | .hbm, ⟨6, _⟩ => ⟨S1024x1536, .f32⟩
  | .hbm, ⟨7, _⟩ => ⟨S8192x1536, .f32⟩
  | .hbm, ⟨8, _⟩ => ⟨S8192x1024, .f32⟩
  | .hbm, ⟨9, _⟩ => ⟨S2048x4096, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel27.lean ====
abbrev S512x24576 : Shape := ⟨2, ![512, 24576]⟩
abbrev S1024x1536 : Shape := ⟨2, ![1024, 1536]⟩
abbrev S512x16384 : Shape := ⟨2, ![512, 16384]⟩
abbrev S512x768 : Shape := ⟨2, ![512, 768]⟩
abbrev S1024x768 : Shape := ⟨2, ![1024, 768]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S512x24576, .bf16⟩
  | .hbm, ⟨1, _⟩ => ⟨S1024x1536, .bf16⟩
  | .hbm, ⟨2, _⟩ => ⟨S512x16384, .f32⟩
  | .local _ .vmem, ⟨0, _⟩ => ⟨S512x768, .bf16⟩
  | .local _ .vmem, ⟨1, _⟩ => ⟨S512x768, .bf16⟩
  | .local _ .vmem, ⟨2, _⟩ => ⟨S1024x768, .bf16⟩
  | .local _ .vmem, ⟨3, _⟩ => ⟨S1024x768, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x24576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 16, 2], ![false, false, false]⟩

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli v16 c2_i32
  let c0_i32_5 : BitVec 32 := 0#32
  let v18 : BitVec 32 := Scalar.subi arg2 c0_i32_5
  let c0_i32_6 : BitVec 32 := 0#32
  let c1_i32_7 : BitVec 32 := 1#32
  let v19 : BitVec 32 := Scalar.maxsi c0_i32_6 v18
  let v20 : BitVec 32 := Scalar.minsi c1_i32_7 v19
  let v21 : BitVec 32 := Scalar.addi v17 v20
  let c0_i32_8 : BitVec 32 := 0#32
  ![arg0.toNat, v21.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S512x24576 : Shape := ⟨2, ![512, 24576]⟩
abbrev S1024x1536 : Shape := ⟨2, ![1024, 1536]⟩
abbrev S_ : Shape := ⟨0, ![]⟩
abbrev S8192x1024 : Shape := ⟨2, ![8192, 1024]⟩
abbrev S8192x1536 : Shape := ⟨2, ![8192, 1536]⟩
abbrev S512x16384 : Shape := ⟨2, ![512, 16384]⟩

abbrev nBuf : Space → Nat
  | .hbm => 10
  | .vmem => 0
  | .smem => 0
  | _ => 0

abbrev bufTy : (tb : Table) → Fin (tcTables nBuf tb) → BufTy
  | .hbm, ⟨0, _⟩ => ⟨S512x24576, .bf16⟩
  | .hbm, ⟨1, _⟩ => ⟨S1024x1536, .bf16⟩
  | .hbm, ⟨2, _⟩ => ⟨S_, .f32⟩
  | .hbm, ⟨3, _⟩ => ⟨S8192x1024, .f32⟩
  | .hbm, ⟨4, _⟩ => ⟨S512x24576, .f32⟩
  | .hbm, ⟨5, _⟩ => ⟨S8192x1536, .f32⟩
  | .hbm, ⟨6, _⟩ => ⟨S1024x1536, .f32⟩
  | .hbm, ⟨7, _⟩ => ⟨S8192x1536, .f32⟩
  | .hbm, ⟨8, _⟩ => ⟨S8192x1024, .f32⟩
  | .hbm, ⟨9, _⟩ => ⟨S512x16384, .f32⟩
  | _, _ => ⟨S512x24576, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.ScLoads.lean ====
module

public import proofs.«01_k».proof.Defs
public import proofs.«01_k».proof.Proof.Gen.KernelIdeal.Frame
public import Idealize.ShloMosaic.Lib.Pipeline.Value
public import Idealize.ShloMosaic.Lib.Pipeline.ValueKit.Tiles
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.KernelIdeal.Duo

open Cert.KernelIdeal Cert.KernelIdeal.Gen

/-! ## What the loads read, at natural coordinates -/

/-- An array's element at two natural coordinates, `0` outside the array. -/
def at2 {m n : ℕ} (X : (⟨2, ![m, n]⟩ : Shape).Idx → EReal) (r l : ℕ) : EReal :=
  if h : r < m ∧ l < n then X (ValueIdx.ix2 ⟨r, h.1⟩ ⟨l, h.2⟩) else 0

theorem at2_eq {m n : ℕ} (X : (⟨2, ![m, n]⟩ : Shape).Idx → EReal) (j : (⟨2, ![m, n]⟩ : Shape).Idx) {r l : ℕ}
    (hr : (j 0).val = r) (hl : (j 1).val = l) : X j = at2 X r l := by
  subst hr hl
  have h : (j 0).val < m ∧ (j 1).val < n := ⟨(j 0).isLt, (j 1).isLt⟩
  unfold at2
  rw [dif_pos h]
  congr 1
  funext a
  fin_cases a <;> rfl

/-- A load of a box of a block reads the block at the box's offset plus the index. -/
theorem ld_at2 {m n : ℕ} (X : (⟨2, ![m, n]⟩ : Shape).Idx → EReal) (o p : ℕ) (size : Fin 2 → ℕ)
    (inb : ∀ a, (![o, p] : Fin 2 → ℕ) a + size a ≤ (⟨2, ![m, n]⟩ : Shape).size a) :
    View.ld (Val := Elt Ideal) (e' := .f32) X (Rect.unit (s := ⟨2, ![m, n]⟩) ![o, p] size inb)
      = fun j => at2 X (o + (j 0).val) (p + (j 1).val) := by
  funext j
  exact at2_eq X _ (Rect.idx_unit_val (s := ⟨2, ![m, n]⟩) ![o, p] size inb j 0) (Rect.idx_unit_val (s := ⟨2, ![m, n]⟩) ![o, p] size inb j 1)

/-- The same of a block of bf16 elements. -/
theorem ld_at2_bf16 {m n : ℕ} (X : (⟨2, ![m, n]⟩ : Shape).Idx → EReal) (o p : ℕ) (size : Fin 2 → ℕ)
    (inb : ∀ a, (![o, p] : Fin 2 → ℕ) a + size a ≤ (⟨2, ![m, n]⟩ : Shape).size a) :
    View.ld (Val := Elt Ideal) (e' := .bf16) X (Rect.unit (s := ⟨2, ![m, n]⟩) ![o, p] size inb)
      = fun j => at2 X (o + (j 0).val) (p + (j 1).val) :=
  ld_at2 X o p size inb

theorem select_eq (n k : ℕ) (hn : n < 4294967296) (hk : k < 4294967296) {α : Type} (a b : α) :
    Scalar.select (Scalar.cmpi .eq (BitVec.ofNat 32 n) (BitVec.ofNat 32 k)) a b = if n = k then a else b := by
  by_cases h : n = k
  · subst h; simp [Scalar.select, Scalar.cmpi, IntOp.cmpi]
  · rw [if_neg h]
    have : BitVec.ofNat 32 n ≠ BitVec.ofNat 32 k := fun e => h (by
      have := congrArg BitVec.toNat e
      simpa [Nat.mod_eq_of_lt hn, Nat.mod_eq_of_lt hk] using this)
    have hb : (BitVec.ofNat 32 n == BitVec.ofNat 32 k) = false := by simpa using this
    simp only [Scalar.select, Scalar.cmpi, IntOp.cmpi, hb]
    rfl

/-- The rows `dy ⊙ b` of a block of 256 rows and of the 32 rows after it (nothing after the last block). -/
def dkx (n : ℕ) (x0 : S256x3072.Idx → EReal) (x2 : S32x3072.Idx → EReal) (x3 : S256x1024.Idx → EReal) (x4 : S32x1024.Idx → EReal) (r l : ℕ) : EReal :=
  if r < 256 then at2 x3 r l * at2 x0 r l
  else if n = 31 then 0 else at2 x4 (r - 256) l * at2 x2 (r - 256) l

/-- The rows `c ⊙ val` of a block of 256 rows after the 32 rows before it (nothing before the first block). -/
def cvx (n : ℕ) (x0 : S256x3072.Idx → EReal) (x1 : S32x3072.Idx → EReal) (r l : ℕ) : EReal :=
  if r < 32 then if n = 0 then 0 else at2 x1 r (1024 + l) * at2 x1 r (2048 + l)
  else at2 x0 (r - 32) (1024 + l) * at2 x0 (r - 32) (2048 + l)

/-- Two stacked bands of rows cover the scratch, and a load reads the band its row falls in. -/
theorem bands (v : View sig .tc .vmem S288x1024 .f32) (k h₁ h₂ : ℕ) (inb₁ inb₂)
    (A : (⟨2, ![h₂, 1024]⟩ : Shape).Idx → EReal) (B : (⟨2, ![h₁, 1024]⟩ : Shape).Idx → EReal) (hk : k = h₁) (hs : h₁ + h₂ = 288)
    (f : ℕ → ℕ → EReal) (hA : ∀ j, A j = f (h₁ + (j 0).val) (j 1).val) (hB : ∀ j, B j = f (j 0).val (j 1).val)
    (o p : ℕ) (size : Fin 2 → ℕ) (inb) :
    v.readCov (Val := Elt Ideal) [⟨Rect.unit (s := S288x1024) ![k, 0] ![h₂, 1024] inb₁, A⟩, ⟨Rect.unit (s := S288x1024) ![0, 0] ![h₁, 1024] inb₂, B⟩]
        (Rect.unit (s := S288x1024) ![o, p] size inb).toLoadRect
      = fun j => f (o + (j 0).val) (p + (j 1).val) := by
  subst hk
  rw [View.readCov_eq_canon']
  funext j
  have hj0 : ((Rect.unit (s := S288x1024) ![o, p] size inb).toLoadRect.idx j 0).val = o + (j 0).val := Rect.idx_unit_val (s := S288x1024) ![o, p] size inb j 0
  have hj1 : ((Rect.unit (s := S288x1024) ![o, p] size inb).toLoadRect.idx j 1).val = p + (j 1).val := Rect.idx_unit_val (s := S288x1024) ![o, p] size inb j 1
  generalize (Rect.unit (s := S288x1024) ![o, p] size inb).toLoadRect.idx j = y at hj0 hj1
  rw [← hj0, ← hj1]
  have hy0 : (y 0).val < 288 := (y 0).isLt
  have hy1 : (y 1).val < 1024 := (y 1).isLt
  refine View.canon_apply_of_pieces (Val := Elt Ideal) (e := .f32) (fun y : S288x1024.Idx => f (y 0).val (y 1).val) _ ?_ y ?_
  · intro q hq
    rcases List.mem_cons.mp hq with rfl | hq
    · intro x
      refine (hA x).trans ?_
      show _ = f _ _
      congr 1
      · show _ = k + 1 * (x 0).val; omega
      · show _ = 0 + 1 * (x 1).val; omega
    · rcases List.mem_cons.mp hq with rfl | hq
      · intro x
        refine (hB x).trans ?_
        show _ = f _ _
        congr 1
        · show _ = 0 + 1 * (x 0).val; omega
        · show _ = 0 + 1 * (x 1).val; omega
      · exact absurd hq List.not_mem_nil
  · by_cases h : (y 0).val < k
    · refine ⟨_, List.mem_cons_of_mem _ List.mem_cons_self, (Rect.mem_set_unit (s := S288x1024) (inb := inb₂)).mpr fun a => ?_⟩
      match a with
      | ⟨0, _⟩ => exact ⟨Nat.zero_le _, by show (y 0).val < 0 + k; omega⟩
      | ⟨1, _⟩ => exact ⟨Nat.zero_le _, by show (y 1).val < 0 + 1024; omega⟩
    · refine ⟨_, List.mem_cons_self, (Rect.mem_set_unit (s := S288x1024) (inb := inb₁)).mpr fun a => ?_⟩
      match a with
      | ⟨0, _⟩ => exact ⟨by show k ≤ (y 0).val; omega, by show (y 0).val < k + h₂; omega⟩
      | ⟨1, _⟩ => exact ⟨Nat.zero_le _, by show (y 1).val < 0 + 1024; omega⟩

/-- A load of plane `q` of the rotated copies reads the plane's own store, -/
theorem plane_hit (v : View sig .tc .vmem S8x288x1024 .f32) (q r l : ℕ) (inb₁) (W : S1x280x1024.Idx → EReal) (L : List (View.Piece (Elt Ideal) S8x288x1024 .f32)) (inb)
    (hr : r + 64 ≤ 280) (f : ℕ → ℕ → EReal) (hW : ∀ j, W j = f (j 1).val (j 2).val) :
    v.readCov (Val := Elt Ideal) (⟨Rect.unit (s := S8x288x1024) ![q, 0, 0] S1x280x1024.size inb₁, W⟩ :: L)
        (Rect.unit (s := S8x288x1024) ![q, r, l] S1x64x128.size inb).toLoadRect
      = fun j => f (r + (j 1).val) (l + (j 2).val) := by
  rw [View.readCov_eq_canon']
  funext j
  have hj0 : ((Rect.unit (s := S8x288x1024) ![q, r, l] S1x64x128.size inb).toLoadRect.idx j 0).val = q + (j 0).val := Rect.idx_unit_val (s := S8x288x1024) ![q, r, l] _ inb j 0
  have hj1 : ((Rect.unit (s := S8x288x1024) ![q, r, l] S1x64x128.size inb).toLoadRect.idx j 1).val = r + (j 1).val := Rect.idx_unit_val (s := S8x288x1024) ![q, r, l] _ inb j 1
  have hj2 : ((Rect.unit (s := S8x288x1024) ![q, r, l] S1x64x128.size inb).toLoadRect.idx j 2).val = l + (j 2).val := Rect.idx_unit_val (s := S8x288x1024) ![q, r, l] _ inb j 2
  have h0 : (j 0).val < 1 := (j 0).isLt
  have h1 : (j 1).val < 64 := (j 1).isLt
  generalize (Rect.unit (s := S8x288x1024) ![q, r, l] S1x64x128.size inb).toLoadRect.idx j = y at hj0 hj1 hj2
  have hy2 : (y 2).val < 1024 := (y 2).isLt
  have hm : y ∈ (Rect.unit (s := S8x288x1024) ![q, 0, 0] S1x280x1024.size inb₁).set := Rect.mem_set_unit.mpr fun a => by
    match a with
    | ⟨0, _⟩ => exact ⟨by show q ≤ (y 0).val; omega, by show (y 0).val < q + 1; omega⟩
    | ⟨1, _⟩ => exact ⟨Nat.zero_le _, by show (y 1).val < 0 + 280; omega⟩
    | ⟨2, _⟩ => exact ⟨Nat.zero_le _, by show (y 2).val < 0 + 1024; omega⟩
  obtain ⟨x, hx⟩ : ∃ x, (Rect.unit (s := S8x288x1024) ![q, 0, 0] S1x280x1024.size inb₁).emb x = y := (Rect.unit (s := S8x288x1024) ![q, 0, 0] S1x280x1024.size inb₁).exists_idx_of_mem hm
  have hx1 : (y 1).val = 0 + (x 1).val := by subst hx; exact Rect.idx_unit_val (s := S8x288x1024) ![q, 0, 0] _ inb₁ x 1
  have hx2 : (y 2).val = 0 + (x 2).val := by subst hx; exact Rect.idx_unit_val (s := S8x288x1024) ![q, 0, 0] _ inb₁ x 2
  have e1 : (x 1).val = r + (j 1).val := by omega
  have e2 : (x 2).val = l + (j 2).val := by omega
  rw [← hx, View.canon_cons_emb, hW, e1, e2]

/-- and a load of another plane does not meet it. -/
theorem plane_miss (v : View sig .tc .vmem S8x288x1024 .f32) (q q' r l : ℕ) (inb₁) (W : S1x280x1024.Idx → EReal) (L : List (View.Piece (Elt Ideal) S8x288x1024 .f32)) (inb)
    (hq : q ≠ q') :
    v.readCov (Val := Elt Ideal) (⟨Rect.unit (s := S8x288x1024) ![q, 0, 0] S1x280x1024.size inb₁, W⟩ :: L)
        (Rect.unit (s := S8x288x1024) ![q', r, l] S1x64x128.size inb).toLoadRect
      = v.readCov (Val := Elt Ideal) L (Rect.unit (s := S8x288x1024) ![q', r, l] S1x64x128.size inb).toLoadRect := by
  rw [View.readCov_eq_canon', View.readCov_eq_canon']
  funext j
  refine View.canon_cons_of_not_mem _ L fun hm => ?_
  have h := Rect.mem_set_unit (s := S8x288x1024) (off := ![q, 0, 0]) (size := S1x280x1024.size) (inb := inb₁) |>.mp hm 0
  have hj0 : ((Rect.unit (s := S8x288x1024) ![q', r, l] S1x64x128.size inb).toLoadRect.idx j 0).val = q' + (j 0).val := Rect.idx_unit_val (s := S8x288x1024) ![q', r, l] _ inb j 0
  have h0 : (j 0).val < 1 := (j 0).isLt
  have ha : q ≤ ((Rect.unit (s := S8x288x1024) ![q', r, l] S1x64x128.size inb).toLoadRect.idx j 0).val := h.1
  have hb : ((Rect.unit (s := S8x288x1024) ![q', r, l] S1x64x128.size inb).toLoadRect.idx j 0).val < q + 1 := h.2
  omega

/-! ## The scratch buffers of the kernel -/

/-- A load of a box of a whole block. -/
theorem rd2 {m n : ℕ} (a : Memref sig .tc .vmem ⟨2, ![m, n]⟩ .f32) (h : a.IsWhole) (X : (⟨2, ![m, n]⟩ : Shape).Idx → EReal) (o p : ℕ) (size : Fin 2 → ℕ) (inb) (j) :
    View.readAt (Elt Ideal) a.view (Rect.unit (s := ⟨2, ![m, n]⟩) ![o, p] size inb).toLoadRect (h.unread X) j = at2 X (o + (j 0).val) (p + (j 1).val) := by
  rw [View.readAt_eq_ld, h.read_unread]
  exact congrFun (ld_at2 X o p size inb) j

theorem rd2_bf16 {m n : ℕ} (a : Memref sig .tc .vmem ⟨2, ![m, n]⟩ .bf16) (h : a.IsWhole) (X : (⟨2, ![m, n]⟩ : Shape).Idx → EReal) (o p : ℕ) (size : Fin 2 → ℕ) (inb) (j) :
    View.readAt (Elt Ideal) a.view (Rect.unit (s := ⟨2, ![m, n]⟩) ![o, p] size inb).toLoadRect (h.unread X) j = at2 X (o + (j 0).val) (p + (j 1).val) := by
  rw [View.readAt_eq_ld, h.read_unread]
  exact congrFun (ld_at2_bf16 X o p size inb) j

theorem dk_read (i : grid0.Coords) (arg1 : Memref sig .tc .vmem S256x3072 .bf16) (harg1 : arg1.IsWhole) (arg3 : Memref sig .tc .vmem S32x3072 .bf16) (harg3 : arg3.IsWhole)
    (arg4 : Memref sig .tc .vmem S256x1024 .f32) (harg4 : arg4.IsWhole) (arg5 : Memref sig .tc .vmem S32x1024 .f32) (harg5 : arg5.IsWhole)
    (x0 : Vec Ideal S256x3072 .bf16) (x2 : Vec Ideal S32x3072 .bf16) (x3 : Vec Ideal S256x1024 .f32) (x4 : Vec Ideal S32x1024 .f32)
    (v : View sig .tc .vmem S288x1024 .f32) (o p : ℕ) (size : Fin 2 → ℕ) (inb) :
    v.readCov (Val := Elt Ideal)
        [⟨Rect.unit ![256, 0] S32x1024.size inb_S288x1024_S32x1024_256_0,
          k0_pay8 (F := Ideal) (Scalar.cmpi CmpIPredicate.eq (BitVec.ofNat 32 (i 0).val) 31#32)
            (k0_pay7 (F := Ideal) (View.readAt (Elt Ideal) arg5.view (Rect.unit (s := S32x1024) ![0, 0] S32x1024.size inb_S32x1024_S32x1024_0_0).toLoadRect (harg5.unread x4))
              (View.readAt (Elt Ideal) arg3.view (Rect.unit (s := S32x3072) ![0, 0] S32x1024.size inb_S32x3072_S32x1024_0_0).toLoadRect (harg3.unread x2)))⟩,
         ⟨Rect.unit ![0, 0] S256x1024.size inb_S288x1024_S256x1024_0_0,
          k0_pay6 (F := Ideal) (View.readAt (Elt Ideal) arg4.view (Rect.unit (s := S256x1024) ![0, 0] S256x1024.size inb_S256x1024_S256x1024_0_0).toLoadRect (harg4.unread x3))
            (View.readAt (Elt Ideal) arg1.view (Rect.unit (s := S256x3072) ![0, 0] S256x1024.size inb_S256x3072_S256x1024_0_0).toLoadRect (harg1.unread x0))⟩]
        (Rect.unit (s := S288x1024) ![o, p] size inb).toLoadRect
      = fun j => dkx (i 0).val x0 x2 x3 x4 (o + (j 0).val) (p + (j 1).val) := by
  have hi : (i 0).val < 32 := (i 0).isLt
  refine bands v 256 256 32 _ _ _ _ rfl rfl _ (fun j => ?_) (fun j => ?_) o p size inb
  · have h : ¬ 256 + (j 0).val < 256 := by omega
    have e4 := rd2 arg5 harg5 x4 0 0 S32x1024.size inb_S32x1024_S32x1024_0_0 j
    have e2 := rd2_bf16 arg3 harg3 x2 0 0 S32x1024.size inb_S32x3072_S32x1024_0_0 j
    unfold k0_pay8 k0_pay7
    rw [show (31#32) = BitVec.ofNat 32 31 from rfl]
    simp only [shapeCast_self, select_eq (i 0).val 31 (by omega) (by omega), dkx, if_neg h, Nat.add_sub_cancel_left]
    simp only [Nat.zero_add] at e4 e2
    split <;> pointwise [Nat.zero_add, ← e4, ← e2]
  · have h : (j 0).val < 256 := (j 0).isLt
    have e4 := rd2 arg4 harg4 x3 0 0 S256x1024.size inb_S256x1024_S256x1024_0_0 j
    have e2 := rd2_bf16 arg1 harg1 x0 0 0 S256x1024.size inb_S256x3072_S256x1024_0_0 j
    unfold k0_pay6
    simp only [Nat.zero_add] at e4 e2
    simp only [shapeCast_self, dkx, if_pos h, ← e4, ← e2]
    pointwise

theorem cv_read (i : grid0.Coords) (arg1 : Memref sig .tc .vmem S256x3072 .bf16) (harg1 : arg1.IsWhole) (arg2 : Memref sig .tc .vmem S32x3072 .bf16) (harg2 : arg2.IsWhole)
    (x0 : Vec Ideal S256x3072 .bf16) (x1 : Vec Ideal S32x3072 .bf16)
    (v : View sig .tc .vmem S288x1024 .f32) (o p : ℕ) (size : Fin 2 → ℕ) (inb) :
    v.readCov (Val := Elt Ideal)
        [⟨Rect.unit ![32, 0] S256x1024.size inb_S288x1024_S256x1024_32_0,
          k0_pay5 (F := Ideal) (View.readAt (Elt Ideal) arg1.view (Rect.unit (s := S256x3072) ![0, 1024] S256x1024.size inb_S256x3072_S256x1024_0_1024).toLoadRect (harg1.unread x0))
            (View.readAt (Elt Ideal) arg1.view (Rect.unit (s := S256x3072) ![0, 2048] S256x1024.size inb_S256x3072_S256x1024_0_2048).toLoadRect (harg1.unread x0))⟩,
         ⟨Rect.unit ![0, 0] S32x1024.size inb_S288x1024_S32x1024_0_0,
          k0_pay4 (F := Ideal) i (View.readAt (Elt Ideal) arg2.view (Rect.unit (s := S32x3072) ![0, 1024] S32x1024.size inb_S32x3072_S32x1024_0_1024).toLoadRect (harg2.unread x1))
            (View.readAt (Elt Ideal) arg2.view (Rect.unit (s := S32x3072) ![0, 2048] S32x1024.size inb_S32x3072_S32x1024_0_2048).toLoadRect (harg2.unread x1))⟩]
        (Rect.unit (s := S288x1024) ![o, p] size inb).toLoadRect
      = fun j => cvx (i 0).val x0 x1 (o + (j 0).val) (p + (j 1).val) := by
  have hi : (i 0).val < 32 := (i 0).isLt
  refine bands v 32 32 256 _ _ _ _ rfl rfl _ (fun j => ?_) (fun j => ?_) o p size inb
  · have h : ¬ 32 + (j 0).val < 32 := by omega
    have e1 := rd2_bf16 arg1 harg1 x0 0 1024 S256x1024.size inb_S256x3072_S256x1024_0_1024 j
    have e2 := rd2_bf16 arg1 harg1 x0 0 2048 S256x1024.size inb_S256x3072_S256x1024_0_2048 j
    unfold k0_pay5
    simp only [Nat.zero_add] at e1 e2
    simp only [shapeCast_self, cvx, if_neg h, Nat.add_sub_cancel_left, ← e1, ← e2]
    pointwise
  · have h : (j 0).val < 32 := (j 0).isLt
    have e1 := rd2_bf16 arg2 harg2 x1 0 1024 S32x1024.size inb_S32x3072_S32x1024_0_1024 j
    have e2 := rd2_bf16 arg2 harg2 x1 0 2048 S32x1024.size inb_S32x3072_S32x1024_0_2048 j
    unfold k0_pay4
    rw [show (0#32) = BitVec.ofNat 32 0 from rfl]
    simp only [Nat.zero_add] at e1 e2
    simp only [shapeCast_self, select_eq (i 0).val 0 (by omega) (by omega), cvx, if_pos h]
    split <;> pointwise [← e1, ← e2]

theorem dk_rot1 (i : grid0.Coords) (arg1 : Memref sig .tc .vmem S256x3072 .bf16) (harg1 : arg1.IsWhole) (arg3 : Memref sig .tc .vmem S32x3072 .bf16) (harg3 : arg3.IsWhole)
    (arg4 : Memref sig .tc .vmem S256x1024 .f32) (harg4 : arg4.IsWhole) (arg5 : Memref sig .tc .vmem S32x1024 .f32) (harg5 : arg5.IsWhole)
    (x0 : Vec Ideal S256x3072 .bf16) (x2 : Vec Ideal S32x3072 .bf16) (x3 : Vec Ideal S256x1024 .f32) (x4 : Vec Ideal S32x1024 .f32)
    (v : View sig .tc .vmem S288x1024 .f32) (u : View sig .tc .vmem S8x288x1024 .f32) (r l : ℕ) (inb) (hr : r + 64 ≤ 280) :
    u.readCov (Val := Elt Ideal)
        [⟨Rect.unit ![2, 0, 0] S1x280x1024.size inb_S8x288x1024_S1x280x1024_2_0_0, k0_pay12 (F := Ideal) (v.readCov (Val := Elt Ideal)
          [⟨Rect.unit ![256, 0] S32x1024.size inb_S288x1024_S32x1024_256_0,
          k0_pay8 (F := Ideal) (Scalar.cmpi CmpIPredicate.eq (BitVec.ofNat 32 (i 0).val) 31#32)
            (k0_pay7 (F := Ideal) (View.readAt (Elt Ideal) arg5.view (Rect.unit (s := S32x1024) ![0, 0] S32x1024.size inb_S32x1024_S32x1024_0_0).toLoadRect (harg5.unread x4))
              (View.readAt (Elt Ideal) arg3.view (Rect.unit (s := S32x3072) ![0, 0] S32x1024.size inb_S32x3072_S32x1024_0_0).toLoadRect (harg3.unread x2)))⟩,
         ⟨Rect.unit ![0, 0] S256x1024.size inb_S288x1024_S256x1024_0_0,
          k0_pay6 (F := Ideal) (View.readAt (Elt Ideal) arg4.view (Rect.unit (s := S256x1024) ![0, 0] S256x1024.size inb_S256x1024_S256x1024_0_0).toLoadRect (harg4.unread x3))
            (View.readAt (Elt Ideal) arg1.view (Rect.unit (s := S256x3072) ![0, 0] S256x1024.size inb_S256x3072_S256x1024_0_0).toLoadRect (harg1.unread x0))⟩]
        (Rect.unit (s := S288x1024) ![2, 0] S280x1024.size inb_S288x1024_S280x1024_2_0).toLoadRect)⟩,
         ⟨Rect.unit ![1, 0, 0] S1x280x1024.size inb_S8x288x1024_S1x280x1024_1_0_0, k0_pay11 (F := Ideal) (v.readCov (Val := Elt Ideal)
          [⟨Rect.unit ![256, 0] S32x1024.size inb_S288x1024_S32x1024_256_0,
          k0_pay8 (F := Ideal) (Scalar.cmpi CmpIPredicate.eq (BitVec.ofNat 32 (i 0).val) 31#32)
            (k0_pay7 (F := Ideal) (View.readAt (Elt Ideal) arg5.view (Rect.unit (s := S32x1024) ![0, 0] S32x1024.size inb_S32x1024_S32x1024_0_0).toLoadRect (harg5.unread x4))
              (View.readAt (Elt Ideal) arg3.view (Rect.unit (s := S32x3072) ![0, 0] S32x1024.size inb_S32x3072_S32x1024_0_0).toLoadRect (harg3.unread x2)))⟩,
         ⟨Rect.unit ![0, 0] S256x1024.size inb_S288x1024_S256x1024_0_0,
          k0_pay6 (F := Ideal) (View.readAt (Elt Ideal) arg4.view (Rect.unit (s := S256x1024) ![0, 0] S256x1024.size inb_S256x1024_S256x1024_0_0).toLoadRect (harg4.unread x3))
            (View.readAt (Elt Ideal) arg1.view (Rect.unit (s := S256x3072) ![0, 0] S256x1024.size inb_S256x3072_S256x1024_0_0).toLoadRect (harg1.unread x0))⟩]
        (Rect.unit (s := S288x1024) ![1, 0] S280x1024.size inb_S288x1024_S280x1024_1_0).toLoadRect)⟩]
        (Rect.unit (s := S8x288x1024) ![1, r, l] S1x64x128.size inb).toLoadRect
      = fun j => dkx (i 0).val x0 x2 x3 x4 ((r + 1) + (j 1).val) (l + (j 2).val) := by
  rw [plane_miss u 2 1 r l _ _ _ inb (by omega), dk_read i arg1 harg1 arg3 harg3 arg4 harg4 arg5 harg5 x0 x2 x3 x4 v 1 0,
    plane_hit u 1 r l _ _ _ inb hr (fun a b => dkx (i 0).val x0 x2 x3 x4 (1 + a) b) (fun j => by unfold k0_pay11; pointwise [Nat.zero_add])]
  funext j
  congr 1; omega

theorem dk_rot2 (i : grid0.Coords) (arg1 : Memref sig .tc .vmem S256x3072 .bf16) (harg1 : arg1.IsWhole) (arg3 : Memref sig .tc .vmem S32x3072 .bf16) (harg3 : arg3.IsWhole)
    (arg4 : Memref sig .tc .vmem S256x1024 .f32) (harg4 : arg4.IsWhole) (arg5 : Memref sig .tc .vmem S32x1024 .f32) (harg5 : arg5.IsWhole)
    (x0 : Vec Ideal S256x3072 .bf16) (x2 : Vec Ideal S32x3072 .bf16) (x3 : Vec Ideal S256x1024 .f32) (x4 : Vec Ideal S32x1024 .f32)
    (v : View sig .tc .vmem S288x1024 .f32) (u : View sig .tc .vmem S8x288x1024 .f32) (r l : ℕ) (inb) (hr : r + 64 ≤ 280) :
    u.readCov (Val := Elt Ideal)
        [⟨Rect.unit ![2, 0, 0] S1x280x1024.size inb_S8x288x1024_S1x280x1024_2_0_0, k0_pay12 (F := Ideal) (v.readCov (Val := Elt Ideal)
          [⟨Rect.unit ![256, 0] S32x1024.size inb_S288x1024_S32x1024_256_0,
          k0_pay8 (F := Ideal) (Scalar.cmpi CmpIPredicate.eq (BitVec.ofNat 32 (i 0).val) 31#32)
            (k0_pay7 (F := Ideal) (View.readAt (Elt Ideal) arg5.view (Rect.unit (s := S32x1024) ![0, 0] S32x1024.size inb_S32x1024_S32x1024_0_0).toLoadRect (harg5.unread x4))
              (View.readAt (Elt Ideal) arg3.view (Rect.unit (s := S32x3072) ![0, 0] S32x1024.size inb_S32x3072_S32x1024_0_0).toLoadRect (harg3.unread x2)))⟩,
         ⟨Rect.unit ![0, 0] S256x1024.size inb_S288x1024_S256x1024_0_0,
          k0_pay6 (F := Ideal) (View.readAt (Elt Ideal) arg4.view (Rect.unit (s := S256x1024) ![0, 0] S256x1024.size inb_S256x1024_S256x1024_0_0).toLoadRect (harg4.unread x3))
            (View.readAt (Elt Ideal) arg1.view (Rect.unit (s := S256x3072) ![0, 0] S256x1024.size inb_S256x3072_S256x1024_0_0).toLoadRect (harg1.unread x0))⟩]
        (Rect.unit (s := S288x1024) ![2, 0] S280x1024.size inb_S288x1024_S280x1024_2_0).toLoadRect)⟩,
         ⟨Rect.unit ![1, 0, 0] S1x280x1024.size inb_S8x288x1024_S1x280x1024_1_0_0, k0_pay11 (F := Ideal) (v.readCov (Val := Elt Ideal)
          [⟨Rect.unit ![256, 0] S32x1024.size inb_S288x1024_S32x1024_256_0,
          k0_pay8 (F := Ideal) (Scalar.cmpi CmpIPredicate.eq (BitVec.ofNat 32 (i 0).val) 31#32)
            (k0_pay7 (F := Ideal) (View.readAt (Elt Ideal) arg5.view (Rect.unit (s := S32x1024) ![0, 0] S32x1024.size inb_S32x1024_S32x1024_0_0).toLoadRect (harg5.unread x4))
              (View.readAt (Elt Ideal) arg3.view (Rect.unit (s := S32x3072) ![0, 0] S32x1024.size inb_S32x3072_S32x1024_0_0).toLoadRect (harg3.unread x2)))⟩,
         ⟨Rect.unit ![0, 0] S256x1024.size inb_S288x1024_S256x1024_0_0,
          k0_pay6 (F := Ideal) (View.readAt (Elt Ideal) arg4.view (Rect.unit (s := S256x1024) ![0, 0] S256x1024.size inb_S256x1024_S256x1024_0_0).toLoadRect (harg4.unread x3))
            (View.readAt (Elt Ideal) arg1.view (Rect.unit (s := S256x3072) ![0, 0] S256x1024.size inb_S256x3072_S256x1024_0_0).toLoadRect (harg1.unread x0))⟩]
        (Rect.unit (s := S288x1024) ![1, 0] S280x1024.size inb_S288x1024_S280x1024_1_0).toLoadRect)⟩]
        (Rect.unit (s := S8x288x1024) ![2, r, l] S1x64x128.size inb).toLoadRect
      = fun j => dkx (i 0).val x0 x2 x3 x4 ((r + 2) + (j 1).val) (l + (j 2).val) := by
  rw [dk_read i arg1 harg1 arg3 harg3 arg4 harg4 arg5 harg5 x0 x2 x3 x4 v 2 0,
    plane_hit u 2 r l _ _ _ inb hr (fun a b => dkx (i 0).val x0 x2 x3 x4 (2 + a) b) (fun j => by unfold k0_pay12; pointwise [Nat.zero_add])]
  funext j
  congr 1; omega

theorem cv_rot6 (i : grid0.Coords) (arg1 : Memref sig .tc .vmem S256x3072 .bf16) (harg1 : arg1.IsWhole) (arg2 : Memref sig .tc .vmem S32x3072 .bf16) (harg2 : arg2.IsWhole)
    (x0 : Vec Ideal S256x3072 .bf16) (x1 : Vec Ideal S32x3072 .bf16)
    (v : View sig .tc .vmem S288x1024 .f32) (u : View sig .tc .vmem S8x288x1024 .f32) (r l : ℕ) (inb) (hr : r + 64 ≤ 280) :
    u.readCov (Val := Elt Ideal)
        [⟨Rect.unit ![7, 0, 0] S1x280x1024.size inb_S8x288x1024_S1x280x1024_7_0_0, k0_pay10 (F := Ideal) (v.readCov (Val := Elt Ideal)
          [⟨Rect.unit ![32, 0] S256x1024.size inb_S288x1024_S256x1024_32_0,
          k0_pay5 (F := Ideal) (View.readAt (Elt Ideal) arg1.view (Rect.unit (s := S256x3072) ![0, 1024] S256x1024.size inb_S256x3072_S256x1024_0_1024).toLoadRect (harg1.unread x0))
            (View.readAt (Elt Ideal) arg1.view (Rect.unit (s := S256x3072) ![0, 2048] S256x1024.size inb_S256x3072_S256x1024_0_2048).toLoadRect (harg1.unread x0))⟩,
         ⟨Rect.unit ![0, 0] S32x1024.size inb_S288x1024_S32x1024_0_0,
          k0_pay4 (F := Ideal) i (View.readAt (Elt Ideal) arg2.view (Rect.unit (s := S32x3072) ![0, 1024] S32x1024.size inb_S32x3072_S32x1024_0_1024).toLoadRect (harg2.unread x1))
            (View.readAt (Elt Ideal) arg2.view (Rect.unit (s := S32x3072) ![0, 2048] S32x1024.size inb_S32x3072_S32x1024_0_2048).toLoadRect (harg2.unread x1))⟩]
        (Rect.unit (s := S288x1024) ![7, 0] S280x1024.size inb_S288x1024_S280x1024_7_0).toLoadRect)⟩,
         ⟨Rect.unit ![6, 0, 0] S1x280x1024.size inb_S8x288x1024_S1x280x1024_6_0_0, k0_pay9 (F := Ideal) (v.readCov (Val := Elt Ideal)
          [⟨Rect.unit ![32, 0] S256x1024.size inb_S288x1024_S256x1024_32_0,
          k0_pay5 (F := Ideal) (View.readAt (Elt Ideal) arg1.view (Rect.unit (s := S256x3072) ![0, 1024] S256x1024.size inb_S256x3072_S256x1024_0_1024).toLoadRect (harg1.unread x0))
            (View.readAt (Elt Ideal) arg1.view (Rect.unit (s := S256x3072) ![0, 2048] S256x1024.size inb_S256x3072_S256x1024_0_2048).toLoadRect (harg1.unread x0))⟩,
         ⟨Rect.unit ![0, 0] S32x1024.size inb_S288x1024_S32x1024_0_0,
          k0_pay4 (F := Ideal) i (View.readAt (Elt Ideal) arg2.view (Rect.unit (s := S32x3072) ![0, 1024] S32x1024.size inb_S32x3072_S32x1024_0_1024).toLoadRect (harg2.unread x1))
            (View.readAt (Elt Ideal) arg2.view (Rect.unit (s := S32x3072) ![0, 2048] S32x1024.size inb_S32x3072_S32x1024_0_2048).toLoadRect (harg2.unread x1))⟩]
        (Rect.unit (s := S288x1024) ![6, 0] S280x1024.size inb_S288x1024_S280x1024_6_0).toLoadRect)⟩]
        (Rect.unit (s := S8x288x1024) ![6, r, l] S1x64x128.size inb).toLoadRect
      = fun j => cvx (i 0).val x0 x1 ((r + 6) + (j 1).val) (l + (j 2).val) := by
  rw [plane_miss u 7 6 r l _ _ _ inb (by omega), cv_read i arg1 harg1 arg2 harg2 x0 x1 v 6 0,
    plane_hit u 6 r l _ _ _ inb hr (fun a b => cvx (i 0).val x0 x1 (6 + a) b) (fun j => by unfold k0_pay9; pointwise [Nat.zero_add])]
  funext j
  congr 1; omega

theorem cv_rot7 (i : grid0.Coords) (arg1 : Memref sig .tc .vmem S256x3072 .bf16) (harg1 : arg1.IsWhole) (arg2 : Memref sig .tc .vmem S32x3072 .bf16) (harg2 : arg2.IsWhole)
    (x0 : Vec Ideal S256x3072 .bf16) (x1 : Vec Ideal S32x3072 .bf16)
    (v : View sig .tc .vmem S288x1024 .f32) (u : View sig .tc .vmem S8x288x1024 .f32) (r l : ℕ) (inb) (hr : r + 64 ≤ 280) :
    u.readCov (Val := Elt Ideal)
        [⟨Rect.unit ![7, 0, 0] S1x280x1024.size inb_S8x288x1024_S1x280x1024_7_0_0, k0_pay10 (F := Ideal) (v.readCov (Val := Elt Ideal)
          [⟨Rect.unit ![32, 0] S256x1024.size inb_S288x1024_S256x1024_32_0,
          k0_pay5 (F := Ideal) (View.readAt (Elt Ideal) arg1.view (Rect.unit (s := S256x3072) ![0, 1024] S256x1024.size inb_S256x3072_S256x1024_0_1024).toLoadRect (harg1.unread x0))
            (View.readAt (Elt Ideal) arg1.view (Rect.unit (s := S256x3072) ![0, 2048] S256x1024.size inb_S256x3072_S256x1024_0_2048).toLoadRect (harg1.unread x0))⟩,
         ⟨Rect.unit ![0, 0] S32x1024.size inb_S288x1024_S32x1024_0_0,
          k0_pay4 (F := Ideal) i (View.readAt (Elt Ideal) arg2.view (Rect.unit (s := S32x3072) ![0, 1024] S32x1024.size inb_S32x3072_S32x1024_0_1024).toLoadRect (harg2.unread x1))
            (View.readAt (Elt Ideal) arg2.view (Rect.unit (s := S32x3072) ![0, 2048] S32x1024.size inb_S32x3072_S32x1024_0_2048).toLoadRect (harg2.unread x1))⟩]
        (Rect.unit (s := S288x1024) ![7, 0] S280x1024.size inb_S288x1024_S280x1024_7_0).toLoadRect)⟩,
         ⟨Rect.unit ![6, 0, 0] S1x280x1024.size inb_S8x288x1024_S1x280x1024_6_0_0, k0_pay9 (F := Ideal) (v.readCov (Val := Elt Ideal)
          [⟨Rect.unit ![32, 0] S256x1024.size inb_S288x1024_S256x1024_32_0,
          k0_pay5 (F := Ideal) (View.readAt (Elt Ideal) arg1.view (Rect.unit (s := S256x3072) ![0, 1024] S256x1024.size inb_S256x3072_S256x1024_0_1024).toLoadRect (harg1.unread x0))
            (View.readAt (Elt Ideal) arg1.view (Rect.unit (s := S256x3072) ![0, 2048] S256x1024.size inb_S256x3072_S256x1024_0_2048).toLoadRect (harg1.unread x0))⟩,
         ⟨Rect.unit ![0, 0] S32x1024.size inb_S288x1024_S32x1024_0_0,
          k0_pay4 (F := Ideal) i (View.readAt (Elt Ideal) arg2.view (Rect.unit (s := S32x3072) ![0, 1024] S32x1024.size inb_S32x3072_S32x1024_0_1024).toLoadRect (harg2.unread x1))
            (View.readAt (Elt Ideal) arg2.view (Rect.unit (s := S32x3072) ![0, 2048] S32x1024.size inb_S32x3072_S32x1024_0_2048).toLoadRect (harg2.unread x1))⟩]
        (Rect.unit (s := S288x1024) ![6, 0] S280x1024.size inb_S288x1024_S280x1024_6_0).toLoadRect)⟩]
        (Rect.unit (s := S8x288x1024) ![7, r, l] S1x64x128.size inb).toLoadRect
      = fun j => cvx (i 0).val x0 x1 ((r + 7) + (j 1).val) (l + (j 2).val) := by
  rw [cv_read i arg1 harg1 arg2 harg2 x0 x1 v 7 0,
    plane_hit u 7 r l _ _ _ inb hr (fun a b => cvx (i 0).val x0 x1 (7 + a) b) (fun j => by unfold k0_pay10; pointwise [Nat.zero_add])]
  funext j
  congr 1; omega

/-! ## One block of the input's gradient -/

/-- The gradient of `c ⊙ val`, a causal convolution's transpose: this row of `dy ⊙ b` and the two after it. -/
def dcv (dk : ℕ → ℕ → EReal) (w : S3x1024.Idx → EReal) (r l : ℕ) : EReal :=
  at2 w 2 l * dk r l + at2 w 1 l * dk (r + 1) l + at2 w 0 l * dk (r + 2) l

/-- The convolution of the rows `c ⊙ val`, stored from row 32 on. -/
def conv (cv : ℕ → ℕ → EReal) (w : S3x1024.Idx → EReal) (r l : ℕ) : EReal :=
  at2 w 0 l * cv (r + 30) l + at2 w 1 l * cv (r + 31) l + at2 w 2 l * cv (r + 32) l

/-- The block's gradient: of `b`, then of `c`, then of `val`. -/
def duBlk (dk cv : ℕ → ℕ → EReal) (x0 : S256x3072.Idx → EReal) (x3 : S256x1024.Idx → EReal) (w : S3x1024.Idx → EReal) (r l : ℕ) : EReal :=
  if l < 1024 then at2 x3 r l * conv cv w r l
  else if l < 2048 then dcv dk w r (l - 1024) * at2 x0 r (l + 1024)
  else dcv dk w r (l - 2048) * at2 x0 r (l - 1024)

theorem duBlk_b (dk cv : ℕ → ℕ → EReal) (x0 : S256x3072.Idx → EReal) (x3 : S256x1024.Idx → EReal) (w : S3x1024.Idx → EReal) (p o r l : ℕ) (h : o + l < 1024) :
    duBlk dk cv x0 x3 w (p + r) (o + l)
      = at2 x3 (p + r) (o + l) * (at2 w 0 (o + l) * cv ((p + 30) + r) (o + l) + at2 w 1 (o + l) * cv ((p + 31) + r) (o + l) + at2 w 2 (o + l) * cv ((p + 32) + r) (o + l)) := by
  unfold duBlk conv
  rw [if_pos h, Nat.add_right_comm p r 30, Nat.add_right_comm p r 31, Nat.add_right_comm p r 32]

theorem duBlk_c (dk cv : ℕ → ℕ → EReal) (x0 : S256x3072.Idx → EReal) (x3 : S256x1024.Idx → EReal) (w : S3x1024.Idx → EReal) (p o r l : ℕ) (h0 : 1024 ≤ o) (h : o + l < 2048) :
    duBlk dk cv x0 x3 w (p + r) (o + l)
      = (at2 w 2 (o - 1024 + l) * dk (p + r) (o - 1024 + l) + at2 w 1 (o - 1024 + l) * dk ((p + 1) + r) (o - 1024 + l) + at2 w 0 (o - 1024 + l) * dk ((p + 2) + r) (o - 1024 + l))
        * at2 x0 (p + r) (o + 1024 + l) := by
  unfold duBlk dcv
  rw [if_neg (by omega), if_pos h, Nat.add_right_comm p r 1, Nat.add_right_comm p r 2, Nat.add_right_comm o l 1024, show o + l - 1024 = o - 1024 + l by omega]

theorem duBlk_v (dk cv : ℕ → ℕ → EReal) (x0 : S256x3072.Idx → EReal) (x3 : S256x1024.Idx → EReal) (w : S3x1024.Idx → EReal) (p o r l : ℕ) (h0 : 2048 ≤ o) :
    duBlk dk cv x0 x3 w (p + r) (o + l)
      = (at2 w 2 (o - 2048 + l) * dk (p + r) (o - 2048 + l) + at2 w 1 (o - 2048 + l) * dk ((p + 1) + r) (o - 2048 + l) + at2 w 0 (o - 2048 + l) * dk ((p + 2) + r) (o - 2048 + l))
        * at2 x0 (p + r) (o - 1024 + l) := by
  unfold duBlk dcv
  rw [if_neg (by omega), if_neg (by omega), Nat.add_right_comm p r 1, Nat.add_right_comm p r 2, show o + l - 2048 = o - 2048 + l by omega, show o + l - 1024 = o - 1024 + l by omega]

/-- A list of pieces agrees with `g` at its coordinates when its head and its tail do. -/
theorem pieces_cons {m n : ℕ} {e : EltTy} {g : ℕ → ℕ → Elt Ideal e} (o p : ℕ) (size : Fin 2 → ℕ) (inb)
    (w : (⟨2, size⟩ : Shape).Idx → Elt Ideal e) (L : List (View.Piece (Elt Ideal) ⟨2, ![m, n]⟩ e))
    (h1 : ∀ x : (⟨2, size⟩ : Shape).Idx, w x = g (o + (x 0).val) (p + (x 1).val))
    (h2 : ∀ q ∈ L, ∀ x : q.1.shape.Idx, q.2 x = g (q.1.emb x 0).val (q.1.emb x 1).val) :
    ∀ q ∈ (⟨Rect.unit (s := ⟨2, ![m, n]⟩) ![o, p] size inb, w⟩ :: L : List (View.Piece (Elt Ideal) ⟨2, ![m, n]⟩ e)),
      ∀ x : q.1.shape.Idx, q.2 x = g (q.1.emb x 0).val (q.1.emb x 1).val := by
  intro q hq
  rcases List.mem_cons.mp hq with rfl | hq
  · intro x
    refine (h1 x).trans ?_
    congr 1
    · exact (Rect.idx_unit_val (s := ⟨2, ![m, n]⟩) ![o, p] size inb x 0).symm
    · exact (Rect.idx_unit_val (s := ⟨2, ![m, n]⟩) ![o, p] size inb x 1).symm
  · exact h2 q hq

theorem pieces_nil {m n : ℕ} {e : EltTy} {g : ℕ → ℕ → Elt Ideal e} :
    ∀ q ∈ ([] : List (View.Piece (Elt Ideal) ⟨2, ![m, n]⟩ e)), ∀ x : q.1.shape.Idx, q.2 x = g (q.1.emb x 0).val (q.1.emb x 1).val :=
  fun _ hq => absurd hq List.not_mem_nil

end Cert.KernelIdeal.Duo

end
-- ==== Proof.ScDu.lean ====
module

public import proofs.«01_k».proof.Defs
public import proofs.«01_k».proof.Proof.ScLoads
public import proofs.«01_k».proof.Proof.Gen.KernelIdeal.Frame
public import Idealize.ShloMosaic.Lib.Pipeline.Value
public import Idealize.ShloMosaic.Lib.Pipeline.ValueKit.Tiles
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.KernelIdeal.Duo

open Cert.KernelIdeal Cert.KernelIdeal.Gen

set_option maxHeartbeats 40000000

/-! ## The pieces of one block of the input's gradient -/

theorem du_pieces_A (c : Dev nD) (i : grid0.Coords) (arg1 : Memref sig .tc .vmem S256x3072 .bf16) (harg1 : arg1.IsWhole) (arg2 : Memref sig .tc .vmem S32x3072 .bf16) (harg2 : arg2.IsWhole) (arg3 : Memref sig .tc .vmem S32x3072 .bf16) (harg3 : arg3.IsWhole) (arg4 : Memref sig .tc .vmem S256x1024 .f32) (harg4 : arg4.IsWhole) (arg5 : Memref sig .tc .vmem S32x1024 .f32) (harg5 : arg5.IsWhole) (arg6 : Memref sig .tc .vmem S3x1024 .f32) (harg6 : arg6.IsWhole) (arg7 : Memref sig .tc .vmem S256x3072 .bf16) (harg7 : arg7.IsWhole) (arg8 : Memref sig .tc .vmem S8x1024 .f32) (harg8 : arg8.IsWhole) (arg9 : Memref sig .tc .vmem S288x1024 .f32) (harg9 : arg9.IsWhole) (arg10 : Memref sig .tc .vmem S288x1024 .f32) (harg10 : arg10.IsWhole) (arg11 : Memref sig .tc .vmem S8x288x1024 .f32) (harg11 : arg11.IsWhole) (arg12 : Memref sig .tc .vmem S8x288x1024 .f32) (harg12 : arg12.IsWhole) (hc0 : cond0_0 i)
    (x0 : Vec Ideal S256x3072 .bf16) (x1 : Vec Ideal S32x3072 .bf16) (x2 : Vec Ideal S32x3072 .bf16) (x3 : Vec Ideal S256x1024 .f32) (x4 : Vec Ideal S32x1024 .f32) (x5 : Vec Ideal S3x1024 .f32) :
    ∀ p ∈ (kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5).1, ∀ x : p.1.shape.Idx,
      p.2 x = duBlk (dkx (i 0).val x0 x2 x3 x4) (cvx (i 0).val x0 x1) x0 x3 x5 (p.1.emb x 0).val (p.1.emb x 1).val := by
  unfold kernelRun0_A
  dsimp only
  iterate 96
    refine pieces_cons _ _ _ _ _ _ ?_ ?_
    · intro x
      have hx : (x 1).val < 128 := (x 1).isLt
      sl_unfold_run_names
      simp (discharger := omega) only [↓dk_rot1, ↓dk_rot2, ↓cv_rot6, ↓cv_rot7, ↓dk_read, ↓cv_read, duBlk_b, duBlk_c, duBlk_v]
      unfold_payloads
      pointwise [rd2, rd2_bf16]
  exact pieces_nil

theorem du_pieces_B (c : Dev nD) (i : grid0.Coords) (arg1 : Memref sig .tc .vmem S256x3072 .bf16) (harg1 : arg1.IsWhole) (arg2 : Memref sig .tc .vmem S32x3072 .bf16) (harg2 : arg2.IsWhole) (arg3 : Memref sig .tc .vmem S32x3072 .bf16) (harg3 : arg3.IsWhole) (arg4 : Memref sig .tc .vmem S256x1024 .f32) (harg4 : arg4.IsWhole) (arg5 : Memref sig .tc .vmem S32x1024 .f32) (harg5 : arg5.IsWhole) (arg6 : Memref sig .tc .vmem S3x1024 .f32) (harg6 : arg6.IsWhole) (arg7 : Memref sig .tc .vmem S256x3072 .bf16) (harg7 : arg7.IsWhole) (arg8 : Memref sig .tc .vmem S8x1024 .f32) (harg8 : arg8.IsWhole) (arg9 : Memref sig .tc .vmem S288x1024 .f32) (harg9 : arg9.IsWhole) (arg10 : Memref sig .tc .vmem S288x1024 .f32) (harg10 : arg10.IsWhole) (arg11 : Memref sig .tc .vmem S8x288x1024 .f32) (harg11 : arg11.IsWhole) (arg12 : Memref sig .tc .vmem S8x288x1024 .f32) (harg12 : arg12.IsWhole) (hc0 : ¬cond0_0 i)
    (x0 : Vec Ideal S256x3072 .bf16) (x1 : Vec Ideal S32x3072 .bf16) (x2 : Vec Ideal S32x3072 .bf16) (x3 : Vec Ideal S256x1024 .f32) (x4 : Vec Ideal S32x1024 .f32) (x5 : Vec Ideal S3x1024 .f32) (xo7 : Vec Ideal S8x1024 .f32) :
    ∀ p ∈ (kernelRun0_B (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xo7).1, ∀ x : p.1.shape.Idx,
      p.2 x = duBlk (dkx (i 0).val x0 x2 x3 x4) (cvx (i 0).val x0 x1) x0 x3 x5 (p.1.emb x 0).val (p.1.emb x 1).val := by
  unfold kernelRun0_B
  dsimp only
  iterate 96
    refine pieces_cons _ _ _ _ _ _ ?_ ?_
    · intro x
      have hx : (x 1).val < 128 := (x 1).isLt
      sl_unfold_run_names
      simp (discharger := omega) only [↓dk_rot1, ↓dk_rot2, ↓cv_rot6, ↓cv_rot7, ↓dk_read, ↓cv_read, duBlk_b, duBlk_c, duBlk_v]
      unfold_payloads
      pointwise [rd2, rd2_bf16]
  exact pieces_nil

end Cert.KernelIdeal.Duo

end
-- ==== Proof.ScDw.lean ====
module

public import proofs.«01_k».proof.Defs
public import proofs.«01_k».proof.Proof.ScLoads
public import proofs.«01_k».proof.Proof.Gen.KernelIdeal.Frame
public import Idealize.ShloMosaic.Lib.Pipeline.Value
public import Idealize.ShloMosaic.Lib.Pipeline.ValueKit.Tiles
public import Idealize.ShloMosaic.Lib.WritesUnit
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.KernelIdeal.Duo

open Cert.KernelIdeal Cert.KernelIdeal.Gen

set_option maxHeartbeats 40000000

/-! ## The weight's gradient over one block -/

/-- One tap's products over 64 rows from `a`. -/
def dwCh (dk cv : ℕ → ℕ → EReal) (a t l : ℕ) : EReal := ∑ k : Fin 64, dk (a + k.val) l * cv ((a + 30 + t) + k.val) l

/-- One tap's products over the block's four runs of 64 rows. -/
def dwBlk (dk cv : ℕ → ℕ → EReal) (t l : ℕ) : EReal := dwCh dk cv 0 t l + dwCh dk cv 64 t l + dwCh dk cv 128 t l + dwCh dk cv 192 t l

/-- The accumulator after a block: its first three rows gain the block's sums. -/
def dwAcc (Z : ℕ → ℕ → EReal) (dk cv : ℕ → ℕ → EReal) (t l : ℕ) : EReal := if t < 3 then Z t l + dwBlk dk cv t l else Z t l

theorem dwAcc_row (Z : ℕ → ℕ → EReal) (dk cv : ℕ → ℕ → EReal) (t l : ℕ) (h : t < 3) : dwAcc Z dk cv t l = Z t l + dwBlk dk cv t l := if_pos h

/-- Coordinates on none of the listed row segments. -/
def Free : List (ℕ × ℕ) → ℕ → ℕ → Prop
  | [], _, _ => True
  | c :: C, t, l => (t = c.1 → l < c.2 ∨ c.2 + 128 ≤ l) ∧ Free C t l

/-- Peeling one stored row segment off what a view reads: where the segment is, its payload; elsewhere, the writes before it. -/
theorem row_peel (v : View sig .tc .vmem S8x1024 .f32) (f : v.ty.Contents (Elt Ideal)) (H : ℕ → ℕ → EReal) (t o : ℕ) (inb)
    (w : (⟨2, S1x128.size⟩ : Shape).Idx → EReal) (L : List (View.Piece (Elt Ideal) S8x1024 .f32)) (C : List (ℕ × ℕ))
    (hw : ∀ x : (⟨2, S1x128.size⟩ : Shape).Idx, w x = H t (o + (x 1).val))
    (hL : ∀ y : S8x1024.Idx, Free ((t, o) :: C) (y 0).val (y 1).val →
      v.read (Elt Ideal) (v.writes (Elt Ideal) f L) y = H (y 0).val (y 1).val)
    (y : S8x1024.Idx) (hy : Free C (y 0).val (y 1).val) :
    v.read (Elt Ideal) (v.writes (Elt Ideal) f (⟨Rect.unit (s := S8x1024) ![t, o] S1x128.size inb, w⟩ :: L)) y = H (y 0).val (y 1).val := by
  by_cases h : (y 0).val = t ∧ o ≤ (y 1).val ∧ (y 1).val < o + 128
  · have hm : y ∈ (Rect.unit (s := S8x1024) ![t, o] S1x128.size inb).set := Rect.mem_set_unit.mpr fun a => by
      match a with
      | ⟨0, _⟩ => exact ⟨by show t ≤ (y 0).val; omega, by show (y 0).val < t + 1; omega⟩
      | ⟨1, _⟩ => exact ⟨h.2.1, h.2.2⟩
    obtain ⟨x, hx⟩ : ∃ x, (Rect.unit (s := S8x1024) ![t, o] S1x128.size inb).emb x = y := (Rect.unit (s := S8x1024) ![t, o] S1x128.size inb).exists_idx_of_mem hm
    have h1 : (y 1).val = o + (x 1).val := by subst hx; exact Rect.idx_unit_val (s := S8x1024) ![t, o] _ inb x 1
    have e := View.read_writes_cons_unit_of_mem v f inb w L y x rfl (fun a => by subst hx; exact Rect.idx_unit_val (s := S8x1024) ![t, o] _ inb x a)
    rw [e, hw x, h.1, h1]
  · have e : v.read (Elt Ideal) (v.writes (Elt Ideal) f (⟨Rect.unit (s := S8x1024) ![t, o] S1x128.size inb, w⟩ :: L)) y
        = v.read (Elt Ideal) (v.writes (Elt Ideal) f L) y := by
      by_cases h0 : (y 0).val = t
      · exact View.read_writes_cons_unit_of_not_mem v f inb w L y rfl 1 (by
          show (y 1).val < o ∨ o + 128 ≤ (y 1).val
          omega)
      · exact View.read_writes_cons_unit_of_not_mem v f inb w L y rfl 0 (by
          show (y 0).val < t ∨ t + 1 ≤ (y 0).val
          omega)
    rw [e]
    exact hL y ⟨by show (y 0).val = t → (y 1).val < o ∨ o + 128 ≤ (y 1).val; omega, hy⟩

/-- A load of a row segment does not meet a store of another, -/
theorem row_miss (v : View sig .tc .vmem S8x1024 .f32) (t o t' o' : ℕ) (inb inb') (w : (⟨2, S1x128.size⟩ : Shape).Idx → EReal)
    (L : List (View.Piece (Elt Ideal) S8x1024 .f32)) (h : t ≠ t' ∨ o + 128 ≤ o' ∨ o' + 128 ≤ o) :
    v.readCov (Val := Elt Ideal) (⟨Rect.unit (s := S8x1024) ![t, o] S1x128.size inb, w⟩ :: L) (Rect.unit (s := S8x1024) ![t', o'] S1x128.size inb').toLoadRect
      = v.readCov (Val := Elt Ideal) L (Rect.unit (s := S8x1024) ![t', o'] S1x128.size inb').toLoadRect := by
  rw [View.readCov_eq_canon', View.readCov_eq_canon']
  funext j
  refine View.canon_cons_of_not_mem _ L fun hm => ?_
  have h0 := Rect.mem_set_unit (s := S8x1024) (off := ![t, o]) (size := S1x128.size) (inb := inb) |>.mp hm 0
  have h1 := Rect.mem_set_unit (s := S8x1024) (off := ![t, o]) (size := S1x128.size) (inb := inb) |>.mp hm 1
  have e0 : ((Rect.unit (s := S8x1024) ![t', o'] S1x128.size inb').toLoadRect.idx j 0).val = t' + (j 0).val := Rect.idx_unit_val (s := S8x1024) ![t', o'] _ inb' j 0
  have e1 : ((Rect.unit (s := S8x1024) ![t', o'] S1x128.size inb').toLoadRect.idx j 1).val = o' + (j 1).val := Rect.idx_unit_val (s := S8x1024) ![t', o'] _ inb' j 1
  have j0 : (j 0).val < 1 := (j 0).isLt
  have j1 : (j 1).val < 128 := (j 1).isLt
  have a0 : t ≤ ((Rect.unit (s := S8x1024) ![t', o'] S1x128.size inb').toLoadRect.idx j 0).val := h0.1
  have b0 : ((Rect.unit (s := S8x1024) ![t', o'] S1x128.size inb').toLoadRect.idx j 0).val < t + 1 := h0.2
  have a1 : o ≤ ((Rect.unit (s := S8x1024) ![t', o'] S1x128.size inb').toLoadRect.idx j 1).val := h1.1
  have b1 : ((Rect.unit (s := S8x1024) ![t', o'] S1x128.size inb').toLoadRect.idx j 1).val < o + 128 := h1.2
  omega

/-- nor the three segments of another run of columns, -/
theorem row_miss3 (v : View sig .tc .vmem S8x1024 .f32) (o t' o' : ℕ) (inb inb₁ inb₀ inb') (w w₁ w₀ : (⟨2, S1x128.size⟩ : Shape).Idx → EReal)
    (L : List (View.Piece (Elt Ideal) S8x1024 .f32)) (h : o + 128 ≤ o') :
    v.readCov (Val := Elt Ideal) (⟨Rect.unit (s := S8x1024) ![2, o] S1x128.size inb, w⟩ :: ⟨Rect.unit (s := S8x1024) ![1, o] S1x128.size inb₁, w₁⟩
        :: ⟨Rect.unit (s := S8x1024) ![0, o] S1x128.size inb₀, w₀⟩ :: L) (Rect.unit (s := S8x1024) ![t', o'] S1x128.size inb').toLoadRect
      = v.readCov (Val := Elt Ideal) L (Rect.unit (s := S8x1024) ![t', o'] S1x128.size inb').toLoadRect :=
  (row_miss v 2 o t' o' inb inb' w _ (.inr (.inl h))).trans
    ((row_miss v 1 o t' o' inb₁ inb' w₁ _ (.inr (.inl h))).trans (row_miss v 0 o t' o' inb₀ inb' w₀ L (.inr (.inl h))))

theorem row_miss1 (v : View sig .tc .vmem S8x1024 .f32) (t o t' : ℕ) (inb inb') (w : (⟨2, S1x128.size⟩ : Shape).Idx → EReal)
    (L : List (View.Piece (Elt Ideal) S8x1024 .f32)) (h : t ≠ t') :
    v.readCov (Val := Elt Ideal) (⟨Rect.unit (s := S8x1024) ![t, o] S1x128.size inb, w⟩ :: L) (Rect.unit (s := S8x1024) ![t', o] S1x128.size inb').toLoadRect
      = v.readCov (Val := Elt Ideal) L (Rect.unit (s := S8x1024) ![t', o] S1x128.size inb').toLoadRect :=
  row_miss v t o t' o inb inb' w L (.inl h)

/-- and reads zeros where the accumulator was zeroed. -/
theorem row_zero (v : View sig .tc .vmem S8x1024 .f32) (t o : ℕ) (inb) :
    v.readCov (Val := Elt Ideal) [⟨Rect.unit (s := S8x1024) ![0, 0] S8x1024.size inb_S8x1024_S8x1024_0_0, k0_pay13 (F := Ideal)⟩]
      (Rect.unit (s := S8x1024) ![t, o] S1x128.size inb).toLoadRect = fun _ => 0 := by
  rw [View.readCov_eq_canon', View.canon_cons_unit_zero (S := S8x1024) (off := ![0, 0]) (by funext a; fin_cases a <;> rfl)]
  funext j
  unfold k0_pay13
  pointwise

theorem dw_rows_A (c : Dev nD) (i : grid0.Coords) (arg1 : Memref sig .tc .vmem S256x3072 .bf16) (harg1 : arg1.IsWhole) (arg2 : Memref sig .tc .vmem S32x3072 .bf16) (harg2 : arg2.IsWhole) (arg3 : Memref sig .tc .vmem S32x3072 .bf16) (harg3 : arg3.IsWhole) (arg4 : Memref sig .tc .vmem S256x1024 .f32) (harg4 : arg4.IsWhole) (arg5 : Memref sig .tc .vmem S32x1024 .f32) (harg5 : arg5.IsWhole) (arg6 : Memref sig .tc .vmem S3x1024 .f32) (harg6 : arg6.IsWhole) (arg7 : Memref sig .tc .vmem S256x3072 .bf16) (harg7 : arg7.IsWhole) (arg8 : Memref sig .tc .vmem S8x1024 .f32) (harg8 : arg8.IsWhole) (arg9 : Memref sig .tc .vmem S288x1024 .f32) (harg9 : arg9.IsWhole) (arg10 : Memref sig .tc .vmem S288x1024 .f32) (harg10 : arg10.IsWhole) (arg11 : Memref sig .tc .vmem S8x288x1024 .f32) (harg11 : arg11.IsWhole) (arg12 : Memref sig .tc .vmem S8x288x1024 .f32) (harg12 : arg12.IsWhole) (hc0 : cond0_0 i)
    (x0 : Vec Ideal S256x3072 .bf16) (x1 : Vec Ideal S32x3072 .bf16) (x2 : Vec Ideal S32x3072 .bf16) (x3 : Vec Ideal S256x1024 .f32) (x4 : Vec Ideal S32x1024 .f32) (x5 : Vec Ideal S3x1024 .f32) (v : View sig .tc .vmem S8x1024 .f32) (f : v.ty.Contents (Elt Ideal)) (y : S8x1024.Idx) :
    v.read (Elt Ideal) (v.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5).2.1) y
      = dwAcc (fun _ _ => 0) (dkx (i 0).val x0 x2 x3 x4) (cvx (i 0).val x0 x1) (y 0).val (y 1).val := by
  revert y
  suffices h : ∀ y : S8x1024.Idx, Free [] (y 0).val (y 1).val → v.read (Elt Ideal) (v.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5).2.1) y
      = dwAcc (fun _ _ => 0) (dkx (i 0).val x0 x2 x3 x4) (cvx (i 0).val x0 x1) (y 0).val (y 1).val from fun y => h y trivial
  unfold kernelRun0_A
  dsimp only
  refine row_peel _ _ _ _ _ _ _ _ _ ?_ ?_
  · intro x
    sl_unfold_run_names
    rw [row_miss1 _ 1 896 2 _ _ _ _ (by omega),
        row_miss1 _ 0 896 2 _ _ _ _ (by omega),
        row_miss3 _ 768 2 896 _ _ _ _ _ _ _ _ (by omega),
        row_miss3 _ 640 2 896 _ _ _ _ _ _ _ _ (by omega),
        row_miss3 _ 512 2 896 _ _ _ _ _ _ _ _ (by omega),
        row_miss3 _ 384 2 896 _ _ _ _ _ _ _ _ (by omega),
        row_miss3 _ 256 2 896 _ _ _ _ _ _ _ _ (by omega),
        row_miss3 _ 128 2 896 _ _ _ _ _ _ _ _ (by omega),
        row_miss3 _ 0 2 896 _ _ _ _ _ _ _ _ (by omega),
        row_zero _ 2 896]
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    rw [row_miss1 _ 0 896 1 _ _ _ _ (by omega),
        row_miss3 _ 768 1 896 _ _ _ _ _ _ _ _ (by omega),
        row_miss3 _ 640 1 896 _ _ _ _ _ _ _ _ (by omega),
        row_miss3 _ 512 1 896 _ _ _ _ _ _ _ _ (by omega),
        row_miss3 _ 384 1 896 _ _ _ _ _ _ _ _ (by omega),
        row_miss3 _ 256 1 896 _ _ _ _ _ _ _ _ (by omega),
        row_miss3 _ 128 1 896 _ _ _ _ _ _ _ _ (by omega),
        row_miss3 _ 0 1 896 _ _ _ _ _ _ _ _ (by omega),
        row_zero _ 1 896]
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    rw [row_miss3 _ 768 0 896 _ _ _ _ _ _ _ _ (by omega),
        row_miss3 _ 640 0 896 _ _ _ _ _ _ _ _ (by omega),
        row_miss3 _ 512 0 896 _ _ _ _ _ _ _ _ (by omega),
        row_miss3 _ 384 0 896 _ _ _ _ _ _ _ _ (by omega),
        row_miss3 _ 256 0 896 _ _ _ _ _ _ _ _ (by omega),
        row_miss3 _ 128 0 896 _ _ _ _ _ _ _ _ (by omega),
        row_miss3 _ 0 0 896 _ _ _ _ _ _ _ _ (by omega),
        row_zero _ 0 896]
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    rw [row_miss1 _ 1 768 2 _ _ _ _ (by omega),
        row_miss1 _ 0 768 2 _ _ _ _ (by omega),
        row_miss3 _ 640 2 768 _ _ _ _ _ _ _ _ (by omega),
        row_miss3 _ 512 2 768 _ _ _ _ _ _ _ _ (by omega),
        row_miss3 _ 384 2 768 _ _ _ _ _ _ _ _ (by omega),
        row_miss3 _ 256 2 768 _ _ _ _ _ _ _ _ (by omega),
        row_miss3 _ 128 2 768 _ _ _ _ _ _ _ _ (by omega),
        row_miss3 _ 0 2 768 _ _ _ _ _ _ _ _ (by omega),
        row_zero _ 2 768]
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    rw [row_miss1 _ 0 768 1 _ _ _ _ (by omega),
        row_miss3 _ 640 1 768 _ _ _ _ _ _ _ _ (by omega),
        row_miss3 _ 512 1 768 _ _ _ _ _ _ _ _ (by omega),
        row_miss3 _ 384 1 768 _ _ _ _ _ _ _ _ (by omega),
        row_miss3 _ 256 1 768 _ _ _ _ _ _ _ _ (by omega),
        row_miss3 _ 128 1 768 _ _ _ _ _ _ _ _ (by omega),
        row_miss3 _ 0 1 768 _ _ _ _ _ _ _ _ (by omega),
        row_zero _ 1 768]
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    rw [row_miss3 _ 640 0 768 _ _ _ _ _ _ _ _ (by omega),
        row_miss3 _ 512 0 768 _ _ _ _ _ _ _ _ (by omega),
        row_miss3 _ 384 0 768 _ _ _ _ _ _ _ _ (by omega),
        row_miss3 _ 256 0 768 _ _ _ _ _ _ _ _ (by omega),
        row_miss3 _ 128 0 768 _ _ _ _ _ _ _ _ (by omega),
        row_miss3 _ 0 0 768 _ _ _ _ _ _ _ _ (by omega),
        row_zero _ 0 768]
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    rw [row_miss1 _ 1 640 2 _ _ _ _ (by omega),
        row_miss1 _ 0 640 2 _ _ _ _ (by omega),
        row_miss3 _ 512 2 640 _ _ _ _ _ _ _ _ (by omega),
        row_miss3 _ 384 2 640 _ _ _ _ _ _ _ _ (by omega),
        row_miss3 _ 256 2 640 _ _ _ _ _ _ _ _ (by omega),
        row_miss3 _ 128 2 640 _ _ _ _ _ _ _ _ (by omega),
        row_miss3 _ 0 2 640 _ _ _ _ _ _ _ _ (by omega),
        row_zero _ 2 640]
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    rw [row_miss1 _ 0 640 1 _ _ _ _ (by omega),
        row_miss3 _ 512 1 640 _ _ _ _ _ _ _ _ (by omega),
        row_miss3 _ 384 1 640 _ _ _ _ _ _ _ _ (by omega),
        row_miss3 _ 256 1 640 _ _ _ _ _ _ _ _ (by omega),
        row_miss3 _ 128 1 640 _ _ _ _ _ _ _ _ (by omega),
        row_miss3 _ 0 1 640 _ _ _ _ _ _ _ _ (by omega),
        row_zero _ 1 640]
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    rw [row_miss3 _ 512 0 640 _ _ _ _ _ _ _ _ (by omega),
        row_miss3 _ 384 0 640 _ _ _ _ _ _ _ _ (by omega),
        row_miss3 _ 256 0 640 _ _ _ _ _ _ _ _ (by omega),
        row_miss3 _ 128 0 640 _ _ _ _ _ _ _ _ (by omega),
        row_miss3 _ 0 0 640 _ _ _ _ _ _ _ _ (by omega),
        row_zero _ 0 640]
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    rw [row_miss1 _ 1 512 2 _ _ _ _ (by omega),
        row_miss1 _ 0 512 2 _ _ _ _ (by omega),
        row_miss3 _ 384 2 512 _ _ _ _ _ _ _ _ (by omega),
        row_miss3 _ 256 2 512 _ _ _ _ _ _ _ _ (by omega),
        row_miss3 _ 128 2 512 _ _ _ _ _ _ _ _ (by omega),
        row_miss3 _ 0 2 512 _ _ _ _ _ _ _ _ (by omega),
        row_zero _ 2 512]
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    rw [row_miss1 _ 0 512 1 _ _ _ _ (by omega),
        row_miss3 _ 384 1 512 _ _ _ _ _ _ _ _ (by omega),
        row_miss3 _ 256 1 512 _ _ _ _ _ _ _ _ (by omega),
        row_miss3 _ 128 1 512 _ _ _ _ _ _ _ _ (by omega),
        row_miss3 _ 0 1 512 _ _ _ _ _ _ _ _ (by omega),
        row_zero _ 1 512]
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    rw [row_miss3 _ 384 0 512 _ _ _ _ _ _ _ _ (by omega),
        row_miss3 _ 256 0 512 _ _ _ _ _ _ _ _ (by omega),
        row_miss3 _ 128 0 512 _ _ _ _ _ _ _ _ (by omega),
        row_miss3 _ 0 0 512 _ _ _ _ _ _ _ _ (by omega),
        row_zero _ 0 512]
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    rw [row_miss1 _ 1 384 2 _ _ _ _ (by omega),
        row_miss1 _ 0 384 2 _ _ _ _ (by omega),
        row_miss3 _ 256 2 384 _ _ _ _ _ _ _ _ (by omega),
        row_miss3 _ 128 2 384 _ _ _ _ _ _ _ _ (by omega),
        row_miss3 _ 0 2 384 _ _ _ _ _ _ _ _ (by omega),
        row_zero _ 2 384]
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    rw [row_miss1 _ 0 384 1 _ _ _ _ (by omega),
        row_miss3 _ 256 1 384 _ _ _ _ _ _ _ _ (by omega),
        row_miss3 _ 128 1 384 _ _ _ _ _ _ _ _ (by omega),
        row_miss3 _ 0 1 384 _ _ _ _ _ _ _ _ (by omega),
        row_zero _ 1 384]
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    rw [row_miss3 _ 256 0 384 _ _ _ _ _ _ _ _ (by omega),
        row_miss3 _ 128 0 384 _ _ _ _ _ _ _ _ (by omega),
        row_miss3 _ 0 0 384 _ _ _ _ _ _ _ _ (by omega),
        row_zero _ 0 384]
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    rw [row_miss1 _ 1 256 2 _ _ _ _ (by omega),
        row_miss1 _ 0 256 2 _ _ _ _ (by omega),
        row_miss3 _ 128 2 256 _ _ _ _ _ _ _ _ (by omega),
        row_miss3 _ 0 2 256 _ _ _ _ _ _ _ _ (by omega),
        row_zero _ 2 256]
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    rw [row_miss1 _ 0 256 1 _ _ _ _ (by omega),
        row_miss3 _ 128 1 256 _ _ _ _ _ _ _ _ (by omega),
        row_miss3 _ 0 1 256 _ _ _ _ _ _ _ _ (by omega),
        row_zero _ 1 256]
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    rw [row_miss3 _ 128 0 256 _ _ _ _ _ _ _ _ (by omega),
        row_miss3 _ 0 0 256 _ _ _ _ _ _ _ _ (by omega),
        row_zero _ 0 256]
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    rw [row_miss1 _ 1 128 2 _ _ _ _ (by omega),
        row_miss1 _ 0 128 2 _ _ _ _ (by omega),
        row_miss3 _ 0 2 128 _ _ _ _ _ _ _ _ (by omega),
        row_zero _ 2 128]
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    rw [row_miss1 _ 0 128 1 _ _ _ _ (by omega),
        row_miss3 _ 0 1 128 _ _ _ _ _ _ _ _ (by omega),
        row_zero _ 1 128]
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    rw [row_miss3 _ 0 0 128 _ _ _ _ _ _ _ _ (by omega),
        row_zero _ 0 128]
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    rw [row_miss1 _ 1 0 2 _ _ _ _ (by omega),
        row_miss1 _ 0 0 2 _ _ _ _ (by omega),
        row_zero _ 2 0]
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    rw [row_miss1 _ 0 0 1 _ _ _ _ (by omega),
        row_zero _ 1 0]
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    rw [row_zero _ 0 0]
    simp (discharger := omega) only [↓dk_rot1, ↓dk_rot2, ↓cv_rot6, ↓cv_rot7, ↓dk_read, ↓cv_read, dwAcc_row, dwBlk, dwCh]
    unfold_payloads
    pointwise [rd2, rd2_bf16]
  intro y hy
  have h0 : (y 0).val < 8 := (y 0).isLt
  have h1 : (y 1).val < 1024 := (y 1).isLt
  by_cases ht : (y 0).val < 3
  · exfalso
    generalize (y 0).val = t at *
    generalize (y 1).val = l at *
    rcases (show t = 0 ∨ t = 1 ∨ t = 2 by clear hy; omega) with rfl | rfl | rfl <;>
    · simp [Free] at hy
      obtain ⟨a0, a1, a2, a3, a4, a5, a6, a7⟩ := hy
      have b1 := a1.resolve_left (by clear a2 a3 a4 a5 a6 a7; omega)
      have b2 := a2.resolve_left (by clear a3 a4 a5 a6 a7; omega)
      have b3 := a3.resolve_left (by clear a4 a5 a6 a7; omega)
      have b4 := a4.resolve_left (by clear a5 a6 a7; omega)
      have b5 := a5.resolve_left (by clear a6 a7; omega)
      have b6 := a6.resolve_left (by clear a7; omega)
      have b7 := a7.resolve_left (by omega)
      clear a1 a2 a3 a4 a5 a6 a7
      omega
  · refine Eq.trans ?_ (if_neg ht).symm
    have e := View.read_writes_cons_unit_of_mem v f inb_S8x1024_S8x1024_0_0 (k0_pay13 (F := Ideal)) [] y y rfl (fun a => by
      match a with
      | ⟨0, _⟩ => exact (Nat.zero_add _).symm
      | ⟨1, _⟩ => exact (Nat.zero_add _).symm)
    refine e.trans ?_
    unfold k0_pay13
    pointwise

theorem dw_rows_B (c : Dev nD) (i : grid0.Coords) (arg1 : Memref sig .tc .vmem S256x3072 .bf16) (harg1 : arg1.IsWhole) (arg2 : Memref sig .tc .vmem S32x3072 .bf16) (harg2 : arg2.IsWhole) (arg3 : Memref sig .tc .vmem S32x3072 .bf16) (harg3 : arg3.IsWhole) (arg4 : Memref sig .tc .vmem S256x1024 .f32) (harg4 : arg4.IsWhole) (arg5 : Memref sig .tc .vmem S32x1024 .f32) (harg5 : arg5.IsWhole) (arg6 : Memref sig .tc .vmem S3x1024 .f32) (harg6 : arg6.IsWhole) (arg7 : Memref sig .tc .vmem S256x3072 .bf16) (harg7 : arg7.IsWhole) (arg8 : Memref sig .tc .vmem S8x1024 .f32) (harg8 : arg8.IsWhole) (arg9 : Memref sig .tc .vmem S288x1024 .f32) (harg9 : arg9.IsWhole) (arg10 : Memref sig .tc .vmem S288x1024 .f32) (harg10 : arg10.IsWhole) (arg11 : Memref sig .tc .vmem S8x288x1024 .f32) (harg11 : arg11.IsWhole) (arg12 : Memref sig .tc .vmem S8x288x1024 .f32) (harg12 : arg12.IsWhole) (hc0 : ¬cond0_0 i)
    (x0 : Vec Ideal S256x3072 .bf16) (x1 : Vec Ideal S32x3072 .bf16) (x2 : Vec Ideal S32x3072 .bf16) (x3 : Vec Ideal S256x1024 .f32) (x4 : Vec Ideal S32x1024 .f32) (x5 : Vec Ideal S3x1024 .f32) (xo7 : Vec Ideal S8x1024 .f32)  (y : S8x1024.Idx) :
    arg8.view.read (Elt Ideal) (arg8.view.writes (Elt Ideal) (harg8.unread xo7) (kernelRun0_B (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xo7).2.1) y
      = dwAcc (at2 xo7) (dkx (i 0).val x0 x2 x3 x4) (cvx (i 0).val x0 x1) (y 0).val (y 1).val := by
  revert y
  suffices h : ∀ y : S8x1024.Idx, Free [] (y 0).val (y 1).val → arg8.view.read (Elt Ideal) (arg8.view.writes (Elt Ideal) (harg8.unread xo7) (kernelRun0_B (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xo7).2.1) y
      = dwAcc (at2 xo7) (dkx (i 0).val x0 x2 x3 x4) (cvx (i 0).val x0 x1) (y 0).val (y 1).val from fun y => h y trivial
  unfold kernelRun0_B
  dsimp only
  refine row_peel _ _ _ _ _ _ _ _ _ ?_ ?_
  · intro x
    sl_unfold_run_names
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    simp (discharger := omega) only [↓dk_rot1, ↓dk_rot2, ↓cv_rot6, ↓cv_rot7, ↓dk_read, ↓cv_read, dwAcc_row, dwBlk, dwCh]
    unfold_payloads
    pointwise [rd2, rd2_bf16]
  refine row_peel _ _ _ _ _ _ _ _ _ ?_ ?_
  · intro x
    sl_unfold_run_names
    simp (discharger := omega) only [↓dk_rot1, ↓dk_rot2, ↓cv_rot6, ↓cv_rot7, ↓dk_read, ↓cv_read, dwAcc_row, dwBlk, dwCh]
    unfold_payloads
    pointwise [rd2, rd2_bf16]
  intro y hy
  have h0 : (y 0).val < 8 := (y 0).isLt
  have h1 : (y 1).val < 1024 := (y 1).isLt
  by_cases ht : (y 0).val < 3
  · exfalso
    generalize (y 0).val = t at *
    generalize (y 1).val = l at *
    rcases (show t = 0 ∨ t = 1 ∨ t = 2 by clear hy; omega) with rfl | rfl | rfl <;>
    · simp [Free] at hy
      obtain ⟨a0, a1, a2, a3, a4, a5, a6, a7⟩ := hy
      have b1 := a1.resolve_left (by clear a2 a3 a4 a5 a6 a7; omega)
      have b2 := a2.resolve_left (by clear a3 a4 a5 a6 a7; omega)
      have b3 := a3.resolve_left (by clear a4 a5 a6 a7; omega)
      have b4 := a4.resolve_left (by clear a5 a6 a7; omega)
      have b5 := a5.resolve_left (by clear a6 a7; omega)
      have b6 := a6.resolve_left (by clear a7; omega)
      have b7 := a7.resolve_left (by omega)
      clear a1 a2 a3 a4 a5 a6 a7
      omega
  · refine Eq.trans ?_ (if_neg ht).symm
    rw [View.writes_nil, harg8.read_unread]
    exact at2_eq xo7 y rfl rfl

end Cert.KernelIdeal.Duo

end
-- ==== Proof.ScValue.lean ====
module

public import proofs.«01_k».proof.Defs
public import proofs.«01_k».proof.Proof.ScDu
public import proofs.«01_k».proof.Proof.ScDw
public import proofs.«01_k».proof.Proof.Gen.KernelIdeal.Value
public import Idealize.ShloMosaic.Lib.Pipeline.Value
public import Idealize.ShloMosaic.Lib.Pipeline.ValueKit.Tiles
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.KernelIdeal.Duo

open Cert.KernelIdeal Cert.KernelIdeal.Gen

set_option maxHeartbeats 4000000

/-! ## The result in the arguments' own coordinates -/

/-- Row `r` of `dy ⊙ b`, the cotangent of the convolution (`0` past the last row). -/
def gdk (U : S8192x3072.Idx → EReal) (D : S8192x1024.Idx → EReal) (r l : ℕ) : EReal := at2 D r l * at2 U r l

/-- Row `r` of `c ⊙ val` with two rows of zeros before it. -/
def gcv (U : S8192x3072.Idx → EReal) (r l : ℕ) : EReal :=
  if r < 2 then 0 else at2 U (r - 2) (1024 + l) * at2 U (r - 2) (2048 + l)

/-- The gradient of the projected input at row `R`, column `l`. -/
def duG (U : S8192x3072.Idx → EReal) (D : S8192x1024.Idx → EReal) (W : S3x1024.Idx → EReal) (R l : ℕ) : EReal :=
  if l < 1024 then at2 D R l * (at2 W 0 l * gcv U R l + at2 W 1 l * gcv U (R + 1) l + at2 W 2 l * gcv U (R + 2) l)
  else if l < 2048 then dcv (gdk U D) W R (l - 1024) * at2 U R (l + 1024)
  else dcv (gdk U D) W R (l - 2048) * at2 U R (l - 1024)

/-- The part of tap `t`'s gradient that the first `n` rows give. -/
def dwS (U : S8192x3072.Idx → EReal) (D : S8192x1024.Idx → EReal) (t l n : ℕ) : EReal :=
  ∑ k ∈ Finset.range n, gdk U D k l * gcv U (k + t) l

/-- The gradient of the taps at row `t` of eight, of which the first three are taps. -/
def dwG (U : S8192x3072.Idx → EReal) (D : S8192x1024.Idx → EReal) (n t l : ℕ) : EReal :=
  if t < 3 then dwS U D t l n else 0

/-! ## The blocks are rows of the arguments -/

section Blocks

variable (m : (ℓ : Loc nD τ sig) → Buf (Elt Ideal) ℓ) (c : Dev nD)

/-- The three arguments as functions of their indices. -/
abbrev argU : S8192x3072.Idx → EReal := m ((c : Thread nD τ).loc main_arg0)
abbrev argD : S8192x1024.Idx → EReal := m ((c : Thread nD τ).loc main_arg1)
abbrev argW : S3x1024.Idx → EReal := m ((c : Thread nD τ).loc main_arg2)

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val * 8 - 1 ∧ win0_1.index t 1 = 0 :=
  (by decide +kernel : ∀ t : Fin grid0.N, win0_1.index t 0 = t.val * 8 - 1 ∧ win0_1.index t 1 = 0)
theorem idx2 : ∀ t : Fin cfg0.N, win0_2.index t 0 = min ((t.val + 1) * 8) 255 ∧ win0_2.index t 1 = 0 :=
  (by decide +kernel : ∀ t : Fin grid0.N, win0_2.index t 0 = min ((t.val + 1) * 8) 255 ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = min ((t.val + 1) * 8) 255 ∧ win0_4.index t 1 = 0 :=
  (by decide +kernel : ∀ t : Fin grid0.N, win0_4.index t 0 = min ((t.val + 1) * 8) 255 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem coord0 : ∀ t : Fin cfg0.N, (grid0.coords t 0).val = t.val :=
  (by decide +kernel : ∀ t : Fin grid0.N, (grid0.coords t 0).val = t.val)

theorem blk0 (t : Fin cfg0.N) (r l : ℕ) (hr : r < 256) (hl : l < 3072) :
    at2 (iblk m c 0 t : Vec Ideal S256x3072 .bf16) r l = at2 (argU m c) (256 * t.val + r) l := by
  conv_lhs => unfold at2
  rw [dif_pos ⟨hr, hl⟩]
  unfold iblk
  rw [View.read_apply]
  show V m c main_arg0 _ = _
  rw [V_main_arg0]
  refine at2_eq (m ((c : Thread nD τ).loc main_arg0) : S8192x3072.Idx → EReal) _ ?_ ?_
  · show win0_0.index t 0 * 256 + 1 * r = _; rw [(idx0 t).1]; omega
  · show win0_0.index t 1 * 3072 + 1 * l = _; rw [(idx0 t).2]; omega

theorem blk1 (t : Fin cfg0.N) (r l : ℕ) (hr : r < 32) (hl : l < 3072) :
    at2 (iblk m c 1 t : Vec Ideal S32x3072 .bf16) r l = at2 (argU m c) (32 * (t.val * 8 - 1) + r) l := by
  conv_lhs => unfold at2
  rw [dif_pos ⟨hr, hl⟩]
  unfold iblk
  rw [View.read_apply]
  show V m c main_arg0 _ = _
  rw [V_main_arg0]
  refine at2_eq (m ((c : Thread nD τ).loc main_arg0) : S8192x3072.Idx → EReal) _ ?_ ?_
  · show win0_1.index t 0 * 32 + 1 * r = _; rw [(idx1 t).1]; omega
  · show win0_1.index t 1 * 3072 + 1 * l = _; rw [(idx1 t).2]; omega

theorem blk2 (t : Fin cfg0.N) (r l : ℕ) (hr : r < 32) (hl : l < 3072) :
    at2 (iblk m c 2 t : Vec Ideal S32x3072 .bf16) r l = at2 (argU m c) (32 * min ((t.val + 1) * 8) 255 + r) l := by
  conv_lhs => unfold at2
  rw [dif_pos ⟨hr, hl⟩]
  unfold iblk
  rw [View.read_apply]
  show V m c main_arg0 _ = _
  rw [V_main_arg0]
  refine at2_eq (m ((c : Thread nD τ).loc main_arg0) : S8192x3072.Idx → EReal) _ ?_ ?_
  · show win0_2.index t 0 * 32 + 1 * r = _; rw [(idx2 t).1]; omega
  · show win0_2.index t 1 * 3072 + 1 * l = _; rw [(idx2 t).2]; omega

theorem blk3 (t : Fin cfg0.N) (r l : ℕ) (hr : r < 256) (hl : l < 1024) :
    at2 (iblk m c 3 t : Vec Ideal S256x1024 .f32) r l = at2 (argD m c) (256 * t.val + r) l := by
  conv_lhs => unfold at2
  rw [dif_pos ⟨hr, hl⟩]
  unfold iblk
  rw [View.read_apply]
  show V m c main_arg1 _ = _
  rw [V_main_arg1]
  refine at2_eq (m ((c : Thread nD τ).loc main_arg1) : S8192x1024.Idx → EReal) _ ?_ ?_
  · show win0_3.index t 0 * 256 + 1 * r = _; rw [(idx3 t).1]; omega
  · show win0_3.index t 1 * 1024 + 1 * l = _; rw [(idx3 t).2]; omega

theorem blk4 (t : Fin cfg0.N) (r l : ℕ) (hr : r < 32) (hl : l < 1024) :
    at2 (iblk m c 4 t : Vec Ideal S32x1024 .f32) r l = at2 (argD m c) (32 * min ((t.val + 1) * 8) 255 + r) l := by
  conv_lhs => unfold at2
  rw [dif_pos ⟨hr, hl⟩]
  unfold iblk
  rw [View.read_apply]
  show V m c main_arg1 _ = _
  rw [V_main_arg1]
  refine at2_eq (m ((c : Thread nD τ).loc main_arg1) : S8192x1024.Idx → EReal) _ ?_ ?_
  · show win0_4.index t 0 * 32 + 1 * r = _; rw [(idx4 t).1]; omega
  · show win0_4.index t 1 * 1024 + 1 * l = _; rw [(idx4 t).2]; omega

theorem blk5 (t : Fin cfg0.N) (r l : ℕ) (hr : r < 3) (hl : l < 1024) :
    at2 (iblk m c 5 t : Vec Ideal S3x1024 .f32) r l = at2 (argW m c) (0 + r) l := by
  conv_lhs => unfold at2
  rw [dif_pos ⟨hr, hl⟩]
  unfold iblk
  rw [View.read_apply]
  show V m c main_arg2 _ = _
  rw [V_main_arg2]
  refine at2_eq (m ((c : Thread nD τ).loc main_arg2) : S3x1024.Idx → EReal) _ ?_ ?_
  · show win0_5.index t 0 * 3 + 1 * r = _; rw [(idx5 t).1]; omega
  · show win0_5.index t 1 * 1024 + 1 * l = _; rw [(idx5 t).2]; omega

/-- Within a block and the two rows after it, the block's `dy ⊙ b` is the whole array's. -/
theorem dkx_eq (t : Fin cfg0.N) (r l : ℕ) (hr : r < 288) (hl : l < 1024) :
    dkx (grid0.coords t 0).val (iblk m c 0 t : Vec Ideal S256x3072 .bf16) (iblk m c 2 t : Vec Ideal S32x3072 .bf16)
      (iblk m c 3 t : Vec Ideal S256x1024 .f32) (iblk m c 4 t : Vec Ideal S32x1024 .f32) r l
      = gdk (argU m c) (argD m c) (256 * t.val + r) l := by
  have ht : t.val < 32 := Nat.lt_of_lt_of_eq t.isLt N_0
  rw [coord0]
  unfold dkx gdk
  by_cases h : r < 256
  · rw [if_pos h, blk3 m c t r l h hl, blk0 m c t r l h (by omega)]
  · rw [if_neg h]
    by_cases h31 : t.val = 31
    · rw [if_pos h31]
      have : at2 (argD m c) (256 * t.val + r) l = 0 := dif_neg (by omega)
      rw [this, zero_mul]
    · rw [if_neg h31, blk4 m c t (r - 256) l (by omega) hl, blk2 m c t (r - 256) l (by omega) (by omega)]
      have e : 32 * min ((t.val + 1) * 8) 255 + (r - 256) = 256 * t.val + r := by omega
      rw [e]

/-- The block's `c ⊙ val`, from two rows before the block on, is the whole array's. -/
theorem cvx_eq (t : Fin cfg0.N) (r l : ℕ) (hr : r < 258) (hl : l < 1024) :
    cvx (grid0.coords t 0).val (iblk m c 0 t : Vec Ideal S256x3072 .bf16) (iblk m c 1 t : Vec Ideal S32x3072 .bf16) (r + 30) l
      = gcv (argU m c) (256 * t.val + r) l := by
  have ht : t.val < 32 := Nat.lt_of_lt_of_eq t.isLt N_0
  rw [coord0]
  unfold cvx gcv
  by_cases h : r + 30 < 32
  · rw [if_pos h]
    by_cases h0 : t.val = 0
    · rw [if_pos h0, if_pos (by omega)]
    · rw [if_neg h0, if_neg (by omega), blk1 m c t (r + 30) (1024 + l) (by omega) (by omega), blk1 m c t (r + 30) (2048 + l) (by omega) (by omega)]
      have e : 32 * (t.val * 8 - 1) + (r + 30) = 256 * t.val + r - 2 := by omega
      rw [e]
  · rw [if_neg h, if_neg (by omega), blk0 m c t (r + 30 - 32) (1024 + l) (by omega) (by omega), blk0 m c t (r + 30 - 32) (2048 + l) (by omega) (by omega)]
    have e : 256 * t.val + (r + 30 - 32) = 256 * t.val + r - 2 := by omega
    rw [e]

/-- A block of the input's gradient is the whole gradient's rows. -/
theorem duBlk_eq (t : Fin cfg0.N) (r l : ℕ) (hr : r < 256) (hl : l < 3072) :
    duBlk (dkx (grid0.coords t 0).val (iblk m c 0 t : Vec Ideal S256x3072 .bf16) (iblk m c 2 t : Vec Ideal S32x3072 .bf16)
        (iblk m c 3 t : Vec Ideal S256x1024 .f32) (iblk m c 4 t : Vec Ideal S32x1024 .f32))
      (cvx (grid0.coords t 0).val (iblk m c 0 t : Vec Ideal S256x3072 .bf16) (iblk m c 1 t : Vec Ideal S32x3072 .bf16))
      (iblk m c 0 t : Vec Ideal S256x3072 .bf16) (iblk m c 3 t : Vec Ideal S256x1024 .f32) (iblk m c 5 t : Vec Ideal S3x1024 .f32) r l
      = duG (argU m c) (argD m c) (argW m c) (256 * t.val + r) l := by
  unfold duBlk duG conv dcv
  by_cases h1 : l < 1024
  · rw [if_pos h1, if_pos h1, blk3 m c t r l hr h1, blk5 m c t 0 l (by omega) h1, blk5 m c t 1 l (by omega) h1, blk5 m c t 2 l (by omega) h1,
      cvx_eq m c t r l (by omega) h1, show r + 31 = (r + 1) + 30 from by omega, show r + 32 = (r + 2) + 30 from by omega,
      cvx_eq m c t (r + 1) l (by omega) h1, cvx_eq m c t (r + 2) l (by omega) h1]
    simp only [Nat.zero_add, Nat.add_zero, Nat.add_assoc]
  · rw [if_neg h1, if_neg h1]
    by_cases h2 : l < 2048
    · rw [if_pos h2, if_pos h2, blk5 m c t 0 _ (by omega) (by omega), blk5 m c t 1 _ (by omega) (by omega), blk5 m c t 2 _ (by omega) (by omega),
        dkx_eq m c t r _ (by omega) (by omega), dkx_eq m c t (r + 1) _ (by omega) (by omega), dkx_eq m c t (r + 2) _ (by omega) (by omega), blk0 m c t r _ hr (by omega)]
      simp only [Nat.zero_add, Nat.add_zero, Nat.add_assoc]
    · rw [if_neg h2, if_neg h2, blk5 m c t 0 _ (by omega) (by omega), blk5 m c t 1 _ (by omega) (by omega), blk5 m c t 2 _ (by omega) (by omega),
        dkx_eq m c t r _ (by omega) (by omega), dkx_eq m c t (r + 1) _ (by omega) (by omega), dkx_eq m c t (r + 2) _ (by omega) (by omega), blk0 m c t r _ hr (by omega)]
      simp only [Nat.zero_add, Nat.add_zero, Nat.add_assoc]

/-- Sixty-four rows more of a tap's gradient. -/
theorem dwCh_eq (t : Fin cfg0.N) (a s l : ℕ) (ha : a + 64 ≤ 256) (hs : s < 3) (hl : l < 1024) :
    dwCh (dkx (grid0.coords t 0).val (iblk m c 0 t : Vec Ideal S256x3072 .bf16) (iblk m c 2 t : Vec Ideal S32x3072 .bf16)
        (iblk m c 3 t : Vec Ideal S256x1024 .f32) (iblk m c 4 t : Vec Ideal S32x1024 .f32))
      (cvx (grid0.coords t 0).val (iblk m c 0 t : Vec Ideal S256x3072 .bf16) (iblk m c 1 t : Vec Ideal S32x3072 .bf16)) a s l
      = ∑ k ∈ Finset.range 64, gdk (argU m c) (argD m c) (256 * t.val + a + k) l * gcv (argU m c) (256 * t.val + a + k + s) l := by
  unfold dwCh
  rw [Finset.sum_range]
  refine Finset.sum_congr rfl fun k _ => ?_
  have hk : k.val < 64 := k.isLt
  have e1 : a + 30 + s + k.val = (a + k.val + s) + 30 := by omega
  rw [e1, dkx_eq m c t (a + k.val) l (by omega) hl, cvx_eq m c t (a + k.val + s) l (by omega) hl]
  simp only [Nat.add_assoc]

/-- A block's part of a tap's gradient continues the sum over the rows before it. -/
theorem dwBlk_eq (t : Fin cfg0.N) (s l : ℕ) (hs : s < 3) (hl : l < 1024) :
    dwS (argU m c) (argD m c) s l (256 * t.val) + dwBlk (dkx (grid0.coords t 0).val (iblk m c 0 t : Vec Ideal S256x3072 .bf16) (iblk m c 2 t : Vec Ideal S32x3072 .bf16)
        (iblk m c 3 t : Vec Ideal S256x1024 .f32) (iblk m c 4 t : Vec Ideal S32x1024 .f32))
      (cvx (grid0.coords t 0).val (iblk m c 0 t : Vec Ideal S256x3072 .bf16) (iblk m c 1 t : Vec Ideal S32x3072 .bf16)) s l
      = dwS (argU m c) (argD m c) s l (256 * (t.val + 1)) := by
  unfold dwBlk
  rw [dwCh_eq m c t 0 s l (by omega) hs hl, dwCh_eq m c t 64 s l (by omega) hs hl, dwCh_eq m c t 128 s l (by omega) hs hl, dwCh_eq m c t 192 s l (by omega) hs hl]
  unfold dwS
  rw [show 256 * (t.val + 1) = 256 * t.val + 64 + 64 + 64 + 64 from by omega, Finset.sum_range_add, Finset.sum_range_add, Finset.sum_range_add, Finset.sum_range_add]
  simp only [Nat.add_zero, Nat.add_assoc, Nat.reduceAdd]
  simp only [← add_assoc, ← Nat.add_assoc]

end Blocks

/-! ## What a point leaves in its blocks -/

theorem out6_A (c : Dev nD) (i : grid0.Coords) (arg1 : Memref sig .tc .vmem S256x3072 .bf16) (harg1 : arg1.IsWhole) (arg2 : Memref sig .tc .vmem S32x3072 .bf16) (harg2 : arg2.IsWhole) (arg3 : Memref sig .tc .vmem S32x3072 .bf16) (harg3 : arg3.IsWhole) (arg4 : Memref sig .tc .vmem S256x1024 .f32) (harg4 : arg4.IsWhole) (arg5 : Memref sig .tc .vmem S32x1024 .f32) (harg5 : arg5.IsWhole) (arg6 : Memref sig .tc .vmem S3x1024 .f32) (harg6 : arg6.IsWhole) (arg7 : Memref sig .tc .vmem S256x3072 .bf16) (harg7 : arg7.IsWhole) (arg8 : Memref sig .tc .vmem S8x1024 .f32) (harg8 : arg8.IsWhole) (arg9 : Memref sig .tc .vmem S288x1024 .f32) (harg9 : arg9.IsWhole) (arg10 : Memref sig .tc .vmem S288x1024 .f32) (harg10 : arg10.IsWhole) (arg11 : Memref sig .tc .vmem S8x288x1024 .f32) (harg11 : arg11.IsWhole) (arg12 : Memref sig .tc .vmem S8x288x1024 .f32) (harg12 : arg12.IsWhole) (hc0 : cond0_0 i) (x0 : Vec Ideal S256x3072 .bf16) (x1 : Vec Ideal S32x3072 .bf16) (x2 : Vec Ideal S32x3072 .bf16) (x3 : Vec Ideal S256x1024 .f32) (x4 : Vec Ideal S32x1024 .f32) (x5 : Vec Ideal S3x1024 .f32) (y : S256x3072.Idx) :
    out0_A_6 c i arg1 harg1 arg2 harg2 arg3 harg3 arg4 harg4 arg5 harg5 arg6 harg6 arg7 harg7 arg8 harg8 arg9 harg9 arg10 harg10 arg11 harg11 arg12 harg12 hc0 x0 x1 x2 x3 x4 x5 y
      = duBlk (dkx (i 0).val x0 x2 x3 x4) (cvx (i 0).val x0 x1) x0 x3 x5 (y 0).val (y 1).val := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 hc0 x0 x1 x2 x3 x4 x5)]
  exact View.canon_apply_of_pieces (Val := Elt Ideal) (e := .bf16)
    (fun y => duBlk (dkx (i 0).val x0 x2 x3 x4) (cvx (i 0).val x0 x1) x0 x3 x5 (y 0).val (y 1).val) _
    (du_pieces_A c i arg1 harg1 arg2 harg2 arg3 harg3 arg4 harg4 arg5 harg5 arg6 harg6 arg7 harg7 arg8 harg8 arg9 harg9 arg10 harg10 arg11 harg11 arg12 harg12 hc0 x0 x1 x2 x3 x4 x5) y (cover0_A_6 c i arg1 harg1 arg2 harg2 arg3 harg3 arg4 harg4 arg5 harg5 arg6 harg6 arg7 harg7 arg8 harg8 arg9 harg9 arg10 harg10 arg11 harg11 arg12 harg12 hc0 x0 x1 x2 x3 x4 x5 y)

theorem out7_A (c : Dev nD) (i : grid0.Coords) (arg1 : Memref sig .tc .vmem S256x3072 .bf16) (harg1 : arg1.IsWhole) (arg2 : Memref sig .tc .vmem S32x3072 .bf16) (harg2 : arg2.IsWhole) (arg3 : Memref sig .tc .vmem S32x3072 .bf16) (harg3 : arg3.IsWhole) (arg4 : Memref sig .tc .vmem S256x1024 .f32) (harg4 : arg4.IsWhole) (arg5 : Memref sig .tc .vmem S32x1024 .f32) (harg5 : arg5.IsWhole) (arg6 : Memref sig .tc .vmem S3x1024 .f32) (harg6 : arg6.IsWhole) (arg7 : Memref sig .tc .vmem S256x3072 .bf16) (harg7 : arg7.IsWhole) (arg8 : Memref sig .tc .vmem S8x1024 .f32) (harg8 : arg8.IsWhole) (arg9 : Memref sig .tc .vmem S288x1024 .f32) (harg9 : arg9.IsWhole) (arg10 : Memref sig .tc .vmem S288x1024 .f32) (harg10 : arg10.IsWhole) (arg11 : Memref sig .tc .vmem S8x288x1024 .f32) (harg11 : arg11.IsWhole) (arg12 : Memref sig .tc .vmem S8x288x1024 .f32) (harg12 : arg12.IsWhole) (hc0 : cond0_0 i) (x0 : Vec Ideal S256x3072 .bf16) (x1 : Vec Ideal S32x3072 .bf16) (x2 : Vec Ideal S32x3072 .bf16) (x3 : Vec Ideal S256x1024 .f32) (x4 : Vec Ideal S32x1024 .f32) (x5 : Vec Ideal S3x1024 .f32) (y : S8x1024.Idx) :
    out0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 y = dwAcc (fun _ _ => 0) (dkx (i 0).val x0 x2 x3 x4) (cvx (i 0).val x0 x1) (y 0).val (y 1).val := by
  unfold out0_A_7
  exact dw_rows_A c i arg1 harg1 arg2 harg2 arg3 harg3 arg4 harg4 arg5 harg5 arg6 harg6 arg7 harg7 arg8 harg8 arg9 harg9 arg10 harg10 arg11 harg11 arg12 harg12 hc0 x0 x1 x2 x3 x4 x5 VO0_7 VO0_7.junk y

theorem out6_B (c : Dev nD) (i : grid0.Coords) (arg1 : Memref sig .tc .vmem S256x3072 .bf16) (harg1 : arg1.IsWhole) (arg2 : Memref sig .tc .vmem S32x3072 .bf16) (harg2 : arg2.IsWhole) (arg3 : Memref sig .tc .vmem S32x3072 .bf16) (harg3 : arg3.IsWhole) (arg4 : Memref sig .tc .vmem S256x1024 .f32) (harg4 : arg4.IsWhole) (arg5 : Memref sig .tc .vmem S32x1024 .f32) (harg5 : arg5.IsWhole) (arg6 : Memref sig .tc .vmem S3x1024 .f32) (harg6 : arg6.IsWhole) (arg7 : Memref sig .tc .vmem S256x3072 .bf16) (harg7 : arg7.IsWhole) (arg8 : Memref sig .tc .vmem S8x1024 .f32) (harg8 : arg8.IsWhole) (arg9 : Memref sig .tc .vmem S288x1024 .f32) (harg9 : arg9.IsWhole) (arg10 : Memref sig .tc .vmem S288x1024 .f32) (harg10 : arg10.IsWhole) (arg11 : Memref sig .tc .vmem S8x288x1024 .f32) (harg11 : arg11.IsWhole) (arg12 : Memref sig .tc .vmem S8x288x1024 .f32) (harg12 : arg12.IsWhole) (hc0 : ¬cond0_0 i) (x0 : Vec Ideal S256x3072 .bf16) (x1 : Vec Ideal S32x3072 .bf16) (x2 : Vec Ideal S32x3072 .bf16) (x3 : Vec Ideal S256x1024 .f32) (x4 : Vec Ideal S32x1024 .f32) (x5 : Vec Ideal S3x1024 .f32) (xo7 : Vec Ideal S8x1024 .f32) (y : S256x3072.Idx) :
    out0_B_6 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 y
      = duBlk (dkx (i 0).val x0 x2 x3 x4) (cvx (i 0).val x0 x1) x0 x3 x5 (y 0).val (y 1).val := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 arg12 harg12 hc0 x0 x1 x2 x3 x4 x5 xo7)]
  exact View.canon_apply_of_pieces (Val := Elt Ideal) (e := .bf16)
    (fun y => duBlk (dkx (i 0).val x0 x2 x3 x4) (cvx (i 0).val x0 x1) x0 x3 x5 (y 0).val (y 1).val) _
    (du_pieces_B c i arg1 harg1 arg2 harg2 arg3 harg3 arg4 harg4 arg5 harg5 arg6 harg6 arg7 harg7 arg8 harg8 arg9 harg9 arg10 harg10 arg11 harg11 arg12 harg12 hc0 x0 x1 x2 x3 x4 x5 xo7) y (cover0_B_6 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 y)

theorem out7_B (c : Dev nD) (i : grid0.Coords) (arg1 : Memref sig .tc .vmem S256x3072 .bf16) (harg1 : arg1.IsWhole) (arg2 : Memref sig .tc .vmem S32x3072 .bf16) (harg2 : arg2.IsWhole) (arg3 : Memref sig .tc .vmem S32x3072 .bf16) (harg3 : arg3.IsWhole) (arg4 : Memref sig .tc .vmem S256x1024 .f32) (harg4 : arg4.IsWhole) (arg5 : Memref sig .tc .vmem S32x1024 .f32) (harg5 : arg5.IsWhole) (arg6 : Memref sig .tc .vmem S3x1024 .f32) (harg6 : arg6.IsWhole) (arg7 : Memref sig .tc .vmem S256x3072 .bf16) (harg7 : arg7.IsWhole) (arg8 : Memref sig .tc .vmem S8x1024 .f32) (harg8 : arg8.IsWhole) (arg9 : Memref sig .tc .vmem S288x1024 .f32) (harg9 : arg9.IsWhole) (arg10 : Memref sig .tc .vmem S288x1024 .f32) (harg10 : arg10.IsWhole) (arg11 : Memref sig .tc .vmem S8x288x1024 .f32) (harg11 : arg11.IsWhole) (arg12 : Memref sig .tc .vmem S8x288x1024 .f32) (harg12 : arg12.IsWhole) (hc0 : ¬cond0_0 i) (x0 : Vec Ideal S256x3072 .bf16) (x1 : Vec Ideal S32x3072 .bf16) (x2 : Vec Ideal S32x3072 .bf16) (x3 : Vec Ideal S256x1024 .f32) (x4 : Vec Ideal S32x1024 .f32) (x5 : Vec Ideal S3x1024 .f32) (xo7 : Vec Ideal S8x1024 .f32) (y : S8x1024.Idx) :
    out0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 y = dwAcc (at2 xo7) (dkx (i 0).val x0 x2 x3 x4) (cvx (i 0).val x0 x1) (y 0).val (y 1).val := by
  unfold out0_B_7
  exact dw_rows_B c i arg1 harg1 arg2 harg2 arg3 harg3 arg4 harg4 arg5 harg5 arg6 harg6 arg7 harg7 arg8 harg8 arg9 harg9 arg10 harg10 arg11 harg11 arg12 harg12 hc0 x0 x1 x2 x3 x4 x5 xo7 y

end Cert.KernelIdeal.Duo

end
-- ==== Proof.ScFinal.lean ====
module

public import proofs.«01_k».proof.Defs
public import proofs.«01_k».proof.Proof.ScValue
public import Idealize.ShloMosaic.Lib.Pipeline.Value
public import Idealize.ShloMosaic.Lib.Pipeline.ValueKit.Tiles
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.KernelIdeal.Duo

open Cert.KernelIdeal Cert.KernelIdeal.Gen

set_option maxHeartbeats 4000000

/-! ## The arrays the run ends with -/

variable (m : (ℓ : Loc nD τ sig) → Buf (Elt Ideal) ℓ) (c : Dev nD)

/-- A point leaves in the first output's block its rows of the gradient. -/
theorem outs_fst (t : Fin cfg0.N) (y : S256x3072.Idx) :
    (outsAt0 m c t.val t.isLt).1 y = duG (argU m c) (argD m c) (argW m c) (256 * t.val + (y 0).val) (y 1).val := by
  by_cases h0 : t.val % 32 = 0
  · rw [outsAt0_A m c t h0]; dsimp only; rw [out6_A]
    exact duBlk_eq m c t (y 0).val (y 1).val (y 0).isLt (y 1).isLt
  · rw [outsAt0_B m c t h0]; dsimp only; rw [out6_B]
    exact duBlk_eq m c t (y 0).val (y 1).val (y 0).isLt (y 1).isLt

/-- After a point the second output's block holds the sum over the rows so far. -/
theorem outs_snd : ∀ (n : ℕ) (h : n < cfg0.N) (y : S8x1024.Idx),
    (outsAt0 m c n h).2 y = dwG (argU m c) (argD m c) (256 * (n + 1)) (y 0).val (y 1).val
  | 0, h, y => by
    have hA : (⟨0, h⟩ : Fin cfg0.N).val % 32 = 0 := rfl
    rw [show outsAt0 m c 0 h = _ from outsAt0_A m c ⟨0, h⟩ hA]; dsimp only; rw [out7_A]
    have e := dwBlk_eq m c ⟨0, h⟩ (y 0).val (y 1).val
    unfold dwAcc dwG
    by_cases hs : (y 0).val < 3
    · rw [if_pos hs, if_pos hs]
      exact e hs (y 1).isLt
    · rw [if_neg hs, if_neg hs]
  | n + 1, h, y => by
    have hN : cfg0.N = 32 := N_0
    have hB : ¬(⟨n + 1, h⟩ : Fin cfg0.N).val % 32 = 0 := by dsimp only; omega
    rw [show outsAt0 m c (n + 1) h = _ from outsAt0_B m c ⟨n + 1, h⟩ hB]; dsimp only; rw [out7_B]
    have e := dwBlk_eq m c ⟨n + 1, h⟩ (y 0).val (y 1).val
    have ih := outs_snd n (Nat.lt_of_succ_lt h) y
    have ih' : at2 (outsAt0 m c n (Nat.lt_of_succ_lt h)).2 (y 0).val (y 1).val = dwG (argU m c) (argD m c) (256 * (n + 1)) (y 0).val (y 1).val :=
      (at2_eq _ y rfl rfl).symm.trans ih
    unfold dwAcc
    unfold dwG at ih' ⊢
    by_cases hs : (y 0).val < 3
    · rw [if_pos hs] at ih' ⊢
      rw [if_pos hs]
      refine Eq.trans (congrArg (· + _) ih') ?_
      exact e hs (y 1).isLt
    · rw [if_neg hs] at ih' ⊢
      rw [if_neg hs]
      exact ih'

/-- The first result: the gradient of the projected input. -/
def resU : Buf (Elt Ideal) ((c : Thread nD τ).loc main_v0_0) :=
  fun i : S8192x3072.Idx => duG (argU m c) (argD m c) (argW m c) (i 0).val (i 1).val

/-- The second result: the gradient of the taps. -/
def resW : Buf (Elt Ideal) ((c : Thread nD τ).loc main_v0_1) :=
  fun i : S8x1024.Idx => dwG (argU m c) (argD m c) 8192 (i 0).val (i 1).val

theorem flushed6_eq (t : Fin cfg0.N) :
    (dats m 0 c).flushed 6 t = ((cfg0.win 6).blk t).view.read (Elt Ideal) (resU m c) := by
  rw [Cert.KernelIdeal.Value.flushed6]
  funext j
  rw [View.read_apply]
  show (outsAt0 m c t.val t.isLt).1 (fun a => ⟨(j a).val, (j a).isLt⟩) = duG (argU m c) (argD m c) (argW m c) (win0_6.index t 0 * 256 + 1 * (j 0).val) (win0_6.index t 1 * 3072 + 1 * (j 1).val)
  rw [outs_fst, (idx6 t).1, (idx6 t).2]
  congr 1 <;> show _ = _ <;> simp <;> omega

theorem cover6 (i : S8192x3072.Idx) :
    ∃ t : Fin cfg0.N, (cfg0.win 6).flush t = true ∧ i ∈ ((cfg0.win 6).blk t).view.set := by
  have h0 : (i 0 : ℕ) < 8192 := (i 0).isLt
  have h1 : (i 1 : ℕ) < 3072 := (i 1).isLt
  have hN : cfg0.N = 32 := N_0
  let t : Fin cfg0.N := ⟨(i 0 : ℕ) / 256, by omega⟩
  refine ⟨t, flush0_6 t, ?_⟩
  show i ∈ ((View.whole main_v0_0).slice (win0_6.rect t)).set
  rw [View.set_slice_whole, Rect.mem_set_unit]
  have e : t.val = (i 0 : ℕ) / 256 := rfl
  intro a
  match a with
  | ⟨0, _⟩ =>
    show win0_6.index t 0 * 256 ≤ (i 0 : ℕ) ∧ (i 0 : ℕ) < win0_6.index t 0 * 256 + 256
    rw [(idx6 t).1]; omega
  | ⟨1, _⟩ =>
    show win0_6.index t 1 * 3072 ≤ (i 1 : ℕ) ∧ (i 1 : ℕ) < win0_6.index t 1 * 3072 + 3072
    rw [(idx6 t).2]; omega

theorem final6 : (dats m 0 c).arrAt 6 cfg0.N = resU m c :=
  (dats m 0 c).arrAt_eq_of_cover 6 (resU m c) (fun t _ => flushed6_eq m c t) cover6

theorem flushed7_eq (t : Fin cfg0.N) (hf : (cfg0.win 7).flush t = true) :
    (dats m 0 c).flushed 7 t = ((cfg0.win 7).blk t).view.read (Elt Ideal) (resW m c) := by
  have hN : cfg0.N = 32 := N_0
  have h31 : t.val = 31 := by have := (flush0_7 t).mp hf; have := t.isLt; omega
  rw [Cert.KernelIdeal.Value.flushed7]
  funext j
  rw [View.read_apply]
  show (outsAt0 m c t.val t.isLt).2 (fun a => ⟨(j a).val, (j a).isLt⟩) = dwG (argU m c) (argD m c) 8192 (win0_7.index t 0 * 8 + 1 * (j 0).val) (win0_7.index t 1 * 1024 + 1 * (j 1).val)
  rw [outs_snd, (idx7 t).1, (idx7 t).2, h31]
  congr 1 <;> show _ = _ <;> simp

theorem cover7 (i : S8x1024.Idx) :
    ∃ t : Fin cfg0.N, (cfg0.win 7).flush t = true ∧ i ∈ ((cfg0.win 7).blk t).view.set := by
  have h0 : (i 0 : ℕ) < 8 := (i 0).isLt
  have h1 : (i 1 : ℕ) < 1024 := (i 1).isLt
  have hN : cfg0.N = 32 := N_0
  let t : Fin cfg0.N := ⟨31, by omega⟩
  refine ⟨t, (flush0_7 t).mpr rfl, ?_⟩
  show i ∈ ((View.whole main_v0_1).slice (win0_7.rect t)).set
  rw [View.set_slice_whole, Rect.mem_set_unit]
  intro a
  match a with
  | ⟨0, _⟩ =>
    show win0_7.index t 0 * 8 ≤ (i 0 : ℕ) ∧ (i 0 : ℕ) < win0_7.index t 0 * 8 + 8
    rw [(idx7 t).1]; omega
  | ⟨1, _⟩ =>
    show win0_7.index t 1 * 1024 ≤ (i 1 : ℕ) ∧ (i 1 : ℕ) < win0_7.index t 1 * 1024 + 1024
    rw [(idx7 t).2]; omega

theorem final7 : (dats m 0 c).arrAt 7 cfg0.N = resW m c :=
  (dats m 0 c).arrAt_eq_of_cover 7 (resW m c) (flushed7_eq m c) cover7

end Cert.KernelIdeal.Duo

end
-- ==== Proof.ScRef.lean ====
module

public import proofs.«01_k».proof.Defs
public import proofs.«01_k».proof.Proof.ScValue
public import proofs.«01_k».proof.Proof.Gen.ReferenceIdeal.Read
public import Idealize.ShloMosaic.Lib.KernelVsHost
public import Idealize.ShloMosaic.Lib.Pipeline.Value
public import Idealize.ShloMosaic.Lib.Pipeline.ValueKit.Tiles
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.ReferenceIdeal.Duo

open Cert.ReferenceIdeal Cert.ReferenceIdeal.Gen Cert.ReferenceIdeal.Read
open Cert.KernelIdeal.Duo (at2 at2_eq gdk gcv duG dwS dwG dcv)

set_option maxHeartbeats 4000000

/-! ## The reference, one operation at a time, at natural coordinates -/

theorem zero_bits : (FloatOps.ofBits (F := Ideal) .f32 0x00000000#32 : EReal) = 0 := by
  show Ideal.ofBits .f32 0x00000000#32 = 0
  simp [Ideal.ofBits, Ideal.ieee]

theorem pad_zero : (FloatOps.sitofp (F := Ideal) .f32 (0#32 : BitVec 32) : EReal) = 0 := by
  show (((0#32 : BitVec 32).toInt : ℝ) : EReal) = 0
  simp

/-- Padding by zero along the rows reads the padded array where it lies, and zero elsewhere. -/
theorem pad_rows {m n k lo hi : ℕ} (x : (⟨2, ![m, k]⟩ : Shape).Idx → EReal) (v : S_.Idx → EReal) (hv : v (Shape.Idx.first h_S_) = 0)
    (h : (⟨2, ![m, k]⟩ : Shape).Pads ![lo, 0] ![hi, 0] ![0, 0] ⟨2, ![n, k]⟩) (j : (⟨2, ![n, k]⟩ : Shape).Idx) {r l : ℕ}
    (hr : (j 0).val = r) (hl : (j 1).val = l) :
    pad ⟨2, ![n, k]⟩ ![lo, 0] ![hi, 0] ![0, 0] x v h h_S_ j = if r < lo then 0 else at2 x (r - lo) l := by
  subst hr hl
  have hk : (j 1).val < k := (j 1).isLt
  by_cases hlo : (j 0).val < lo
  · rw [if_pos hlo, ← hv]
    exact pad_apply_of_not_inside ![lo, 0] ![hi, 0] ![0, 0] x v h h_S_ j 0 (fun e => absurd e.1 (Nat.not_le.2 hlo))
  · rw [if_neg hlo]
    by_cases hm : (j 0).val - lo < m
    · unfold at2
      rw [dif_pos ⟨hm, hk⟩]
      refine pad_apply_of_inside ![lo, 0] ![hi, 0] ![0, 0] x v h h_S_ j _ fun a => ?_
      fin_cases a
      · show (j 0).val = lo + ((j 0).val - lo) * (0 + 1); omega
      · show (j 1).val = 0 + (j 1).val * (0 + 1); omega
    · unfold at2
      rw [dif_neg (fun e => hm e.1), ← hv]
      refine pad_apply_of_not_inside ![lo, 0] ![hi, 0] ![0, 0] x v h h_S_ j 0 (fun e => hm ?_)
      have := e.2.2
      show (j 0).val - lo < m
      simpa using this

section
variable (x0 : (⟨S8192x3072, .bf16⟩ : BufTy).Contents (Elt Ideal)) (x1 : (⟨S8192x1024, .f32⟩ : BufTy).Contents (Elt Ideal)) (x2 : (⟨S3x1024, .f32⟩ : BufTy).Contents (Elt Ideal))

theorem v1_at (j : S8192x1024.Idx) : val_main_v1 (F := Ideal) x0 j = at2 (x0 : S8192x3072.Idx → EReal) (j 0).val (j 1).val := by
  rw [val_main_v1_apply, val_main_v0_apply]; exact at2_eq _ _ rfl rfl
theorem v2_at (j : S8192x1024.Idx) : val_main_v2 (F := Ideal) x0 j = at2 (x0 : S8192x3072.Idx → EReal) (j 0).val (1024 + (j 1).val) := by
  rw [val_main_v2_apply, val_main_v0_apply]; exact at2_eq _ _ rfl (by first | rfl | exact Nat.add_comm _ _)
theorem v3_at (j : S8192x1024.Idx) : val_main_v3 (F := Ideal) x0 j = at2 (x0 : S8192x3072.Idx → EReal) (j 0).val (2048 + (j 1).val) := by
  rw [val_main_v3_apply, val_main_v0_apply]; exact at2_eq _ _ rfl (by first | rfl | exact Nat.add_comm _ _)
theorem v4_at (j : S8192x1024.Idx) : val_main_v4 (F := Ideal) x0 j
    = at2 (x0 : S8192x3072.Idx → EReal) (j 0).val (1024 + (j 1).val) * at2 (x0 : S8192x3072.Idx → EReal) (j 0).val (2048 + (j 1).val) := by
  rw [val_main_v4_apply, v2_at, v3_at]; rfl

theorem v6_at (j : S8194x1024.Idx) : val_main_v6 (F := Ideal) x0 j = gcv x0 (j 0).val (j 1).val := by
  have h0 : (j 0).val < 8194 := (j 0).isLt
  unfold val_main_v6 gcv
  by_cases h : (j 0).val < 2
  · rw [if_pos h, concatenate_pair_apply_left (s₁ := S2x1024) (s₂ := S8192x1024) 0 _ _ _ j rfl (ValueIdx.ix2 ⟨(j 0).val, h⟩ (j 1)) (by intro b; fin_cases b <;> rfl),
      val_main_v5_apply, val_main_cst_apply, zero_bits]
  · rw [if_neg h, concatenate_pair_apply_right (s₁ := S2x1024) (s₂ := S8192x1024) 0 _ _ _ j rfl rfl (ValueIdx.ix2 ⟨(j 0).val - 2, by omega⟩ (j 1))
      (by intro b hb; fin_cases b; · exact absurd rfl hb
          · rfl) (by show (j 0).val - 2 + 2 = (j 0).val; omega), v4_at]

theorem v10_at (j : S8192x1024.Idx) : val_main_v10 (F := Ideal) x0 j = gcv x0 (j 0).val (j 1).val := by
  rw [val_main_v10_apply, v6_at]
theorem v18_at (j : S8192x1024.Idx) : val_main_v18 (F := Ideal) x0 j = gcv x0 ((j 0).val + 1) (j 1).val := by
  rw [val_main_v18_apply, v6_at]; congr 1; first | rfl | exact Nat.add_comm _ _
theorem v25_at (j : S8192x1024.Idx) : val_main_v25 (F := Ideal) x0 j = gcv x0 ((j 0).val + 2) (j 1).val := by
  rw [val_main_v25_apply, v6_at]; congr 1; first | rfl | exact Nat.add_comm _ _

theorem v31_at (j : S8192x1024.Idx) : val_main_v31 (F := Ideal) x0 x1 j = gdk x0 x1 (j 0).val (j 1).val := by
  rw [val_main_v31_apply, v1_at, at2_eq (x1 : S8192x1024.Idx → EReal) j rfl rfl]
  exact mul_comm _ _

/-! The taps, spread over the rows. -/
theorem v12_at (j : S8192x1024.Idx) : val_main_v12 (F := Ideal) x2 j = at2 (x2 : S3x1024.Idx → EReal) 0 (j 1).val := by
  rw [val_main_v12_apply, val_main_v11_apply, val_main_v9_apply, val_main_v8_apply]
  have h1 : (j 1).val < 1024 := (j 1).isLt
  refine at2_eq _ _ ?_ ?_ <;> simp <;> omega
theorem v20_at (j : S8192x1024.Idx) : val_main_v20 (F := Ideal) x2 j = at2 (x2 : S3x1024.Idx → EReal) 1 (j 1).val := by
  rw [val_main_v20_apply, val_main_v19_apply, val_main_v17_apply, val_main_v16_apply]
  have h1 : (j 1).val < 1024 := (j 1).isLt
  refine at2_eq _ _ ?_ ?_ <;> simp <;> omega
theorem v27_at (j : S8192x1024.Idx) : val_main_v27 (F := Ideal) x2 j = at2 (x2 : S3x1024.Idx → EReal) 2 (j 1).val := by
  rw [val_main_v27_apply, val_main_v26_apply, val_main_v24_apply, val_main_v23_apply]
  have h1 : (j 1).val < 1024 := (j 1).isLt
  refine at2_eq _ _ ?_ ?_ <;> simp <;> omega
theorem v33_at (j : S8192x1024.Idx) : val_main_v33 (F := Ideal) x2 j = at2 (x2 : S3x1024.Idx → EReal) 2 (j 1).val := by
  rw [val_main_v33_apply, val_main_v26_apply, val_main_v24_apply, val_main_v23_apply]
  have h1 : (j 1).val < 1024 := (j 1).isLt
  refine at2_eq _ _ ?_ ?_ <;> simp <;> omega
theorem v42_at (j : S8192x1024.Idx) : val_main_v42 (F := Ideal) x2 j = at2 (x2 : S3x1024.Idx → EReal) 1 (j 1).val := by
  rw [val_main_v42_apply, val_main_v19_apply, val_main_v17_apply, val_main_v16_apply]
  have h1 : (j 1).val < 1024 := (j 1).isLt
  refine at2_eq _ _ ?_ ?_ <;> simp <;> omega
theorem v53_at (j : S8192x1024.Idx) : val_main_v53 (F := Ideal) x2 j = at2 (x2 : S3x1024.Idx → EReal) 0 (j 1).val := by
  rw [val_main_v53_apply, val_main_v11_apply, val_main_v9_apply, val_main_v8_apply]
  have h1 : (j 1).val < 1024 := (j 1).isLt
  refine at2_eq _ _ ?_ ?_ <;> simp <;> omega

theorem v29_at (j : S8192x1024.Idx) : val_main_v29 (F := Ideal) x0 x2 j
    = at2 (x2 : S3x1024.Idx → EReal) 0 (j 1).val * gcv x0 (j 0).val (j 1).val + at2 (x2 : S3x1024.Idx → EReal) 1 (j 1).val * gcv x0 ((j 0).val + 1) (j 1).val
      + at2 (x2 : S3x1024.Idx → EReal) 2 (j 1).val * gcv x0 ((j 0).val + 2) (j 1).val := by
  rw [val_main_v29_apply, val_main_v22_apply, val_main_v15_apply, val_main_v14_apply, val_main_cst_1_apply, zero_bits, val_main_v13_apply, val_main_v21_apply,
    val_main_v28_apply, v12_at, v20_at, v27_at, v10_at, v18_at, v25_at]
  refine congrArg (· + _) (congrArg (· + _) ?_)
  exact zero_add _

theorem v32_at (j : S8192x1024.Idx) : val_main_v32 (F := Ideal) x0 x1 x2 j
    = at2 (x1 : S8192x1024.Idx → EReal) (j 0).val (j 1).val * (at2 (x2 : S3x1024.Idx → EReal) 0 (j 1).val * gcv x0 (j 0).val (j 1).val + at2 (x2 : S3x1024.Idx → EReal) 1 (j 1).val * gcv x0 ((j 0).val + 1) (j 1).val
      + at2 (x2 : S3x1024.Idx → EReal) 2 (j 1).val * gcv x0 ((j 0).val + 2) (j 1).val) := by
  rw [val_main_v32_apply, v29_at, at2_eq (x1 : S8192x1024.Idx → EReal) j rfl rfl]
  rfl
theorem v34_at (j : S8192x1024.Idx) : val_main_v34 (F := Ideal) x0 x1 x2 j = at2 (x2 : S3x1024.Idx → EReal) 2 (j 1).val * gdk x0 x1 (j 0).val (j 1).val := by
  rw [val_main_v34_apply, v33_at, v31_at]
  rfl
theorem v34_at2 (r l : ℕ) (hl : l < 1024) : at2 (val_main_v34 (F := Ideal) x0 x1 x2 : S8192x1024.Idx → EReal) r l = at2 (x2 : S3x1024.Idx → EReal) 2 l * gdk x0 x1 r l := by
  conv_lhs => unfold at2
  by_cases hr : r < 8192
  · rw [dif_pos ⟨hr, hl⟩, v34_at]
  · rw [dif_neg (fun e => hr e.1)]
    unfold gdk
    have : at2 (x1 : S8192x1024.Idx → EReal) r l = 0 := dif_neg (fun e => hr e.1)
    rw [this, zero_mul, mul_zero]
theorem v43_at (j : S8192x1024.Idx) : val_main_v43 (F := Ideal) x0 x1 x2 j = at2 (x2 : S3x1024.Idx → EReal) 1 (j 1).val * gdk x0 x1 (j 0).val (j 1).val := by
  rw [val_main_v43_apply, v42_at, v31_at]
  rfl
theorem v43_at2 (r l : ℕ) (hl : l < 1024) : at2 (val_main_v43 (F := Ideal) x0 x1 x2 : S8192x1024.Idx → EReal) r l = at2 (x2 : S3x1024.Idx → EReal) 1 l * gdk x0 x1 r l := by
  conv_lhs => unfold at2
  by_cases hr : r < 8192
  · rw [dif_pos ⟨hr, hl⟩, v43_at]
  · rw [dif_neg (fun e => hr e.1)]
    unfold gdk
    have : at2 (x1 : S8192x1024.Idx → EReal) r l = 0 := dif_neg (fun e => hr e.1)
    rw [this, zero_mul, mul_zero]
theorem v54_at (j : S8192x1024.Idx) : val_main_v54 (F := Ideal) x0 x1 x2 j = at2 (x2 : S3x1024.Idx → EReal) 0 (j 1).val * gdk x0 x1 (j 0).val (j 1).val := by
  rw [val_main_v54_apply, v53_at, v31_at]
  rfl
theorem v54_at2 (r l : ℕ) (hl : l < 1024) : at2 (val_main_v54 (F := Ideal) x0 x1 x2 : S8192x1024.Idx → EReal) r l = at2 (x2 : S3x1024.Idx → EReal) 0 l * gdk x0 x1 r l := by
  conv_lhs => unfold at2
  by_cases hr : r < 8192
  · rw [dif_pos ⟨hr, hl⟩, v54_at]
  · rw [dif_neg (fun e => hr e.1)]
    unfold gdk
    have : at2 (x1 : S8192x1024.Idx → EReal) r l = 0 := dif_neg (fun e => hr e.1)
    rw [this, zero_mul, mul_zero]

theorem v65_at (j : S8192x1024.Idx) : val_main_v65 (F := Ideal) x0 x1 x2 j = dcv (gdk x0 x1) x2 (j 0).val (j 1).val := by
  have h1 : (j 1).val < 1024 := (j 1).isLt
  rw [val_main_v65_apply, val_main_v60_apply, val_main_v49_apply]
  unfold val_main_v39 val_main_v48 val_main_v59
  have e0 : (idx_main_v65 j 0).val = (j 0).val + 2 := by first | rfl | exact Nat.add_comm _ _
  have e1 : (idx_main_v65 j 1).val = (j 1).val := rfl
  have p1 := pad_rows (val_main_v34 (F := Ideal) x0 x1 x2) (val_main_cst_4 (F := Ideal)) zero_bits pads_S8192x1024_S8194x1024_200_000 (idx_main_v65 j) e0 e1
  have p2 := pad_rows (val_main_v43 (F := Ideal) x0 x1 x2) (val_main_cst_8 (F := Ideal)) zero_bits pads_S8192x1024_S8194x1024_110_000 (idx_main_v65 j) e0 e1
  have p3 := pad_rows (val_main_v54 (F := Ideal) x0 x1 x2) (val_main_cst_12 (F := Ideal)) zero_bits pads_S8192x1024_S8194x1024_020_000 (idx_main_v65 j) e0 e1
  rw [if_neg (by omega), v34_at2 (hl := h1)] at p1
  rw [if_neg (by omega), v43_at2 (hl := h1)] at p2
  rw [if_neg (by omega), v54_at2 (hl := h1)] at p3
  refine (congrArg₂ (· + ·) (congrArg₂ (· + ·) p1 p2) p3).trans ?_
  rfl

theorem v66_at (j : S8192x1024.Idx) : val_main_v66 (F := Ideal) x0 x1 x2 j = dcv (gdk x0 x1) x2 (j 0).val (j 1).val * at2 (x0 : S8192x3072.Idx → EReal) (j 0).val (1024 + (j 1).val) := by
  rw [val_main_v66_apply, v65_at, v2_at]
  exact mul_comm _ _
theorem v67_at (j : S8192x1024.Idx) : val_main_v67 (F := Ideal) x0 x1 x2 j = dcv (gdk x0 x1) x2 (j 0).val (j 1).val * at2 (x0 : S8192x3072.Idx → EReal) (j 0).val (2048 + (j 1).val) := by
  rw [val_main_v67_apply, v65_at, v3_at]
  rfl

/-- The reference's first result at an index. -/
theorem v69_at (j : S8192x3072.Idx) : val_main_v69 (F := Ideal) x0 x1 x2 j = duG x0 x1 x2 (j 0).val (j 1).val := by
  have h1 : (j 1).val < 3072 := (j 1).isLt
  rw [val_main_v69_apply]
  show val_main_v68 (F := Ideal) x0 x1 x2 j = _
  unfold val_main_v68 duG
  by_cases a : (j 1).val < 1024
  · rw [if_pos a]
    refine (concatenate_apply_piece 1 _ _ j 0 (by simp) S8192x1024 (val_main_v32 (F := Ideal) x0 x1 x2) rfl rfl 0 rfl (ValueIdx.ix2 (j 0) ⟨(j 1).val, a⟩) ?_ ?_).trans ?_
    · intro b hb; fin_cases b
      · rfl
      · exact absurd rfl hb
    · exact Nat.zero_add _
    · rw [v32_at]
  · rw [if_neg a]
    by_cases b : (j 1).val < 2048
    · rw [if_pos b]
      refine (concatenate_apply_piece 1 _ _ j 1 (by simp) S8192x1024 (val_main_v67 (F := Ideal) x0 x1 x2) rfl rfl 1024 rfl (ValueIdx.ix2 (j 0) ⟨(j 1).val - 1024, by omega⟩) ?_ ?_).trans ?_
      · intro b hb; fin_cases b
        · rfl
        · exact absurd rfl hb
      · show 1024 + ((j 1).val - 1024) = (j 1).val; omega
      · rw [v67_at]
        show dcv _ _ _ ((j 1).val - 1024) * at2 _ _ (2048 + ((j 1).val - 1024)) = _
        rw [show 2048 + ((j 1).val - 1024) = (j 1).val + 1024 from by omega]
    · rw [if_neg b]
      refine (concatenate_apply_piece 1 _ _ j 2 (by simp) S8192x1024 (val_main_v66 (F := Ideal) x0 x1 x2) rfl rfl 2048 rfl (ValueIdx.ix2 (j 0) ⟨(j 1).val - 2048, by omega⟩) ?_ ?_).trans ?_
      · intro b hb; fin_cases b
        · rfl
        · exact absurd rfl hb
      · show 2048 + ((j 1).val - 2048) = (j 1).val; omega
      · rw [v66_at]
        show dcv _ _ _ ((j 1).val - 2048) * at2 _ _ (1024 + ((j 1).val - 2048)) = _
        rw [show 1024 + ((j 1).val - 2048) = (j 1).val - 1024 from by omega]

theorem v40_at (j : S1x1024.Idx) : val_main_v40 (F := Ideal) x0 x1 j = dwS x0 x1 2 (j 1).val 8192 := by
  have h1 : (j 1).val < 1024 := (j 1).isLt
  rw [val_main_v40_apply, val_main_v38_apply, Fin.sum_univ_one, val_main_v37_apply, val_main_v36_apply, val_main_cst_2_apply, val_main_cst_3_apply, zero_bits]
  refine (zero_add _).trans ((zero_add _).trans ?_)
  unfold dwS
  rw [Finset.sum_range]
  refine Finset.sum_congr rfl fun k _ => ?_
  rw [val_main_v35_apply, v31_at, v25_at]
  show gdk _ _ k.val (0 * 1024 + (j 1).val) * gcv _ (k.val + 2) (0 * 1024 + (j 1).val) = _
  simp only [Nat.zero_mul, Nat.zero_add, Nat.add_zero]

theorem v50_at (j : S1x1024.Idx) : val_main_v50 (F := Ideal) x0 x1 j = dwS x0 x1 1 (j 1).val 8192 := by
  have h1 : (j 1).val < 1024 := (j 1).isLt
  rw [val_main_v50_apply, val_main_v47_apply, Fin.sum_univ_one, val_main_v46_apply, val_main_v45_apply, val_main_cst_6_apply, val_main_cst_7_apply, zero_bits]
  refine (zero_add _).trans ((zero_add _).trans ?_)
  unfold dwS
  rw [Finset.sum_range]
  refine Finset.sum_congr rfl fun k _ => ?_
  rw [val_main_v44_apply, v31_at, v18_at]
  show gdk _ _ k.val (0 * 1024 + (j 1).val) * gcv _ (k.val + 1) (0 * 1024 + (j 1).val) = _
  simp only [Nat.zero_mul, Nat.zero_add, Nat.add_zero]

theorem v61_at (j : S1x1024.Idx) : val_main_v61 (F := Ideal) x0 x1 j = dwS x0 x1 0 (j 1).val 8192 := by
  have h1 : (j 1).val < 1024 := (j 1).isLt
  rw [val_main_v61_apply, val_main_v58_apply, Fin.sum_univ_one, val_main_v57_apply, val_main_v56_apply, val_main_cst_10_apply, val_main_cst_11_apply, zero_bits]
  refine (zero_add _).trans ((zero_add _).trans ?_)
  unfold dwS
  rw [Finset.sum_range]
  refine Finset.sum_congr rfl fun k _ => ?_
  rw [val_main_v55_apply, v31_at, v10_at]
  show gdk _ _ k.val (0 * 1024 + (j 1).val) * gcv _ (k.val ) (0 * 1024 + (j 1).val) = _
  simp only [Nat.zero_mul, Nat.zero_add, Nat.add_zero]

/-- The reference's second result at an index. -/
theorem v70_at (j : S8x1024.Idx) : val_main_v70 (F := Ideal) x0 x1 j = dwG x0 x1 8192 (j 0).val (j 1).val := by
  have h0 : (j 0).val < 8 := (j 0).isLt
  have h1 : (j 1).val < 1024 := (j 1).isLt
  unfold val_main_v70 dwG
  refine (pad_rows (val_main_v63 (F := Ideal) x0 x1) (val_main_call0_v0 (F := Ideal)) ?_ pads_S3x1024_S8x1024_050_000 j rfl rfl).trans ?_
  · rw [val_main_call0_v0_apply, val_main_c_apply]; exact pad_zero
  rw [if_neg (Nat.not_lt_zero _), Nat.sub_zero]
  unfold at2
  by_cases h : (j 0).val < 3
  · rw [if_pos h, dif_pos ⟨h, h1⟩, val_main_v63_apply, val_main_v52_apply]
    generalize hk : (ValueIdx.ix2 (⟨(j 0).val, h⟩ : Fin 3) (⟨(j 1).val, h1⟩ : Fin 1024) : S3x1024.Idx) = k
    have e0 : (k 0).val = (j 0).val := by rw [← hk]
    have e1 : (k 1).val = (j 1).val := by rw [← hk]
    unfold val_main_v41 val_main_v51 val_main_v62
    have p1 := pad_rows (val_main_v40 (F := Ideal) x0 x1) (val_main_cst_5 (F := Ideal)) zero_bits pads_S1x1024_S3x1024_200_000 k e0 e1
    have p2 := pad_rows (val_main_v50 (F := Ideal) x0 x1) (val_main_cst_9 (F := Ideal)) zero_bits pads_S1x1024_S3x1024_110_000 k e0 e1
    have p3 := pad_rows (val_main_v61 (F := Ideal) x0 x1) (val_main_cst_13 (F := Ideal)) zero_bits pads_S1x1024_S3x1024_020_000 k e0 e1
    refine (congrArg₂ (· + ·) (congrArg₂ (· + ·) p1 p2) p3).trans ?_
    rcases (show (j 0).val = 0 ∨ (j 0).val = 1 ∨ (j 0).val = 2 by omega) with e | e | e <;> rw [e] <;> simp [at2, h1, v40_at, v50_at, v61_at]
  · rw [if_neg h, dif_neg (fun e => h e.1)]

end

end Cert.ReferenceIdeal.Duo

end
-- ==== Proof.Nat2.lean ====
module

public import Idealize.ShloMosaic.Lib.Pipeline.Value
public import Idealize.ShloMosaic.Lib.ValueIdx
public import Idealize.ShloMosaic.PureOps.Ideal.Laws

@[expose] public section

noncomputable section

open Idealize.ShloMosaic

/-! Arrays of extended reals read at natural coordinates, and sums over them. -/

namespace Cert.Nat2

/-- An array's element at two natural coordinates, `0` outside the array. -/
def at2 {m n : ℕ} (X : (⟨2, ![m, n]⟩ : Shape).Idx → EReal) (r l : ℕ) : EReal :=
  if h : r < m ∧ l < n then X (ValueIdx.ix2 ⟨r, h.1⟩ ⟨l, h.2⟩) else 0

theorem at2_eq {m n : ℕ} (X : (⟨2, ![m, n]⟩ : Shape).Idx → EReal) (j : (⟨2, ![m, n]⟩ : Shape).Idx) {r l : ℕ}
    (hr : (j 0).val = r) (hl : (j 1).val = l) : X j = at2 X r l := by
  subst hr hl
  have h : (j 0).val < m ∧ (j 1).val < n := ⟨(j 0).isLt, (j 1).isLt⟩
  unfold at2
  rw [dif_pos h]
  congr 1
  funext a
  fin_cases a <;> rfl

/-- An array's element at three natural coordinates, `0` outside the array. -/
def at3 {b m n : ℕ} (X : (⟨3, ![b, m, n]⟩ : Shape).Idx → EReal) (q r l : ℕ) : EReal :=
  if h : q < b ∧ r < m ∧ l < n then X (ValueIdx.ix3 ⟨q, h.1⟩ ⟨r, h.2.1⟩ ⟨l, h.2.2⟩) else 0

theorem at3_eq {b m n : ℕ} (X : (⟨3, ![b, m, n]⟩ : Shape).Idx → EReal) (j : (⟨3, ![b, m, n]⟩ : Shape).Idx) {q r l : ℕ}
    (hq : (j 0).val = q) (hr : (j 1).val = r) (hl : (j 2).val = l) : X j = at3 X q r l := by
  subst hq hr hl
  have h : (j 0).val < b ∧ (j 1).val < m ∧ (j 2).val < n := ⟨(j 0).isLt, (j 1).isLt, (j 2).isLt⟩
  unfold at3
  rw [dif_pos h]
  congr 1
  funext a
  fin_cases a <;> rfl

/-- The squared ReLU. -/
def reluSq (z : EReal) : EReal := max z 0 * max z 0

/-- Two consecutive runs of terms are one run. -/
theorem sum_two (f : ℕ → EReal) (a b : ℕ) :
    ∑ k : Fin a, f k.val + ∑ k : Fin b, f (a + k.val) = ∑ k ∈ Finset.range (a + b), f k := by
  rw [Finset.sum_range_add, Finset.sum_range, Finset.sum_range]

/-- The zero word of the wide format is zero. -/
theorem bits_zero : (FloatOps.ofBits (F := Ideal) .f32 0x00000000#32 : EReal) = 0 := by
  show Ideal.ofBits .f32 0x00000000#32 = 0
  simp [Ideal.ofBits, Ideal.ieee]

/-- A column of one array against a column of another: the sum over the first `n` rows. -/
def colDot {m p q : ℕ} (f : EReal → EReal) (A : (⟨2, ![m, p]⟩ : Shape).Idx → EReal) (B : (⟨2, ![m, q]⟩ : Shape).Idx → EReal) (n r l : ℕ) : EReal :=
  ∑ k ∈ Finset.range n, f (at2 A k r) * at2 B k l

/-- A row of an array against row `l` of matrix `q` of a stack of matrices: the sum over the first `n` columns. -/
def rowDot3 {m n b p q : ℕ} (A : (⟨2, ![m, n]⟩ : Shape).Idx → EReal) (B : (⟨3, ![b, p, q]⟩ : Shape).Idx → EReal) (s n' r l : ℕ) : EReal :=
  ∑ k ∈ Finset.range n', at2 A r k * at3 B s l k

/-- The derivative of the squared ReLU at `z`, times `d`. -/
def reluSqBwd (d z : EReal) : EReal := d * (Ideal.ofBits .f32 0x40000000#32 * max z 0)

end Cert.Nat2

end
-- ==== Proof.MlpDz.lean ====
module

public import proofs.«01_k».proof.Defs
public import proofs.«01_k».proof.Proof.Gen.Kernel2Ideal.Value
public import proofs.«01_k».proof.Proof.Nat2
public import Idealize.ShloMosaic.Lib.Pipeline.Value
public import Idealize.ShloMosaic.Lib.Pipeline.ValueKit
public import Idealize.ShloMosaic.Lib.Tactic
public import Idealize.ShloMosaic.Lib.Pointwise

@[expose] public section

set_option maxRecDepth 16384

noncomputable section

open Idealize.ShloMosaic Idealize.ShloMosaic.TcCoe Idealize.SL.Sem

/-! The gradient of the hidden activation: what the blocks hold, and the array the run ends with. -/

namespace Cert.Kernel2Ideal.Mat

open Cert.Kernel2Ideal Cert.Kernel2Ideal.Gen Cert.Nat2

set_option maxHeartbeats 4000000

variable (m : (ℓ : Loc nD τ sig) → Buf (Elt Ideal) ℓ) (c : Dev nD)

/-- The block's product, added to what the scratch held. -/
theorem pay2_apply (v11 : Vec Ideal S2048x1024 .f32) (x0 : Vec Ideal S2048x1024 .bf16) (x1 : Vec Ideal S1x1024x1024 .bf16) (y : S2048x1024.Idx) :
    k0_pay2 v11 x0 x1 y = v11 y + ∑ k : Fin 1024, at2 x0 (y 0).val k.val * at3 x1 0 (y 1).val k.val := by
  unfold k0_pay2
  pointwise
  refine congrArg (v11 y + ·) (Finset.sum_congr rfl fun k _ => ?_)
  show x0 (ValueIdx.ix2 (y 0) k) * x1 (ValueIdx.ix3 0 (y 1) k) = _
  rw [at2_eq x0 (ValueIdx.ix2 (y 0) k) rfl rfl, at3_eq x1 (ValueIdx.ix3 0 (y 1) k) rfl rfl rfl]
  rfl

/-- The derivative of the squared ReLU times the block. -/
theorem pay3_apply (v11 : Vec Ideal S2048x1024 .f32) (x0 : Vec Ideal S2048x1024 .bf16) (y : S2048x1024.Idx) :
    k0_pay3 v11 x0 y = v11 y * (Ideal.ofBits .f32 0x40000000#32 * max (x0 y) 0) := by
  unfold k0_pay3
  pointwise

theorem pay1_apply (y : S2048x1024.Idx) : k0_pay1 (F := Ideal) y = 0 := by
  unfold k0_pay1
  pointwise

theorem out_A (t : Fin cfg0.N) (y : S2048x1024.Idx) :
    outsAt0 m c t y = k0_pay3 (F := Ideal) (k0_pay2 (F := Ideal) (k0_pay1 (F := Ideal)) (iblk m c 0 t) (iblk m c 1 t)) (iblk m c 2 t) y := by
  unfold outsAt0
  frame_out

/-! ## The blocks are rows of the arguments -/

/-- The three arguments as functions of their indices. -/
abbrev argD : S8192x1024.Idx → EReal := m ((c : Thread nD τ).loc main_arg0)
abbrev argW : S2x4096x1024.Idx → EReal := m ((c : Thread nD τ).loc main_arg1)
abbrev argZ : S8192x4096.Idx → EReal := m ((c : Thread nD τ).loc main_arg2)

theorem idx0 : ∀ t : Fin cfg0.N, win0_0.index t 0 = t.val / 4 ∧ win0_0.index t 1 = 0 :=
  (by decide +kernel : ∀ t : Fin grid0.N, win0_0.index t 0 = t.val / 4 ∧ win0_0.index t 1 = 0)
theorem idx1 : ∀ t : Fin cfg0.N, win0_1.index t 0 = 1 ∧ win0_1.index t 1 = t.val % 4 ∧ win0_1.index t 2 = 0 :=
  (by decide +kernel : ∀ t : Fin grid0.N, win0_1.index t 0 = 1 ∧ win0_1.index t 1 = t.val % 4 ∧ win0_1.index t 2 = 0)
theorem idx2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)
theorem idx3 : ∀ t : Fin cfg0.N, win0_3.index t 0 = t.val / 4 ∧ win0_3.index t 1 = t.val % 4 :=
  (by decide +kernel : ∀ t : Fin grid0.N, win0_3.index t 0 = t.val / 4 ∧ win0_3.index t 1 = t.val % 4)

theorem blk0 (t : Fin cfg0.N) (r l : ℕ) (hr : r < 2048) (hl : l < 1024) :
    at2 (iblk m c 0 t : Vec Ideal S2048x1024 .bf16) r l = at2 (argD m c) (2048 * (t.val / 4) + r) l := by
  conv_lhs => unfold at2
  rw [dif_pos ⟨hr, hl⟩]
  unfold iblk
  rw [View.read_apply]
  show V m c main_arg0 _ = _
  rw [V_main_arg0]
  refine at2_eq (m ((c : Thread nD τ).loc main_arg0) : S8192x1024.Idx → EReal) _ ?_ ?_
  · show win0_0.index t 0 * 2048 + 1 * r = _; rw [(idx0 t).1]; omega
  · show win0_0.index t 1 * 1024 + 1 * l = _; rw [(idx0 t).2]; omega

theorem blk1 (t : Fin cfg0.N) (r l : ℕ) (hr : r < 1024) (hl : l < 1024) :
    at3 (iblk m c 1 t : Vec Ideal S1x1024x1024 .bf16) 0 r l = at3 (argW m c) 1 (1024 * (t.val % 4) + r) l := by
  conv_lhs => unfold at3
  rw [dif_pos ⟨Nat.zero_lt_one, hr, hl⟩]
  unfold iblk
  rw [View.read_apply]
  show V m c main_arg1 _ = _
  rw [V_main_arg1]
  refine at3_eq (m ((c : Thread nD τ).loc main_arg1) : S2x4096x1024.Idx → EReal) _ ?_ ?_ ?_
  · show win0_1.index t 0 * 1 + 1 * 0 = _; rw [(idx1 t).1]
  · show win0_1.index t 1 * 1024 + 1 * r = _; rw [(idx1 t).2.1]; omega
  · show win0_1.index t 2 * 1024 + 1 * l = _; rw [(idx1 t).2.2]; omega

theorem blk2 (t : Fin cfg0.N) (y : S2048x1024.Idx) :
    (iblk m c 2 t : Vec Ideal S2048x1024 .bf16) y = at2 (argZ m c) (2048 * (t.val / 4) + (y 0).val) (1024 * (t.val % 4) + (y 1).val) := by
  unfold iblk
  rw [View.read_apply]
  show V m c main_arg2 _ = _
  rw [V_main_arg2]
  refine at2_eq (m ((c : Thread nD τ).loc main_arg2) : S8192x4096.Idx → EReal) _ ?_ ?_
  · show win0_2.index t 0 * 2048 + 1 * (y 0).val = _; rw [(idx2 t).1]; omega
  · show win0_2.index t 1 * 1024 + 1 * (y 1).val = _; rw [(idx2 t).2]; omega

/-- The result: the gradient of the layer's output against the weight's rows, times the derivative of the squared ReLU. -/
def res : Buf (Elt Ideal) ((c : Thread nD τ).loc main_v0) :=
  fun i : S8192x4096.Idx => reluSqBwd (rowDot3 (argD m c) (argW m c) 1 1024 (i 0).val (i 1).val) (at2 (argZ m c) (i 0).val (i 1).val)

theorem out_eq (t : Fin cfg0.N) (y : S2048x1024.Idx) :
    outsAt0 m c t y = reluSqBwd (rowDot3 (argD m c) (argW m c) 1 1024 (2048 * (t.val / 4) + (y 0).val) (1024 * (t.val % 4) + (y 1).val))
      (at2 (argZ m c) (2048 * (t.val / 4) + (y 0).val) (1024 * (t.val % 4) + (y 1).val)) := by
  rw [out_A]
  refine (pay3_apply _ (iblk m c 2 t) y).trans ?_
  unfold reluSqBwd
  refine congrArg₂ (fun a b => a * (Ideal.ofBits .f32 0x40000000#32 * max b 0)) ?_ (blk2 m c t y)
  refine (pay2_apply _ (iblk m c 0 t) (iblk m c 1 t) y).trans ?_
  rw [pay1_apply, zero_add]
  unfold rowDot3
  rw [Finset.sum_range]
  refine Finset.sum_congr rfl fun k _ => ?_
  have e0 := blk0 m c t (y 0).val k.val (y 0).isLt k.isLt
  have e1 := blk1 m c t (y 1).val k.val (y 1).isLt k.isLt
  rw [e0, e1]

theorem flushed_res (t : Fin cfg0.N) :
    (dats m 0 c).flushed 3 t = ((cfg0.win 3).blk t).view.read (Elt Ideal) (res m c) := by
  rw [Cert.Kernel2Ideal.Value.flushed3]
  funext j
  rw [View.read_apply]
  show outsAt0 m c t (fun a => ⟨(j a).val, (j a).isLt⟩) = reluSqBwd (rowDot3 (argD m c) (argW m c) 1 1024 (win0_3.index t 0 * 2048 + 1 * (j 0).val) (win0_3.index t 1 * 1024 + 1 * (j 1).val))
    (at2 (argZ m c) (win0_3.index t 0 * 2048 + 1 * (j 0).val) (win0_3.index t 1 * 1024 + 1 * (j 1).val))
  rw [out_eq m c t, (idx3 t).1, (idx3 t).2]
  rw [Nat.mul_comm (t.val / 4) 2048, Nat.mul_comm (t.val % 4) 1024, Nat.one_mul, Nat.one_mul]

theorem cover (i : S8192x4096.Idx) :
    ∃ t : Fin cfg0.N, (cfg0.win 3).flush t = true ∧ i ∈ ((cfg0.win 3).blk t).view.set := by
  have h0 : (i 0 : ℕ) < 8192 := (i 0).isLt
  have h1 : (i 1 : ℕ) < 4096 := (i 1).isLt
  have hN : cfg0.N = 16 := N_0
  let t : Fin cfg0.N := ⟨4 * ((i 0 : ℕ) / 2048) + (i 1 : ℕ) / 1024, by omega⟩
  refine ⟨t, flush0_3 t, ?_⟩
  show i ∈ ((View.whole main_v0).slice (win0_3.rect t)).set
  rw [View.set_slice_whole, Rect.mem_set_unit]
  have e : t.val = 4 * ((i 0 : ℕ) / 2048) + (i 1 : ℕ) / 1024 := rfl
  intro a
  match a with
  | ⟨0, _⟩ =>
    show win0_3.index t 0 * 2048 ≤ (i 0 : ℕ) ∧ (i 0 : ℕ) < win0_3.index t 0 * 2048 + 2048
    rw [(idx3 t).1]; omega
  | ⟨1, _⟩ =>
    show win0_3.index t 1 * 1024 ≤ (i 1 : ℕ) ∧ (i 1 : ℕ) < win0_3.index t 1 * 1024 + 1024
    rw [(idx3 t).2]; omega

theorem final : (dats m 0 c).arrAt 3 cfg0.N = res m c :=
  (dats m 0 c).arrAt_eq_of_cover 3 (res m c) (fun t _ => flushed_res m c t) cover

end Cert.Kernel2Ideal.Mat

end
-- ==== Proof.MlpRef.lean ====
module

public import proofs.«01_k».proof.Defs
public import proofs.«01_k».proof.Proof.Nat2
public import proofs.«01_k».proof.Proof.Gen.Reference2Ideal.Read
public import proofs.«01_k».proof.Proof.Gen.Reference3Ideal.Read
public import proofs.«01_k».proof.Proof.Gen.Reference4Ideal.Read
public import Idealize.ShloMosaic.Lib.KernelVsHost
public import Idealize.ShloMosaic.Lib.Pipeline.Value
public import Idealize.ShloMosaic.Lib.Tactic
public import Idealize.ShloMosaic.Lib.Pointwise

@[expose] public section

set_option maxRecDepth 16384

noncomputable section

open Idealize.ShloMosaic Idealize.ShloMosaic.TcCoe Idealize.SL.Sem

set_option maxHeartbeats 4000000

/-! ## The gradient of the second weight -/

namespace Cert.Reference3Ideal.Mat

open Cert.Reference3Ideal Cert.Reference3Ideal.Gen Cert.Reference3Ideal.Read Cert.Nat2

variable (x0 : (⟨S8192x4096, .bf16⟩ : BufTy).Contents (Elt Ideal)) (x1 : (⟨S8192x1024, .bf16⟩ : BufTy).Contents (Elt Ideal))

theorem v3_at (j : S8192x4096.Idx) : val_main_v3 (F := Ideal) x0 j = reluSq (x0 j) := by
  rw [val_main_v3_apply, val_main_v2_apply, val_main_v1_apply, val_main_call0_v0_apply, val_main_call0_cst_apply, bits_zero]
  rfl

theorem v9_at (j : S4096x1024.Idx) :
    val_main_v9 (F := Ideal) x0 x1 j = colDot reluSq (x0 : S8192x4096.Idx → EReal) (x1 : S8192x1024.Idx → EReal) 8192 (j 0).val (j 1).val := by
  rw [val_main_v9_apply, val_main_v8_apply]
  show val_main_v7 (F := Ideal) x0 x1 _ = _
  rw [val_main_v7_apply]
  unfold colDot
  rw [Finset.sum_range]
  refine Finset.sum_congr rfl fun k _ => ?_
  rw [v3_at, val_main_v6_apply, mul_comm]
  show reluSq (x0 _) * x1 _ = _
  rw [at2_eq (x0 : S8192x4096.Idx → EReal) _ rfl rfl, at2_eq (x1 : S8192x1024.Idx → EReal) _ rfl rfl]

end Cert.Reference3Ideal.Mat

/-! ## The gradient of the first weight -/

namespace Cert.Reference4Ideal.Mat

open Cert.Reference4Ideal Cert.Reference4Ideal.Gen Cert.Reference4Ideal.Read Cert.Nat2

variable (x0 : (⟨S8192x1024, .bf16⟩ : BufTy).Contents (Elt Ideal)) (x1 : (⟨S8192x4096, .bf16⟩ : BufTy).Contents (Elt Ideal))

theorem v7_at (j : S1024x4096.Idx) :
    val_main_v7 (F := Ideal) x0 x1 j = colDot id (x0 : S8192x1024.Idx → EReal) (x1 : S8192x4096.Idx → EReal) 8192 (j 0).val (j 1).val := by
  rw [val_main_v7_apply, val_main_v6_apply]
  show val_main_v5 (F := Ideal) x0 x1 _ = _
  rw [val_main_v5_apply]
  unfold colDot
  rw [Finset.sum_range]
  refine Finset.sum_congr rfl fun k _ => ?_
  rw [val_main_v1_apply, val_main_v4_apply, mul_comm]
  show id (x0 _) * x1 _ = _
  rw [at2_eq (x0 : S8192x1024.Idx → EReal) _ rfl rfl, at2_eq (x1 : S8192x4096.Idx → EReal) _ rfl rfl]

end Cert.Reference4Ideal.Mat

/-! ## The gradient of the hidden activation -/

namespace Cert.Reference2Ideal.Mat

open Cert.Reference2Ideal Cert.Reference2Ideal.Gen Cert.Reference2Ideal.Read Cert.Nat2

variable (x0 : (⟨S8192x1024, .bf16⟩ : BufTy).Contents (Elt Ideal)) (x1 : (⟨S2x4096x1024, .bf16⟩ : BufTy).Contents (Elt Ideal))
  (x2 : (⟨S8192x4096, .bf16⟩ : BufTy).Contents (Elt Ideal))

theorem v10_at (j : S4096x1024.Idx) : val_main_v10 (F := Ideal) x1 j = at3 (x1 : S2x4096x1024.Idx → EReal) 1 (j 0).val (j 1).val := by
  have h0 : (j 0).val < 4096 := (j 0).isLt
  have h1 : (j 1).val < 1024 := (j 1).isLt
  rw [val_main_v10_apply, val_main_v1_apply, val_main_v0_apply]
  show x1 (idx_main_v0 (idx_main_v1 j)) = _
  refine at3_eq (x1 : S2x4096x1024.Idx → EReal) _ ?_ ?_ ?_
  · first | rfl | (show _ = _; dsimp only; omega)
  · first | rfl | (show _ = _; dsimp only; omega)
  · first | rfl | (show _ = _; dsimp only; omega)

theorem v17_at (j : S8192x4096.Idx) :
    val_main_v17 (F := Ideal) x0 x1 x2 j
      = reluSqBwd (rowDot3 (x0 : S8192x1024.Idx → EReal) (x1 : S2x4096x1024.Idx → EReal) 1 1024 (j 0).val (j 1).val) (at2 (x2 : S8192x4096.Idx → EReal) (j 0).val (j 1).val) := by
  have e : (∑ k : Fin 1024, val_main_v12 (F := Ideal) x0 (lidx_main_v13 j k) * val_main_v10 (F := Ideal) x1 (ridx_main_v13 j k))
      = rowDot3 (x0 : S8192x1024.Idx → EReal) (x1 : S2x4096x1024.Idx → EReal) 1 1024 (j 0).val (j 1).val := by
    unfold rowDot3
    rw [Finset.sum_range]
    refine Finset.sum_congr rfl fun k _ => ?_
    rw [v10_at, val_main_v12_apply]
    show x0 _ * _ = _
    rw [at2_eq (x0 : S8192x1024.Idx → EReal) _ rfl rfl]
  rw [val_main_v17_apply, val_main_v16_apply, val_main_v5_apply, val_main_v15_apply, val_main_v4_apply, val_main_cst_apply, val_main_cst_2_apply, val_main_v14_apply,
    val_main_v9_apply, val_main_v8_apply, val_main_cst_1_apply, val_main_v3_apply, val_main_v2_apply, val_main_call0_v0_apply, val_main_call0_cst_apply, bits_zero, val_main_v13_apply, e]
  rw [← at2_eq (x2 : S8192x4096.Idx → EReal) j rfl rfl]
  show Scalar.select (BitVec.ofBool (decide ((0 : EReal) < x2 j))) (_ * (Ideal.ofBits .f32 0x40000000#32 * max (x2 j : EReal) 0)) (0 : EReal) = _
  unfold reluSqBwd
  by_cases h : (0 : EReal) < x2 j
  · rw [decide_eq_true h]; rfl
  · rw [decide_eq_false h, max_eq_right (not_lt.1 h), mul_zero, mul_zero]; rfl

end Cert.Reference2Ideal.Mat

end
-- ==== Proof.MlpGwDown.lean ====
module

public import proofs.«01_k».proof.Defs
public import proofs.«01_k».proof.Proof.Gen.Kernel3Ideal.Value
public import proofs.«01_k».proof.Proof.Nat2
public import Idealize.ShloMosaic.Lib.Pipeline.Value
public import Idealize.ShloMosaic.Lib.Pipeline.ValueKit
public import Idealize.ShloMosaic.Lib.Tactic
public import Idealize.ShloMosaic.Lib.Pointwise

@[expose] public section

set_option maxRecDepth 16384

noncomputable section

open Idealize.ShloMosaic Idealize.ShloMosaic.TcCoe Idealize.SL.Sem

/-! The gradient of the second weight: what the blocks hold, and the array the run ends with. -/

namespace Cert.Kernel3Ideal.Mat

open Cert.Kernel3Ideal Cert.Kernel3Ideal.Gen Cert.Nat2

set_option maxHeartbeats 4000000

variable (m : (ℓ : Loc nD τ sig) → Buf (Elt Ideal) ℓ) (c : Dev nD)

/-- One point's product: columns of the left block against columns of the right block. -/
theorem pay1_apply (x0 x1 : Vec Ideal S4096x1024 .bf16) (y : S1024x1024.Idx) :
    k0_pay1 x0 x1 y = ∑ k : Fin 4096, reluSq (at2 x0 k.val (y 0).val) * at2 x1 k.val (y 1).val := by
  unfold k0_pay1
  pointwise
  refine Finset.sum_congr rfl fun k _ => ?_
  show reluSq (x0 (ValueIdx.ix2 k (y 0))) * x1 (ValueIdx.ix2 k (y 1)) = _
  rw [at2_eq x0 (ValueIdx.ix2 k (y 0)) rfl rfl, at2_eq x1 (ValueIdx.ix2 k (y 1)) rfl rfl]

/-- The first point of a pair leaves its product in the scratch. -/
theorem scr_A (t : Fin cfg0.N) (h0 : t.val % 2 = 0) (h2 : ¬t.val % 2 = 1) (y : S1024x1024.Idx) :
    (outsAt0 m c t.val t.isLt).2 y = k0_pay1 (F := Ideal) (iblk m c 0 t) (iblk m c 1 t) y := by
  rw [outsAt0_A m c t h0 h2]; dsimp only
  frame_out
  unfold k0_pay2
  pointwise

/-- The second point of a pair adds its product to the scratch and leaves the sum in the output block. -/
theorem out_B (t : Fin cfg0.N) (h0 : ¬t.val % 2 = 0) (h2 : t.val % 2 = 1) (y : S1024x1024.Idx) :
    (outsAt0 m c t.val t.isLt).1 y = (outsAt0 m c (t.val - 1) (Nat.lt_of_le_of_lt (Nat.sub_le _ _) t.isLt)).2 y + k0_pay1 (F := Ideal) (iblk m c 0 t) (iblk m c 1 t) y := by
  rw [outsAt0_B m c t h0 h2]; dsimp only
  frame_out
  unfold k0_pay4
  pointwise
  refine congrArg (· + _) ?_
  exact congrFun (Memref.IsWhole.read_unread (m := Memref.whole cc0_scratch0) _ _) y

/-! ## The blocks are rows of the arguments -/

/-- The two arguments as functions of their indices. -/
abbrev argA : S8192x4096.Idx → EReal := m ((c : Thread nD τ).loc main_arg0)
abbrev argB : S8192x1024.Idx → EReal := m ((c : Thread nD τ).loc main_arg1)

theorem idx0 : ∀ t : Fin cfg0.N, win0_0.index t 0 = t.val % 2 ∧ win0_0.index t 1 = t.val / 2 :=
  (by decide +kernel : ∀ t : Fin grid0.N, win0_0.index t 0 = t.val % 2 ∧ win0_0.index t 1 = t.val / 2)
theorem idx1 : ∀ t : Fin cfg0.N, win0_1.index t 0 = t.val % 2 ∧ win0_1.index t 1 = 0 :=
  (by decide +kernel : ∀ t : Fin grid0.N, win0_1.index t 0 = t.val % 2 ∧ win0_1.index t 1 = 0)
theorem idx2 : ∀ t : Fin cfg0.N, win0_2.index t 0 = t.val / 2 ∧ win0_2.index t 1 = 0 :=
  (by decide +kernel : ∀ t : Fin grid0.N, win0_2.index t 0 = t.val / 2 ∧ win0_2.index t 1 = 0)

theorem blk0 (t : Fin cfg0.N) (r l : ℕ) (hr : r < 4096) (hl : l < 1024) :
    at2 (iblk m c 0 t : Vec Ideal S4096x1024 .bf16) r l = at2 (argA m c) (4096 * (t.val % 2) + r) (1024 * (t.val / 2) + l) := by
  conv_lhs => unfold at2
  rw [dif_pos ⟨hr, hl⟩]
  unfold iblk
  rw [View.read_apply]
  show V m c main_arg0 _ = _
  rw [V_main_arg0]
  refine at2_eq (m ((c : Thread nD τ).loc main_arg0) : S8192x4096.Idx → EReal) _ ?_ ?_
  · show win0_0.index t 0 * 4096 + 1 * r = _; rw [(idx0 t).1]; omega
  · show win0_0.index t 1 * 1024 + 1 * l = _; rw [(idx0 t).2]; omega

theorem blk1 (t : Fin cfg0.N) (r l : ℕ) (hr : r < 4096) (hl : l < 1024) :
    at2 (iblk m c 1 t : Vec Ideal S4096x1024 .bf16) r l = at2 (argB m c) (4096 * (t.val % 2) + r) (1024 * (0) + l) := by
  conv_lhs => unfold at2
  rw [dif_pos ⟨hr, hl⟩]
  unfold iblk
  rw [View.read_apply]
  show V m c main_arg1 _ = _
  rw [V_main_arg1]
  refine at2_eq (m ((c : Thread nD τ).loc main_arg1) : S8192x1024.Idx → EReal) _ ?_ ?_
  · show win0_1.index t 0 * 4096 + 1 * r = _; rw [(idx1 t).1]; omega
  · show win0_1.index t 1 * 1024 + 1 * l = _; rw [(idx1 t).2]; omega

/-- One point's product over the arguments: its half of the rows. -/
theorem part_eq (t : Fin cfg0.N) (y : S1024x1024.Idx) :
    k0_pay1 (F := Ideal) (iblk m c 0 t) (iblk m c 1 t) y
      = ∑ k : Fin 4096, reluSq (at2 (argA m c) (4096 * (t.val % 2) + k.val) (1024 * (t.val / 2) + (y 0).val)) * at2 (argB m c) (4096 * (t.val % 2) + k.val) (1024 * (0) + (y 1).val) := by
  refine (pay1_apply (iblk m c 0 t) (iblk m c 1 t) y).trans ?_
  refine Finset.sum_congr rfl fun k _ => ?_
  have e0 := blk0 m c t k.val (y 0).val k.isLt (y 0).isLt
  have e1 := blk1 m c t k.val (y 1).val k.isLt (y 1).isLt
  rw [e0, e1]

/-- The result: every column of the left argument against every column of the right. -/
def res : Buf (Elt Ideal) ((c : Thread nD τ).loc main_v0) :=
  fun i : S4096x1024.Idx => colDot reluSq (argA m c) (argB m c) 8192 (i 0).val (i 1).val

/-- The second point of a pair leaves its block of the result. -/
theorem out_eq (t : Fin cfg0.N) (h2 : t.val % 2 = 1) (y : S1024x1024.Idx) :
    (outsAt0 m c t.val t.isLt).1 y = colDot reluSq (argA m c) (argB m c) 8192 (1024 * (t.val / 2) + (y 0).val) (1024 * (0) + (y 1).val) := by
  have hN : cfg0.N = 8 := N_0
  have ht := t.isLt
  have h0 : ¬t.val % 2 = 0 := by omega
  rw [out_B m c t h0 h2]
  have hp : t.val - 1 < cfg0.N := by omega
  have hq0 : (⟨t.val - 1, hp⟩ : Fin cfg0.N).val % 2 = 0 := by dsimp only; omega
  have hq2 : ¬(⟨t.val - 1, hp⟩ : Fin cfg0.N).val % 2 = 1 := by dsimp only; omega
  refine Eq.trans (congrArg (· + _) (scr_A m c ⟨t.val - 1, hp⟩ hq0 hq2 y)) ?_
  rw [part_eq, part_eq]
  dsimp only
  rw [show (t.val - 1) % 2 = 0 from by omega, show (t.val - 1) / 2 = t.val / 2 from by omega, h2]
  unfold colDot
  refine Eq.trans ?_ (sum_two (fun k => reluSq (at2 (argA m c) k (1024 * (t.val / 2) + (y 0).val)) * at2 (argB m c) k (1024 * (0) + (y 1).val)) 4096 4096)
  simp only [Nat.mul_zero, Nat.zero_add, Nat.mul_one]

theorem flushed_res (t : Fin cfg0.N) (hf : (cfg0.win 2).flush t = true) :
    (dats m 0 c).flushed 2 t = ((cfg0.win 2).blk t).view.read (Elt Ideal) (res m c) := by
  have h2 : t.val % 2 = 1 := (flush0_2 t).mp hf
  rw [Cert.Kernel3Ideal.Value.flushed2]
  funext j
  rw [View.read_apply]
  show (outsAt0 m c t.val t.isLt).1 (fun a => ⟨(j a).val, (j a).isLt⟩) = colDot reluSq (argA m c) (argB m c) 8192 (win0_2.index t 0 * 1024 + 1 * (j 0).val) (win0_2.index t 1 * 1024 + 1 * (j 1).val)
  rw [out_eq m c t h2, (idx2 t).1, (idx2 t).2]
  congr 1 <;> dsimp only <;> omega

theorem final : (dats m 0 c).arrAt 2 cfg0.N = res m c :=
  (dats m 0 c).arrAt_eq_of_cover 2 (res m c) (fun t hf => flushed_res m c t hf) (fun i => (Cert.Kernel3Ideal.Value.covered_iff2 i).2 (by
    have h0 : (i 0).val < 4096 := (i 0).isLt; have h1 : (i 1).val < 1024 := (i 1).isLt; omega))

end Cert.Kernel3Ideal.Mat

end
-- ==== Proof.MlpGwUp.lean ====
module

public import proofs.«01_k».proof.Defs
public import proofs.«01_k».proof.Proof.Gen.Kernel4Ideal.Value
public import proofs.«01_k».proof.Proof.Nat2
public import Idealize.ShloMosaic.Lib.Pipeline.Value
public import Idealize.ShloMosaic.Lib.Pipeline.ValueKit
public import Idealize.ShloMosaic.Lib.Tactic
public import Idealize.ShloMosaic.Lib.Pointwise

@[expose] public section

set_option maxRecDepth 16384

noncomputable section

open Idealize.ShloMosaic Idealize.ShloMosaic.TcCoe Idealize.SL.Sem

/-! The gradient of the first weight: what the blocks hold, and the array the run ends with. -/

namespace Cert.Kernel4Ideal.Mat

open Cert.Kernel4Ideal Cert.Kernel4Ideal.Gen Cert.Nat2

set_option maxHeartbeats 4000000

variable (m : (ℓ : Loc nD τ sig) → Buf (Elt Ideal) ℓ) (c : Dev nD)

/-- One point's product: columns of the left block against columns of the right block. -/
theorem pay1_apply (x0 x1 : Vec Ideal S4096x1024 .bf16) (y : S1024x1024.Idx) :
    k0_pay1 x0 x1 y = ∑ k : Fin 4096, at2 x0 k.val (y 0).val * at2 x1 k.val (y 1).val := by
  unfold k0_pay1
  pointwise
  refine Finset.sum_congr rfl fun k _ => ?_
  show x0 (ValueIdx.ix2 k (y 0)) * x1 (ValueIdx.ix2 k (y 1)) = _
  rw [at2_eq x0 (ValueIdx.ix2 k (y 0)) rfl rfl, at2_eq x1 (ValueIdx.ix2 k (y 1)) rfl rfl]

/-- The first point of a pair leaves its product in the scratch. -/
theorem scr_A (t : Fin cfg0.N) (h0 : t.val % 2 = 0) (h2 : ¬t.val % 2 = 1) (y : S1024x1024.Idx) :
    (outsAt0 m c t.val t.isLt).2 y = k0_pay1 (F := Ideal) (iblk m c 0 t) (iblk m c 1 t) y := by
  rw [outsAt0_A m c t h0 h2]; dsimp only
  frame_out
  unfold k0_pay2
  pointwise

/-- The second point of a pair adds its product to the scratch and leaves the sum in the output block. -/
theorem out_B (t : Fin cfg0.N) (h0 : ¬t.val % 2 = 0) (h2 : t.val % 2 = 1) (y : S1024x1024.Idx) :
    (outsAt0 m c t.val t.isLt).1 y = (outsAt0 m c (t.val - 1) (Nat.lt_of_le_of_lt (Nat.sub_le _ _) t.isLt)).2 y + k0_pay1 (F := Ideal) (iblk m c 0 t) (iblk m c 1 t) y := by
  rw [outsAt0_B m c t h0 h2]; dsimp only
  frame_out
  unfold k0_pay4
  pointwise
  refine congrArg (· + _) ?_
  exact congrFun (Memref.IsWhole.read_unread (m := Memref.whole cc0_scratch0) _ _) y

/-! ## The blocks are rows of the arguments -/

/-- The two arguments as functions of their indices. -/
abbrev argA : S8192x1024.Idx → EReal := m ((c : Thread nD τ).loc main_arg0)
abbrev argB : S8192x4096.Idx → EReal := m ((c : Thread nD τ).loc main_arg1)

theorem idx0 : ∀ t : Fin cfg0.N, win0_0.index t 0 = t.val % 2 ∧ win0_0.index t 1 = 0 :=
  (by decide +kernel : ∀ t : Fin grid0.N, win0_0.index t 0 = t.val % 2 ∧ win0_0.index t 1 = 0)
theorem idx1 : ∀ t : Fin cfg0.N, win0_1.index t 0 = t.val % 2 ∧ win0_1.index t 1 = t.val / 2 :=
  (by decide +kernel : ∀ t : Fin grid0.N, win0_1.index t 0 = t.val % 2 ∧ win0_1.index t 1 = t.val / 2)
theorem idx2 : ∀ t : Fin cfg0.N, win0_2.index t 0 = 0 ∧ win0_2.index t 1 = t.val / 2 :=
  (by decide +kernel : ∀ t : Fin grid0.N, win0_2.index t 0 = 0 ∧ win0_2.index t 1 = t.val / 2)

theorem blk0 (t : Fin cfg0.N) (r l : ℕ) (hr : r < 4096) (hl : l < 1024) :
    at2 (iblk m c 0 t : Vec Ideal S4096x1024 .bf16) r l = at2 (argA m c) (4096 * (t.val % 2) + r) (1024 * (0) + l) := by
  conv_lhs => unfold at2
  rw [dif_pos ⟨hr, hl⟩]
  unfold iblk
  rw [View.read_apply]
  show V m c main_arg0 _ = _
  rw [V_main_arg0]
  refine at2_eq (m ((c : Thread nD τ).loc main_arg0) : S8192x1024.Idx → EReal) _ ?_ ?_
  · show win0_0.index t 0 * 4096 + 1 * r = _; rw [(idx0 t).1]; omega
  · show win0_0.index t 1 * 1024 + 1 * l = _; rw [(idx0 t).2]; omega

theorem blk1 (t : Fin cfg0.N) (r l : ℕ) (hr : r < 4096) (hl : l < 1024) :
    at2 (iblk m c 1 t : Vec Ideal S4096x1024 .bf16) r l = at2 (argB m c) (4096 * (t.val % 2) + r) (1024 * (t.val / 2) + l) := by
  conv_lhs => unfold at2
  rw [dif_pos ⟨hr, hl⟩]
  unfold iblk
  rw [View.read_apply]
  show V m c main_arg1 _ = _
  rw [V_main_arg1]
  refine at2_eq (m ((c : Thread nD τ).loc main_arg1) : S8192x4096.Idx → EReal) _ ?_ ?_
  · show win0_1.index t 0 * 4096 + 1 * r = _; rw [(idx1 t).1]; omega
  · show win0_1.index t 1 * 1024 + 1 * l = _; rw [(idx1 t).2]; omega

/-- One point's product over the arguments: its half of the rows. -/
theorem part_eq (t : Fin cfg0.N) (y : S1024x1024.Idx) :
    k0_pay1 (F := Ideal) (iblk m c 0 t) (iblk m c 1 t) y
      = ∑ k : Fin 4096, (at2 (argA m c) (4096 * (t.val % 2) + k.val) (1024 * (0) + (y 0).val)) * at2 (argB m c) (4096 * (t.val % 2) + k.val) (1024 * (t.val / 2) + (y 1).val) := by
  refine (pay1_apply (iblk m c 0 t) (iblk m c 1 t) y).trans ?_
  refine Finset.sum_congr rfl fun k _ => ?_
  have e0 := blk0 m c t k.val (y 0).val k.isLt (y 0).isLt
  have e1 := blk1 m c t k.val (y 1).val k.isLt (y 1).isLt
  rw [e0, e1]

/-- The result: every column of the left argument against every column of the right. -/
def res : Buf (Elt Ideal) ((c : Thread nD τ).loc main_v0) :=
  fun i : S1024x4096.Idx => colDot id (argA m c) (argB m c) 8192 (i 0).val (i 1).val

/-- The second point of a pair leaves its block of the result. -/
theorem out_eq (t : Fin cfg0.N) (h2 : t.val % 2 = 1) (y : S1024x1024.Idx) :
    (outsAt0 m c t.val t.isLt).1 y = colDot id (argA m c) (argB m c) 8192 (1024 * (0) + (y 0).val) (1024 * (t.val / 2) + (y 1).val) := by
  have hN : cfg0.N = 8 := N_0
  have ht := t.isLt
  have h0 : ¬t.val % 2 = 0 := by omega
  rw [out_B m c t h0 h2]
  have hp : t.val - 1 < cfg0.N := by omega
  have hq0 : (⟨t.val - 1, hp⟩ : Fin cfg0.N).val % 2 = 0 := by dsimp only; omega
  have hq2 : ¬(⟨t.val - 1, hp⟩ : Fin cfg0.N).val % 2 = 1 := by dsimp only; omega
  refine Eq.trans (congrArg (· + _) (scr_A m c ⟨t.val - 1, hp⟩ hq0 hq2 y)) ?_
  rw [part_eq, part_eq]
  dsimp only
  rw [show (t.val - 1) % 2 = 0 from by omega, show (t.val - 1) / 2 = t.val / 2 from by omega, h2]
  unfold colDot
  refine Eq.trans ?_ (sum_two (fun k => (at2 (argA m c) k (1024 * (0) + (y 0).val)) * at2 (argB m c) k (1024 * (t.val / 2) + (y 1).val)) 4096 4096)
  simp only [Nat.mul_zero, Nat.zero_add, Nat.mul_one]

theorem flushed_res (t : Fin cfg0.N) (hf : (cfg0.win 2).flush t = true) :
    (dats m 0 c).flushed 2 t = ((cfg0.win 2).blk t).view.read (Elt Ideal) (res m c) := by
  have h2 : t.val % 2 = 1 := (flush0_2 t).mp hf
  rw [Cert.Kernel4Ideal.Value.flushed2]
  funext j
  rw [View.read_apply]
  show (outsAt0 m c t.val t.isLt).1 (fun a => ⟨(j a).val, (j a).isLt⟩) = colDot id (argA m c) (argB m c) 8192 (win0_2.index t 0 * 1024 + 1 * (j 0).val) (win0_2.index t 1 * 1024 + 1 * (j 1).val)
  rw [out_eq m c t h2, (idx2 t).1, (idx2 t).2]
  congr 1 <;> dsimp only <;> omega

theorem final : (dats m 0 c).arrAt 2 cfg0.N = res m c :=
  (dats m 0 c).arrAt_eq_of_cover 2 (res m c) (fun t hf => flushed_res m c t hf) (fun i => (Cert.Kernel4Ideal.Value.covered_iff2 i).2 (by
    have h0 : (i 0).val < 1024 := (i 0).isLt; have h1 : (i 1).val < 4096 := (i 1).isLt; omega))

end Cert.Kernel4Ideal.Mat

end
-- ==== Proof.Nat3.lean ====
module

public import proofs.«01_k».proof.Proof.Nat2

@[expose] public section

noncomputable section

open Idealize.ShloMosaic

/-! Rows of one array against columns or rows of another. -/

namespace Cert.Nat2

/-- A row of one array, each element under `f`, against a column of another: the first `n` terms. -/
def rowCol {m p q s : ℕ} (f : EReal → EReal) (A : (⟨2, ![m, p]⟩ : Shape).Idx → EReal) (B : (⟨2, ![q, s]⟩ : Shape).Idx → EReal) (n r l : ℕ) : EReal :=
  ∑ k ∈ Finset.range n, f (at2 A r k) * at2 B k l

/-- A row of one array, each element under `f`, against a column of matrix `b` of a stack: the first `n` terms. -/
def rowCol3 {m p b q s : ℕ} (f : EReal → EReal) (A : (⟨2, ![m, p]⟩ : Shape).Idx → EReal) (B : (⟨3, ![b, q, s]⟩ : Shape).Idx → EReal) (w n r l : ℕ) : EReal :=
  ∑ k ∈ Finset.range n, f (at2 A r k) * at3 B w k l

/-- A row of one array against a row of another: the first `n` terms. -/
def rowRow {m p q s : ℕ} (A : (⟨2, ![m, p]⟩ : Shape).Idx → EReal) (B : (⟨2, ![q, s]⟩ : Shape).Idx → EReal) (n r l : ℕ) : EReal :=
  ∑ k ∈ Finset.range n, at2 A r k * at2 B l k

end Cert.Nat2

end
-- ==== Proof.RmsAlg.lean ====
module

public import proofs.«01_k».proof.Proof.Nat3

@[expose] public section

noncomputable section

open Idealize.ShloMosaic

/-! The backward step of the RMS normalization over the extended reals: the normalized form and the form the chain rule gives
are one function, with no condition on the entries. -/

namespace Cert.Nat2

/-- The width of a row, and the constant added to the mean square, as the programs write them. -/
abbrev wid : EReal := Ideal.ofBits .f32 0x44800000#32
abbrev eps : EReal := Ideal.ofBits .f32 0x358637BD#32
/-- Minus one half. -/
abbrev mhalf : EReal := Ideal.ofBits .f32 0xBF000000#32

theorem wid_eq : wid = ((1024 : ℝ) : EReal) := by
  show Ideal.ofBits .f32 0x44800000#32 = _
  have h1 : (BitVec.extractLsb' 23 8 0x44800000#32).toNat = 137 := by decide
  have h2 : (BitVec.extractLsb' 0 23 0x44800000#32).toNat = 0 := by decide
  have h3 : (BitVec.extractLsb' (8 + 23) 1 0x44800000#32 == 1#1) = false := by decide
  simp only [Ideal.ofBits, Ideal.ieee, h1, h2, h3]
  norm_num

theorem mhalf_eq : mhalf = ((-(1 / 2) : ℝ) : EReal) := by
  show Ideal.ofBits .f32 0xBF000000#32 = _
  have h1 : (BitVec.extractLsb' 23 8 0xBF000000#32).toNat = 126 := by decide
  have h2 : (BitVec.extractLsb' 0 23 0xBF000000#32).toNat = 0 := by decide
  have h3 : (BitVec.extractLsb' (8 + 23) 1 0xBF000000#32 == 1#1) = true := by decide
  simp only [Ideal.ofBits, Ideal.ieee, h1, h2, h3]
  norm_num

theorem eps_pos : ∃ e : ℝ, 0 < e ∧ eps = (e : EReal) := by
  refine ⟨8796093 * (2 : ℝ) ^ (-43 : ℤ), by positivity, ?_⟩
  show Ideal.ofBits .f32 0x358637BD#32 = _
  have h1 : (BitVec.extractLsb' 23 8 0x358637BD#32).toNat = 107 := by decide
  have h2 : (BitVec.extractLsb' 0 23 0x358637BD#32).toNat = 407485 := by decide
  have h3 : (BitVec.extractLsb' (8 + 23) 1 0x358637BD#32 == 1#1) = false := by decide
  simp only [Ideal.ofBits, Ideal.ieee, h1, h2, h3]
  norm_num

/-- The mean square of a row, plus the constant. -/
def msq (X : ℕ → EReal) : EReal := Ideal.div (∑ k ∈ Finset.range 1024, X k * X k) wid + eps

/-- One over the root of it. -/
def rinv (X : ℕ → EReal) : EReal := Ideal.rsqrt (msq X)

/-- The gradient of the normalized row `X` at `l`, for the gradient `G` of its scaled entries. -/
def rmsBwd (X G : ℕ → EReal) (l : ℕ) : EReal :=
  rinv X * (G l - X l * rinv X * Ideal.div (∑ k ∈ Finset.range 1024, X k * rinv X * G k) wid)

/-- The share of every entry through the mean square, by the chain rule. -/
def rmsChain (X G : ℕ → EReal) : EReal :=
  Ideal.div ((∑ k ∈ Finset.range 1024, X k * G k) * (mhalf * Ideal.div (rinv X) (msq X))) wid

theorem mul_self_nn (x : EReal) : 0 ≤ x * x := by
  rcases le_total 0 x with h | h
  · exact mul_nonneg h h
  · have := mul_nonneg (EReal.neg_nonneg.2 h) (EReal.neg_nonneg.2 h)
    rwa [neg_mul_neg] at this

theorem twice (a : EReal) : a + a = ((2 : ℝ) : EReal) * a := by
  induction a with
  | bot => rw [EReal.coe_mul_bot_of_pos (by norm_num)]; rfl
  | top => rw [EReal.coe_mul_top_of_pos (by norm_num)]; rfl
  | coe x => rw [← EReal.coe_add, ← EReal.coe_mul, two_mul]

theorem mul_sum_coe (r : ℝ) (hr : 0 ≤ r) (f : ℕ → EReal) (s : Finset ℕ) : ∑ k ∈ s, (r : EReal) * f k = (r : EReal) * ∑ k ∈ s, f k := by
  classical
  induction s using Finset.induction_on with
  | empty => simp
  | insert a s ha ih =>
    rw [Finset.sum_insert ha, Finset.sum_insert ha, ih]
    exact (EReal.left_distrib_of_nonneg_of_ne_top (EReal.coe_nonneg.2 hr) (EReal.coe_ne_top r) _ _).symm

theorem rms_eq (X G : ℕ → EReal) {l : ℕ} (hl : l < 1024) :
    G l * rinv X + X l * rmsChain X G + rmsChain X G * X l = rmsBwd X G l := by
  obtain ⟨e, he, hee⟩ := eps_pos
  have hw : (wid : EReal) ≠ 0 := by rw [wid_eq]; exact_mod_cast (by norm_num : (1024 : ℝ) ≠ 0)
  have hnn : 0 ≤ ∑ k ∈ Finset.range 1024, X k * X k := Finset.sum_nonneg fun k _ => mul_self_nn (X k)
  have hwi : (wid : EReal)⁻¹ = ((1024⁻¹ : ℝ) : EReal) := by rw [wid_eq]; rfl
  by_cases ht : ∑ k ∈ Finset.range 1024, X k * X k = ⊤
  · have hm : msq X = ⊤ := by
      unfold msq Ideal.div
      rw [if_neg hw, ht, hwi, EReal.top_mul_coe_of_pos (by norm_num), hee]
      exact EReal.top_add_coe e
    have hr : rinv X = 0 := by unfold rinv; rw [hm]; rfl
    have hc : rmsChain X G = 0 := by
      unfold rmsChain Ideal.div
      rw [hr, hm, if_neg hw, if_neg EReal.top_ne_zero, zero_mul, mul_zero, mul_zero, zero_mul]
    unfold rmsBwd
    rw [hr, hc, mul_zero, mul_zero, zero_mul, zero_mul, add_zero, add_zero]
  · obtain ⟨q, hq⟩ : ∃ q : ℝ, ∑ k ∈ Finset.range 1024, X k * X k = (q : EReal) :=
      ⟨_, (EReal.coe_toReal ht (ne_of_gt (lt_of_lt_of_le EReal.bot_lt_zero hnn))).symm⟩
    have hq0 : 0 ≤ q := by rw [hq] at hnn; exact_mod_cast hnn
    have hx : ∃ x : ℝ, X l = (x : EReal) := by
      have hle : X l * X l ≤ ∑ k ∈ Finset.range 1024, X k * X k :=
        Finset.single_le_sum (fun k _ => mul_self_nn (X k)) (Finset.mem_range.2 hl)
      generalize X l = y at hle ⊢
      induction y with
      | bot => exact absurd (top_le_iff.1 hle) ht
      | top => exact absurd (top_le_iff.1 hle) ht
      | coe x => exact ⟨x, rfl⟩
    obtain ⟨x, hx⟩ := hx
    set p : ℝ := q * 1024⁻¹ + e with hp
    have hp0 : 0 < p := by positivity
    have hm : msq X = (p : EReal) := by
      unfold msq Ideal.div
      rw [if_neg hw, hq, hwi, hee, ← EReal.coe_mul, ← EReal.coe_add]
    set r : ℝ := (Real.sqrt p)⁻¹ with hrd
    have hr0 : 0 ≤ r := by positivity
    have hr : rinv X = (r : EReal) := by
      unfold rinv
      rw [hm, Ideal.rsqrt_coe, if_neg (not_lt.2 hp0.le), if_neg (ne_of_gt hp0)]
    have hrp : r * r = p⁻¹ := by rw [hrd, ← mul_inv, Real.mul_self_sqrt hp0.le]
    have hpe : (p : EReal) ≠ 0 := by exact_mod_cast (ne_of_gt hp0)
    have hS : ∑ k ∈ Finset.range 1024, X k * rinv X * G k = (r : EReal) * ∑ k ∈ Finset.range 1024, X k * G k := by
      rw [← mul_sum_coe r hr0]
      refine Finset.sum_congr rfl fun k _ => ?_
      rw [hr, mul_comm (X k) (r : EReal), mul_assoc]
    unfold rmsBwd
    rw [hS]
    unfold rmsChain Ideal.div
    rw [if_neg hw, if_neg hw, hr, hm, if_neg hpe, hwi, hx, mhalf_eq, ← EReal.coe_inv]
    generalize ∑ k ∈ Finset.range 1024, X k * G k = S
    generalize G l = g
    have ha : (x : EReal) * (S * (((-(1 / 2) : ℝ) : EReal) * ((r : EReal) * ((p⁻¹ : ℝ) : EReal))) * ((1024⁻¹ : ℝ) : EReal))
        = S * ((x * (-(1 / 2) * (r * p⁻¹)) * 1024⁻¹ : ℝ) : EReal) := by
      rw [EReal.coe_mul, EReal.coe_mul, EReal.coe_mul, EReal.coe_mul]
      ac_rfl
    have hb : (S * (((-(1 / 2) : ℝ) : EReal) * ((r : EReal) * ((p⁻¹ : ℝ) : EReal))) * ((1024⁻¹ : ℝ) : EReal)) * (x : EReal)
        = S * ((x * (-(1 / 2) * (r * p⁻¹)) * 1024⁻¹ : ℝ) : EReal) := by
      rw [mul_comm, ha]
    have hc : (x : EReal) * (r : EReal) * ((r : EReal) * S * ((1024⁻¹ : ℝ) : EReal)) = S * ((x * r * r * 1024⁻¹ : ℝ) : EReal) := by
      rw [EReal.coe_mul, EReal.coe_mul, EReal.coe_mul]
      ac_rfl
    rw [ha, hb, hc, add_assoc, twice, sub_eq_add_neg, EReal.left_distrib_of_nonneg_of_ne_top (EReal.coe_nonneg.2 hr0) (EReal.coe_ne_top r),
      mul_comm g (r : EReal), mul_neg, ← mul_neg, ← mul_neg, ← EReal.coe_neg]
    refine congrArg ((r : EReal) * g + ·) ?_
    have h1 : ((2 : ℝ) : EReal) * (S * ((x * (-(1 / 2) * (r * p⁻¹)) * 1024⁻¹ : ℝ) : EReal)) = S * ((2 * (x * (-(1 / 2) * (r * p⁻¹)) * 1024⁻¹) : ℝ) : EReal) := by
      rw [EReal.coe_mul 2]; ac_rfl
    have h2 : (r : EReal) * (S * ((-(x * r * r * 1024⁻¹) : ℝ) : EReal)) = S * ((r * -(x * r * r * 1024⁻¹) : ℝ) : EReal) := by
      rw [EReal.coe_mul r]; ac_rfl
    rw [h1, h2, ← hrp]
    congr 2
    ring

end Cert.Nat2

end
-- ==== Proof.RmsUp1.lean ====
module

public import proofs.«01_k».proof.Defs
public import proofs.«01_k».proof.Proof.Gen.Kernel5Ideal.Value
public import proofs.«01_k».proof.Proof.RmsAlg
public import Idealize.ShloMosaic.Lib.Pipeline.Value
public import Idealize.ShloMosaic.Lib.Pipeline.ValueKit
public import Idealize.ShloMosaic.Lib.KernelVsHost
public import Idealize.ShloMosaic.Lib.Tactic
public import Idealize.ShloMosaic.Lib.WritesUnit
public import Idealize.ShloMosaic.Lib.Pointwise

@[expose] public section

set_option maxRecDepth 16384

noncomputable section

open Idealize.ShloMosaic Idealize.ShloMosaic.TcCoe Idealize.SL.Sem

namespace Cert.Kernel5Ideal.Mat

open Cert.Kernel5Ideal Cert.Kernel5Ideal.Gen Cert.Nat2

set_option maxHeartbeats 4000000

/-! The gradient through the product and the RMS normalisation into the second MLP: what the blocks hold, and the arrays the run ends with. -/

theorem at2_ix {a b : ℕ} (X : (⟨2, ![a, b]⟩ : Shape).Idx → EReal) (r : Fin a) (l : Fin b) : X (ValueIdx.ix2 r l) = at2 X r.val l.val :=
  at2_eq X (ValueIdx.ix2 r l) rfl rfl

theorem pay6_apply (v22 : Vec Ideal S1024x1024 .f32) (y : S1024x1.Idx) : k0_pay6 v22 y = rinv (at2 v22 (y 0).val) := by
  unfold k0_pay6
  pointwise
  unfold rinv msq
  rw [Finset.sum_range]
  refine congrArg (fun s => Ideal.rsqrt (Ideal.div s wid + eps)) (Finset.sum_congr rfl fun k _ => ?_)
  have e := at2_ix v22 (y 0) k
  exact congrArg₂ (· * ·) e e

theorem pay7_apply (v22 : Vec Ideal S1024x1024 .f32) (y : S1024x1024.Idx) : k0_pay7 v22 y = v22 y * rinv (at2 v22 (y 0).val) := by
  unfold k0_pay7
  pointwise
  rw [pay6_apply]
  rfl

theorem pay8_apply (v3 v20 v22 : Vec Ideal S1024x1024 .f32) (v23 : Vec Ideal S1x1024 .f32) (v47 : Vec Ideal S1024x1024 .f32) (y : S1024x1024.Idx) :
    k0_pay8 v3 v20 v22 v23 v47 y = v47 y + rmsBwd (at2 v22 (y 0).val) (fun k => (at2 v20 (y 0).val k + at2 v3 (y 0).val k) * at2 v23 0 k) (y 1).val := by
  unfold k0_pay8 k0_pay5
  pointwise
  unfold rmsBwd
  rw [Finset.sum_range, pay6_apply, pay7_apply, at2_eq v20 y rfl rfl, at2_eq v3 y rfl rfl, at2_eq v22 y rfl rfl]
  refine congrArg (v47 y + ·) (congrArg₂ (fun a s => rinv (at2 v22 (y 0).val) * ((at2 v20 (y 0).val (y 1).val + at2 v3 (y 0).val (y 1).val) * a -
    at2 v22 (y 0).val (y 1).val * rinv (at2 v22 (y 0).val) * Ideal.div s wid)) (at2_ix v23 0 (y 1)) (Finset.sum_congr rfl fun k _ => ?_))
  rw [pay7_apply]
  exact congrArg₂ (· * ·) (congrArg (· * _) (at2_ix v22 (y 0) k)) (congrArg₂ (· * ·) (congrArg₂ (· + ·) (at2_ix v20 (y 0) k) (at2_ix v3 (y 0) k)) (at2_ix v23 0 k))

theorem pay10_apply (v3 v20 v22 : Vec Ideal S1024x1024 .f32) (v52 : Vec Ideal S1x1024 .f32) (y : S1x1024.Idx) :
    k0_pay10 v3 v20 v22 v52 y = v52 y + ∑ r : Fin 1024, (at2 v20 r.val (y 1).val + at2 v3 r.val (y 1).val) * (at2 v22 r.val (y 1).val * rinv (at2 v22 r.val)) := by
  unfold k0_pay10 k0_pay5
  pointwise
  refine congrArg (v52 y + ·) (Finset.sum_congr rfl fun r _ => ?_)
  rw [pay7_apply]
  exact congrArg₂ (· * ·) (congrArg₂ (· + ·) (at2_ix v20 r (y 1)) (at2_ix v3 r (y 1))) (congrArg (· * _) (at2_ix v22 r (y 1)))

theorem pay1_apply (x0 : Vec Ideal S1024x1024 .bf16) (x1 : Vec Ideal S1x1024x1024 .bf16) (y : S1024x1024.Idx) :
    k0_pay1 x0 x1 y = ∑ k : Fin 1024, at2 x0 (y 0).val k.val * at3 x1 0 (y 1).val k.val := by
  unfold k0_pay1
  pointwise
  refine Finset.sum_congr rfl fun k _ => ?_
  show x0 (ValueIdx.ix2 (y 0) k) * x1 (ValueIdx.ix3 0 (y 1) k) = _
  rw [at2_eq x0 (ValueIdx.ix2 (y 0) k) rfl rfl, at3_eq x1 (ValueIdx.ix3 0 (y 1) k) rfl rfl rfl]
  rfl

variable (m : (ℓ : Loc nD τ sig) → Buf (Elt Ideal) ℓ) (c : Dev nD)

/-- What the point before left. -/
abbrev prev (t : Fin cfg0.N) := outsAt0 m c (t.val - 1) (Nat.lt_of_le_of_lt (Nat.sub_le _ _) t.isLt)

theorem scr_0 (t : Fin cfg0.N) (h : t.val % 4 = 0) (y : S1024x1024.Idx) :
    (outsAt0 m c t.val t.isLt).2.2.2 y = k0_pay1 (F := Ideal) (iblk m c 0 t) (iblk m c 1 t) y := by
  by_cases h0 : t.val % 32 = 0
  · rw [outsAt0_A m c t h0 h (by omega) (by omega)]; dsimp only
    frame_out
    unfold k0_pay3
    pointwise
  · rw [outsAt0_D m c t h0 h (by omega) (by omega)]; dsimp only
    frame_out
    unfold k0_pay3
    pointwise

theorem scr_mid (t : Fin cfg0.N) (h : 1 ≤ t.val % 4 ∧ t.val % 4 ≤ 2) (y : S1024x1024.Idx) :
    (outsAt0 m c t.val t.isLt).2.2.2 y = (prev m c t).2.2.2 y + k0_pay1 (F := Ideal) (iblk m c 0 t) (iblk m c 1 t) y := by
  rw [outsAt0_B m c t (by omega) (by omega) h (by omega)]; dsimp only
  frame_out
  unfold k0_pay4
  pointwise
  refine congrArg (· + _) ?_
  exact congrFun (Memref.IsWhole.read_unread (m := Memref.whole cc0_scratch0) _ _) y

theorem dg_A (t : Fin cfg0.N) (h0 : t.val % 32 = 0) (y : S8x1024.Idx) :
    (outsAt0 m c t.val t.isLt).2.2.1 y = (0 : EReal) := by
  rw [outsAt0_A m c t h0 (by omega) (by omega) (by omega)]; dsimp only
  frame_out
  unfold k0_pay2
  pointwise

theorem dg_keep (t : Fin cfg0.N) (h0 : ¬t.val % 32 = 0) (h3 : ¬t.val % 4 = 3) (y : S8x1024.Idx) :
    (outsAt0 m c t.val t.isLt).2.2.1 y = (prev m c t).2.2.1 y := by
  by_cases h : t.val % 4 = 0
  · rw [outsAt0_D m c t h0 h (by omega) (by omega)]; dsimp only
    rfl
  · rw [outsAt0_B m c t h0 h (by omega) h3]; dsimp only
    rfl

theorem dx_C (t : Fin cfg0.N) (h3 : t.val % 4 = 3) (y : S1024x1024.Idx) :
    (outsAt0 m c t.val t.isLt).1 y = k0_pay8 (F := Ideal) (k0_pay1 (F := Ideal) (iblk m c 0 t) (iblk m c 1 t)) (prev m c t).2.2.2 (iblk m c 2 t) (iblk m c 3 t) (iblk m c 4 t) y := by
  rw [outsAt0_C m c t (by omega) (by omega) (by omega) h3]; dsimp only
  frame_out
  exact congrArg (fun v => k0_pay8 (F := Ideal) (k0_pay1 (F := Ideal) (iblk m c 0 t) (iblk m c 1 t)) v (iblk m c 2 t) (iblk m c 3 t) (iblk m c 4 t) y)
    (Memref.IsWhole.read_unread (m := Memref.whole cc0_scratch0) _ _)

theorem dxb_C (t : Fin cfg0.N) (h3 : t.val % 4 = 3) (y : S1024x1024.Idx) :
    ((outsAt0 m c t.val t.isLt).2.1 y : EReal) = (outsAt0 m c t.val t.isLt).1 y := by
  rw [outsAt0_C m c t (by omega) (by omega) (by omega) h3]; dsimp only
  frame_out
  unfold k0_pay9
  rfl

theorem dg_C (t : Fin cfg0.N) (h3 : t.val % 4 = 3) (y : S8x1024.Idx) :
    ((outsAt0 m c t.val t.isLt).2.2.1 y : EReal) = if (y 0).val = 0 then
      (prev m c t).2.2.1 y + ∑ r : Fin 1024, (at2 ((prev m c t).2.2.2) r.val (y 1).val + at2 (k0_pay1 (F := Ideal) (iblk m c 0 t) (iblk m c 1 t)) r.val (y 1).val)
        * (at2 (iblk m c 2 t : Vec Ideal S1024x1024 .f32) r.val (y 1).val * rinv (at2 (iblk m c 2 t : Vec Ideal S1024x1024 .f32) r.val))
      else (prev m c t).2.2.1 y := by
  rw [outsAt0_C m c t (by omega) (by omega) (by omega) h3]; dsimp only
  frame_out
  by_cases h : (y 0).val = 0
  · rw [if_pos h]
    have hy : ∀ a, ((ValueIdx.ix2 (0 : Fin 1) (y 1) : S1x1024.Idx) a).val + (![0, 0] : Fin 2 → ℕ) a = (y a).val := fun a => by
      match a with
      | ⟨0, _⟩ => exact h.symm
      | ⟨1, _⟩ => rfl
    refine (View.read_writes_cons_unit_of_mem _ _ _ _ _ y (ValueIdx.ix2 (0 : Fin 1) (y 1)) rfl (fun a => (hy a).symm.trans (Nat.add_comm _ _))).trans ?_
    refine (pay10_apply _ _ _ _ _).trans ?_
    refine congrArg₂ (· + ·) ?_ (Finset.sum_congr rfl fun r _ => ?_)
    · refine congrArg (prev m c t).2.2.1 (funext fun a => Fin.ext ?_)
      match a with
      | ⟨0, _⟩ => show 0 + 1 * 0 = (y 0).val; omega
      | ⟨1, _⟩ => show 0 + 1 * (y 1).val = (y 1).val; omega
    · refine congrArg (fun v => (at2 v r.val (y 1).val + _) * _) ?_
      exact Memref.IsWhole.read_unread (m := Memref.whole cc0_scratch0) _ _
  · rw [if_neg h]
    refine (View.read_writes_cons_unit_of_not_mem _ _ _ _ _ y rfl 0 (by
      show (y 0).val < 0 ∨ 0 + 1 ≤ (y 0).val
      omega)).trans ?_
    exact congrFun ((hs0_7 t).read_unread _) y

/-! ## The blocks are rows of the arguments -/

/-- The five arguments as functions of their indices. -/
abbrev argD : S8192x4096.Idx → EReal := m ((c : Thread nD τ).loc main_arg0)
abbrev argW : S2x1024x4096.Idx → EReal := m ((c : Thread nD τ).loc main_arg1)
abbrev argX : S8192x1024.Idx → EReal := m ((c : Thread nD τ).loc main_arg2)
abbrev argG : S1x1024.Idx → EReal := m ((c : Thread nD τ).loc main_arg3)
abbrev argR : S8192x1024.Idx → EReal := m ((c : Thread nD τ).loc main_arg4)

theorem idx0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem idx1 : ∀ t : Fin cfg0.N, win0_1.index t 0 = 1 ∧ win0_1.index t 1 = 0 ∧ win0_1.index t 2 = t.val % 4 :=
  (by decide +kernel : ∀ t : Fin grid0.N, win0_1.index t 0 = 1 ∧ win0_1.index t 1 = 0 ∧ win0_1.index t 2 = t.val % 4)
theorem idx2 : ∀ t : Fin cfg0.N, win0_2.index t 0 = t.val / 4 ∧ win0_2.index t 1 = 0 :=
  (by decide +kernel : ∀ t : Fin grid0.N, win0_2.index t 0 = t.val / 4 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val / 4 ∧ win0_4.index t 1 = 0 :=
  (by decide +kernel : ∀ t : Fin grid0.N, win0_4.index t 0 = t.val / 4 ∧ win0_4.index t 1 = 0)
theorem idx5 : ∀ t : Fin cfg0.N, win0_5.index t 0 = t.val / 4 ∧ win0_5.index t 1 = 0 :=
  (by decide +kernel : ∀ t : Fin grid0.N, win0_5.index t 0 = t.val / 4 ∧ win0_5.index t 1 = 0)
theorem idx6 : ∀ t : Fin cfg0.N, win0_6.index t 0 = t.val / 4 ∧ win0_6.index t 1 = 0 :=
  (by decide +kernel : ∀ t : Fin grid0.N, win0_6.index t 0 = t.val / 4 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)

theorem blk0 (t : Fin cfg0.N) (r l : ℕ) (hr : r < 1024) (hl : l < 1024) :
    at2 (iblk m c 0 t : Vec Ideal S1024x1024 .bf16) r l = at2 (argD m c) (1024 * (t.val / 4) + r) (1024 * (t.val % 4) + l) := by
  conv_lhs => unfold at2
  rw [dif_pos ⟨hr, hl⟩]
  unfold iblk
  rw [View.read_apply]
  show V m c main_arg0 _ = _
  rw [V_main_arg0]
  refine at2_eq (m ((c : Thread nD τ).loc main_arg0) : S8192x4096.Idx → EReal) _ ?_ ?_
  · show win0_0.index t 0 * 1024 + 1 * r = _; rw [(idx0 t).1]; omega
  · show win0_0.index t 1 * 1024 + 1 * l = _; rw [(idx0 t).2]; omega

theorem blk1 (t : Fin cfg0.N) (r l : ℕ) (hr : r < 1024) (hl : l < 1024) :
    at3 (iblk m c 1 t : Vec Ideal S1x1024x1024 .bf16) 0 r l = at3 (argW m c) 1 r (1024 * (t.val % 4) + l) := by
  conv_lhs => unfold at3
  rw [dif_pos ⟨Nat.zero_lt_one, hr, hl⟩]
  unfold iblk
  rw [View.read_apply]
  show V m c main_arg1 _ = _
  rw [V_main_arg1]
  refine at3_eq (m ((c : Thread nD τ).loc main_arg1) : S2x1024x4096.Idx → EReal) _ ?_ ?_ ?_
  · show win0_1.index t 0 * 1 + 1 * 0 = _; rw [(idx1 t).1]
  · show win0_1.index t 1 * 1024 + 1 * r = _; rw [(idx1 t).2.1]; omega
  · show win0_1.index t 2 * 1024 + 1 * l = _; rw [(idx1 t).2.2]; omega

theorem blk2 (t : Fin cfg0.N) (r : ℕ) (hr : r < 1024) :
    at2 (iblk m c 2 t : Vec Ideal S1024x1024 .f32) r = at2 (argX m c) (1024 * (t.val / 4) + r) := by
  funext l
  by_cases hl : l < 1024
  · conv_lhs => unfold at2
    rw [dif_pos ⟨hr, hl⟩]
    unfold iblk
    rw [View.read_apply]
    show V m c main_arg2 _ = _
    rw [V_main_arg2]
    refine at2_eq (m ((c : Thread nD τ).loc main_arg2) : S8192x1024.Idx → EReal) _ ?_ ?_
    · show win0_2.index t 0 * 1024 + 1 * r = _; rw [(idx2 t).1]; omega
    · show win0_2.index t 1 * 1024 + 1 * l = _; rw [(idx2 t).2]; omega
  · unfold at2
    rw [dif_neg (fun e => hl e.2), dif_neg (fun e => hl e.2)]

theorem blk3 (t : Fin cfg0.N) : at2 (iblk m c 3 t : Vec Ideal S1x1024 .f32) 0 = at2 (argG m c) 0 := by
  funext l
  by_cases hl : l < 1024
  · conv_lhs => unfold at2
    rw [dif_pos ⟨Nat.zero_lt_one, hl⟩]
    unfold iblk
    rw [View.read_apply]
    show V m c main_arg3 _ = _
    rw [V_main_arg3]
    refine at2_eq (m ((c : Thread nD τ).loc main_arg3) : S1x1024.Idx → EReal) _ ?_ ?_
    · show win0_3.index t 0 * 1 + 1 * 0 = _; rw [(idx3 t).1]
    · show win0_3.index t 1 * 1024 + 1 * l = _; rw [(idx3 t).2]; omega
  · unfold at2
    rw [dif_neg (fun e => hl e.2), dif_neg (fun e => hl e.2)]

theorem blk4 (t : Fin cfg0.N) (y : S1024x1024.Idx) :
    (iblk m c 4 t : Vec Ideal S1024x1024 .f32) y = at2 (argR m c) (1024 * (t.val / 4) + (y 0).val) (y 1).val := by
  unfold iblk
  rw [View.read_apply]
  show V m c main_arg4 _ = _
  rw [V_main_arg4]
  refine at2_eq (m ((c : Thread nD τ).loc main_arg4) : S8192x1024.Idx → EReal) _ ?_ ?_
  · show win0_4.index t 0 * 1024 + 1 * (y 0).val = _; rw [(idx4 t).1]; omega
  · show win0_4.index t 1 * 1024 + 1 * (y 1).val = _; rw [(idx4 t).2]; omega

/-! ## The values -/

/-- The gradient against the weight's rows, over the first columns; -/
abbrev dn (n r l : ℕ) : EReal := rowDot3 (argD m c) (argW m c) 1 n r l
/-- the gradient of the normalised row, scaled; -/
abbrev gk (r k : ℕ) : EReal := dn m c 4096 r k * at2 (argG m c) 0 k
/-- what one row adds to the scale's gradient. -/
abbrev gw (r l : ℕ) : EReal := dn m c 4096 r l * (at2 (argX m c) r l * rinv (at2 (argX m c) r))

theorem part_eq (t : Fin cfg0.N) (r l : ℕ) (hr : r < 1024) (hl : l < 1024) :
    dn m c (1024 * (t.val % 4)) (1024 * (t.val / 4) + r) l + at2 (k0_pay1 (F := Ideal) (iblk m c 0 t) (iblk m c 1 t)) r l
      = dn m c (1024 * (t.val % 4 + 1)) (1024 * (t.val / 4) + r) l := by
  have e : at2 (k0_pay1 (F := Ideal) (iblk m c 0 t) (iblk m c 1 t)) r l = _ :=
    (at2_ix _ (⟨r, hr⟩ : Fin 1024) (⟨l, hl⟩ : Fin 1024)).symm.trans (pay1_apply (iblk m c 0 t) (iblk m c 1 t) _)
  rw [e]
  show rowDot3 _ _ _ _ _ _ + _ = rowDot3 _ _ _ _ _ _
  unfold rowDot3
  rw [Nat.mul_add, Nat.mul_one, Finset.sum_range_add]
  refine congrArg (_ + ·) ?_
  rw [Finset.sum_range]
  refine Finset.sum_congr rfl fun k _ => ?_
  exact congrArg₂ (· * ·) (blk0 m c t r k.val hr k.isLt) (blk1 m c t l k.val hl k.isLt)

theorem scr_eq (j : ℕ) (hj : j ≤ 2) : ∀ (t : Fin cfg0.N), t.val % 4 = j → ∀ y : S1024x1024.Idx,
    (outsAt0 m c t.val t.isLt).2.2.2 y = dn m c (1024 * (j + 1)) (1024 * (t.val / 4) + (y 0).val) (y 1).val := by
  induction j with
  | zero =>
    intro t ht y
    rw [scr_0 m c t ht y]
    have e := part_eq m c t (y 0).val (y 1).val (y 0).isLt (y 1).isLt
    rw [ht] at e
    refine Eq.trans ?_ e
    have z : dn m c (1024 * 0) (1024 * (t.val / 4) + (y 0).val) (y 1).val = 0 := Finset.sum_range_zero _
    rw [z, zero_add]
    exact at2_eq _ y rfl rfl
  | succ j ih =>
    intro t ht y
    rw [scr_mid m c t (by omega) y]
    have hp : (t.val - 1) % 4 = j := by omega
    have hq : (t.val - 1) / 4 = t.val / 4 := by omega
    have e1 := ih (by omega) ⟨t.val - 1, Nat.lt_of_le_of_lt (Nat.sub_le _ _) t.isLt⟩ hp y
    have e := part_eq m c t (y 0).val (y 1).val (y 0).isLt (y 1).isLt
    rw [ht] at e
    refine Eq.trans ?_ e
    refine congrArg₂ (· + ·) (e1.trans ?_) (at2_eq _ y rfl rfl)
    show dn m c _ (1024 * ((t.val - 1) / 4) + _) _ = _
    rw [hq]

/-- At the last block of a row of blocks, the sum is complete. -/
theorem full_eq (t : Fin cfg0.N) (h3 : t.val % 4 = 3) (r l : ℕ) (hr : r < 1024) (hl : l < 1024) :
    at2 ((prev m c t).2.2.2) r l + at2 (k0_pay1 (F := Ideal) (iblk m c 0 t) (iblk m c 1 t)) r l = dn m c 4096 (1024 * (t.val / 4) + r) l := by
  have e := part_eq m c t r l hr hl
  rw [h3] at e
  refine Eq.trans (congrArg (· + _) ?_) e
  have hp : (t.val - 1) % 4 = 2 := by omega
  have hq : (t.val - 1) / 4 = t.val / 4 := by omega
  have e1 := scr_eq m c 2 (Nat.le_refl _) ⟨t.val - 1, Nat.lt_of_le_of_lt (Nat.sub_le _ _) t.isLt⟩ hp (ValueIdx.ix2 (⟨r, hr⟩ : Fin 1024) (⟨l, hl⟩ : Fin 1024))
  refine ((at2_ix _ (⟨r, hr⟩ : Fin 1024) (⟨l, hl⟩ : Fin 1024)).symm.trans e1).trans ?_
  show dn m c _ (1024 * ((t.val - 1) / 4) + r) l = _
  rw [hq]

/-- The residual's gradient plus the normalisation's backward step. -/
abbrev dxv (r l : ℕ) : EReal := at2 (argR m c) r l + rmsBwd (at2 (argX m c) r) (gk m c r) l

theorem dx_eq (t : Fin cfg0.N) (h3 : t.val % 4 = 3) (y : S1024x1024.Idx) :
    (outsAt0 m c t.val t.isLt).1 y = dxv m c (1024 * (t.val / 4) + (y 0).val) (y 1).val := by
  rw [dx_C m c t h3 y]
  refine (pay8_apply _ _ _ _ _ y).trans ?_
  have e2 := blk2 m c t (y 0).val (y 0).isLt
  have e3 := blk3 m c t
  refine congrArg₂ (· + ·) (blk4 m c t y) ?_
  rw [e2, e3]
  refine congrArg (fun G => rmsBwd _ G _) (funext fun k => ?_)
  by_cases hk : k < 1024
  · exact congrArg (· * _) (full_eq m c t h3 (y 0).val k (y 0).isLt hk)
  · have z : at2 (argG m c) 0 k = 0 := by
      unfold at2
      rw [dif_neg (fun e => hk e.2)]
    show _ * at2 (argG m c) 0 k = dn m c 4096 _ k * at2 (argG m c) 0 k
    rw [z, mul_zero, mul_zero]

theorem dg_eq (n : ℕ) : ∀ (hn : n < cfg0.N) (y : S8x1024.Idx),
    ((outsAt0 m c n hn).2.2.1 y : EReal) = if (y 0).val = 0 then ∑ r ∈ Finset.range (1024 * ((n + 1) / 4)), gw m c r (y 1).val else 0 := by
  induction n with
  | zero =>
    intro hn y
    refine (dg_A m c ⟨0, hn⟩ rfl y).trans ?_
    split
    · exact (Finset.sum_range_zero _).symm
    · rfl
  | succ n ih =>
    intro hn y
    have hN : cfg0.N = 32 := N_0
    have e := ih (Nat.lt_of_succ_lt hn) y
    by_cases h3 : (n + 1) % 4 = 3
    · refine (dg_C m c ⟨n + 1, hn⟩ h3 y).trans ?_
      split
      · rename_i h
        rw [if_pos h] at e
        have hq : (n + 1 + 1) / 4 = (n + 1) / 4 + 1 := by omega
        rw [hq, Nat.mul_add, Nat.mul_one, Finset.sum_range_add]
        refine congrArg₂ (· + ·) e ?_
        rw [Finset.sum_range]
        refine Finset.sum_congr rfl fun r _ => ?_
        have e1 := full_eq m c ⟨n + 1, hn⟩ h3 r.val (y 1).val r.isLt (y 1).isLt
        have e2 := blk2 m c ⟨n + 1, hn⟩ r.val r.isLt
        rw [e2]
        exact congrArg (· * _) e1
      · rename_i h
        rw [if_neg h] at e
        exact e
    · refine (dg_keep m c ⟨n + 1, hn⟩ (by show ¬(n + 1) % 32 = 0; omega) h3 y).trans (e.trans ?_)
      have hq : (n + 1 + 1) / 4 = (n + 1) / 4 := by omega
      rw [hq]

/-! ## The three arrays -/

def res5 : Buf (Elt Ideal) ((c : Thread nD τ).loc main_v0_0) :=
  fun i : S8192x1024.Idx => dxv m c (i 0).val (i 1).val
def res6 : Buf (Elt Ideal) ((c : Thread nD τ).loc main_v0_1) :=
  fun i : S8192x1024.Idx => dxv m c (i 0).val (i 1).val
def res7 : Buf (Elt Ideal) ((c : Thread nD τ).loc main_v0_2) :=
  fun i : S8x1024.Idx => (if (i 0).val = 0 then ∑ r ∈ Finset.range 8192, gw m c r (i 1).val else 0 : EReal)

theorem flushed_res5 (t : Fin cfg0.N) (h : (cfg0.win 5).flush t = true) :
    (dats m 0 c).flushed 5 t = ((cfg0.win 5).blk t).view.read (Elt Ideal) (res5 m c) := by
  have h3 := (flush0_5 t).1 h
  rw [Cert.Kernel5Ideal.Value.flushed5]
  funext j
  rw [View.read_apply]
  show (outsAt0 m c t.val t.isLt).1 (fun a => ⟨(j a).val, (j a).isLt⟩) = dxv m c (win0_5.index t 0 * 1024 + 1 * (j 0).val) (win0_5.index t 1 * 1024 + 1 * (j 1).val)
  rw [dx_eq m c t h3, (idx5 t).1, (idx5 t).2]
  rw [Nat.mul_comm (t.val / 4) 1024, Nat.zero_mul, Nat.zero_add, Nat.one_mul, Nat.one_mul]

theorem flushed_res6 (t : Fin cfg0.N) (h : (cfg0.win 6).flush t = true) :
    (dats m 0 c).flushed 6 t = ((cfg0.win 6).blk t).view.read (Elt Ideal) (res6 m c) := by
  have h3 := (flush0_6 t).1 h
  rw [Cert.Kernel5Ideal.Value.flushed6]
  funext j
  rw [View.read_apply]
  show ((outsAt0 m c t.val t.isLt).2.1 (fun a => ⟨(j a).val, (j a).isLt⟩) : EReal) = dxv m c (win0_6.index t 0 * 1024 + 1 * (j 0).val) (win0_6.index t 1 * 1024 + 1 * (j 1).val)
  rw [dxb_C m c t h3, dx_eq m c t h3, (idx6 t).1, (idx6 t).2]
  rw [Nat.mul_comm (t.val / 4) 1024, Nat.zero_mul, Nat.zero_add, Nat.one_mul, Nat.one_mul]

theorem flushed_res7 (t : Fin cfg0.N) (h : (cfg0.win 7).flush t = true) :
    (dats m 0 c).flushed 7 t = ((cfg0.win 7).blk t).view.read (Elt Ideal) (res7 m c) := by
  have hN : cfg0.N = 32 := N_0
  have h3 := (flush0_7 t).1 h
  have hq : 1024 * ((t.val + 1) / 4) = 8192 := by have := t.isLt; omega
  rw [Cert.Kernel5Ideal.Value.flushed7]
  funext j
  rw [View.read_apply]
  show ((outsAt0 m c t.val t.isLt).2.2.1 (fun a => ⟨(j a).val, (j a).isLt⟩) : EReal)
    = if win0_7.index t 0 * 8 + 1 * (j 0).val = 0 then ∑ r ∈ Finset.range 8192, gw m c r (win0_7.index t 1 * 1024 + 1 * (j 1).val) else 0
  rw [dg_eq m c t.val t.isLt, (idx7 t).1, (idx7 t).2, hq]
  rw [Nat.zero_add, Nat.zero_add, Nat.one_mul, Nat.one_mul]

theorem cover5 (i : S8192x1024.Idx) :
    ∃ t : Fin cfg0.N, (cfg0.win 5).flush t = true ∧ i ∈ ((cfg0.win 5).blk t).view.set := by
  have h0 : (i 0 : ℕ) < 8192 := (i 0).isLt
  have h1 : (i 1 : ℕ) < 1024 := (i 1).isLt
  have hN : cfg0.N = 32 := N_0
  let t : Fin cfg0.N := ⟨4 * ((i 0 : ℕ) / 1024) + 3, by omega⟩
  have e : t.val = 4 * ((i 0 : ℕ) / 1024) + 3 := rfl
  refine ⟨t, (flush0_5 t).2 (by omega), ?_⟩
  show i ∈ ((View.whole main_v0_0).slice (win0_5.rect t)).set
  rw [View.set_slice_whole, Rect.mem_set_unit]
  intro a
  match a with
  | ⟨0, _⟩ =>
    show win0_5.index t 0 * 1024 ≤ (i 0 : ℕ) ∧ (i 0 : ℕ) < win0_5.index t 0 * 1024 + 1024
    rw [(idx5 t).1]; omega
  | ⟨1, _⟩ =>
    show win0_5.index t 1 * 1024 ≤ (i 1 : ℕ) ∧ (i 1 : ℕ) < win0_5.index t 1 * 1024 + 1024
    rw [(idx5 t).2]; omega

theorem cover6 (i : S8192x1024.Idx) :
    ∃ t : Fin cfg0.N, (cfg0.win 6).flush t = true ∧ i ∈ ((cfg0.win 6).blk t).view.set := by
  have h0 : (i 0 : ℕ) < 8192 := (i 0).isLt
  have h1 : (i 1 : ℕ) < 1024 := (i 1).isLt
  have hN : cfg0.N = 32 := N_0
  let t : Fin cfg0.N := ⟨4 * ((i 0 : ℕ) / 1024) + 3, by omega⟩
  have e : t.val = 4 * ((i 0 : ℕ) / 1024) + 3 := rfl
  refine ⟨t, (flush0_6 t).2 (by omega), ?_⟩
  show i ∈ ((View.whole main_v0_1).slice (win0_6.rect t)).set
  rw [View.set_slice_whole, Rect.mem_set_unit]
  intro a
  match a with
  | ⟨0, _⟩ =>
    show win0_6.index t 0 * 1024 ≤ (i 0 : ℕ) ∧ (i 0 : ℕ) < win0_6.index t 0 * 1024 + 1024
    rw [(idx6 t).1]; omega
  | ⟨1, _⟩ =>
    show win0_6.index t 1 * 1024 ≤ (i 1 : ℕ) ∧ (i 1 : ℕ) < win0_6.index t 1 * 1024 + 1024
    rw [(idx6 t).2]; omega

theorem cover7 (i : S8x1024.Idx) :
    ∃ t : Fin cfg0.N, (cfg0.win 7).flush t = true ∧ i ∈ ((cfg0.win 7).blk t).view.set := by
  have h0 : (i 0 : ℕ) < 8 := (i 0).isLt
  have h1 : (i 1 : ℕ) < 1024 := (i 1).isLt
  have hN : cfg0.N = 32 := N_0
  let t : Fin cfg0.N := ⟨cfg0.N - 1, by omega⟩
  have e : t.val = cfg0.N - 1 := rfl
  refine ⟨t, (flush0_7 t).2 (by omega), ?_⟩
  show i ∈ ((View.whole main_v0_2).slice (win0_7.rect t)).set
  rw [View.set_slice_whole, Rect.mem_set_unit]
  intro a
  match a with
  | ⟨0, _⟩ =>
    show win0_7.index t 0 * 8 ≤ (i 0 : ℕ) ∧ (i 0 : ℕ) < win0_7.index t 0 * 8 + 8
    rw [(idx7 t).1]; omega
  | ⟨1, _⟩ =>
    show win0_7.index t 1 * 1024 ≤ (i 1 : ℕ) ∧ (i 1 : ℕ) < win0_7.index t 1 * 1024 + 1024
    rw [(idx7 t).2]; omega

theorem final5 : (dats m 0 c).arrAt 5 cfg0.N = res5 m c :=
  (dats m 0 c).arrAt_eq_of_cover 5 (res5 m c) (fun t h => flushed_res5 m c t h) cover5
theorem final6 : (dats m 0 c).arrAt 6 cfg0.N = res6 m c :=
  (dats m 0 c).arrAt_eq_of_cover 6 (res6 m c) (fun t h => flushed_res6 m c t h) cover6
theorem final7 : (dats m 0 c).arrAt 7 cfg0.N = res7 m c :=
  (dats m 0 c).arrAt_eq_of_cover 7 (res7 m c) (fun t h => flushed_res7 m c t h) cover7

end Cert.Kernel5Ideal.Mat

end
-- ==== Proof.RmsRefUp1.lean ====
module

public import proofs.«01_k».proof.Defs
public import proofs.«01_k».proof.Proof.Gen.Reference5Ideal.Read
public import proofs.«01_k».proof.Proof.RmsAlg
public import Idealize.ShloMosaic.Lib.Pipeline.Value
public import Idealize.ShloMosaic.Lib.Pipeline.ValueKit
public import Idealize.ShloMosaic.Lib.KernelVsHost
public import Idealize.ShloMosaic.Lib.Tactic
public import Idealize.ShloMosaic.Lib.Pointwise

@[expose] public section

set_option maxRecDepth 16384

noncomputable section

open Idealize.ShloMosaic Idealize.ShloMosaic.TcCoe Idealize.SL.Sem

set_option maxHeartbeats 4000000

/-! The gradient through the product and the RMS normalisation into the second MLP: the reference's values. -/

namespace Cert.Reference5Ideal.Mat

open Cert.Reference5Ideal Cert.Reference5Ideal.Gen Cert.Reference5Ideal.Read Cert.Nat2

variable (x0 : (⟨S8192x4096, .bf16⟩ : BufTy).Contents (Elt Ideal)) (x1 : (⟨S2x1024x4096, .bf16⟩ : BufTy).Contents (Elt Ideal))
  (x2 : (⟨S8192x1024, .f32⟩ : BufTy).Contents (Elt Ideal)) (x3 : (⟨S1x1024, .f32⟩ : BufTy).Contents (Elt Ideal)) (x4 : (⟨S8192x1024, .f32⟩ : BufTy).Contents (Elt Ideal))

theorem bits_zero : (FloatOps.ofBits (F := Ideal) .f32 0x00000000#32 : EReal) = 0 := by
  show Ideal.ofBits .f32 0x00000000#32 = 0
  simp [Ideal.ofBits, Ideal.ieee]

abbrev X : ℕ → ℕ → EReal := at2 (x2 : S8192x1024.Idx → EReal)
abbrev dnr (r l : ℕ) : EReal := rowDot3 (x0 : S8192x4096.Idx → EReal) (x1 : S2x1024x4096.Idx → EReal) 1 4096 r l
abbrev gkr (r k : ℕ) : EReal := dnr x0 x1 r k * at2 (x3 : S1x1024.Idx → EReal) 0 k

/-! ## The row's mean square and its inverse root -/

theorem v1_at (i : S8192.Idx) : val_main_v1 (F := Ideal) x2 i = ∑ k ∈ Finset.range 1024, X x2 (i 0).val k * X x2 (i 0).val k := by
  rw [val_main_v1_apply, val_main_cst_apply, bits_zero, zero_add, Finset.sum_range]
  refine Finset.sum_congr rfl fun k _ => ?_
  rw [val_main_v0_apply]
  show (x2 _ : EReal) * x2 _ = _
  rw [at2_eq (x2 : S8192x1024.Idx → EReal) _ rfl rfl]
  try rfl

theorem v6_at (i : S8192x1.Idx) : val_main_v6 (F := Ideal) x2 i = msq (X x2 (i 0).val) := by
  rw [val_main_v6_apply, val_main_v4_apply, val_main_v2_apply, v1_at, val_main_v3_apply, val_main_v5_apply, val_main_cst_0_apply, val_main_cst_1_apply]
  try rfl

theorem v7_at (i : S8192x1.Idx) : val_main_v7 (F := Ideal) x2 i = rinv (X x2 (i 0).val) := by
  rw [val_main_v7_apply, v6_at]
  try rfl

theorem v10_at (i : S8192x1.Idx) : val_main_v10 (F := Ideal) x2 i = mhalf * Ideal.div (rinv (X x2 (i 0).val)) (msq (X x2 (i 0).val)) := by
  rw [val_main_v10_apply, val_main_v9_apply, val_main_cst_2_apply, val_main_v8_apply, v7_at, v6_at]
  try rfl

theorem v12_at (j : S8192x1024.Idx) : val_main_v12 (F := Ideal) x2 j = X x2 (j 0).val (j 1).val * rinv (X x2 (j 0).val) := by
  rw [val_main_v12_apply, val_main_v11_apply, v7_at]
  show (x2 _ : EReal) * _ = _
  rw [at2_eq (x2 : S8192x1024.Idx → EReal) j rfl rfl]
  try rfl

/-! ## The product -/

theorem v20_at (j : S8192x1024.Idx) : val_main_v20 (F := Ideal) x0 x1 j = dnr x0 x1 (j 0).val (j 1).val := by
  rw [val_main_v20_apply]
  unfold dnr rowDot3
  rw [Finset.sum_range]
  refine Finset.sum_congr rfl fun k _ => ?_
  rw [val_main_v19_apply, val_main_v17_apply, val_main_v16_apply, val_main_v15_apply]
  show (x0 _ : EReal) * x1 _ = _
  rw [at2_eq (x0 : S8192x4096.Idx → EReal) _ rfl rfl]
  refine congrArg (_ * ·) (at3_eq (x1 : S2x1024x4096.Idx → EReal) _ ?_ ?_ ?_)
  · rfl
  · show ((j 1).val * 4096 + k.val) / 4096 % 1024 = (j 1).val
    have h1 : (j 1).val < 1024 := (j 1).isLt
    have h2 := k.isLt
    omega
  · show ((j 1).val * 4096 + k.val) % 4096 = k.val
    have h2 := k.isLt
    omega

theorem v21_at (j : S8192x1024.Idx) : val_main_v21 (F := Ideal) x0 x1 x2 j = dnr x0 x1 (j 0).val (j 1).val * (X x2 (j 0).val (j 1).val * rinv (X x2 (j 0).val)) := by
  rw [val_main_v21_apply, v12_at, v20_at]
  exact mul_comm (_ : EReal) _

theorem v23_at (i : S1x1024.Idx) : val_main_v23 (F := Ideal) x0 x1 x2 i
    = ∑ r ∈ Finset.range 8192, dnr x0 x1 r (i 1).val * (X x2 r (i 1).val * rinv (X x2 r)) := by
  rw [val_main_v23_apply, val_main_v22_apply, val_main_cst_3_apply, bits_zero, zero_add, Finset.sum_range]
  refine Finset.sum_congr rfl fun k _ => ?_
  rw [v21_at]
  have e : (idx_main_v22 (idx_main_v23 i) k 1).val = (i 1).val := by
    show (i 0).val * 1024 + (i 1).val = (i 1).val
    have h0 : (i 0).val < 1 := (i 0).isLt
    omega
  rw [e]
  try rfl

theorem v25_at (j : S8192x1024.Idx) : val_main_v25 (F := Ideal) x0 x1 x3 j = gkr x0 x1 x3 (j 0).val (j 1).val := by
  rw [val_main_v25_apply, v20_at, val_main_v24_apply]
  show (_ : EReal) * x3 _ = _
  rw [at2_eq (x3 : S1x1024.Idx → EReal) _ rfl rfl]
  try rfl

theorem v28_at (i : S8192x1.Idx) : val_main_v28 (F := Ideal) x0 x1 x2 x3 i = ∑ k ∈ Finset.range 1024, X x2 (i 0).val k * gkr x0 x1 x3 (i 0).val k := by
  rw [val_main_v28_apply, val_main_v27_apply, val_main_cst_4_apply, bits_zero, zero_add, Finset.sum_range]
  refine Finset.sum_congr rfl fun k _ => ?_
  rw [val_main_v26_apply, v25_at]
  have e : (idx_main_v27 (idx_main_v28 i) k 0).val = (i 0).val := by
    show (i 0).val * 1 + (i 1).val = (i 0).val
    have h0 : (i 1).val < 1 := (i 1).isLt
    omega
  show (x2 _ : EReal) * _ = _
  rw [at2_eq (x2 : S8192x1024.Idx → EReal) _ rfl rfl, e]
  try rfl

theorem v33_at (i : S8192x1.Idx) : val_main_v33 (F := Ideal) x0 x1 x2 x3 i = rmsChain (X x2 (i 0).val) (gkr x0 x1 x3 (i 0).val) := by
  rw [val_main_v33_apply, val_main_v31_apply, v28_at, v10_at, val_main_v32_apply, val_main_cst_5_apply]
  try rfl

theorem v35_at (j : S8192x1024.Idx) : val_main_v35 (F := Ideal) x0 x1 x2 x3 j = rmsChain (X x2 (j 0).val) (gkr x0 x1 x3 (j 0).val) := by
  rw [val_main_v35_apply, val_main_v34_apply, val_main_cst_6_apply, bits_zero, zero_add, Fin.sum_univ_one, v33_at]
  try rfl

theorem v40_at (j : S8192x1024.Idx) : val_main_v40 (F := Ideal) x0 x1 x2 x3 x4 j
    = at2 (x4 : S8192x1024.Idx → EReal) (j 0).val (j 1).val + rmsBwd (X x2 (j 0).val) (gkr x0 x1 x3 (j 0).val) (j 1).val := by
  rw [val_main_v40_apply, val_main_v39_apply, val_main_v37_apply, val_main_v38_apply, val_main_v36_apply, val_main_v30_apply, val_main_v29_apply, v25_at, v35_at, v7_at]
  show (x4 _ : EReal) + (_ * _ + x2 _ * _ + _ * x2 _) = _
  rw [at2_eq (x4 : S8192x1024.Idx → EReal) j rfl rfl, at2_eq (x2 : S8192x1024.Idx → EReal) j rfl rfl]
  exact congrArg (_ + ·) (rms_eq (X x2 (j 0).val) (gkr x0 x1 x3 (j 0).val) (j 1).isLt)

theorem v41_at (j : S8192x1024.Idx) : (val_main_v41 (F := Ideal) x0 x1 x2 x3 x4 j : EReal)
    = at2 (x4 : S8192x1024.Idx → EReal) (j 0).val (j 1).val + rmsBwd (X x2 (j 0).val) (gkr x0 x1 x3 (j 0).val) (j 1).val := by
  rw [val_main_v41_apply, v40_at]
  rfl

/-- The scale's gradient lies in the first of eight rows; the others are zero. -/
theorem v42_at (j : S8x1024.Idx) : (val_main_v42 (F := Ideal) x0 x1 x2 j : EReal)
    = if (j 0).val = 0 then ∑ r ∈ Finset.range 8192, dnr x0 x1 r (j 1).val * (X x2 r (j 1).val * rinv (X x2 r)) else 0 := by
  have hz : (val_main_call0_v0 (F := Ideal) (Shape.Idx.first h_S_) : EReal) = 0 := by
    show (((0#32 : BitVec 32).toInt : ℝ) : EReal) = 0
    simp
  unfold val_main_v42
  by_cases h : (j 0).val = 0
  · rw [if_pos h]
    refine (pad_apply_of_inside ![0, 0] ![7, 0] ![0, 0] (val_main_v23 (F := Ideal) x0 x1 x2) (val_main_call0_v0 (F := Ideal)) pads_S1x1024_S8x1024_070_000 h_S_ j
      (ValueIdx.ix2 (0 : Fin 1) (j 1)) fun a => ?_).trans (v23_at x0 x1 x2 _)
    fin_cases a
    · show (j 0).val = 0 + 0 * (0 + 1); omega
    · show (j 1).val = 0 + (j 1).val * (0 + 1); omega
  · rw [if_neg h]
    refine (pad_apply_of_not_inside ![0, 0] ![7, 0] ![0, 0] (val_main_v23 (F := Ideal) x0 x1 x2) (val_main_call0_v0 (F := Ideal)) pads_S1x1024_S8x1024_070_000 h_S_ j 0
      (fun e => h ?_)).trans hz
    have h2 := e.2.2
    have h3 : ((j 0).val - 0) / (0 + 1) < 1 := h2
    omega

end Cert.Reference5Ideal.Mat

end
-- ==== Proof.Norm.lean ====
/- The rows the normalised products compute over the extended reals, shared by the kernels and the references. -/
module

public import proofs.«01_k».proof.Proof.RmsAlg

@[expose] public section

set_option maxRecDepth 16384

noncomputable section

open Idealize.ShloMosaic

namespace Cert.Nat2

/-- A matrix at a pair of its indices. -/
theorem read_ix {m n : ℕ} (X : (⟨2, ![m, n]⟩ : Shape).Idx → EReal) (r : Fin m) (l : Fin n) : X (ValueIdx.ix2 r l) = at2 X r.val l.val :=
  at2_eq X _ rfl rfl

/-- A row over the root of its mean square, entry by entry, times the scale. -/
def normRow (X G : ℕ → EReal) (l : ℕ) : EReal := X l * rinv X * G l

/-- The normalised row against a column of a matrix; -/
def normDot {m p q : ℕ} (X : (⟨2, ![m, 1024]⟩ : Shape).Idx → EReal) (G : (⟨2, ![1, 1024]⟩ : Shape).Idx → EReal)
    (B : (⟨2, ![p, q]⟩ : Shape).Idx → EReal) (r l : ℕ) : EReal :=
  ∑ k ∈ Finset.range 1024, normRow (at2 X r) (at2 G 0) k * at2 B k l

/-- and against a column of one matrix of a stack. -/
def normDot3 {m b p q : ℕ} (X : (⟨2, ![m, 1024]⟩ : Shape).Idx → EReal) (G : (⟨2, ![1, 1024]⟩ : Shape).Idx → EReal)
    (B : (⟨3, ![b, p, q]⟩ : Shape).Idx → EReal) (s r l : ℕ) : EReal :=
  ∑ k ∈ Finset.range 1024, normRow (at2 X r) (at2 G 0) k * at3 B s k l

end Cert.Nat2

end
-- ==== Proof.NormUp1.lean ====
/- The run of `norm_mm_up1` and what it leaves, over any float values: the normed rows are stored at the first of the 4
   points of a row block and held through the others, and the product's block is stored at every point. -/
module

public import proofs.«01_k».proof.Defs
public import proofs.«01_k».proof.Proof.Gen.Kernel6Ideal.Launch
public import proofs.«01_k».proof.Proof.Gen.Kernel6Ideal.Skeleton
public import proofs.«01_k».proof.Proof.Gen.Kernel6Ideal.Points
public import proofs.«01_k».proof.Proof.Gen.Kernel6Ideal.Frame
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel6Ideal.Held

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The whole of a block of rows, of the norm's weight, and of a block of the product's weight. -/
abbrev rRow : Rect S2048x1024 := Rect.unit (s := S2048x1024) ![0, 0] S2048x1024.size inb_S2048x1024_S2048x1024_0_0
abbrev rVec : Rect S1x1024 := Rect.unit (s := S1x1024) ![0, 0] S1x1024.size inb_S1x1024_S1x1024_0_0
abbrev rMat : Rect S1x1024x1024 := Rect.unit (s := S1x1024x1024) ![0, 0, 0] S1x1024x1024.size inb_S1x1024x1024_S1x1024x1024_0_0_0

/-- The normed rows, from the rows and the weight. -/
def normed (x : Vec F S2048x1024 .f32) (g : Vec F S1x1024 .f32) : Vec F S2048x1024 .bf16 :=
  View.canon [⟨rRow, k0_pay1 (View.ld x rRow) (View.ld g rVec)⟩]

/-- The product's block, from the normed rows and the weight's block. -/
def times (n : Vec F S2048x1024 .bf16) (b : Vec F S1x1024x1024 .bf16) : Vec F S2048x1024 .bf16 :=
  View.canon [⟨rRow, k0_pay2 (View.ld n rRow) (View.ld b rMat)⟩]

theorem whole_covers (p : Vec F S2048x1024 .bf16) (y : S2048x1024.Idx) :
    ∃ pc ∈ ([⟨rRow, p⟩] : List (View.Piece (Elt F) S2048x1024 .bf16)), y ∈ pc.1.set :=
  View.cover_of_tiled [⟨rRow, p⟩] S2048x1024.size (by rfl) y

/-- The rows are normed at the first of each 4 points. -/
theorem cond_iff : ∀ t : Fin cfg0.N, k0_cond1 (grid0.coords t) = 1#1 ↔ t.val % 4 = 0 :=
  (by decide +kernel : ∀ t : Fin grid0.N, k0_cond1 (grid0.coords t) = 1#1 ↔ t.val % 4 = 0)

theorem idle3 : ∀ t : Fin cfg0.N, cfg0.idle 3 (cfg0.grid.coords t) = !(decide (t.val % 4 = 0)) :=
  (by decide +kernel : ∀ t : Fin grid0.N, cfg0.idle 3 (cfg0.grid.coords t) = !(decide (t.val % 4 = 0)))

theorem fresh3 (t : Fin cfg0.N) : cfg0.fresh 3 t.val = decide (t.val % 4 = 0) :=
  Pipeline.Cfg.fresh_tab cfg0 3 (fun n => decide (n % 4 = 0)) rfl
    (by decide +kernel : ∀ t : Fin cfg0.N, (decide ((t.val + 1) % 4 = 0)) = ((cfg0.win 3).flush t || (cfg0.idle 3 (cfg0.grid.coords t) && decide (t.val % 4 = 0))))
    t.val (Nat.le_of_lt t.isLt)

set_option maxHeartbeats 1000000 in
/-- The body where the rows are normed. -/
theorem body_first (c : Dev nD) (E : Set ℕ) (i : grid0.Coords)
    (a2 : Memref sig .tc .vmem S2048x1024 .f32) (ha2 : a2.IsWhole) (a3 : Memref sig .tc .vmem S1x1024 .f32) (ha3 : a3.IsWhole)
    (a4 : Memref sig .tc .vmem S1x1024x1024 .bf16) (ha4 : a4.IsWhole) (a5 : Memref sig .tc .vmem S2048x1024 .bf16) (ha5 : a5.IsWhole)
    (a6 : Memref sig .tc .vmem S2048x1024 .bf16) (ha6 : a6.IsWhole) (hc : k0_cond1 i = 1#1)
    (x : Vec F S2048x1024 .f32) (g : Vec F S1x1024 .f32) (b : Vec F S1x1024x1024 .bf16) (K : PUnit → sProp 𝕄) :
    iprop(owns (c : Thread nD τ) a2 fullShare x ∗ owns (c : Thread nD τ) a3 fullShare g ∗ owns (c : Thread nD τ) a4 fullShare b
        ∗ (∃ d, owns (c : Thread nD τ) a5 fullShare d) ∗ (∃ d, owns (c : Thread nD τ) a6 fullShare d)
        ∗ (iprop(owns (c : Thread nD τ) a2 fullShare x ∗ owns (c : Thread nD τ) a3 fullShare g ∗ owns (c : Thread nD τ) a4 fullShare b
            ∗ owns (c : Thread nD τ) a5 fullShare (normed x g) ∗ owns (c : Thread nD τ) a6 fullShare (times (normed x g) b)) -∗ K ⟨⟩))
      ⊢ wp frame (wpE (defs₀ (F := F)) Variants.none c none) E (cc0_norm_mm_up1 i a2 ha2 a3 ha3 a4 ha4 a5 ha5 a6 ha6) K := by
  simp only [cc0_norm_mm_up1_eq_skeleton]; unfold cc0_norm_mm_up1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (whole_covers _)
  iexists _; isplitr
  swap; · iexact H4
  ipureintro
  refine (View.read_writes_eq_canon _ _ _ (whole_covers _)).trans ?_
  unfold times normed body_first.sl.v3 body_first.sl.H3_1
  rw [View.readCov_eq_canon_ld _ _ _ (whole_covers _)]
  rfl

set_option maxHeartbeats 1000000 in
/-- The body where the rows are held. -/
theorem body_later (c : Dev nD) (E : Set ℕ) (i : grid0.Coords)
    (a2 : Memref sig .tc .vmem S2048x1024 .f32) (ha2 : a2.IsWhole) (a3 : Memref sig .tc .vmem S1x1024 .f32) (ha3 : a3.IsWhole)
    (a4 : Memref sig .tc .vmem S1x1024x1024 .bf16) (ha4 : a4.IsWhole) (a5 : Memref sig .tc .vmem S2048x1024 .bf16) (ha5 : a5.IsWhole)
    (a6 : Memref sig .tc .vmem S2048x1024 .bf16) (ha6 : a6.IsWhole) (hc : ¬k0_cond1 i = 1#1)
    (n : Vec F S2048x1024 .bf16) (b : Vec F S1x1024x1024 .bf16) (K : PUnit → sProp 𝕄) :
    iprop(owns (c : Thread nD τ) a4 fullShare b ∗ owns (c : Thread nD τ) a5 fullShare n ∗ (∃ d, owns (c : Thread nD τ) a6 fullShare d)
        ∗ (iprop(owns (c : Thread nD τ) a4 fullShare b ∗ owns (c : Thread nD τ) a5 fullShare n
            ∗ owns (c : Thread nD τ) a6 fullShare (times n b)) -∗ K ⟨⟩))
      ⊢ wp frame (wpE (defs₀ (F := F)) Variants.none c none) E (cc0_norm_mm_up1 i a2 ha2 a3 ha3 a4 ha4 a5 ha5 a6 ha6) K := by
  simp only [cc0_norm_mm_up1_eq_skeleton]; unfold cc0_norm_mm_up1_skel
  unfold owns
  iintro ⟨⟨%f2, %hf2, H2⟩, ⟨%f3, %hf3, H3⟩, ⟨%d4, %f4, -, H4⟩, Hk⟩
  subst hf2 hf3
  sl_exec (disch := first | sl_exact hc)
  sl_step
  iapply Hk
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (whole_covers _)

/-- What the arrays and the buffers hold: at every point the normed rows of the point's block, and its product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => normed (iblk m c 0 t) (iblk m c 1 t)
    | ⟨4, _⟩ => times (normed (iblk m c 0 t) (iblk m c 1 t)) (iblk m c 2 t)
  Φ _ := Pipeline.ΦA spec0 c
  q _ := fullShare
  owed _ := 0

theorem arrays_eq (c : Dev nD) (w : Fin cfg0.W) : (dats m 0 c).A w = V m c (Pipeline.arrRef spec0 w) := by
  dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = normed (iblk m c 0 t) (iblk m c 1 t) := by dsimp only [dats]
theorem left4 (c : Dev nD) (t : Fin cfg0.N) :
    (dats m 0 c).after 4 t = times (normed (iblk m c 0 t) (iblk m c 1 t)) (iblk m c 2 t) := by dsimp only [dats]

theorem found0 (c : Dev nD) (t : Fin cfg0.N) (d) : (dats m 0 c).before 0 t d = iblk m c 0 t :=
  before0_0_of m (dats m 0 c) (arrays_eq m c 0) (left0 m c) t d
theorem found1 (c : Dev nD) (t : Fin cfg0.N) (d) : (dats m 0 c).before 1 t d = iblk m c 1 t :=
  before0_1_of m (dats m 0 c) (arrays_eq m c 1) (left1 m c) t d
theorem found2 (c : Dev nD) (t : Fin cfg0.N) (d) : (dats m 0 c).before 2 t d = iblk m c 2 t :=
  before0_2_of m (dats m 0 c) (arrays_eq m c 2) (left2 m c) t d

/-- Inside a row block the rows do not change, nor does the norm's weight. -/
theorem same0 (c : Dev nD) (t : Fin cfg0.N) (h : ¬t.val % 4 = 0) :
    iblk m c 0 t = iblk m c 0 ⟨t.val - 1, Nat.lt_of_le_of_lt (Nat.sub_le _ _) t.isLt⟩ := by
  have hf : (cfg0.win 0).fetch t = false := Bool.eq_false_iff.mpr fun e => h ((fetch0_0 t).mp e)
  refine (found0 m c t (iblk m c 0 t)).symm.trans (((dats m 0 c).before_unfetched_in 0 rfl t hf (fun _ => rfl) _).trans ?_)
  unfold Dat.kept; dsimp only [dats]; rfl
theorem same1 (c : Dev nD) (t : Fin cfg0.N) (h : ¬t.val % 4 = 0) :
    iblk m c 1 t = iblk m c 1 ⟨t.val - 1, Nat.lt_of_le_of_lt (Nat.sub_le _ _) t.isLt⟩ := by
  have hf : (cfg0.win 1).fetch t = false := Bool.eq_false_iff.mpr fun e => h (by have := (fetch0_1 t).mp e; omega)
  refine (found1 m c t (iblk m c 1 t)).symm.trans (((dats m 0 c).before_unfetched_in 1 rfl t hf (fun _ => rfl) _).trans ?_)
  unfold Dat.kept; dsimp only [dats]; rfl

/-- So the buffer of the normed rows holds the point's own, where they are held. -/
theorem found3 (c : Dev nD) (t : Fin cfg0.N) (h : ¬t.val % 4 = 0) (d) :
    (dats m 0 c).before 3 t d = normed (iblk m c 0 t) (iblk m c 1 t) := by
  rw [(dats m 0 c).before_out_traj 3 rfl (fun _ _ => rfl) (fun t _ hi _ => by
      have h' : ¬t.val % 4 = 0 := fun e => by rw [idle3 t, decide_eq_true e] at hi; exact absurd hi (by decide)
      rw [left3, left3, same0 m c t h', same1 m c t h']) t.val t rfl d,
    fresh3 t, decide_eq_false h, if_neg Bool.false_ne_true, left3, same0 m c t h, same1 m c t h]

/-- What the body is handed at a point. -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t
    ∗ owns (c : Thread nD τ) (st0_4 t) fullShare ((dats m 0 c).after 4 t))

theorem body_point (c : Dev nD) (t : Fin cfg0.N) :
    handed m c t ⊢ wp frame (wpE (defs₀ (F := F)) Variants.none c none) Set.univ (bodyAt0 t) (fun _ => returned m c t) := by
  unfold handed returned bodyAt0
  simp only [found0, found1, found2]
  rw [show (dats m 0 c).Φ t.succ = (dats m 0 c).Φ t.castSucc from rfl,
    show (dats m 0 c).owesAt () t.succ = (dats m 0 c).owesAt () t.castSucc from rfl,
    left0, left1, left2, left4]
  by_cases h : t.val % 4 = 0
  · have hi : cfg0.idle 3 (cfg0.grid.coords t) = false := (idle3 t).trans (by rw [decide_eq_true h]; rfl)
    rw [show (dats m 0 c).leavesExact 3 t = owns (c : Thread nD τ) (st0_3 t) fullShare ((dats m 0 c).after 3 t) from by
      unfold Dat.leavesExact; rw [hi], left3]
    iintro ⟨HΦ, Ho, ⟨%d0, H0⟩, ⟨%d1, H1⟩, ⟨%d2, H2⟩, ⟨%d3, H3⟩, ⟨%d4, H4⟩⟩
    iapply (body_first c Set.univ (grid0.coords t) _ _ _ _ _ _ _ _ _ _ ((cond_iff t).mpr h) (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [found3 m c t h]
    have hl : owns (c : Thread nD τ) (st0_3 t) fullShare (normed (iblk m c 0 t) (iblk m c 1 t)) ⊢ ((dats m 0 c).leavesExact 3 t : sProp 𝕄) := by
      have hi : cfg0.idle 3 (cfg0.grid.coords t) = true := (idle3 t).trans (by rw [decide_eq_false h]; rfl)
      cases hfl : (cfg0.win 3).flush t
      · rw [Dat.leavesExact_idle (dats m 0 c) 3 t hi hfl]
        iintro H
        iexists (normed (iblk m c 0 t) (iblk m c 1 t))
        rw [found3 m c t h]
        iexact H
      · rw [show (dats m 0 c).leavesExact 3 t = owns (c : Thread nD τ) (st0_3 t) fullShare ((dats m 0 c).after 3 t) from by
          unfold Dat.leavesExact; rw [hi, hfl], left3]
    iintro ⟨HΦ, Ho, ⟨%d0, H0⟩, ⟨%d1, H1⟩, ⟨%d2, H2⟩, ⟨%d3, H3⟩, ⟨%d4, H4⟩⟩
    iapply (body_later c Set.univ (grid0.coords t) _ _ _ _ _ _ _ _ _ _ (fun e => h ((cond_iff t).mp e)) (normed (iblk m c 0 t) (iblk m c 1 t)) (iblk m c 2 t) _)
    isplitl [H2]; · iexact H2
    isplitl [H3]; · iexact H3
    isplitl [H4]; · iexists _; iexact H4
    iintro ⟨H2, H3, H4⟩
    isplitl [HΦ]; · iexact HΦ
    isplitl [Ho]; · iexact Ho
    isplitl [H0]; · iexact H0
    isplitl [H1]; · iexact H1
    isplitl [H2]; · iexact H2
    isplitl [H3]; · iapply hl; iexact H3
    iexact H4

theorem body_row (t : Fin cfg0.N) : defs₀ (F := F) .tc cfg0.body (cfg0.bodyArgs t (cfg0.slots t)) = bodyAt0 t := by
  unfold defs₀; rw [Defs.onTc_tc]

theorem body_all (c : Dev nD) : BodyObligation (dats (F := F) m 0 c) (defs₀ (F := F)) Variants.none () Set.univ := fun t => by
  rw [bigSep_W0, bigSep_W0, body_row]
  exact triple_restated (body_point m c t) rfl .rfl fun _ => .rfl

set_option backward.isDefEq.respectTransparency.types false in
set_option maxHeartbeats 800000 in
/-- Every run ends, with each array at what its write-backs leave and every semaphore at zero. -/
theorem ends : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_all m c).loose) (hshare := fun c => (dats m 0 c).share_full fun _ => rfl)
    (howed := fun _ _ => rfl) (V := V m) (hmain := hmain m Variants.none) (hA := arrays_eq m) (hΦ := fun _ _ => rfl)

theorem ends_arrays : θ_run defs (onTc (τ := τ) (main (F := F))) (s₀ m ρ) (Pipeline.FramePost cfgs (dats m) 0 (V m)) :=
  (θ_run defs _ _).mono (fun _ h => h.1) (ends m ρ)

/-- The frame: the arguments end as they were, and every semaphore at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (arrays_eq m) (ends_arrays m ρ)) ((θ_run defs _ _).mono (fun _ h => h.2) (ends m ρ))

end Cert.Kernel6Ideal.Held

end
-- ==== Proof.NormUp0.lean ====
/- The run of `norm_mm_up0` and what it leaves, over any float values: the normed rows are stored at the first of the 4
   points of a row block and held through the others, and the product's block is stored at every point. -/
module

public import proofs.«01_k».proof.Defs
public import proofs.«01_k».proof.Proof.Gen.Kernel10Ideal.Launch
public import proofs.«01_k».proof.Proof.Gen.Kernel10Ideal.Skeleton
public import proofs.«01_k».proof.Proof.Gen.Kernel10Ideal.Points
public import proofs.«01_k».proof.Proof.Gen.Kernel10Ideal.Frame
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel10Ideal.Held

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel10Ideal Cert.Kernel10Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The whole of a block of rows, of the norm's weight, and of a block of the product's weight. -/
abbrev rRow : Rect S2048x1024 := Rect.unit (s := S2048x1024) ![0, 0] S2048x1024.size inb_S2048x1024_S2048x1024_0_0
abbrev rVec : Rect S1x1024 := Rect.unit (s := S1x1024) ![0, 0] S1x1024.size inb_S1x1024_S1x1024_0_0
abbrev rMat : Rect S1x1024x1024 := Rect.unit (s := S1x1024x1024) ![0, 0, 0] S1x1024x1024.size inb_S1x1024x1024_S1x1024x1024_0_0_0

/-- The normed rows, from the rows and the weight. -/
def normed (x : Vec F S2048x1024 .f32) (g : Vec F S1x1024 .f32) : Vec F S2048x1024 .bf16 :=
  View.canon [⟨rRow, k0_pay1 (View.ld x rRow) (View.ld g rVec)⟩]

/-- The product's block, from the normed rows and the weight's block. -/
def times (n : Vec F S2048x1024 .bf16) (b : Vec F S1x1024x1024 .bf16) : Vec F S2048x1024 .bf16 :=
  View.canon [⟨rRow, k0_pay2 (View.ld n rRow) (View.ld b rMat)⟩]

theorem whole_covers (p : Vec F S2048x1024 .bf16) (y : S2048x1024.Idx) :
    ∃ pc ∈ ([⟨rRow, p⟩] : List (View.Piece (Elt F) S2048x1024 .bf16)), y ∈ pc.1.set :=
  View.cover_of_tiled [⟨rRow, p⟩] S2048x1024.size (by rfl) y

/-- The rows are normed at the first of each 4 points. -/
theorem cond_iff : ∀ t : Fin cfg0.N, k0_cond1 (grid0.coords t) = 1#1 ↔ t.val % 4 = 0 :=
  (by decide +kernel : ∀ t : Fin grid0.N, k0_cond1 (grid0.coords t) = 1#1 ↔ t.val % 4 = 0)

theorem idle3 : ∀ t : Fin cfg0.N, cfg0.idle 3 (cfg0.grid.coords t) = !(decide (t.val % 4 = 0)) :=
  (by decide +kernel : ∀ t : Fin grid0.N, cfg0.idle 3 (cfg0.grid.coords t) = !(decide (t.val % 4 = 0)))

theorem fresh3 (t : Fin cfg0.N) : cfg0.fresh 3 t.val = decide (t.val % 4 = 0) :=
  Pipeline.Cfg.fresh_tab cfg0 3 (fun n => decide (n % 4 = 0)) rfl
    (by decide +kernel : ∀ t : Fin cfg0.N, (decide ((t.val + 1) % 4 = 0)) = ((cfg0.win 3).flush t || (cfg0.idle 3 (cfg0.grid.coords t) && decide (t.val % 4 = 0))))
    t.val (Nat.le_of_lt t.isLt)

set_option maxHeartbeats 1000000 in
/-- The body where the rows are normed. -/
theorem body_first (c : Dev nD) (E : Set ℕ) (i : grid0.Coords)
    (a2 : Memref sig .tc .vmem S2048x1024 .f32) (ha2 : a2.IsWhole) (a3 : Memref sig .tc .vmem S1x1024 .f32) (ha3 : a3.IsWhole)
    (a4 : Memref sig .tc .vmem S1x1024x1024 .bf16) (ha4 : a4.IsWhole) (a5 : Memref sig .tc .vmem S2048x1024 .bf16) (ha5 : a5.IsWhole)
    (a6 : Memref sig .tc .vmem S2048x1024 .bf16) (ha6 : a6.IsWhole) (hc : k0_cond1 i = 1#1)
    (x : Vec F S2048x1024 .f32) (g : Vec F S1x1024 .f32) (b : Vec F S1x1024x1024 .bf16) (K : PUnit → sProp 𝕄) :
    iprop(owns (c : Thread nD τ) a2 fullShare x ∗ owns (c : Thread nD τ) a3 fullShare g ∗ owns (c : Thread nD τ) a4 fullShare b
        ∗ (∃ d, owns (c : Thread nD τ) a5 fullShare d) ∗ (∃ d, owns (c : Thread nD τ) a6 fullShare d)
        ∗ (iprop(owns (c : Thread nD τ) a2 fullShare x ∗ owns (c : Thread nD τ) a3 fullShare g ∗ owns (c : Thread nD τ) a4 fullShare b
            ∗ owns (c : Thread nD τ) a5 fullShare (normed x g) ∗ owns (c : Thread nD τ) a6 fullShare (times (normed x g) b)) -∗ K ⟨⟩))
      ⊢ wp frame (wpE (defs₀ (F := F)) Variants.none c none) E (cc0_norm_mm_up0 i a2 ha2 a3 ha3 a4 ha4 a5 ha5 a6 ha6) K := by
  simp only [cc0_norm_mm_up0_eq_skeleton]; unfold cc0_norm_mm_up0_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (whole_covers _)
  iexists _; isplitr
  swap; · iexact H4
  ipureintro
  refine (View.read_writes_eq_canon _ _ _ (whole_covers _)).trans ?_
  unfold times normed body_first.sl.v3 body_first.sl.H3_1
  rw [View.readCov_eq_canon_ld _ _ _ (whole_covers _)]
  rfl

set_option maxHeartbeats 1000000 in
/-- The body where the rows are held. -/
theorem body_later (c : Dev nD) (E : Set ℕ) (i : grid0.Coords)
    (a2 : Memref sig .tc .vmem S2048x1024 .f32) (ha2 : a2.IsWhole) (a3 : Memref sig .tc .vmem S1x1024 .f32) (ha3 : a3.IsWhole)
    (a4 : Memref sig .tc .vmem S1x1024x1024 .bf16) (ha4 : a4.IsWhole) (a5 : Memref sig .tc .vmem S2048x1024 .bf16) (ha5 : a5.IsWhole)
    (a6 : Memref sig .tc .vmem S2048x1024 .bf16) (ha6 : a6.IsWhole) (hc : ¬k0_cond1 i = 1#1)
    (n : Vec F S2048x1024 .bf16) (b : Vec F S1x1024x1024 .bf16) (K : PUnit → sProp 𝕄) :
    iprop(owns (c : Thread nD τ) a4 fullShare b ∗ owns (c : Thread nD τ) a5 fullShare n ∗ (∃ d, owns (c : Thread nD τ) a6 fullShare d)
        ∗ (iprop(owns (c : Thread nD τ) a4 fullShare b ∗ owns (c : Thread nD τ) a5 fullShare n
            ∗ owns (c : Thread nD τ) a6 fullShare (times n b)) -∗ K ⟨⟩))
      ⊢ wp frame (wpE (defs₀ (F := F)) Variants.none c none) E (cc0_norm_mm_up0 i a2 ha2 a3 ha3 a4 ha4 a5 ha5 a6 ha6) K := by
  simp only [cc0_norm_mm_up0_eq_skeleton]; unfold cc0_norm_mm_up0_skel
  unfold owns
  iintro ⟨⟨%f2, %hf2, H2⟩, ⟨%f3, %hf3, H3⟩, ⟨%d4, %f4, -, H4⟩, Hk⟩
  subst hf2 hf3
  sl_exec (disch := first | sl_exact hc)
  sl_step
  iapply Hk
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (whole_covers _)

/-- What the arrays and the buffers hold: at every point the normed rows of the point's block, and its product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => normed (iblk m c 0 t) (iblk m c 1 t)
    | ⟨4, _⟩ => times (normed (iblk m c 0 t) (iblk m c 1 t)) (iblk m c 2 t)
  Φ _ := Pipeline.ΦA spec0 c
  q _ := fullShare
  owed _ := 0

theorem arrays_eq (c : Dev nD) (w : Fin cfg0.W) : (dats m 0 c).A w = V m c (Pipeline.arrRef spec0 w) := by
  dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = normed (iblk m c 0 t) (iblk m c 1 t) := by dsimp only [dats]
theorem left4 (c : Dev nD) (t : Fin cfg0.N) :
    (dats m 0 c).after 4 t = times (normed (iblk m c 0 t) (iblk m c 1 t)) (iblk m c 2 t) := by dsimp only [dats]

theorem found0 (c : Dev nD) (t : Fin cfg0.N) (d) : (dats m 0 c).before 0 t d = iblk m c 0 t :=
  before0_0_of m (dats m 0 c) (arrays_eq m c 0) (left0 m c) t d
theorem found1 (c : Dev nD) (t : Fin cfg0.N) (d) : (dats m 0 c).before 1 t d = iblk m c 1 t :=
  before0_1_of m (dats m 0 c) (arrays_eq m c 1) (left1 m c) t d
theorem found2 (c : Dev nD) (t : Fin cfg0.N) (d) : (dats m 0 c).before 2 t d = iblk m c 2 t :=
  before0_2_of m (dats m 0 c) (arrays_eq m c 2) (left2 m c) t d

/-- Inside a row block the rows do not change, nor does the norm's weight. -/
theorem same0 (c : Dev nD) (t : Fin cfg0.N) (h : ¬t.val % 4 = 0) :
    iblk m c 0 t = iblk m c 0 ⟨t.val - 1, Nat.lt_of_le_of_lt (Nat.sub_le _ _) t.isLt⟩ := by
  have hf : (cfg0.win 0).fetch t = false := Bool.eq_false_iff.mpr fun e => h ((fetch0_0 t).mp e)
  refine (found0 m c t (iblk m c 0 t)).symm.trans (((dats m 0 c).before_unfetched_in 0 rfl t hf (fun _ => rfl) _).trans ?_)
  unfold Dat.kept; dsimp only [dats]; rfl
theorem same1 (c : Dev nD) (t : Fin cfg0.N) (h : ¬t.val % 4 = 0) :
    iblk m c 1 t = iblk m c 1 ⟨t.val - 1, Nat.lt_of_le_of_lt (Nat.sub_le _ _) t.isLt⟩ := by
  have hf : (cfg0.win 1).fetch t = false := Bool.eq_false_iff.mpr fun e => h (by have := (fetch0_1 t).mp e; omega)
  refine (found1 m c t (iblk m c 1 t)).symm.trans (((dats m 0 c).before_unfetched_in 1 rfl t hf (fun _ => rfl) _).trans ?_)
  unfold Dat.kept; dsimp only [dats]; rfl

/-- So the buffer of the normed rows holds the point's own, where they are held. -/
theorem found3 (c : Dev nD) (t : Fin cfg0.N) (h : ¬t.val % 4 = 0) (d) :
    (dats m 0 c).before 3 t d = normed (iblk m c 0 t) (iblk m c 1 t) := by
  rw [(dats m 0 c).before_out_traj 3 rfl (fun _ _ => rfl) (fun t _ hi _ => by
      have h' : ¬t.val % 4 = 0 := fun e => by rw [idle3 t, decide_eq_true e] at hi; exact absurd hi (by decide)
      rw [left3, left3, same0 m c t h', same1 m c t h']) t.val t rfl d,
    fresh3 t, decide_eq_false h, if_neg Bool.false_ne_true, left3, same0 m c t h, same1 m c t h]

/-- What the body is handed at a point. -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t
    ∗ owns (c : Thread nD τ) (st0_4 t) fullShare ((dats m 0 c).after 4 t))

theorem body_point (c : Dev nD) (t : Fin cfg0.N) :
    handed m c t ⊢ wp frame (wpE (defs₀ (F := F)) Variants.none c none) Set.univ (bodyAt0 t) (fun _ => returned m c t) := by
  unfold handed returned bodyAt0
  simp only [found0, found1, found2]
  rw [show (dats m 0 c).Φ t.succ = (dats m 0 c).Φ t.castSucc from rfl,
    show (dats m 0 c).owesAt () t.succ = (dats m 0 c).owesAt () t.castSucc from rfl,
    left0, left1, left2, left4]
  by_cases h : t.val % 4 = 0
  · have hi : cfg0.idle 3 (cfg0.grid.coords t) = false := (idle3 t).trans (by rw [decide_eq_true h]; rfl)
    rw [show (dats m 0 c).leavesExact 3 t = owns (c : Thread nD τ) (st0_3 t) fullShare ((dats m 0 c).after 3 t) from by
      unfold Dat.leavesExact; rw [hi], left3]
    iintro ⟨HΦ, Ho, ⟨%d0, H0⟩, ⟨%d1, H1⟩, ⟨%d2, H2⟩, ⟨%d3, H3⟩, ⟨%d4, H4⟩⟩
    iapply (body_first c Set.univ (grid0.coords t) _ _ _ _ _ _ _ _ _ _ ((cond_iff t).mpr h) (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [found3 m c t h]
    have hl : owns (c : Thread nD τ) (st0_3 t) fullShare (normed (iblk m c 0 t) (iblk m c 1 t)) ⊢ ((dats m 0 c).leavesExact 3 t : sProp 𝕄) := by
      have hi : cfg0.idle 3 (cfg0.grid.coords t) = true := (idle3 t).trans (by rw [decide_eq_false h]; rfl)
      cases hfl : (cfg0.win 3).flush t
      · rw [Dat.leavesExact_idle (dats m 0 c) 3 t hi hfl]
        iintro H
        iexists (normed (iblk m c 0 t) (iblk m c 1 t))
        rw [found3 m c t h]
        iexact H
      · rw [show (dats m 0 c).leavesExact 3 t = owns (c : Thread nD τ) (st0_3 t) fullShare ((dats m 0 c).after 3 t) from by
          unfold Dat.leavesExact; rw [hi, hfl], left3]
    iintro ⟨HΦ, Ho, ⟨%d0, H0⟩, ⟨%d1, H1⟩, ⟨%d2, H2⟩, ⟨%d3, H3⟩, ⟨%d4, H4⟩⟩
    iapply (body_later c Set.univ (grid0.coords t) _ _ _ _ _ _ _ _ _ _ (fun e => h ((cond_iff t).mp e)) (normed (iblk m c 0 t) (iblk m c 1 t)) (iblk m c 2 t) _)
    isplitl [H2]; · iexact H2
    isplitl [H3]; · iexact H3
    isplitl [H4]; · iexists _; iexact H4
    iintro ⟨H2, H3, H4⟩
    isplitl [HΦ]; · iexact HΦ
    isplitl [Ho]; · iexact Ho
    isplitl [H0]; · iexact H0
    isplitl [H1]; · iexact H1
    isplitl [H2]; · iexact H2
    isplitl [H3]; · iapply hl; iexact H3
    iexact H4

theorem body_row (t : Fin cfg0.N) : defs₀ (F := F) .tc cfg0.body (cfg0.bodyArgs t (cfg0.slots t)) = bodyAt0 t := by
  unfold defs₀; rw [Defs.onTc_tc]

theorem body_all (c : Dev nD) : BodyObligation (dats (F := F) m 0 c) (defs₀ (F := F)) Variants.none () Set.univ := fun t => by
  rw [bigSep_W0, bigSep_W0, body_row]
  exact triple_restated (body_point m c t) rfl .rfl fun _ => .rfl

set_option backward.isDefEq.respectTransparency.types false in
set_option maxHeartbeats 800000 in
/-- Every run ends, with each array at what its write-backs leave and every semaphore at zero. -/
theorem ends : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_all m c).loose) (hshare := fun c => (dats m 0 c).share_full fun _ => rfl)
    (howed := fun _ _ => rfl) (V := V m) (hmain := hmain m Variants.none) (hA := arrays_eq m) (hΦ := fun _ _ => rfl)

theorem ends_arrays : θ_run defs (onTc (τ := τ) (main (F := F))) (s₀ m ρ) (Pipeline.FramePost cfgs (dats m) 0 (V m)) :=
  (θ_run defs _ _).mono (fun _ h => h.1) (ends m ρ)

/-- The frame: the arguments end as they were, and every semaphore at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (arrays_eq m) (ends_arrays m ρ)) ((θ_run defs _ _).mono (fun _ h => h.2) (ends m ρ))

end Cert.Kernel10Ideal.Held

end
-- ==== Proof.NormScIn.lean ====
/- The run of `norm_mm_sc_in` and what it leaves, over any float values: the normed rows are stored at the first of the 3
   points of a row block and held through the others, and the product's block is stored at every point. -/
module

public import proofs.«01_k».proof.Defs
public import proofs.«01_k».proof.Proof.Gen.Kernel16Ideal.Launch
public import proofs.«01_k».proof.Proof.Gen.Kernel16Ideal.Skeleton
public import proofs.«01_k».proof.Proof.Gen.Kernel16Ideal.Points
public import proofs.«01_k».proof.Proof.Gen.Kernel16Ideal.Frame
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel16Ideal.Held

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel16Ideal Cert.Kernel16Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The whole of a block of rows, of the norm's weight, and of a block of the product's weight. -/
abbrev rRow : Rect S2048x1024 := Rect.unit (s := S2048x1024) ![0, 0] S2048x1024.size inb_S2048x1024_S2048x1024_0_0
abbrev rVec : Rect S1x1024 := Rect.unit (s := S1x1024) ![0, 0] S1x1024.size inb_S1x1024_S1x1024_0_0
abbrev rMat : Rect S1024x1024 := Rect.unit (s := S1024x1024) ![0, 0] S1024x1024.size inb_S1024x1024_S1024x1024_0_0

/-- The normed rows, from the rows and the weight. -/
def normed (x : Vec F S2048x1024 .f32) (g : Vec F S1x1024 .f32) : Vec F S2048x1024 .bf16 :=
  View.canon [⟨rRow, k0_pay1 (View.ld x rRow) (View.ld g rVec)⟩]

/-- The product's block, from the normed rows and the weight's block. -/
def times (n : Vec F S2048x1024 .bf16) (b : Vec F S1024x1024 .bf16) : Vec F S2048x1024 .bf16 :=
  View.canon [⟨rRow, k0_pay2 (View.ld n rRow) (View.ld b rMat)⟩]

theorem whole_covers (p : Vec F S2048x1024 .bf16) (y : S2048x1024.Idx) :
    ∃ pc ∈ ([⟨rRow, p⟩] : List (View.Piece (Elt F) S2048x1024 .bf16)), y ∈ pc.1.set :=
  View.cover_of_tiled [⟨rRow, p⟩] S2048x1024.size (by rfl) y

/-- The rows are normed at the first of each 3 points. -/
theorem cond_iff : ∀ t : Fin cfg0.N, k0_cond1 (grid0.coords t) = 1#1 ↔ t.val % 3 = 0 :=
  (by decide +kernel : ∀ t : Fin grid0.N, k0_cond1 (grid0.coords t) = 1#1 ↔ t.val % 3 = 0)

theorem idle3 : ∀ t : Fin cfg0.N, cfg0.idle 3 (cfg0.grid.coords t) = !(decide (t.val % 3 = 0)) :=
  (by decide +kernel : ∀ t : Fin grid0.N, cfg0.idle 3 (cfg0.grid.coords t) = !(decide (t.val % 3 = 0)))

theorem fresh3 (t : Fin cfg0.N) : cfg0.fresh 3 t.val = decide (t.val % 3 = 0) :=
  Pipeline.Cfg.fresh_tab cfg0 3 (fun n => decide (n % 3 = 0)) rfl
    (by decide +kernel : ∀ t : Fin cfg0.N, (decide ((t.val + 1) % 3 = 0)) = ((cfg0.win 3).flush t || (cfg0.idle 3 (cfg0.grid.coords t) && decide (t.val % 3 = 0))))
    t.val (Nat.le_of_lt t.isLt)

set_option maxHeartbeats 1000000 in
/-- The body where the rows are normed. -/
theorem body_first (c : Dev nD) (E : Set ℕ) (i : grid0.Coords)
    (a2 : Memref sig .tc .vmem S2048x1024 .f32) (ha2 : a2.IsWhole) (a3 : Memref sig .tc .vmem S1x1024 .f32) (ha3 : a3.IsWhole)
    (a4 : Memref sig .tc .vmem S1024x1024 .bf16) (ha4 : a4.IsWhole) (a5 : Memref sig .tc .vmem S2048x1024 .bf16) (ha5 : a5.IsWhole)
    (a6 : Memref sig .tc .vmem S2048x1024 .bf16) (ha6 : a6.IsWhole) (hc : k0_cond1 i = 1#1)
    (x : Vec F S2048x1024 .f32) (g : Vec F S1x1024 .f32) (b : Vec F S1024x1024 .bf16) (K : PUnit → sProp 𝕄) :
    iprop(owns (c : Thread nD τ) a2 fullShare x ∗ owns (c : Thread nD τ) a3 fullShare g ∗ owns (c : Thread nD τ) a4 fullShare b
        ∗ (∃ d, owns (c : Thread nD τ) a5 fullShare d) ∗ (∃ d, owns (c : Thread nD τ) a6 fullShare d)
        ∗ (iprop(owns (c : Thread nD τ) a2 fullShare x ∗ owns (c : Thread nD τ) a3 fullShare g ∗ owns (c : Thread nD τ) a4 fullShare b
            ∗ owns (c : Thread nD τ) a5 fullShare (normed x g) ∗ owns (c : Thread nD τ) a6 fullShare (times (normed x g) b)) -∗ K ⟨⟩))
      ⊢ wp frame (wpE (defs₀ (F := F)) Variants.none c none) E (cc0_norm_mm_sc_in i a2 ha2 a3 ha3 a4 ha4 a5 ha5 a6 ha6) K := by
  simp only [cc0_norm_mm_sc_in_eq_skeleton]; unfold cc0_norm_mm_sc_in_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (whole_covers _)
  iexists _; isplitr
  swap; · iexact H4
  ipureintro
  refine (View.read_writes_eq_canon _ _ _ (whole_covers _)).trans ?_
  unfold times normed body_first.sl.v3 body_first.sl.H3_1
  rw [View.readCov_eq_canon_ld _ _ _ (whole_covers _)]
  rfl

set_option maxHeartbeats 1000000 in
/-- The body where the rows are held. -/
theorem body_later (c : Dev nD) (E : Set ℕ) (i : grid0.Coords)
    (a2 : Memref sig .tc .vmem S2048x1024 .f32) (ha2 : a2.IsWhole) (a3 : Memref sig .tc .vmem S1x1024 .f32) (ha3 : a3.IsWhole)
    (a4 : Memref sig .tc .vmem S1024x1024 .bf16) (ha4 : a4.IsWhole) (a5 : Memref sig .tc .vmem S2048x1024 .bf16) (ha5 : a5.IsWhole)
    (a6 : Memref sig .tc .vmem S2048x1024 .bf16) (ha6 : a6.IsWhole) (hc : ¬k0_cond1 i = 1#1)
    (n : Vec F S2048x1024 .bf16) (b : Vec F S1024x1024 .bf16) (K : PUnit → sProp 𝕄) :
    iprop(owns (c : Thread nD τ) a4 fullShare b ∗ owns (c : Thread nD τ) a5 fullShare n ∗ (∃ d, owns (c : Thread nD τ) a6 fullShare d)
        ∗ (iprop(owns (c : Thread nD τ) a4 fullShare b ∗ owns (c : Thread nD τ) a5 fullShare n
            ∗ owns (c : Thread nD τ) a6 fullShare (times n b)) -∗ K ⟨⟩))
      ⊢ wp frame (wpE (defs₀ (F := F)) Variants.none c none) E (cc0_norm_mm_sc_in i a2 ha2 a3 ha3 a4 ha4 a5 ha5 a6 ha6) K := by
  simp only [cc0_norm_mm_sc_in_eq_skeleton]; unfold cc0_norm_mm_sc_in_skel
  unfold owns
  iintro ⟨⟨%f2, %hf2, H2⟩, ⟨%f3, %hf3, H3⟩, ⟨%d4, %f4, -, H4⟩, Hk⟩
  subst hf2 hf3
  sl_exec (disch := first | sl_exact hc)
  sl_step
  iapply Hk
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (whole_covers _)

/-- What the arrays and the buffers hold: at every point the normed rows of the point's block, and its product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => normed (iblk m c 0 t) (iblk m c 1 t)
    | ⟨4, _⟩ => times (normed (iblk m c 0 t) (iblk m c 1 t)) (iblk m c 2 t)
  Φ _ := Pipeline.ΦA spec0 c
  q _ := fullShare
  owed _ := 0

theorem arrays_eq (c : Dev nD) (w : Fin cfg0.W) : (dats m 0 c).A w = V m c (Pipeline.arrRef spec0 w) := by
  dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = normed (iblk m c 0 t) (iblk m c 1 t) := by dsimp only [dats]
theorem left4 (c : Dev nD) (t : Fin cfg0.N) :
    (dats m 0 c).after 4 t = times (normed (iblk m c 0 t) (iblk m c 1 t)) (iblk m c 2 t) := by dsimp only [dats]

theorem found0 (c : Dev nD) (t : Fin cfg0.N) (d) : (dats m 0 c).before 0 t d = iblk m c 0 t :=
  before0_0_of m (dats m 0 c) (arrays_eq m c 0) (left0 m c) t d
theorem found1 (c : Dev nD) (t : Fin cfg0.N) (d) : (dats m 0 c).before 1 t d = iblk m c 1 t :=
  before0_1_of m (dats m 0 c) (arrays_eq m c 1) (left1 m c) t d
theorem found2 (c : Dev nD) (t : Fin cfg0.N) (d) : (dats m 0 c).before 2 t d = iblk m c 2 t :=
  before0_2_of m (dats m 0 c) (arrays_eq m c 2) (left2 m c) t d

/-- Inside a row block the rows do not change, nor does the norm's weight. -/
theorem same0 (c : Dev nD) (t : Fin cfg0.N) (h : ¬t.val % 3 = 0) :
    iblk m c 0 t = iblk m c 0 ⟨t.val - 1, Nat.lt_of_le_of_lt (Nat.sub_le _ _) t.isLt⟩ := by
  have hf : (cfg0.win 0).fetch t = false := Bool.eq_false_iff.mpr fun e => h ((fetch0_0 t).mp e)
  refine (found0 m c t (iblk m c 0 t)).symm.trans (((dats m 0 c).before_unfetched_in 0 rfl t hf (fun _ => rfl) _).trans ?_)
  unfold Dat.kept; dsimp only [dats]; rfl
theorem same1 (c : Dev nD) (t : Fin cfg0.N) (h : ¬t.val % 3 = 0) :
    iblk m c 1 t = iblk m c 1 ⟨t.val - 1, Nat.lt_of_le_of_lt (Nat.sub_le _ _) t.isLt⟩ := by
  have hf : (cfg0.win 1).fetch t = false := Bool.eq_false_iff.mpr fun e => h (by have := (fetch0_1 t).mp e; omega)
  refine (found1 m c t (iblk m c 1 t)).symm.trans (((dats m 0 c).before_unfetched_in 1 rfl t hf (fun _ => rfl) _).trans ?_)
  unfold Dat.kept; dsimp only [dats]; rfl

/-- So the buffer of the normed rows holds the point's own, where they are held. -/
theorem found3 (c : Dev nD) (t : Fin cfg0.N) (h : ¬t.val % 3 = 0) (d) :
    (dats m 0 c).before 3 t d = normed (iblk m c 0 t) (iblk m c 1 t) := by
  rw [(dats m 0 c).before_out_traj 3 rfl (fun _ _ => rfl) (fun t _ hi _ => by
      have h' : ¬t.val % 3 = 0 := fun e => by rw [idle3 t, decide_eq_true e] at hi; exact absurd hi (by decide)
      rw [left3, left3, same0 m c t h', same1 m c t h']) t.val t rfl d,
    fresh3 t, decide_eq_false h, if_neg Bool.false_ne_true, left3, same0 m c t h, same1 m c t h]

/-- What the body is handed at a point. -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t
    ∗ owns (c : Thread nD τ) (st0_4 t) fullShare ((dats m 0 c).after 4 t))

theorem body_point (c : Dev nD) (t : Fin cfg0.N) :
    handed m c t ⊢ wp frame (wpE (defs₀ (F := F)) Variants.none c none) Set.univ (bodyAt0 t) (fun _ => returned m c t) := by
  unfold handed returned bodyAt0
  simp only [found0, found1, found2]
  rw [show (dats m 0 c).Φ t.succ = (dats m 0 c).Φ t.castSucc from rfl,
    show (dats m 0 c).owesAt () t.succ = (dats m 0 c).owesAt () t.castSucc from rfl,
    left0, left1, left2, left4]
  by_cases h : t.val % 3 = 0
  · have hi : cfg0.idle 3 (cfg0.grid.coords t) = false := (idle3 t).trans (by rw [decide_eq_true h]; rfl)
    rw [show (dats m 0 c).leavesExact 3 t = owns (c : Thread nD τ) (st0_3 t) fullShare ((dats m 0 c).after 3 t) from by
      unfold Dat.leavesExact; rw [hi], left3]
    iintro ⟨HΦ, Ho, ⟨%d0, H0⟩, ⟨%d1, H1⟩, ⟨%d2, H2⟩, ⟨%d3, H3⟩, ⟨%d4, H4⟩⟩
    iapply (body_first c Set.univ (grid0.coords t) _ _ _ _ _ _ _ _ _ _ ((cond_iff t).mpr h) (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [found3 m c t h]
    have hl : owns (c : Thread nD τ) (st0_3 t) fullShare (normed (iblk m c 0 t) (iblk m c 1 t)) ⊢ ((dats m 0 c).leavesExact 3 t : sProp 𝕄) := by
      have hi : cfg0.idle 3 (cfg0.grid.coords t) = true := (idle3 t).trans (by rw [decide_eq_false h]; rfl)
      cases hfl : (cfg0.win 3).flush t
      · rw [Dat.leavesExact_idle (dats m 0 c) 3 t hi hfl]
        iintro H
        iexists (normed (iblk m c 0 t) (iblk m c 1 t))
        rw [found3 m c t h]
        iexact H
      · rw [show (dats m 0 c).leavesExact 3 t = owns (c : Thread nD τ) (st0_3 t) fullShare ((dats m 0 c).after 3 t) from by
          unfold Dat.leavesExact; rw [hi, hfl], left3]
    iintro ⟨HΦ, Ho, ⟨%d0, H0⟩, ⟨%d1, H1⟩, ⟨%d2, H2⟩, ⟨%d3, H3⟩, ⟨%d4, H4⟩⟩
    iapply (body_later c Set.univ (grid0.coords t) _ _ _ _ _ _ _ _ _ _ (fun e => h ((cond_iff t).mp e)) (normed (iblk m c 0 t) (iblk m c 1 t)) (iblk m c 2 t) _)
    isplitl [H2]; · iexact H2
    isplitl [H3]; · iexact H3
    isplitl [H4]; · iexists _; iexact H4
    iintro ⟨H2, H3, H4⟩
    isplitl [HΦ]; · iexact HΦ
    isplitl [Ho]; · iexact Ho
    isplitl [H0]; · iexact H0
    isplitl [H1]; · iexact H1
    isplitl [H2]; · iexact H2
    isplitl [H3]; · iapply hl; iexact H3
    iexact H4

theorem body_row (t : Fin cfg0.N) : defs₀ (F := F) .tc cfg0.body (cfg0.bodyArgs t (cfg0.slots t)) = bodyAt0 t := by
  unfold defs₀; rw [Defs.onTc_tc]

theorem body_all (c : Dev nD) : BodyObligation (dats (F := F) m 0 c) (defs₀ (F := F)) Variants.none () Set.univ := fun t => by
  rw [bigSep_W0, bigSep_W0, body_row]
  exact triple_restated (body_point m c t) rfl .rfl fun _ => .rfl

set_option backward.isDefEq.respectTransparency.types false in
set_option maxHeartbeats 800000 in
/-- Every run ends, with each array at what its write-backs leave and every semaphore at zero. -/
theorem ends : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_all m c).loose) (hshare := fun c => (dats m 0 c).share_full fun _ => rfl)
    (howed := fun _ _ => rfl) (V := V m) (hmain := hmain m Variants.none) (hA := arrays_eq m) (hΦ := fun _ _ => rfl)

theorem ends_arrays : θ_run defs (onTc (τ := τ) (main (F := F))) (s₀ m ρ) (Pipeline.FramePost cfgs (dats m) 0 (V m)) :=
  (θ_run defs _ _).mono (fun _ h => h.1) (ends m ρ)

/-- The frame: the arguments end as they were, and every semaphore at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (arrays_eq m) (ends_arrays m ρ)) ((θ_run defs _ _).mono (fun _ h => h.2) (ends m ρ))

end Cert.Kernel16Ideal.Held

end
-- ==== Proof.NormFrame.lean ====
/- The frames of the three normalised products as they were printed, from the runs over any float values: a printed
   program and its ideal reading have the same text, so their tables of bodies are one table. -/
module

public import proofs.«01_k».proof.Defs
public import proofs.«01_k».proof.Proof.NormUp1
public import proofs.«01_k».proof.Proof.Gen.Kernel6
public import proofs.«01_k».proof.Proof.NormUp0
public import proofs.«01_k».proof.Proof.Gen.Kernel10
public import proofs.«01_k».proof.Proof.NormScIn
public import proofs.«01_k».proof.Proof.Gen.Kernel16

@[expose] public section

noncomputable section

open Idealize.ShloMosaic Idealize.SL.Sem

namespace Cert.Kernel6Ideal.Held

theorem bodies_eq : Cert.Kernel6.defs₀ (F := Bits) = Cert.Kernel6Ideal.defs₀ (F := Bits) := by
  unfold Cert.Kernel6.defs₀ Cert.Kernel6Ideal.defs₀
  refine congrArg Defs.onTc ?_
  funext l a
  have hl : l = (0 : Fin 1) := Fin.eq_zero l
  subst hl
  rfl

theorem table_eq : Cert.Kernel6.defs (F := Bits) = Cert.Kernel6Ideal.defs (F := Bits) := by
  unfold Cert.Kernel6.defs Cert.Kernel6Ideal.defs
  exact congrArg (Pipeline.defs (Cert.Kernel6Ideal.pcfgs (F := Bits))) bodies_eq

theorem quiet_printed : Cert.quiescent_Kernel6 := fun m ρ _ => by
  rw [table_eq]
  exact quiet (F := Bits) m ρ

end Cert.Kernel6Ideal.Held

namespace Cert.Kernel10Ideal.Held

theorem bodies_eq : Cert.Kernel10.defs₀ (F := Bits) = Cert.Kernel10Ideal.defs₀ (F := Bits) := by
  unfold Cert.Kernel10.defs₀ Cert.Kernel10Ideal.defs₀
  refine congrArg Defs.onTc ?_
  funext l a
  have hl : l = (0 : Fin 1) := Fin.eq_zero l
  subst hl
  rfl

theorem table_eq : Cert.Kernel10.defs (F := Bits) = Cert.Kernel10Ideal.defs (F := Bits) := by
  unfold Cert.Kernel10.defs Cert.Kernel10Ideal.defs
  exact congrArg (Pipeline.defs (Cert.Kernel10Ideal.pcfgs (F := Bits))) bodies_eq

theorem quiet_printed : Cert.quiescent_Kernel10 := fun m ρ _ => by
  rw [table_eq]
  exact quiet (F := Bits) m ρ

end Cert.Kernel10Ideal.Held

namespace Cert.Kernel16Ideal.Held

theorem bodies_eq : Cert.Kernel16.defs₀ (F := Bits) = Cert.Kernel16Ideal.defs₀ (F := Bits) := by
  unfold Cert.Kernel16.defs₀ Cert.Kernel16Ideal.defs₀
  refine congrArg Defs.onTc ?_
  funext l a
  have hl : l = (0 : Fin 1) := Fin.eq_zero l
  subst hl
  rfl

theorem table_eq : Cert.Kernel16.defs (F := Bits) = Cert.Kernel16Ideal.defs (F := Bits) := by
  unfold Cert.Kernel16.defs Cert.Kernel16Ideal.defs
  exact congrArg (Pipeline.defs (Cert.Kernel16Ideal.pcfgs (F := Bits))) bodies_eq

theorem quiet_printed : Cert.quiescent_Kernel16 := fun m ρ _ => by
  rw [table_eq]
  exact quiet (F := Bits) m ρ

end Cert.Kernel16Ideal.Held

end
-- ==== Proof.NormUp1Value.lean ====
/- What `norm_mm_up1` leaves over the extended reals: the normalised rows, and their product with the columns of the weight. -/
module

public import proofs.«01_k».proof.Proof.NormUp1
public import proofs.«01_k».proof.Proof.Norm
public import Idealize.ShloMosaic.Lib.Pipeline.Value
public import Idealize.ShloMosaic.Lib.Pipeline.ValueKit
public import Idealize.ShloMosaic.Lib.KernelVsHost
public import Idealize.ShloMosaic.Lib.Tactic
public import Idealize.ShloMosaic.Lib.WritesUnit
public import Idealize.ShloMosaic.Lib.Pointwise

@[expose] public section

set_option maxRecDepth 16384

noncomputable section

namespace Cert.Kernel6Ideal.Mat

open Idealize.ShloMosaic Idealize.ShloMosaic.TcCoe Idealize.ShloMosaic.Tactic Idealize.SL.Sem
open Idealize.ShloMosaic.Rounds
open Idealize.ShloMosaic.Pipeline (Dat Cfg Window BodyObligation cellOf)
open Cert.Kernel6Ideal Cert.Kernel6Ideal.Gen Cert.Kernel6Ideal.Held Cert.Nat2

set_option maxHeartbeats 4000000

/-! ## One point's values -/

theorem pay1_apply (x : Vec Ideal S2048x1024 .f32) (g : Vec Ideal S1x1024 .f32) (y : S2048x1024.Idx) :
    k0_pay1 x g y = normRow (at2 x (y 0).val) (at2 g 0) (y 1).val := by
  unfold k0_pay1
  pointwise
  unfold normRow rinv msq
  rw [Finset.sum_range, at2_eq x y rfl rfl]
  refine congrArg₂ (fun s b => at2 x (y 0).val (y 1).val * Ideal.rsqrt (Ideal.div s wid + eps) * b) (Finset.sum_congr rfl fun k _ => ?_) (read_ix g 0 (y 1))
  have e := read_ix x (y 0) k
  exact congrArg₂ (· * ·) e e

theorem pay2_apply (x0 : Vec Ideal S2048x1024 .bf16) (x1 : Vec Ideal S1x1024x1024 .bf16) (y : S2048x1024.Idx) :
    k0_pay2 x0 x1 y = ∑ k : Fin 1024, at2 x0 (y 0).val k.val * at3 x1 0 k.val (y 1).val := by
  unfold k0_pay2
  pointwise
  refine Finset.sum_congr rfl fun k _ => ?_
  show x0 (ValueIdx.ix2 (y 0) k) * x1 (ValueIdx.ix3 0 k (y 1)) = _
  rw [at2_eq x0 (ValueIdx.ix2 (y 0) k) rfl rfl, at3_eq x1 (ValueIdx.ix3 0 k (y 1)) rfl rfl rfl]
  rfl

theorem normed_apply (x : Vec Ideal S2048x1024 .f32) (g : Vec Ideal S1x1024 .f32) (y : S2048x1024.Idx) :
    normed x g y = k0_pay1 x g y := by
  unfold normed
  frame_out

theorem times_apply (n : Vec Ideal S2048x1024 .bf16) (b : Vec Ideal S1x1024x1024 .bf16) (y : S2048x1024.Idx) :
    times n b y = k0_pay2 n b y := by
  unfold times
  frame_out

variable (m : (ℓ : Loc nD τ sig) → Buf (Elt Ideal) ℓ) (c : Dev nD)

/-! ## The blocks are parts of the arguments -/

abbrev argH : S8192x1024.Idx → EReal := m ((c : Thread nD τ).loc main_arg0)
abbrev argG : S1x1024.Idx → EReal := m ((c : Thread nD τ).loc main_arg1)
abbrev argW : S2x1024x4096.Idx → EReal := m ((c : Thread nD τ).loc main_arg2)

theorem idx0 : ∀ t : Fin cfg0.N, win0_0.index t 0 = t.val / 4 ∧ win0_0.index t 1 = 0 :=
  (by decide +kernel : ∀ t : Fin grid0.N, win0_0.index t 0 = t.val / 4 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 1 ∧ win0_2.index t 1 = 0 ∧ win0_2.index t 2 = t.val % 4 :=
  (by decide +kernel : ∀ t : Fin grid0.N, win0_2.index t 0 = 1 ∧ win0_2.index t 1 = 0 ∧ win0_2.index t 2 = t.val % 4)
theorem idx3 : ∀ t : Fin cfg0.N, win0_3.index t 0 = t.val / 4 ∧ win0_3.index t 1 = 0 :=
  (by decide +kernel : ∀ t : Fin grid0.N, win0_3.index t 0 = t.val / 4 ∧ win0_3.index t 1 = 0)
theorem idx4 : ∀ t : Fin cfg0.N, win0_4.index t 0 = t.val / 4 ∧ win0_4.index t 1 = t.val % 4 :=
  (by decide +kernel : ∀ t : Fin grid0.N, win0_4.index t 0 = t.val / 4 ∧ win0_4.index t 1 = t.val % 4)

theorem blk0 (t : Fin cfg0.N) (r : ℕ) (hr : r < 2048) :
    at2 (iblk m c 0 t : Vec Ideal S2048x1024 .f32) r = at2 (argH m c) (2048 * (t.val / 4) + r) := by
  have hN : cfg0.N = 16 := N_0
  have ht := t.isLt
  funext l
  by_cases hl : l < 1024
  · conv_lhs => unfold at2
    rw [dif_pos ⟨hr, hl⟩]
    unfold iblk
    rw [View.read_apply]
    show V m c main_arg0 _ = _
    rw [V_main_arg0]
    refine at2_eq (m ((c : Thread nD τ).loc main_arg0) : S8192x1024.Idx → EReal) _ ?_ ?_
    · show win0_0.index t 0 * 2048 + 1 * r = _; rw [(idx0 t).1]; omega
    · show win0_0.index t 1 * 1024 + 1 * l = _; rw [(idx0 t).2]; omega
  · unfold at2
    rw [dif_neg (fun e => hl e.2), dif_neg (fun e => hl e.2)]

theorem blk1 (t : Fin cfg0.N) :
    at2 (iblk m c 1 t : Vec Ideal S1x1024 .f32) 0 = at2 (argG m c) 0 := by
  funext l
  by_cases hl : l < 1024
  · conv_lhs => unfold at2
    rw [dif_pos ⟨Nat.zero_lt_one, hl⟩]
    unfold iblk
    rw [View.read_apply]
    show V m c main_arg1 _ = _
    rw [V_main_arg1]
    refine at2_eq (m ((c : Thread nD τ).loc main_arg1) : S1x1024.Idx → EReal) _ ?_ ?_
    · show win0_1.index t 0 * 1 + 1 * 0 = _; rw [(idx1 t).1]
    · show win0_1.index t 1 * 1024 + 1 * l = _; rw [(idx1 t).2]; omega
  · unfold at2
    rw [dif_neg (fun e => hl e.2), dif_neg (fun e => hl e.2)]

theorem blk2 (t : Fin cfg0.N) (k l : ℕ) (hk : k < 1024) (hl : l < 1024) :
    at3 (iblk m c 2 t : Vec Ideal S1x1024x1024 .bf16) 0 k l = at3 (argW m c) 1 k (1024 * (t.val % 4) + l) := by
  conv_lhs => unfold at3
  rw [dif_pos ⟨Nat.zero_lt_one, hk, hl⟩]
  unfold iblk
  rw [View.read_apply]
  show V m c main_arg2 _ = _
  rw [V_main_arg2]
  refine at3_eq (m ((c : Thread nD τ).loc main_arg2) : S2x1024x4096.Idx → EReal) _ ?_ ?_ ?_
  · show win0_2.index t 0 * 1 + 1 * 0 = _; rw [(idx2 t).1]
  · show win0_2.index t 1 * 1024 + 1 * k = _; rw [(idx2 t).2.1]; omega
  · show win0_2.index t 2 * 1024 + 1 * l = _; rw [(idx2 t).2.2]; omega

/-! ## The values -/

/-- The first result: the normalised rows. -/
def resN : Buf (Elt Ideal) ((c : Thread nD τ).loc main_v0_0) :=
  fun i : S8192x1024.Idx => normRow (at2 (argH m c) (i 0).val) (at2 (argG m c) 0) (i 1).val

/-- The second: their product with the weight. -/
def resO : Buf (Elt Ideal) ((c : Thread nD τ).loc main_v0_1) :=
  fun i : S8192x4096.Idx => normDot3 (argH m c) (argG m c) (argW m c) 1 (i 0).val (i 1).val

theorem rows_eq (t : Fin cfg0.N) (y : S2048x1024.Idx) :
    normed (F := Ideal) (iblk m c 0 t) (iblk m c 1 t) y = normRow (at2 (argH m c) (2048 * (t.val / 4) + (y 0).val)) (at2 (argG m c) 0) (y 1).val := by
  rw [normed_apply]
  refine (pay1_apply (iblk m c 0 t) (iblk m c 1 t) y).trans ?_
  rw [blk0 m c t (y 0).val (y 0).isLt, blk1 m c t]

theorem prod_eq (t : Fin cfg0.N) (y : S2048x1024.Idx) :
    times (F := Ideal) (normed (iblk m c 0 t) (iblk m c 1 t)) (iblk m c 2 t) y
      = normDot3 (argH m c) (argG m c) (argW m c) 1 (2048 * (t.val / 4) + (y 0).val) (1024 * (t.val % 4) + (y 1).val) := by
  rw [times_apply]
  refine (pay2_apply (normed (iblk m c 0 t) (iblk m c 1 t)) (iblk m c 2 t) y).trans ?_
  unfold normDot3
  rw [Finset.sum_range]
  refine Finset.sum_congr rfl fun k _ => ?_
  refine congrArg₂ (· * ·) ?_ (blk2 m c t k.val (y 1).val k.isLt (y 1).isLt)
  exact (read_ix (normed (F := Ideal) (iblk m c 0 t) (iblk m c 1 t)) (y 0) k).symm.trans (rows_eq m c t (ValueIdx.ix2 (y 0) k))

theorem flushed_rows (t : Fin cfg0.N) : (dats m 0 c).flushed 3 t = ((cfg0.win 3).blk t).view.read (Elt Ideal) (resN m c) := by
  show (cfg0.win 3).cut (grid0.coords t) ((dats m 0 c).after 3 t) = _
  rw [left3]
  funext j
  rw [View.read_apply]
  show normed (F := Ideal) (iblk m c 0 t) (iblk m c 1 t) (fun a => ⟨(j a).val, (j a).isLt⟩)
    = normRow (at2 (argH m c) (win0_3.index t 0 * 2048 + 1 * (j 0).val)) (at2 (argG m c) 0) (win0_3.index t 1 * 1024 + 1 * (j 1).val)
  rw [rows_eq m c t, (idx3 t).1, (idx3 t).2]
  have er : 2048 * (t.val / 4) + (j 0).val = (t.val / 4) * 2048 + 1 * (j 0).val := by omega
  have ec : (j 1).val = 0 * 1024 + 1 * (j 1).val := by omega
  dsimp only
  rw [er, ← ec]

theorem flushed_prod (t : Fin cfg0.N) : (dats m 0 c).flushed 4 t = ((cfg0.win 4).blk t).view.read (Elt Ideal) (resO m c) := by
  show (cfg0.win 4).cut (grid0.coords t) ((dats m 0 c).after 4 t) = _
  rw [left4]
  funext j
  rw [View.read_apply]
  show times (F := Ideal) (normed (iblk m c 0 t) (iblk m c 1 t)) (iblk m c 2 t) (fun a => ⟨(j a).val, (j a).isLt⟩)
    = normDot3 (argH m c) (argG m c) (argW m c) 1 (win0_4.index t 0 * 2048 + 1 * (j 0).val) (win0_4.index t 1 * 1024 + 1 * (j 1).val)
  rw [prod_eq m c t, (idx4 t).1, (idx4 t).2]
  have er : 2048 * (t.val / 4) + (j 0).val = (t.val / 4) * 2048 + 1 * (j 0).val := by omega
  have ec : 1024 * (t.val % 4) + (j 1).val = (t.val % 4) * 1024 + 1 * (j 1).val := by omega
  dsimp only
  rw [er, ec]

theorem cover_rows (i : S8192x1024.Idx) : ∃ t : Fin cfg0.N, (cfg0.win 3).flush t = true ∧ i ∈ ((cfg0.win 3).blk t).view.set := by
  have h0 : (i 0 : ℕ) < 8192 := (i 0).isLt
  have h1 : (i 1 : ℕ) < 1024 := (i 1).isLt
  have hN : cfg0.N = 16 := N_0
  let t : Fin cfg0.N := ⟨4 * ((i 0 : ℕ) / 2048) + 3, by omega⟩
  have e : t.val = 4 * ((i 0 : ℕ) / 2048) + 3 := rfl
  refine ⟨t, (flush0_3 t).mpr (by omega), ?_⟩
  show i ∈ ((View.whole main_v0_0).slice (win0_3.rect t)).set
  rw [View.set_slice_whole, Rect.mem_set_unit]
  intro a
  match a with
  | ⟨0, _⟩ =>
    show win0_3.index t 0 * 2048 ≤ (i 0 : ℕ) ∧ (i 0 : ℕ) < win0_3.index t 0 * 2048 + 2048
    rw [(idx3 t).1]; omega
  | ⟨1, _⟩ =>
    show win0_3.index t 1 * 1024 ≤ (i 1 : ℕ) ∧ (i 1 : ℕ) < win0_3.index t 1 * 1024 + 1024
    rw [(idx3 t).2]; omega

theorem cover_prod (i : S8192x4096.Idx) : ∃ t : Fin cfg0.N, (cfg0.win 4).flush t = true ∧ i ∈ ((cfg0.win 4).blk t).view.set := by
  have h0 : (i 0 : ℕ) < 8192 := (i 0).isLt
  have h1 : (i 1 : ℕ) < 4096 := (i 1).isLt
  have hN : cfg0.N = 16 := N_0
  let t : Fin cfg0.N := ⟨4 * ((i 0 : ℕ) / 2048) + (i 1 : ℕ) / 1024, by omega⟩
  have e : t.val = 4 * ((i 0 : ℕ) / 2048) + (i 1 : ℕ) / 1024 := rfl
  refine ⟨t, flush0_4 t, ?_⟩
  show i ∈ ((View.whole main_v0_1).slice (win0_4.rect t)).set
  rw [View.set_slice_whole, Rect.mem_set_unit]
  intro a
  match a with
  | ⟨0, _⟩ =>
    show win0_4.index t 0 * 2048 ≤ (i 0 : ℕ) ∧ (i 0 : ℕ) < win0_4.index t 0 * 2048 + 2048
    rw [(idx4 t).1]; omega
  | ⟨1, _⟩ =>
    show win0_4.index t 1 * 1024 ≤ (i 1 : ℕ) ∧ (i 1 : ℕ) < win0_4.index t 1 * 1024 + 1024
    rw [(idx4 t).2]; omega

theorem final_rows : (dats m 0 c).arrAt 3 cfg0.N = resN m c :=
  (dats m 0 c).arrAt_eq_of_cover 3 (resN m c) (fun t _ => flushed_rows m c t) cover_rows
theorem final_prod : (dats m 0 c).arrAt 4 cfg0.N = resO m c :=
  (dats m 0 c).arrAt_eq_of_cover 4 (resO m c) (fun t _ => flushed_prod m c t) cover_prod

/-- Every run ends with the two results in their arrays, and with the arguments as they were. -/
theorem run_res (ρ : Dev nD → PrngReg) :
    θ_run defs (onTc (τ := τ) (main (F := Ideal))) ⟨m, fun _ => 0, ρ⟩ fun r => ∀ c : Dev nD,
      r.2.mem ((c : Thread nD τ).loc main_v0_0) = resN m c
      ∧ r.2.mem ((c : Thread nD τ).loc main_v0_1) = resO m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (ends_arrays m ρ)
  have hin : ∀ w : Fin 5, (cfg0.win w).isOut = false → _ := fun w hw => ((h c).1 w).trans (((dats m 0 c).arrAt_in w hw _).trans (arrays_eq m c w))
  exact ⟨((h c).1 3).trans (final_rows m c), ((h c).1 4).trans (final_prod m c),
    (hin 0 rfl).trans (V_main_arg0 m c), (hin 1 rfl).trans (V_main_arg1 m c), (hin 2 rfl).trans (V_main_arg2 m c)⟩

end Cert.Kernel6Ideal.Mat

end
-- ==== Proof.NormRef.lean ====
/- The references of the normalised products, entry by entry: the normalised rows, and their product with the weight. -/
module

public import proofs.«01_k».proof.Proof.Gen.Reference6Ideal.Read
public import proofs.«01_k».proof.Proof.Gen.Reference10Ideal.Read
public import proofs.«01_k».proof.Proof.Gen.Reference16Ideal.Read
public import proofs.«01_k».proof.Proof.Norm

@[expose] public section

set_option maxRecDepth 16384

noncomputable section

open Idealize.ShloMosaic Idealize.ShloMosaic.TcCoe Idealize.SL.Sem

set_option maxHeartbeats 4000000

/-! ## The product into the second MLP -/

namespace Cert.Reference6Ideal.Mat

open Cert.Reference6Ideal Cert.Reference6Ideal.Gen Cert.Reference6Ideal.Read Cert.Nat2

variable (x0 : (⟨S8192x1024, .f32⟩ : BufTy).Contents (Elt Ideal)) (x1 : (⟨S1x1024, .f32⟩ : BufTy).Contents (Elt Ideal))
  (x2 : (⟨S2x1024x4096, .bf16⟩ : BufTy).Contents (Elt Ideal))

theorem v1_at (i : S8192.Idx) : val_main_v1 (F := Ideal) x0 i
    = ∑ k ∈ Finset.range 1024, at2 (x0 : S8192x1024.Idx → EReal) (i 0).val k * at2 (x0 : S8192x1024.Idx → EReal) (i 0).val k := by
  rw [val_main_v1_apply, val_main_cst_apply, bits_zero, zero_add, Finset.sum_range]
  refine Finset.sum_congr rfl fun k _ => ?_
  rw [val_main_v0_apply]
  show (x0 _ : EReal) * x0 _ = _
  rw [at2_eq (x0 : S8192x1024.Idx → EReal) _ rfl rfl]
  try rfl

theorem v7_at (i : S8192x1.Idx) : val_main_v7 (F := Ideal) x0 i = rinv (at2 (x0 : S8192x1024.Idx → EReal) (i 0).val) := by
  rw [val_main_v7_apply, val_main_v6_apply, val_main_v4_apply, val_main_v2_apply, v1_at, val_main_v3_apply, val_main_v5_apply,
    val_main_cst_0_apply, val_main_cst_1_apply]
  try rfl

theorem v12_at (j : S8192x1024.Idx) : val_main_v12 (F := Ideal) x0 x1 j
    = normRow (at2 (x0 : S8192x1024.Idx → EReal) (j 0).val) (at2 (x1 : S1x1024.Idx → EReal) 0) (j 1).val := by
  rw [val_main_v12_apply, val_main_v11_apply, val_main_v9_apply, val_main_v8_apply, v7_at, val_main_v10_apply]
  show (x0 _ : EReal) * _ * x1 _ = _
  rw [at2_eq (x0 : S8192x1024.Idx → EReal) j rfl rfl, at2_eq (x1 : S1x1024.Idx → EReal) _ rfl rfl]
  try rfl

theorem v16_at (j : S1024x4096.Idx) : val_main_v16 (F := Ideal) x2 j = at3 (x2 : S2x1024x4096.Idx → EReal) 1 (j 0).val (j 1).val := by
  have h0 : (j 0).val < 1024 := (j 0).isLt
  have h1 : (j 1).val < 4096 := (j 1).isLt
  rw [val_main_v16_apply, val_main_v14_apply, val_main_v13_apply]
  show x2 (idx_main_v13 (idx_main_v14 j)) = _
  refine at3_eq (x2 : S2x1024x4096.Idx → EReal) _ ?_ ?_ ?_
  · first | rfl | (show _ = _; dsimp only; omega)
  · first | rfl | (show ((j 0).val * 4096 + (j 1).val) / 4096 % 1024 = (j 0).val; omega) | (show 0 + ((j 0).val * 4096 + (j 1).val) / 4096 % 1024 = (j 0).val; omega)
  · first | rfl | (show ((j 0).val * 4096 + (j 1).val) % 4096 = (j 1).val; omega) | (show 0 + ((j 0).val * 4096 + (j 1).val) % 4096 = (j 1).val; omega)

theorem v18_at (j : S8192x4096.Idx) : val_main_v18 (F := Ideal) x0 x1 x2 j = normDot3 (x0 : S8192x1024.Idx → EReal) (x1 : S1x1024.Idx → EReal) (x2 : S2x1024x4096.Idx → EReal) 1 (j 0).val (j 1).val := by
  rw [val_main_v18_apply]
  show val_main_v17 (F := Ideal) x0 x1 x2 j = _
  rw [val_main_v17_apply]
  unfold normDot3
  rw [Finset.sum_range]
  refine Finset.sum_congr rfl fun k _ => ?_
  rw [val_main_v15_apply, v16_at]
  show val_main_v12 (F := Ideal) x0 x1 _ * _ = _
  rw [v12_at]
  try rfl

end Cert.Reference6Ideal.Mat

/-! ## The product into the first MLP -/

namespace Cert.Reference10Ideal.Mat

open Cert.Reference10Ideal Cert.Reference10Ideal.Gen Cert.Reference10Ideal.Read Cert.Nat2

variable (x0 : (⟨S8192x1024, .f32⟩ : BufTy).Contents (Elt Ideal)) (x1 : (⟨S1x1024, .f32⟩ : BufTy).Contents (Elt Ideal))
  (x2 : (⟨S2x1024x4096, .bf16⟩ : BufTy).Contents (Elt Ideal))

theorem v1_at (i : S8192.Idx) : val_main_v1 (F := Ideal) x0 i
    = ∑ k ∈ Finset.range 1024, at2 (x0 : S8192x1024.Idx → EReal) (i 0).val k * at2 (x0 : S8192x1024.Idx → EReal) (i 0).val k := by
  rw [val_main_v1_apply, val_main_cst_apply, bits_zero, zero_add, Finset.sum_range]
  refine Finset.sum_congr rfl fun k _ => ?_
  rw [val_main_v0_apply]
  show (x0 _ : EReal) * x0 _ = _
  rw [at2_eq (x0 : S8192x1024.Idx → EReal) _ rfl rfl]
  try rfl

theorem v7_at (i : S8192x1.Idx) : val_main_v7 (F := Ideal) x0 i = rinv (at2 (x0 : S8192x1024.Idx → EReal) (i 0).val) := by
  rw [val_main_v7_apply, val_main_v6_apply, val_main_v4_apply, val_main_v2_apply, v1_at, val_main_v3_apply, val_main_v5_apply,
    val_main_cst_0_apply, val_main_cst_1_apply]
  try rfl

theorem v12_at (j : S8192x1024.Idx) : val_main_v12 (F := Ideal) x0 x1 j
    = normRow (at2 (x0 : S8192x1024.Idx → EReal) (j 0).val) (at2 (x1 : S1x1024.Idx → EReal) 0) (j 1).val := by
  rw [val_main_v12_apply, val_main_v11_apply, val_main_v9_apply, val_main_v8_apply, v7_at, val_main_v10_apply]
  show (x0 _ : EReal) * _ * x1 _ = _
  rw [at2_eq (x0 : S8192x1024.Idx → EReal) j rfl rfl, at2_eq (x1 : S1x1024.Idx → EReal) _ rfl rfl]
  try rfl

theorem v16_at (j : S1024x4096.Idx) : val_main_v16 (F := Ideal) x2 j = at3 (x2 : S2x1024x4096.Idx → EReal) 0 (j 0).val (j 1).val := by
  have h0 : (j 0).val < 1024 := (j 0).isLt
  have h1 : (j 1).val < 4096 := (j 1).isLt
  rw [val_main_v16_apply, val_main_v14_apply, val_main_v13_apply]
  show x2 (idx_main_v13 (idx_main_v14 j)) = _
  refine at3_eq (x2 : S2x1024x4096.Idx → EReal) _ ?_ ?_ ?_
  · first | rfl | (show _ = _; dsimp only; omega)
  · first | rfl | (show ((j 0).val * 4096 + (j 1).val) / 4096 % 1024 = (j 0).val; omega) | (show 0 + ((j 0).val * 4096 + (j 1).val) / 4096 % 1024 = (j 0).val; omega)
  · first | rfl | (show ((j 0).val * 4096 + (j 1).val) % 4096 = (j 1).val; omega) | (show 0 + ((j 0).val * 4096 + (j 1).val) % 4096 = (j 1).val; omega)

theorem v18_at (j : S8192x4096.Idx) : val_main_v18 (F := Ideal) x0 x1 x2 j = normDot3 (x0 : S8192x1024.Idx → EReal) (x1 : S1x1024.Idx → EReal) (x2 : S2x1024x4096.Idx → EReal) 0 (j 0).val (j 1).val := by
  rw [val_main_v18_apply]
  show val_main_v17 (F := Ideal) x0 x1 x2 j = _
  rw [val_main_v17_apply]
  unfold normDot3
  rw [Finset.sum_range]
  refine Finset.sum_congr rfl fun k _ => ?_
  rw [val_main_v15_apply, v16_at]
  show val_main_v12 (F := Ideal) x0 x1 _ * _ = _
  rw [v12_at]
  try rfl

end Cert.Reference10Ideal.Mat

/-! ## The product into the short convolution -/

namespace Cert.Reference16Ideal.Mat

open Cert.Reference16Ideal Cert.Reference16Ideal.Gen Cert.Reference16Ideal.Read Cert.Nat2

variable (x0 : (⟨S8192x1024, .f32⟩ : BufTy).Contents (Elt Ideal)) (x1 : (⟨S1x1024, .f32⟩ : BufTy).Contents (Elt Ideal))
  (x2 : (⟨S1024x3072, .bf16⟩ : BufTy).Contents (Elt Ideal))

theorem v1_at (i : S8192.Idx) : val_main_v1 (F := Ideal) x0 i
    = ∑ k ∈ Finset.range 1024, at2 (x0 : S8192x1024.Idx → EReal) (i 0).val k * at2 (x0 : S8192x1024.Idx → EReal) (i 0).val k := by
  rw [val_main_v1_apply, val_main_cst_apply, bits_zero, zero_add, Finset.sum_range]
  refine Finset.sum_congr rfl fun k _ => ?_
  rw [val_main_v0_apply]
  show (x0 _ : EReal) * x0 _ = _
  rw [at2_eq (x0 : S8192x1024.Idx → EReal) _ rfl rfl]
  try rfl

theorem v7_at (i : S8192x1.Idx) : val_main_v7 (F := Ideal) x0 i = rinv (at2 (x0 : S8192x1024.Idx → EReal) (i 0).val) := by
  rw [val_main_v7_apply, val_main_v6_apply, val_main_v4_apply, val_main_v2_apply, v1_at, val_main_v3_apply, val_main_v5_apply,
    val_main_cst_0_apply, val_main_cst_1_apply]
  try rfl

theorem v12_at (j : S8192x1024.Idx) : val_main_v12 (F := Ideal) x0 x1 j
    = normRow (at2 (x0 : S8192x1024.Idx → EReal) (j 0).val) (at2 (x1 : S1x1024.Idx → EReal) 0) (j 1).val := by
  rw [val_main_v12_apply, val_main_v11_apply, val_main_v9_apply, val_main_v8_apply, v7_at, val_main_v10_apply]
  show (x0 _ : EReal) * _ * x1 _ = _
  rw [at2_eq (x0 : S8192x1024.Idx → EReal) j rfl rfl, at2_eq (x1 : S1x1024.Idx → EReal) _ rfl rfl]
  try rfl

theorem v14_at (j : S1024x3072.Idx) : val_main_v14 (F := Ideal) x2 j = at2 (x2 : S1024x3072.Idx → EReal) (j 0).val (j 1).val := by
  rw [val_main_v14_apply]
  show (x2 j : EReal) = _
  exact at2_eq (x2 : S1024x3072.Idx → EReal) j rfl rfl

theorem v16_at (j : S8192x3072.Idx) : val_main_v16 (F := Ideal) x0 x1 x2 j = normDot (x0 : S8192x1024.Idx → EReal) (x1 : S1x1024.Idx → EReal) (x2 : S1024x3072.Idx → EReal) (j 0).val (j 1).val := by
  rw [val_main_v16_apply]
  show val_main_v15 (F := Ideal) x0 x1 x2 j = _
  rw [val_main_v15_apply]
  unfold normDot
  rw [Finset.sum_range]
  refine Finset.sum_congr rfl fun k _ => ?_
  rw [val_main_v13_apply, v14_at]
  show val_main_v12 (F := Ideal) x0 x1 _ * _ = _
  rw [v12_at]
  try rfl

end Cert.Reference16Ideal.Mat

end
-- ==== Proof.MlpDown1.lean ====
module

public import proofs.«01_k».proof.Defs
public import proofs.«01_k».proof.Proof.Gen.Kernel7Ideal.Value
public import proofs.«01_k».proof.Proof.Nat3
public import Idealize.ShloMosaic.Lib.Pipeline.Value
public import Idealize.ShloMosaic.Lib.Pipeline.ValueKit
public import Idealize.ShloMosaic.Lib.KernelVsHost
public import Idealize.ShloMosaic.Lib.Tactic
public import Idealize.ShloMosaic.Lib.Pointwise

@[expose] public section

set_option maxRecDepth 16384

noncomputable section

open Idealize.ShloMosaic Idealize.ShloMosaic.TcCoe Idealize.SL.Sem

/-! The second product of the second MLP: what the blocks hold, and the array the run ends with. -/

namespace Cert.Kernel7Ideal.Mat

open Cert.Kernel7Ideal Cert.Kernel7Ideal.Gen Cert.Nat2

set_option maxHeartbeats 4000000

variable (m : (ℓ : Loc nD τ sig) → Buf (Elt Ideal) ℓ) (c : Dev nD)

/-- One point's product: rows of the squared ReLU of the left block against columns of the right block. -/
theorem pay1_apply (x0 : Vec Ideal S1024x2048 .bf16) (x1 : Vec Ideal S1x2048x1024 .bf16) (y : S1024x1024.Idx) :
    k0_pay1 x0 x1 y = ∑ k : Fin 2048, reluSq (at2 x0 (y 0).val k.val) * at3 x1 0 k.val (y 1).val := by
  unfold k0_pay1
  pointwise
  refine Finset.sum_congr rfl fun k _ => ?_
  show max (x0 (ValueIdx.ix2 (y 0) k)) 0 * max (x0 (ValueIdx.ix2 (y 0) k)) 0 * x1 (ValueIdx.ix3 0 k (y 1)) = _
  rw [at2_eq x0 (ValueIdx.ix2 (y 0) k) rfl rfl, at3_eq x1 (ValueIdx.ix3 0 k (y 1)) rfl rfl rfl]
  rfl

/-- The first point of a pair leaves its product in the scratch. -/
theorem scr_A (t : Fin cfg0.N) (h0 : t.val % 2 = 0) (h2 : ¬t.val % 2 = 1) (y : S1024x1024.Idx) :
    (outsAt0 m c t.val t.isLt).2 y = k0_pay1 (F := Ideal) (iblk m c 0 t) (iblk m c 1 t) y := by
  rw [outsAt0_A m c t h0 h2]; dsimp only
  frame_out
  unfold k0_pay2
  pointwise

/-- The second point of a pair adds its product to the scratch, and the residual block to that. -/
theorem out_B (t : Fin cfg0.N) (h0 : ¬t.val % 2 = 0) (h2 : t.val % 2 = 1) (y : S1024x1024.Idx) :
    (outsAt0 m c t.val t.isLt).1 y = (outsAt0 m c (t.val - 1) (Nat.lt_of_le_of_lt (Nat.sub_le _ _) t.isLt)).2 y + k0_pay1 (F := Ideal) (iblk m c 0 t) (iblk m c 1 t) y + (iblk m c 2 t : Vec Ideal S1024x1024 .f32) y := by
  rw [outsAt0_B m c t h0 h2]; dsimp only
  frame_out
  unfold k0_pay4
  pointwise
  refine congrArg (· + _ + _) ?_
  exact congrFun (Memref.IsWhole.read_unread (m := Memref.whole cc0_scratch0) _ _) y

/-! ## The blocks are parts of the arguments -/

abbrev argA : S8192x4096.Idx → EReal := m ((c : Thread nD τ).loc main_arg0)
abbrev argB : S2x4096x1024.Idx → EReal := m ((c : Thread nD τ).loc main_arg1)
abbrev argR : S8192x1024.Idx → EReal := m ((c : Thread nD τ).loc main_arg2)

theorem idx0 : ∀ t : Fin cfg0.N, win0_0.index t 0 = t.val / 2 ∧ win0_0.index t 1 = t.val % 2 :=
  (by decide +kernel : ∀ t : Fin grid0.N, win0_0.index t 0 = t.val / 2 ∧ win0_0.index t 1 = t.val % 2)
theorem idx1 : ∀ t : Fin cfg0.N, win0_1.index t 0 = 1 ∧ win0_1.index t 1 = t.val % 2 ∧ win0_1.index t 2 = 0 :=
  (by decide +kernel : ∀ t : Fin grid0.N, win0_1.index t 0 = 1 ∧ win0_1.index t 1 = t.val % 2 ∧ win0_1.index t 2 = 0)
theorem idx2 : ∀ t : Fin cfg0.N, win0_2.index t 0 = t.val / 2 ∧ win0_2.index t 1 = 0 :=
  (by decide +kernel : ∀ t : Fin grid0.N, win0_2.index t 0 = t.val / 2 ∧ win0_2.index t 1 = 0)
theorem idx3 : ∀ t : Fin cfg0.N, win0_3.index t 0 = t.val / 2 ∧ win0_3.index t 1 = 0 :=
  (by decide +kernel : ∀ t : Fin grid0.N, win0_3.index t 0 = t.val / 2 ∧ win0_3.index t 1 = 0)

theorem blk0 (t : Fin cfg0.N) (r l : ℕ) (hr : r < 1024) (hl : l < 2048) :
    at2 (iblk m c 0 t : Vec Ideal S1024x2048 .bf16) r l = at2 (argA m c) (1024 * (t.val / 2) + r) (2048 * (t.val % 2) + l) := by
  conv_lhs => unfold at2
  rw [dif_pos ⟨hr, hl⟩]
  unfold iblk
  rw [View.read_apply]
  show V m c main_arg0 _ = _
  rw [V_main_arg0]
  refine at2_eq (m ((c : Thread nD τ).loc main_arg0) : S8192x4096.Idx → EReal) _ ?_ ?_
  · show win0_0.index t 0 * 1024 + 1 * r = _; rw [(idx0 t).1]; omega
  · show win0_0.index t 1 * 2048 + 1 * l = _; rw [(idx0 t).2]; omega

theorem blk1 (t : Fin cfg0.N) (r l : ℕ) (hr : r < 2048) (hl : l < 1024) :
    at3 (iblk m c 1 t : Vec Ideal S1x2048x1024 .bf16) 0 r l = at3 (argB m c) 1 (2048 * (t.val % 2) + r) l := by
  conv_lhs => unfold at3
  rw [dif_pos ⟨Nat.zero_lt_one, hr, hl⟩]
  unfold iblk
  rw [View.read_apply]
  show V m c main_arg1 _ = _
  rw [V_main_arg1]
  refine at3_eq (m ((c : Thread nD τ).loc main_arg1) : S2x4096x1024.Idx → EReal) _ ?_ ?_ ?_
  · show win0_1.index t 0 * 1 + 1 * 0 = _; rw [(idx1 t).1]
  · show win0_1.index t 1 * 2048 + 1 * r = _; rw [(idx1 t).2.1]; omega
  · show win0_1.index t 2 * 1024 + 1 * l = _; rw [(idx1 t).2.2]; omega

theorem blk2 (t : Fin cfg0.N) (r l : ℕ) (hr : r < 1024) (hl : l < 1024) :
    at2 (iblk m c 2 t : Vec Ideal S1024x1024 .f32) r l = at2 (argR m c) (1024 * (t.val / 2) + r) (1024 * (0) + l) := by
  conv_lhs => unfold at2
  rw [dif_pos ⟨hr, hl⟩]
  unfold iblk
  rw [View.read_apply]
  show V m c main_arg2 _ = _
  rw [V_main_arg2]
  refine at2_eq (m ((c : Thread nD τ).loc main_arg2) : S8192x1024.Idx → EReal) _ ?_ ?_
  · show win0_2.index t 0 * 1024 + 1 * r = _; rw [(idx2 t).1]; omega
  · show win0_2.index t 1 * 1024 + 1 * l = _; rw [(idx2 t).2]; omega

/-- One point's product over the arguments: its half of the contraction. -/
theorem part_eq (t : Fin cfg0.N) (y : S1024x1024.Idx) :
    k0_pay1 (F := Ideal) (iblk m c 0 t) (iblk m c 1 t) y
      = ∑ k : Fin 2048, reluSq (at2 (argA m c) (1024 * (t.val / 2) + (y 0).val) (2048 * (t.val % 2) + k.val)) * at3 (argB m c) 1 (2048 * (t.val % 2) + k.val) (y 1).val := by
  refine (pay1_apply (iblk m c 0 t) (iblk m c 1 t) y).trans ?_
  refine Finset.sum_congr rfl fun k _ => ?_
  have e0 := blk0 m c t (y 0).val k.val (y 0).isLt k.isLt
  have e1 := blk1 m c t k.val (y 1).val k.isLt (y 1).isLt
  rw [e0, e1]

/-- The result: the squared ReLU's rows against the weight's columns, on top of the residual stream. -/
def res : Buf (Elt Ideal) ((c : Thread nD τ).loc main_v0) :=
  fun i : S8192x1024.Idx => rowCol3 reluSq (argA m c) (argB m c) 1 4096 ((i 0).val) ((i 1).val) + at2 (argR m c) ((i 0).val) ((i 1).val)

/-- The second point of a pair leaves its block of the result. -/
theorem out_eq (t : Fin cfg0.N) (h2 : t.val % 2 = 1) (y : S1024x1024.Idx) :
    (outsAt0 m c t.val t.isLt).1 y = rowCol3 reluSq (argA m c) (argB m c) 1 4096 (1024 * (t.val / 2) + (y 0).val) (1024 * (0) + (y 1).val) + at2 (argR m c) (1024 * (t.val / 2) + (y 0).val) (1024 * (0) + (y 1).val) := by
  have hN : cfg0.N = 16 := N_0
  have ht := t.isLt
  have h0 : ¬t.val % 2 = 0 := by omega
  rw [out_B m c t h0 h2]
  have hp : t.val - 1 < cfg0.N := by omega
  have hq0 : (⟨t.val - 1, hp⟩ : Fin cfg0.N).val % 2 = 0 := by dsimp only; omega
  have hq2 : ¬(⟨t.val - 1, hp⟩ : Fin cfg0.N).val % 2 = 1 := by dsimp only; omega
  refine congrArg₂ (· + ·) ?_ ((at2_eq (iblk m c 2 t : Vec Ideal S1024x1024 .f32) y rfl rfl).trans (blk2 m c t (y 0).val (y 1).val (y 0).isLt (y 1).isLt))
  refine Eq.trans (congrArg (· + _) (scr_A m c ⟨t.val - 1, hp⟩ hq0 hq2 y)) ?_
  rw [part_eq, part_eq]
  dsimp only
  rw [show (t.val - 1) % 2 = 0 from by omega, show (t.val - 1) / 2 = t.val / 2 from by omega, h2]
  unfold rowCol3
  refine Eq.trans ?_ (sum_two (fun k => reluSq (at2 (argA m c) (1024 * (t.val / 2) + (y 0).val) k) * at3 (argB m c) 1 k (1024 * (0) + (y 1).val)) 2048 2048)
  simp only [Nat.mul_zero, Nat.zero_add, Nat.mul_one]

theorem flushed_res (t : Fin cfg0.N) (hf : (cfg0.win 3).flush t = true) :
    (dats m 0 c).flushed 3 t = ((cfg0.win 3).blk t).view.read (Elt Ideal) (res m c) := by
  have h2 : t.val % 2 = 1 := (flush0_3 t).mp hf
  rw [Cert.Kernel7Ideal.Value.flushed3]
  funext j
  rw [View.read_apply]
  show (outsAt0 m c t.val t.isLt).1 (fun a => ⟨(j a).val, (j a).isLt⟩) = rowCol3 reluSq (argA m c) (argB m c) 1 4096 (win0_3.index t 0 * 1024 + 1 * (j 0).val) (win0_3.index t 1 * 1024 + 1 * (j 1).val) + at2 (argR m c) (win0_3.index t 0 * 1024 + 1 * (j 0).val) (win0_3.index t 1 * 1024 + 1 * (j 1).val)
  rw [out_eq m c t h2, (idx3 t).1, (idx3 t).2]
  have er : 1024 * (t.val / 2) + (j 0).val = (t.val / 2) * 1024 + 1 * (j 0).val := by omega
  have ec : 1024 * (0) + (j 1).val = (0) * 1024 + 1 * (j 1).val := by omega
  dsimp only
  rw [er, ec]

theorem final : (dats m 0 c).arrAt 3 cfg0.N = res m c :=
  (dats m 0 c).arrAt_eq_of_cover 3 (res m c) (fun t hf => flushed_res m c t hf) (fun i => (Cert.Kernel7Ideal.Value.covered_iff3 i).2 (by
    have h0 : (i 0).val < 8192 := (i 0).isLt; have h1 : (i 1).val < 1024 := (i 1).isLt; omega))

end Cert.Kernel7Ideal.Mat

end
-- ==== Proof.MlpDownRef.lean ====
module

public import proofs.«01_k».proof.Defs
public import proofs.«01_k».proof.Proof.Gen.Reference7Ideal.Read
public import proofs.«01_k».proof.Proof.Gen.Reference11Ideal.Read
public import proofs.«01_k».proof.Proof.Nat3
public import Idealize.ShloMosaic.Lib.Pipeline.Value
public import Idealize.ShloMosaic.Lib.Pipeline.ValueKit
public import Idealize.ShloMosaic.Lib.KernelVsHost
public import Idealize.ShloMosaic.Lib.Tactic
public import Idealize.ShloMosaic.Lib.Pointwise

@[expose] public section

set_option maxRecDepth 16384

noncomputable section

open Idealize.ShloMosaic Idealize.ShloMosaic.TcCoe Idealize.SL.Sem

set_option maxHeartbeats 4000000

/-! ## The second product of the second MLP -/

namespace Cert.Reference7Ideal.Mat

open Cert.Reference7Ideal Cert.Reference7Ideal.Gen Cert.Reference7Ideal.Read Cert.Nat2

variable (x0 : (⟨S8192x4096, .bf16⟩ : BufTy).Contents (Elt Ideal)) (x1 : (⟨S2x4096x1024, .bf16⟩ : BufTy).Contents (Elt Ideal)) (x2 : (⟨S8192x1024, .f32⟩ : BufTy).Contents (Elt Ideal))

theorem v5_at (j : S4096x1024.Idx) : val_main_v5 (F := Ideal) x1 j = at3 (x1 : S2x4096x1024.Idx → EReal) 1 (j 0).val (j 1).val := by
  have h0 : (j 0).val < 4096 := (j 0).isLt
  have h1 : (j 1).val < 1024 := (j 1).isLt
  rw [val_main_v5_apply, val_main_v1_apply, val_main_v0_apply]
  show x1 (idx_main_v0 (idx_main_v1 j)) = _
  refine at3_eq (x1 : S2x4096x1024.Idx → EReal) _ ?_ ?_ ?_
  · first | rfl | (show _ = _; dsimp only; omega)
  · first | rfl | (show _ = _; dsimp only; omega)
  · first | rfl | (show _ = _; dsimp only; omega)

theorem v4_at (j : S8192x4096.Idx) : val_main_v4 (F := Ideal) x0 j = reluSq (at2 (x0 : S8192x4096.Idx → EReal) (j 0).val (j 1).val) := by
  rw [val_main_v4_apply, val_main_v3_apply, val_main_v2_apply, val_main_call0_v0_apply, val_main_call0_cst_apply, bits_zero,
    ← at2_eq (x0 : S8192x4096.Idx → EReal) j rfl rfl]
  rfl

theorem v7_at (j : S8192x1024.Idx) :
    val_main_v7 (F := Ideal) x0 x1 x2 j
      = rowCol3 reluSq (x0 : S8192x4096.Idx → EReal) (x1 : S2x4096x1024.Idx → EReal) 1 4096 (j 0).val (j 1).val + at2 (x2 : S8192x1024.Idx → EReal) (j 0).val (j 1).val := by
  have e : val_main_v6 (F := Ideal) x0 x1 j = rowCol3 reluSq (x0 : S8192x4096.Idx → EReal) (x1 : S2x4096x1024.Idx → EReal) 1 4096 (j 0).val (j 1).val := by
    rw [val_main_v6_apply]
    unfold rowCol3
    rw [Finset.sum_range]
    refine Finset.sum_congr rfl fun k _ => ?_
    rw [v5_at, v4_at]
    try rfl
  rw [val_main_v7_apply, e]
  show (x2 j : EReal) + _ = _
  rw [at2_eq (x2 : S8192x1024.Idx → EReal) j rfl rfl, add_comm]

end Cert.Reference7Ideal.Mat

/-! ## The second product of the first MLP -/

namespace Cert.Reference11Ideal.Mat

open Cert.Reference11Ideal Cert.Reference11Ideal.Gen Cert.Reference11Ideal.Read Cert.Nat2

variable (x0 : (⟨S8192x4096, .bf16⟩ : BufTy).Contents (Elt Ideal)) (x1 : (⟨S2x4096x1024, .bf16⟩ : BufTy).Contents (Elt Ideal)) (x2 : (⟨S8192x1024, .f32⟩ : BufTy).Contents (Elt Ideal))

theorem v5_at (j : S4096x1024.Idx) : val_main_v5 (F := Ideal) x1 j = at3 (x1 : S2x4096x1024.Idx → EReal) 0 (j 0).val (j 1).val := by
  have h0 : (j 0).val < 4096 := (j 0).isLt
  have h1 : (j 1).val < 1024 := (j 1).isLt
  rw [val_main_v5_apply, val_main_v1_apply, val_main_v0_apply]
  show x1 (idx_main_v0 (idx_main_v1 j)) = _
  refine at3_eq (x1 : S2x4096x1024.Idx → EReal) _ ?_ ?_ ?_
  · first | rfl | (show _ = _; dsimp only; omega)
  · first | rfl | (show _ = _; dsimp only; omega)
  · first | rfl | (show _ = _; dsimp only; omega)

theorem v4_at (j : S8192x4096.Idx) : val_main_v4 (F := Ideal) x0 j = reluSq (at2 (x0 : S8192x4096.Idx → EReal) (j 0).val (j 1).val) := by
  rw [val_main_v4_apply, val_main_v3_apply, val_main_v2_apply, val_main_call0_v0_apply, val_main_call0_cst_apply, bits_zero,
    ← at2_eq (x0 : S8192x4096.Idx → EReal) j rfl rfl]
  rfl

theorem v7_at (j : S8192x1024.Idx) :
    val_main_v7 (F := Ideal) x0 x1 x2 j
      = rowCol3 reluSq (x0 : S8192x4096.Idx → EReal) (x1 : S2x4096x1024.Idx → EReal) 0 4096 (j 0).val (j 1).val + at2 (x2 : S8192x1024.Idx → EReal) (j 0).val (j 1).val := by
  have e : val_main_v6 (F := Ideal) x0 x1 j = rowCol3 reluSq (x0 : S8192x4096.Idx → EReal) (x1 : S2x4096x1024.Idx → EReal) 0 4096 (j 0).val (j 1).val := by
    rw [val_main_v6_apply]
    unfold rowCol3
    rw [Finset.sum_range]
    refine Finset.sum_congr rfl fun k _ => ?_
    rw [v5_at, v4_at]
    try rfl
  rw [val_main_v7_apply, e]
  show (x2 j : EReal) + _ = _
  rw [at2_eq (x2 : S8192x1024.Idx → EReal) j rfl rfl, add_comm]

end Cert.Reference11Ideal.Mat

end
-- ==== Proof.MlpDz0.lean ====
module

public import proofs.«01_k».proof.Defs
public import proofs.«01_k».proof.Proof.Gen.Kernel8Ideal.Value
public import proofs.«01_k».proof.Proof.Nat2
public import Idealize.ShloMosaic.Lib.Pipeline.Value
public import Idealize.ShloMosaic.Lib.Pipeline.ValueKit
public import Idealize.ShloMosaic.Lib.Tactic
public import Idealize.ShloMosaic.Lib.Pointwise

@[expose] public section

set_option maxRecDepth 16384

noncomputable section

open Idealize.ShloMosaic Idealize.ShloMosaic.TcCoe Idealize.SL.Sem

/-! The gradient of the hidden activation of the first MLP: what the blocks hold, and the array the run ends with. -/

namespace Cert.Kernel8Ideal.Mat

open Cert.Kernel8Ideal Cert.Kernel8Ideal.Gen Cert.Nat2

set_option maxHeartbeats 4000000

variable (m : (ℓ : Loc nD τ sig) → Buf (Elt Ideal) ℓ) (c : Dev nD)

/-- The block's product, added to what the scratch held. -/
theorem pay2_apply (v11 : Vec Ideal S2048x1024 .f32) (x0 : Vec Ideal S2048x1024 .bf16) (x1 : Vec Ideal S1x1024x1024 .bf16) (y : S2048x1024.Idx) :
    k0_pay2 v11 x0 x1 y = v11 y + ∑ k : Fin 1024, at2 x0 (y 0).val k.val * at3 x1 0 (y 1).val k.val := by
  unfold k0_pay2
  pointwise
  refine congrArg (v11 y + ·) (Finset.sum_congr rfl fun k _ => ?_)
  show x0 (ValueIdx.ix2 (y 0) k) * x1 (ValueIdx.ix3 0 (y 1) k) = _
  rw [at2_eq x0 (ValueIdx.ix2 (y 0) k) rfl rfl, at3_eq x1 (ValueIdx.ix3 0 (y 1) k) rfl rfl rfl]
  rfl

/-- The derivative of the squared ReLU times the block. -/
theorem pay3_apply (v11 : Vec Ideal S2048x1024 .f32) (x0 : Vec Ideal S2048x1024 .bf16) (y : S2048x1024.Idx) :
    k0_pay3 v11 x0 y = v11 y * (Ideal.ofBits .f32 0x40000000#32 * max (x0 y) 0) := by
  unfold k0_pay3
  pointwise

theorem pay1_apply (y : S2048x1024.Idx) : k0_pay1 (F := Ideal) y = 0 := by
  unfold k0_pay1
  pointwise

theorem out_A (t : Fin cfg0.N) (y : S2048x1024.Idx) :
    outsAt0 m c t y = k0_pay3 (F := Ideal) (k0_pay2 (F := Ideal) (k0_pay1 (F := Ideal)) (iblk m c 0 t) (iblk m c 1 t)) (iblk m c 2 t) y := by
  unfold outsAt0
  frame_out

/-! ## The blocks are rows of the arguments -/

/-- The three arguments as functions of their indices. -/
abbrev argD : S8192x1024.Idx → EReal := m ((c : Thread nD τ).loc main_arg0)
abbrev argW : S2x4096x1024.Idx → EReal := m ((c : Thread nD τ).loc main_arg1)
abbrev argZ : S8192x4096.Idx → EReal := m ((c : Thread nD τ).loc main_arg2)

theorem idx0 : ∀ t : Fin cfg0.N, win0_0.index t 0 = t.val / 4 ∧ win0_0.index t 1 = 0 :=
  (by decide +kernel : ∀ t : Fin grid0.N, win0_0.index t 0 = t.val / 4 ∧ win0_0.index t 1 = 0)
theorem idx1 : ∀ t : Fin cfg0.N, win0_1.index t 0 = 0 ∧ win0_1.index t 1 = t.val % 4 ∧ win0_1.index t 2 = 0 :=
  (by decide +kernel : ∀ t : Fin grid0.N, win0_1.index t 0 = 0 ∧ win0_1.index t 1 = t.val % 4 ∧ win0_1.index t 2 = 0)
theorem idx2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)
theorem idx3 : ∀ t : Fin cfg0.N, win0_3.index t 0 = t.val / 4 ∧ win0_3.index t 1 = t.val % 4 :=
  (by decide +kernel : ∀ t : Fin grid0.N, win0_3.index t 0 = t.val / 4 ∧ win0_3.index t 1 = t.val % 4)

theorem blk0 (t : Fin cfg0.N) (r l : ℕ) (hr : r < 2048) (hl : l < 1024) :
    at2 (iblk m c 0 t : Vec Ideal S2048x1024 .bf16) r l = at2 (argD m c) (2048 * (t.val / 4) + r) l := by
  conv_lhs => unfold at2
  rw [dif_pos ⟨hr, hl⟩]
  unfold iblk
  rw [View.read_apply]
  show V m c main_arg0 _ = _
  rw [V_main_arg0]
  refine at2_eq (m ((c : Thread nD τ).loc main_arg0) : S8192x1024.Idx → EReal) _ ?_ ?_
  · show win0_0.index t 0 * 2048 + 1 * r = _; rw [(idx0 t).1]; omega
  · show win0_0.index t 1 * 1024 + 1 * l = _; rw [(idx0 t).2]; omega

theorem blk1 (t : Fin cfg0.N) (r l : ℕ) (hr : r < 1024) (hl : l < 1024) :
    at3 (iblk m c 1 t : Vec Ideal S1x1024x1024 .bf16) 0 r l = at3 (argW m c) 0 (1024 * (t.val % 4) + r) l := by
  conv_lhs => unfold at3
  rw [dif_pos ⟨Nat.zero_lt_one, hr, hl⟩]
  unfold iblk
  rw [View.read_apply]
  show V m c main_arg1 _ = _
  rw [V_main_arg1]
  refine at3_eq (m ((c : Thread nD τ).loc main_arg1) : S2x4096x1024.Idx → EReal) _ ?_ ?_ ?_
  · show win0_1.index t 0 * 1 + 1 * 0 = _; rw [(idx1 t).1]
  · show win0_1.index t 1 * 1024 + 1 * r = _; rw [(idx1 t).2.1]; omega
  · show win0_1.index t 2 * 1024 + 1 * l = _; rw [(idx1 t).2.2]; omega

theorem blk2 (t : Fin cfg0.N) (y : S2048x1024.Idx) :
    (iblk m c 2 t : Vec Ideal S2048x1024 .bf16) y = at2 (argZ m c) (2048 * (t.val / 4) + (y 0).val) (1024 * (t.val % 4) + (y 1).val) := by
  unfold iblk
  rw [View.read_apply]
  show V m c main_arg2 _ = _
  rw [V_main_arg2]
  refine at2_eq (m ((c : Thread nD τ).loc main_arg2) : S8192x4096.Idx → EReal) _ ?_ ?_
  · show win0_2.index t 0 * 2048 + 1 * (y 0).val = _; rw [(idx2 t).1]; omega
  · show win0_2.index t 1 * 1024 + 1 * (y 1).val = _; rw [(idx2 t).2]; omega

/-- The result: the gradient of the layer's output against the weight's rows, times the derivative of the squared ReLU. -/
def res : Buf (Elt Ideal) ((c : Thread nD τ).loc main_v0) :=
  fun i : S8192x4096.Idx => reluSqBwd (rowDot3 (argD m c) (argW m c) 0 1024 (i 0).val (i 1).val) (at2 (argZ m c) (i 0).val (i 1).val)

theorem out_eq (t : Fin cfg0.N) (y : S2048x1024.Idx) :
    outsAt0 m c t y = reluSqBwd (rowDot3 (argD m c) (argW m c) 0 1024 (2048 * (t.val / 4) + (y 0).val) (1024 * (t.val % 4) + (y 1).val))
      (at2 (argZ m c) (2048 * (t.val / 4) + (y 0).val) (1024 * (t.val % 4) + (y 1).val)) := by
  rw [out_A]
  refine (pay3_apply _ (iblk m c 2 t) y).trans ?_
  unfold reluSqBwd
  refine congrArg₂ (fun a b => a * (Ideal.ofBits .f32 0x40000000#32 * max b 0)) ?_ (blk2 m c t y)
  refine (pay2_apply _ (iblk m c 0 t) (iblk m c 1 t) y).trans ?_
  rw [pay1_apply, zero_add]
  unfold rowDot3
  rw [Finset.sum_range]
  refine Finset.sum_congr rfl fun k _ => ?_
  have e0 := blk0 m c t (y 0).val k.val (y 0).isLt k.isLt
  have e1 := blk1 m c t (y 1).val k.val (y 1).isLt k.isLt
  rw [e0, e1]

theorem flushed_res (t : Fin cfg0.N) :
    (dats m 0 c).flushed 3 t = ((cfg0.win 3).blk t).view.read (Elt Ideal) (res m c) := by
  rw [Cert.Kernel8Ideal.Value.flushed3]
  funext j
  rw [View.read_apply]
  show outsAt0 m c t (fun a => ⟨(j a).val, (j a).isLt⟩) = reluSqBwd (rowDot3 (argD m c) (argW m c) 0 1024 (win0_3.index t 0 * 2048 + 1 * (j 0).val) (win0_3.index t 1 * 1024 + 1 * (j 1).val))
    (at2 (argZ m c) (win0_3.index t 0 * 2048 + 1 * (j 0).val) (win0_3.index t 1 * 1024 + 1 * (j 1).val))
  rw [out_eq m c t, (idx3 t).1, (idx3 t).2]
  rw [Nat.mul_comm (t.val / 4) 2048, Nat.mul_comm (t.val % 4) 1024, Nat.one_mul, Nat.one_mul]

theorem cover (i : S8192x4096.Idx) :
    ∃ t : Fin cfg0.N, (cfg0.win 3).flush t = true ∧ i ∈ ((cfg0.win 3).blk t).view.set := by
  have h0 : (i 0 : ℕ) < 8192 := (i 0).isLt
  have h1 : (i 1 : ℕ) < 4096 := (i 1).isLt
  have hN : cfg0.N = 16 := N_0
  let t : Fin cfg0.N := ⟨4 * ((i 0 : ℕ) / 2048) + (i 1 : ℕ) / 1024, by omega⟩
  refine ⟨t, flush0_3 t, ?_⟩
  show i ∈ ((View.whole main_v0).slice (win0_3.rect t)).set
  rw [View.set_slice_whole, Rect.mem_set_unit]
  have e : t.val = 4 * ((i 0 : ℕ) / 2048) + (i 1 : ℕ) / 1024 := rfl
  intro a
  match a with
  | ⟨0, _⟩ =>
    show win0_3.index t 0 * 2048 ≤ (i 0 : ℕ) ∧ (i 0 : ℕ) < win0_3.index t 0 * 2048 + 2048
    rw [(idx3 t).1]; omega
  | ⟨1, _⟩ =>
    show win0_3.index t 1 * 1024 ≤ (i 1 : ℕ) ∧ (i 1 : ℕ) < win0_3.index t 1 * 1024 + 1024
    rw [(idx3 t).2]; omega

theorem final : (dats m 0 c).arrAt 3 cfg0.N = res m c :=
  (dats m 0 c).arrAt_eq_of_cover 3 (res m c) (fun t _ => flushed_res m c t) cover

end Cert.Kernel8Ideal.Mat

end
-- ==== Proof.MlpRef0.lean ====
module

public import proofs.«01_k».proof.Defs
public import proofs.«01_k».proof.Proof.Nat2
public import proofs.«01_k».proof.Proof.Gen.Reference8Ideal.Read
public import Idealize.ShloMosaic.Lib.KernelVsHost
public import Idealize.ShloMosaic.Lib.Pipeline.Value
public import Idealize.ShloMosaic.Lib.Tactic
public import Idealize.ShloMosaic.Lib.Pointwise

@[expose] public section

set_option maxRecDepth 16384

noncomputable section

open Idealize.ShloMosaic Idealize.ShloMosaic.TcCoe Idealize.SL.Sem

set_option maxHeartbeats 4000000

/-! ## The gradient of the hidden activation of the first MLP -/

namespace Cert.Reference8Ideal.Mat

open Cert.Reference8Ideal Cert.Reference8Ideal.Gen Cert.Reference8Ideal.Read Cert.Nat2

variable (x0 : (⟨S8192x1024, .bf16⟩ : BufTy).Contents (Elt Ideal)) (x1 : (⟨S2x4096x1024, .bf16⟩ : BufTy).Contents (Elt Ideal))
  (x2 : (⟨S8192x4096, .bf16⟩ : BufTy).Contents (Elt Ideal))

theorem v10_at (j : S4096x1024.Idx) : val_main_v10 (F := Ideal) x1 j = at3 (x1 : S2x4096x1024.Idx → EReal) 0 (j 0).val (j 1).val := by
  have h0 : (j 0).val < 4096 := (j 0).isLt
  have h1 : (j 1).val < 1024 := (j 1).isLt
  rw [val_main_v10_apply, val_main_v1_apply, val_main_v0_apply]
  show x1 (idx_main_v0 (idx_main_v1 j)) = _
  refine at3_eq (x1 : S2x4096x1024.Idx → EReal) _ ?_ ?_ ?_
  · first | rfl | (show _ = _; dsimp only; omega)
  · first | rfl | (show _ = _; dsimp only; omega)
  · first | rfl | (show _ = _; dsimp only; omega)

theorem v17_at (j : S8192x4096.Idx) :
    val_main_v17 (F := Ideal) x0 x1 x2 j
      = reluSqBwd (rowDot3 (x0 : S8192x1024.Idx → EReal) (x1 : S2x4096x1024.Idx → EReal) 0 1024 (j 0).val (j 1).val) (at2 (x2 : S8192x4096.Idx → EReal) (j 0).val (j 1).val) := by
  have e : (∑ k : Fin 1024, val_main_v12 (F := Ideal) x0 (lidx_main_v13 j k) * val_main_v10 (F := Ideal) x1 (ridx_main_v13 j k))
      = rowDot3 (x0 : S8192x1024.Idx → EReal) (x1 : S2x4096x1024.Idx → EReal) 0 1024 (j 0).val (j 1).val := by
    unfold rowDot3
    rw [Finset.sum_range]
    refine Finset.sum_congr rfl fun k _ => ?_
    rw [v10_at, val_main_v12_apply]
    show x0 _ * _ = _
    rw [at2_eq (x0 : S8192x1024.Idx → EReal) _ rfl rfl]
  rw [val_main_v17_apply, val_main_v16_apply, val_main_v5_apply, val_main_v15_apply, val_main_v4_apply, val_main_cst_apply, val_main_cst_2_apply, val_main_v14_apply,
    val_main_v9_apply, val_main_v8_apply, val_main_cst_1_apply, val_main_v3_apply, val_main_v2_apply, val_main_call0_v0_apply, val_main_call0_cst_apply, bits_zero, val_main_v13_apply, e]
  rw [← at2_eq (x2 : S8192x4096.Idx → EReal) j rfl rfl]
  show Scalar.select (BitVec.ofBool (decide ((0 : EReal) < x2 j))) (_ * (Ideal.ofBits .f32 0x40000000#32 * max (x2 j : EReal) 0)) (0 : EReal) = _
  unfold reluSqBwd
  by_cases h : (0 : EReal) < x2 j
  · rw [decide_eq_true h]; rfl
  · rw [decide_eq_false h, max_eq_right (not_lt.1 h), mul_zero, mul_zero]; rfl

end Cert.Reference8Ideal.Mat

end
-- ==== Proof.RmsUp0.lean ====
module

public import proofs.«01_k».proof.Defs
public import proofs.«01_k».proof.Proof.Gen.Kernel9Ideal.Value
public import proofs.«01_k».proof.Proof.RmsAlg
public import Idealize.ShloMosaic.Lib.Pipeline.Value
public import Idealize.ShloMosaic.Lib.Pipeline.ValueKit
public import Idealize.ShloMosaic.Lib.KernelVsHost
public import Idealize.ShloMosaic.Lib.Tactic
public import Idealize.ShloMosaic.Lib.WritesUnit
public import Idealize.ShloMosaic.Lib.Pointwise

@[expose] public section

set_option maxRecDepth 16384

noncomputable section

open Idealize.ShloMosaic Idealize.ShloMosaic.TcCoe Idealize.SL.Sem

namespace Cert.Kernel9Ideal.Mat

open Cert.Kernel9Ideal Cert.Kernel9Ideal.Gen Cert.Nat2

set_option maxHeartbeats 4000000

/-! The gradient through the product and the RMS normalisation into the first MLP: what the blocks hold, and the arrays the run ends with. -/

theorem at2_ix {a b : ℕ} (X : (⟨2, ![a, b]⟩ : Shape).Idx → EReal) (r : Fin a) (l : Fin b) : X (ValueIdx.ix2 r l) = at2 X r.val l.val :=
  at2_eq X (ValueIdx.ix2 r l) rfl rfl

theorem pay6_apply (v22 : Vec Ideal S1024x1024 .f32) (y : S1024x1.Idx) : k0_pay6 v22 y = rinv (at2 v22 (y 0).val) := by
  unfold k0_pay6
  pointwise
  unfold rinv msq
  rw [Finset.sum_range]
  refine congrArg (fun s => Ideal.rsqrt (Ideal.div s wid + eps)) (Finset.sum_congr rfl fun k _ => ?_)
  have e := at2_ix v22 (y 0) k
  exact congrArg₂ (· * ·) e e

theorem pay7_apply (v22 : Vec Ideal S1024x1024 .f32) (y : S1024x1024.Idx) : k0_pay7 v22 y = v22 y * rinv (at2 v22 (y 0).val) := by
  unfold k0_pay7
  pointwise
  rw [pay6_apply]
  rfl

theorem pay8_apply (v3 v20 v22 : Vec Ideal S1024x1024 .f32) (v23 : Vec Ideal S1x1024 .f32) (v47 : Vec Ideal S1024x1024 .f32) (y : S1024x1024.Idx) :
    k0_pay8 v3 v20 v22 v23 v47 y = v47 y + rmsBwd (at2 v22 (y 0).val) (fun k => (at2 v20 (y 0).val k + at2 v3 (y 0).val k) * at2 v23 0 k) (y 1).val := by
  unfold k0_pay8 k0_pay5
  pointwise
  unfold rmsBwd
  rw [Finset.sum_range, pay6_apply, pay7_apply, at2_eq v20 y rfl rfl, at2_eq v3 y rfl rfl, at2_eq v22 y rfl rfl]
  refine congrArg (v47 y + ·) (congrArg₂ (fun a s => rinv (at2 v22 (y 0).val) * ((at2 v20 (y 0).val (y 1).val + at2 v3 (y 0).val (y 1).val) * a -
    at2 v22 (y 0).val (y 1).val * rinv (at2 v22 (y 0).val) * Ideal.div s wid)) (at2_ix v23 0 (y 1)) (Finset.sum_congr rfl fun k _ => ?_))
  rw [pay7_apply]
  exact congrArg₂ (· * ·) (congrArg (· * _) (at2_ix v22 (y 0) k)) (congrArg₂ (· * ·) (congrArg₂ (· + ·) (at2_ix v20 (y 0) k) (at2_ix v3 (y 0) k)) (at2_ix v23 0 k))

theorem pay10_apply (v3 v20 v22 : Vec Ideal S1024x1024 .f32) (v52 : Vec Ideal S1x1024 .f32) (y : S1x1024.Idx) :
    k0_pay10 v3 v20 v22 v52 y = v52 y + ∑ r : Fin 1024, (at2 v20 r.val (y 1).val + at2 v3 r.val (y 1).val) * (at2 v22 r.val (y 1).val * rinv (at2 v22 r.val)) := by
  unfold k0_pay10 k0_pay5
  pointwise
  refine congrArg (v52 y + ·) (Finset.sum_congr rfl fun r _ => ?_)
  rw [pay7_apply]
  exact congrArg₂ (· * ·) (congrArg₂ (· + ·) (at2_ix v20 r (y 1)) (at2_ix v3 r (y 1))) (congrArg (· * _) (at2_ix v22 r (y 1)))

theorem pay1_apply (x0 : Vec Ideal S1024x1024 .bf16) (x1 : Vec Ideal S1x1024x1024 .bf16) (y : S1024x1024.Idx) :
    k0_pay1 x0 x1 y = ∑ k : Fin 1024, at2 x0 (y 0).val k.val * at3 x1 0 (y 1).val k.val := by
  unfold k0_pay1
  pointwise
  refine Finset.sum_congr rfl fun k _ => ?_
  show x0 (ValueIdx.ix2 (y 0) k) * x1 (ValueIdx.ix3 0 (y 1) k) = _
  rw [at2_eq x0 (ValueIdx.ix2 (y 0) k) rfl rfl, at3_eq x1 (ValueIdx.ix3 0 (y 1) k) rfl rfl rfl]
  rfl

variable (m : (ℓ : Loc nD τ sig) → Buf (Elt Ideal) ℓ) (c : Dev nD)

/-- What the point before left. -/
abbrev prev (t : Fin cfg0.N) := outsAt0 m c (t.val - 1) (Nat.lt_of_le_of_lt (Nat.sub_le _ _) t.isLt)

theorem scr_0 (t : Fin cfg0.N) (h : t.val % 4 = 0) (y : S1024x1024.Idx) :
    (outsAt0 m c t.val t.isLt).2.2.2 y = k0_pay1 (F := Ideal) (iblk m c 0 t) (iblk m c 1 t) y := by
  by_cases h0 : t.val % 32 = 0
  · rw [outsAt0_A m c t h0 h (by omega) (by omega)]; dsimp only
    frame_out
    unfold k0_pay3
    pointwise
  · rw [outsAt0_D m c t h0 h (by omega) (by omega)]; dsimp only
    frame_out
    unfold k0_pay3
    pointwise

theorem scr_mid (t : Fin cfg0.N) (h : 1 ≤ t.val % 4 ∧ t.val % 4 ≤ 2) (y : S1024x1024.Idx) :
    (outsAt0 m c t.val t.isLt).2.2.2 y = (prev m c t).2.2.2 y + k0_pay1 (F := Ideal) (iblk m c 0 t) (iblk m c 1 t) y := by
  rw [outsAt0_B m c t (by omega) (by omega) h (by omega)]; dsimp only
  frame_out
  unfold k0_pay4
  pointwise
  refine congrArg (· + _) ?_
  exact congrFun (Memref.IsWhole.read_unread (m := Memref.whole cc0_scratch0) _ _) y

theorem dg_A (t : Fin cfg0.N) (h0 : t.val % 32 = 0) (y : S8x1024.Idx) :
    (outsAt0 m c t.val t.isLt).2.2.1 y = (0 : EReal) := by
  rw [outsAt0_A m c t h0 (by omega) (by omega) (by omega)]; dsimp only
  frame_out
  unfold k0_pay2
  pointwise

theorem dg_keep (t : Fin cfg0.N) (h0 : ¬t.val % 32 = 0) (h3 : ¬t.val % 4 = 3) (y : S8x1024.Idx) :
    (outsAt0 m c t.val t.isLt).2.2.1 y = (prev m c t).2.2.1 y := by
  by_cases h : t.val % 4 = 0
  · rw [outsAt0_D m c t h0 h (by omega) (by omega)]; dsimp only
    rfl
  · rw [outsAt0_B m c t h0 h (by omega) h3]; dsimp only
    rfl

theorem dx_C (t : Fin cfg0.N) (h3 : t.val % 4 = 3) (y : S1024x1024.Idx) :
    (outsAt0 m c t.val t.isLt).1 y = k0_pay8 (F := Ideal) (k0_pay1 (F := Ideal) (iblk m c 0 t) (iblk m c 1 t)) (prev m c t).2.2.2 (iblk m c 2 t) (iblk m c 3 t) (iblk m c 4 t) y := by
  rw [outsAt0_C m c t (by omega) (by omega) (by omega) h3]; dsimp only
  frame_out
  exact congrArg (fun v => k0_pay8 (F := Ideal) (k0_pay1 (F := Ideal) (iblk m c 0 t) (iblk m c 1 t)) v (iblk m c 2 t) (iblk m c 3 t) (iblk m c 4 t) y)
    (Memref.IsWhole.read_unread (m := Memref.whole cc0_scratch0) _ _)

theorem dxb_C (t : Fin cfg0.N) (h3 : t.val % 4 = 3) (y : S1024x1024.Idx) :
    ((outsAt0 m c t.val t.isLt).2.1 y : EReal) = (outsAt0 m c t.val t.isLt).1 y := by
  rw [outsAt0_C m c t (by omega) (by omega) (by omega) h3]; dsimp only
  frame_out
  unfold k0_pay9
  rfl

theorem dg_C (t : Fin cfg0.N) (h3 : t.val % 4 = 3) (y : S8x1024.Idx) :
    ((outsAt0 m c t.val t.isLt).2.2.1 y : EReal) = if (y 0).val = 0 then
      (prev m c t).2.2.1 y + ∑ r : Fin 1024, (at2 ((prev m c t).2.2.2) r.val (y 1).val + at2 (k0_pay1 (F := Ideal) (iblk m c 0 t) (iblk m c 1 t)) r.val (y 1).val)
        * (at2 (iblk m c 2 t : Vec Ideal S1024x1024 .f32) r.val (y 1).val * rinv (at2 (iblk m c 2 t : Vec Ideal S1024x1024 .f32) r.val))
      else (prev m c t).2.2.1 y := by
  rw [outsAt0_C m c t (by omega) (by omega) (by omega) h3]; dsimp only
  frame_out
  by_cases h : (y 0).val = 0
  · rw [if_pos h]
    have hy : ∀ a, ((ValueIdx.ix2 (0 : Fin 1) (y 1) : S1x1024.Idx) a).val + (![0, 0] : Fin 2 → ℕ) a = (y a).val := fun a => by
      match a with
      | ⟨0, _⟩ => exact h.symm
      | ⟨1, _⟩ => rfl
    refine (View.read_writes_cons_unit_of_mem _ _ _ _ _ y (ValueIdx.ix2 (0 : Fin 1) (y 1)) rfl (fun a => (hy a).symm.trans (Nat.add_comm _ _))).trans ?_
    refine (pay10_apply _ _ _ _ _).trans ?_
    refine congrArg₂ (· + ·) ?_ (Finset.sum_congr rfl fun r _ => ?_)
    · refine congrArg (prev m c t).2.2.1 (funext fun a => Fin.ext ?_)
      match a with
      | ⟨0, _⟩ => show 0 + 1 * 0 = (y 0).val; omega
      | ⟨1, _⟩ => show 0 + 1 * (y 1).val = (y 1).val; omega
    · refine congrArg (fun v => (at2 v r.val (y 1).val + _) * _) ?_
      exact Memref.IsWhole.read_unread (m := Memref.whole cc0_scratch0) _ _
  · rw [if_neg h]
    refine (View.read_writes_cons_unit_of_not_mem _ _ _ _ _ y rfl 0 (by
      show (y 0).val < 0 ∨ 0 + 1 ≤ (y 0).val
      omega)).trans ?_
    exact congrFun ((hs0_7 t).read_unread _) y

/-! ## The blocks are rows of the arguments -/

/-- The five arguments as functions of their indices. -/
abbrev argD : S8192x4096.Idx → EReal := m ((c : Thread nD τ).loc main_arg0)
abbrev argW : S2x1024x4096.Idx → EReal := m ((c : Thread nD τ).loc main_arg1)
abbrev argX : S8192x1024.Idx → EReal := m ((c : Thread nD τ).loc main_arg2)
abbrev argG : S1x1024.Idx → EReal := m ((c : Thread nD τ).loc main_arg3)
abbrev argR : S8192x1024.Idx → EReal := m ((c : Thread nD τ).loc main_arg4)

theorem idx0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem idx1 : ∀ t : Fin cfg0.N, win0_1.index t 0 = 0 ∧ win0_1.index t 1 = 0 ∧ win0_1.index t 2 = t.val % 4 :=
  (by decide +kernel : ∀ t : Fin grid0.N, win0_1.index t 0 = 0 ∧ win0_1.index t 1 = 0 ∧ win0_1.index t 2 = t.val % 4)
theorem idx2 : ∀ t : Fin cfg0.N, win0_2.index t 0 = t.val / 4 ∧ win0_2.index t 1 = 0 :=
  (by decide +kernel : ∀ t : Fin grid0.N, win0_2.index t 0 = t.val / 4 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val / 4 ∧ win0_4.index t 1 = 0 :=
  (by decide +kernel : ∀ t : Fin grid0.N, win0_4.index t 0 = t.val / 4 ∧ win0_4.index t 1 = 0)
theorem idx5 : ∀ t : Fin cfg0.N, win0_5.index t 0 = t.val / 4 ∧ win0_5.index t 1 = 0 :=
  (by decide +kernel : ∀ t : Fin grid0.N, win0_5.index t 0 = t.val / 4 ∧ win0_5.index t 1 = 0)
theorem idx6 : ∀ t : Fin cfg0.N, win0_6.index t 0 = t.val / 4 ∧ win0_6.index t 1 = 0 :=
  (by decide +kernel : ∀ t : Fin grid0.N, win0_6.index t 0 = t.val / 4 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)

theorem blk0 (t : Fin cfg0.N) (r l : ℕ) (hr : r < 1024) (hl : l < 1024) :
    at2 (iblk m c 0 t : Vec Ideal S1024x1024 .bf16) r l = at2 (argD m c) (1024 * (t.val / 4) + r) (1024 * (t.val % 4) + l) := by
  conv_lhs => unfold at2
  rw [dif_pos ⟨hr, hl⟩]
  unfold iblk
  rw [View.read_apply]
  show V m c main_arg0 _ = _
  rw [V_main_arg0]
  refine at2_eq (m ((c : Thread nD τ).loc main_arg0) : S8192x4096.Idx → EReal) _ ?_ ?_
  · show win0_0.index t 0 * 1024 + 1 * r = _; rw [(idx0 t).1]; omega
  · show win0_0.index t 1 * 1024 + 1 * l = _; rw [(idx0 t).2]; omega

theorem blk1 (t : Fin cfg0.N) (r l : ℕ) (hr : r < 1024) (hl : l < 1024) :
    at3 (iblk m c 1 t : Vec Ideal S1x1024x1024 .bf16) 0 r l = at3 (argW m c) 0 r (1024 * (t.val % 4) + l) := by
  conv_lhs => unfold at3
  rw [dif_pos ⟨Nat.zero_lt_one, hr, hl⟩]
  unfold iblk
  rw [View.read_apply]
  show V m c main_arg1 _ = _
  rw [V_main_arg1]
  refine at3_eq (m ((c : Thread nD τ).loc main_arg1) : S2x1024x4096.Idx → EReal) _ ?_ ?_ ?_
  · show win0_1.index t 0 * 1 + 1 * 0 = _; rw [(idx1 t).1]
  · show win0_1.index t 1 * 1024 + 1 * r = _; rw [(idx1 t).2.1]; omega
  · show win0_1.index t 2 * 1024 + 1 * l = _; rw [(idx1 t).2.2]; omega

theorem blk2 (t : Fin cfg0.N) (r : ℕ) (hr : r < 1024) :
    at2 (iblk m c 2 t : Vec Ideal S1024x1024 .f32) r = at2 (argX m c) (1024 * (t.val / 4) + r) := by
  funext l
  by_cases hl : l < 1024
  · conv_lhs => unfold at2
    rw [dif_pos ⟨hr, hl⟩]
    unfold iblk
    rw [View.read_apply]
    show V m c main_arg2 _ = _
    rw [V_main_arg2]
    refine at2_eq (m ((c : Thread nD τ).loc main_arg2) : S8192x1024.Idx → EReal) _ ?_ ?_
    · show win0_2.index t 0 * 1024 + 1 * r = _; rw [(idx2 t).1]; omega
    · show win0_2.index t 1 * 1024 + 1 * l = _; rw [(idx2 t).2]; omega
  · unfold at2
    rw [dif_neg (fun e => hl e.2), dif_neg (fun e => hl e.2)]

theorem blk3 (t : Fin cfg0.N) : at2 (iblk m c 3 t : Vec Ideal S1x1024 .f32) 0 = at2 (argG m c) 0 := by
  funext l
  by_cases hl : l < 1024
  · conv_lhs => unfold at2
    rw [dif_pos ⟨Nat.zero_lt_one, hl⟩]
    unfold iblk
    rw [View.read_apply]
    show V m c main_arg3 _ = _
    rw [V_main_arg3]
    refine at2_eq (m ((c : Thread nD τ).loc main_arg3) : S1x1024.Idx → EReal) _ ?_ ?_
    · show win0_3.index t 0 * 1 + 1 * 0 = _; rw [(idx3 t).1]
    · show win0_3.index t 1 * 1024 + 1 * l = _; rw [(idx3 t).2]; omega
  · unfold at2
    rw [dif_neg (fun e => hl e.2), dif_neg (fun e => hl e.2)]

theorem blk4 (t : Fin cfg0.N) (y : S1024x1024.Idx) :
    (iblk m c 4 t : Vec Ideal S1024x1024 .f32) y = at2 (argR m c) (1024 * (t.val / 4) + (y 0).val) (y 1).val := by
  unfold iblk
  rw [View.read_apply]
  show V m c main_arg4 _ = _
  rw [V_main_arg4]
  refine at2_eq (m ((c : Thread nD τ).loc main_arg4) : S8192x1024.Idx → EReal) _ ?_ ?_
  · show win0_4.index t 0 * 1024 + 1 * (y 0).val = _; rw [(idx4 t).1]; omega
  · show win0_4.index t 1 * 1024 + 1 * (y 1).val = _; rw [(idx4 t).2]; omega

/-! ## The values -/

/-- The gradient against the weight's rows, over the first columns; -/
abbrev dn (n r l : ℕ) : EReal := rowDot3 (argD m c) (argW m c) 0 n r l
/-- the gradient of the normalised row, scaled; -/
abbrev gk (r k : ℕ) : EReal := dn m c 4096 r k * at2 (argG m c) 0 k
/-- what one row adds to the scale's gradient. -/
abbrev gw (r l : ℕ) : EReal := dn m c 4096 r l * (at2 (argX m c) r l * rinv (at2 (argX m c) r))

theorem part_eq (t : Fin cfg0.N) (r l : ℕ) (hr : r < 1024) (hl : l < 1024) :
    dn m c (1024 * (t.val % 4)) (1024 * (t.val / 4) + r) l + at2 (k0_pay1 (F := Ideal) (iblk m c 0 t) (iblk m c 1 t)) r l
      = dn m c (1024 * (t.val % 4 + 1)) (1024 * (t.val / 4) + r) l := by
  have e : at2 (k0_pay1 (F := Ideal) (iblk m c 0 t) (iblk m c 1 t)) r l = _ :=
    (at2_ix _ (⟨r, hr⟩ : Fin 1024) (⟨l, hl⟩ : Fin 1024)).symm.trans (pay1_apply (iblk m c 0 t) (iblk m c 1 t) _)
  rw [e]
  show rowDot3 _ _ _ _ _ _ + _ = rowDot3 _ _ _ _ _ _
  unfold rowDot3
  rw [Nat.mul_add, Nat.mul_one, Finset.sum_range_add]
  refine congrArg (_ + ·) ?_
  rw [Finset.sum_range]
  refine Finset.sum_congr rfl fun k _ => ?_
  exact congrArg₂ (· * ·) (blk0 m c t r k.val hr k.isLt) (blk1 m c t l k.val hl k.isLt)

theorem scr_eq (j : ℕ) (hj : j ≤ 2) : ∀ (t : Fin cfg0.N), t.val % 4 = j → ∀ y : S1024x1024.Idx,
    (outsAt0 m c t.val t.isLt).2.2.2 y = dn m c (1024 * (j + 1)) (1024 * (t.val / 4) + (y 0).val) (y 1).val := by
  induction j with
  | zero =>
    intro t ht y
    rw [scr_0 m c t ht y]
    have e := part_eq m c t (y 0).val (y 1).val (y 0).isLt (y 1).isLt
    rw [ht] at e
    refine Eq.trans ?_ e
    have z : dn m c (1024 * 0) (1024 * (t.val / 4) + (y 0).val) (y 1).val = 0 := Finset.sum_range_zero _
    rw [z, zero_add]
    exact at2_eq _ y rfl rfl
  | succ j ih =>
    intro t ht y
    rw [scr_mid m c t (by omega) y]
    have hp : (t.val - 1) % 4 = j := by omega
    have hq : (t.val - 1) / 4 = t.val / 4 := by omega
    have e1 := ih (by omega) ⟨t.val - 1, Nat.lt_of_le_of_lt (Nat.sub_le _ _) t.isLt⟩ hp y
    have e := part_eq m c t (y 0).val (y 1).val (y 0).isLt (y 1).isLt
    rw [ht] at e
    refine Eq.trans ?_ e
    refine congrArg₂ (· + ·) (e1.trans ?_) (at2_eq _ y rfl rfl)
    show dn m c _ (1024 * ((t.val - 1) / 4) + _) _ = _
    rw [hq]

/-- At the last block of a row of blocks, the sum is complete. -/
theorem full_eq (t : Fin cfg0.N) (h3 : t.val % 4 = 3) (r l : ℕ) (hr : r < 1024) (hl : l < 1024) :
    at2 ((prev m c t).2.2.2) r l + at2 (k0_pay1 (F := Ideal) (iblk m c 0 t) (iblk m c 1 t)) r l = dn m c 4096 (1024 * (t.val / 4) + r) l := by
  have e := part_eq m c t r l hr hl
  rw [h3] at e
  refine Eq.trans (congrArg (· + _) ?_) e
  have hp : (t.val - 1) % 4 = 2 := by omega
  have hq : (t.val - 1) / 4 = t.val / 4 := by omega
  have e1 := scr_eq m c 2 (Nat.le_refl _) ⟨t.val - 1, Nat.lt_of_le_of_lt (Nat.sub_le _ _) t.isLt⟩ hp (ValueIdx.ix2 (⟨r, hr⟩ : Fin 1024) (⟨l, hl⟩ : Fin 1024))
  refine ((at2_ix _ (⟨r, hr⟩ : Fin 1024) (⟨l, hl⟩ : Fin 1024)).symm.trans e1).trans ?_
  show dn m c _ (1024 * ((t.val - 1) / 4) + r) l = _
  rw [hq]

/-- The residual's gradient plus the normalisation's backward step. -/
abbrev dxv (r l : ℕ) : EReal := at2 (argR m c) r l + rmsBwd (at2 (argX m c) r) (gk m c r) l

theorem dx_eq (t : Fin cfg0.N) (h3 : t.val % 4 = 3) (y : S1024x1024.Idx) :
    (outsAt0 m c t.val t.isLt).1 y = dxv m c (1024 * (t.val / 4) + (y 0).val) (y 1).val := by
  rw [dx_C m c t h3 y]
  refine (pay8_apply _ _ _ _ _ y).trans ?_
  have e2 := blk2 m c t (y 0).val (y 0).isLt
  have e3 := blk3 m c t
  refine congrArg₂ (· + ·) (blk4 m c t y) ?_
  rw [e2, e3]
  refine congrArg (fun G => rmsBwd _ G _) (funext fun k => ?_)
  by_cases hk : k < 1024
  · exact congrArg (· * _) (full_eq m c t h3 (y 0).val k (y 0).isLt hk)
  · have z : at2 (argG m c) 0 k = 0 := by
      unfold at2
      rw [dif_neg (fun e => hk e.2)]
    show _ * at2 (argG m c) 0 k = dn m c 4096 _ k * at2 (argG m c) 0 k
    rw [z, mul_zero, mul_zero]

theorem dg_eq (n : ℕ) : ∀ (hn : n < cfg0.N) (y : S8x1024.Idx),
    ((outsAt0 m c n hn).2.2.1 y : EReal) = if (y 0).val = 0 then ∑ r ∈ Finset.range (1024 * ((n + 1) / 4)), gw m c r (y 1).val else 0 := by
  induction n with
  | zero =>
    intro hn y
    refine (dg_A m c ⟨0, hn⟩ rfl y).trans ?_
    split
    · exact (Finset.sum_range_zero _).symm
    · rfl
  | succ n ih =>
    intro hn y
    have hN : cfg0.N = 32 := N_0
    have e := ih (Nat.lt_of_succ_lt hn) y
    by_cases h3 : (n + 1) % 4 = 3
    · refine (dg_C m c ⟨n + 1, hn⟩ h3 y).trans ?_
      split
      · rename_i h
        rw [if_pos h] at e
        have hq : (n + 1 + 1) / 4 = (n + 1) / 4 + 1 := by omega
        rw [hq, Nat.mul_add, Nat.mul_one, Finset.sum_range_add]
        refine congrArg₂ (· + ·) e ?_
        rw [Finset.sum_range]
        refine Finset.sum_congr rfl fun r _ => ?_
        have e1 := full_eq m c ⟨n + 1, hn⟩ h3 r.val (y 1).val r.isLt (y 1).isLt
        have e2 := blk2 m c ⟨n + 1, hn⟩ r.val r.isLt
        rw [e2]
        exact congrArg (· * _) e1
      · rename_i h
        rw [if_neg h] at e
        exact e
    · refine (dg_keep m c ⟨n + 1, hn⟩ (by show ¬(n + 1) % 32 = 0; omega) h3 y).trans (e.trans ?_)
      have hq : (n + 1 + 1) / 4 = (n + 1) / 4 := by omega
      rw [hq]

/-! ## The three arrays -/

def res5 : Buf (Elt Ideal) ((c : Thread nD τ).loc main_v0_0) :=
  fun i : S8192x1024.Idx => dxv m c (i 0).val (i 1).val
def res6 : Buf (Elt Ideal) ((c : Thread nD τ).loc main_v0_1) :=
  fun i : S8192x1024.Idx => dxv m c (i 0).val (i 1).val
def res7 : Buf (Elt Ideal) ((c : Thread nD τ).loc main_v0_2) :=
  fun i : S8x1024.Idx => (if (i 0).val = 0 then ∑ r ∈ Finset.range 8192, gw m c r (i 1).val else 0 : EReal)

theorem flushed_res5 (t : Fin cfg0.N) (h : (cfg0.win 5).flush t = true) :
    (dats m 0 c).flushed 5 t = ((cfg0.win 5).blk t).view.read (Elt Ideal) (res5 m c) := by
  have h3 := (flush0_5 t).1 h
  rw [Cert.Kernel9Ideal.Value.flushed5]
  funext j
  rw [View.read_apply]
  show (outsAt0 m c t.val t.isLt).1 (fun a => ⟨(j a).val, (j a).isLt⟩) = dxv m c (win0_5.index t 0 * 1024 + 1 * (j 0).val) (win0_5.index t 1 * 1024 + 1 * (j 1).val)
  rw [dx_eq m c t h3, (idx5 t).1, (idx5 t).2]
  rw [Nat.mul_comm (t.val / 4) 1024, Nat.zero_mul, Nat.zero_add, Nat.one_mul, Nat.one_mul]

theorem flushed_res6 (t : Fin cfg0.N) (h : (cfg0.win 6).flush t = true) :
    (dats m 0 c).flushed 6 t = ((cfg0.win 6).blk t).view.read (Elt Ideal) (res6 m c) := by
  have h3 := (flush0_6 t).1 h
  rw [Cert.Kernel9Ideal.Value.flushed6]
  funext j
  rw [View.read_apply]
  show ((outsAt0 m c t.val t.isLt).2.1 (fun a => ⟨(j a).val, (j a).isLt⟩) : EReal) = dxv m c (win0_6.index t 0 * 1024 + 1 * (j 0).val) (win0_6.index t 1 * 1024 + 1 * (j 1).val)
  rw [dxb_C m c t h3, dx_eq m c t h3, (idx6 t).1, (idx6 t).2]
  rw [Nat.mul_comm (t.val / 4) 1024, Nat.zero_mul, Nat.zero_add, Nat.one_mul, Nat.one_mul]

theorem flushed_res7 (t : Fin cfg0.N) (h : (cfg0.win 7).flush t = true) :
    (dats m 0 c).flushed 7 t = ((cfg0.win 7).blk t).view.read (Elt Ideal) (res7 m c) := by
  have hN : cfg0.N = 32 := N_0
  have h3 := (flush0_7 t).1 h
  have hq : 1024 * ((t.val + 1) / 4) = 8192 := by have := t.isLt; omega
  rw [Cert.Kernel9Ideal.Value.flushed7]
  funext j
  rw [View.read_apply]
  show ((outsAt0 m c t.val t.isLt).2.2.1 (fun a => ⟨(j a).val, (j a).isLt⟩) : EReal)
    = if win0_7.index t 0 * 8 + 1 * (j 0).val = 0 then ∑ r ∈ Finset.range 8192, gw m c r (win0_7.index t 1 * 1024 + 1 * (j 1).val) else 0
  rw [dg_eq m c t.val t.isLt, (idx7 t).1, (idx7 t).2, hq]
  rw [Nat.zero_add, Nat.zero_add, Nat.one_mul, Nat.one_mul]

theorem cover5 (i : S8192x1024.Idx) :
    ∃ t : Fin cfg0.N, (cfg0.win 5).flush t = true ∧ i ∈ ((cfg0.win 5).blk t).view.set := by
  have h0 : (i 0 : ℕ) < 8192 := (i 0).isLt
  have h1 : (i 1 : ℕ) < 1024 := (i 1).isLt
  have hN : cfg0.N = 32 := N_0
  let t : Fin cfg0.N := ⟨4 * ((i 0 : ℕ) / 1024) + 3, by omega⟩
  have e : t.val = 4 * ((i 0 : ℕ) / 1024) + 3 := rfl
  refine ⟨t, (flush0_5 t).2 (by omega), ?_⟩
  show i ∈ ((View.whole main_v0_0).slice (win0_5.rect t)).set
  rw [View.set_slice_whole, Rect.mem_set_unit]
  intro a
  match a with
  | ⟨0, _⟩ =>
    show win0_5.index t 0 * 1024 ≤ (i 0 : ℕ) ∧ (i 0 : ℕ) < win0_5.index t 0 * 1024 + 1024
    rw [(idx5 t).1]; omega
  | ⟨1, _⟩ =>
    show win0_5.index t 1 * 1024 ≤ (i 1 : ℕ) ∧ (i 1 : ℕ) < win0_5.index t 1 * 1024 + 1024
    rw [(idx5 t).2]; omega

theorem cover6 (i : S8192x1024.Idx) :
    ∃ t : Fin cfg0.N, (cfg0.win 6).flush t = true ∧ i ∈ ((cfg0.win 6).blk t).view.set := by
  have h0 : (i 0 : ℕ) < 8192 := (i 0).isLt
  have h1 : (i 1 : ℕ) < 1024 := (i 1).isLt
  have hN : cfg0.N = 32 := N_0
  let t : Fin cfg0.N := ⟨4 * ((i 0 : ℕ) / 1024) + 3, by omega⟩
  have e : t.val = 4 * ((i 0 : ℕ) / 1024) + 3 := rfl
  refine ⟨t, (flush0_6 t).2 (by omega), ?_⟩
  show i ∈ ((View.whole main_v0_1).slice (win0_6.rect t)).set
  rw [View.set_slice_whole, Rect.mem_set_unit]
  intro a
  match a with
  | ⟨0, _⟩ =>
    show win0_6.index t 0 * 1024 ≤ (i 0 : ℕ) ∧ (i 0 : ℕ) < win0_6.index t 0 * 1024 + 1024
    rw [(idx6 t).1]; omega
  | ⟨1, _⟩ =>
    show win0_6.index t 1 * 1024 ≤ (i 1 : ℕ) ∧ (i 1 : ℕ) < win0_6.index t 1 * 1024 + 1024
    rw [(idx6 t).2]; omega

theorem cover7 (i : S8x1024.Idx) :
    ∃ t : Fin cfg0.N, (cfg0.win 7).flush t = true ∧ i ∈ ((cfg0.win 7).blk t).view.set := by
  have h0 : (i 0 : ℕ) < 8 := (i 0).isLt
  have h1 : (i 1 : ℕ) < 1024 := (i 1).isLt
  have hN : cfg0.N = 32 := N_0
  let t : Fin cfg0.N := ⟨cfg0.N - 1, by omega⟩
  have e : t.val = cfg0.N - 1 := rfl
  refine ⟨t, (flush0_7 t).2 (by omega), ?_⟩
  show i ∈ ((View.whole main_v0_2).slice (win0_7.rect t)).set
  rw [View.set_slice_whole, Rect.mem_set_unit]
  intro a
  match a with
  | ⟨0, _⟩ =>
    show win0_7.index t 0 * 8 ≤ (i 0 : ℕ) ∧ (i 0 : ℕ) < win0_7.index t 0 * 8 + 8
    rw [(idx7 t).1]; omega
  | ⟨1, _⟩ =>
    show win0_7.index t 1 * 1024 ≤ (i 1 : ℕ) ∧ (i 1 : ℕ) < win0_7.index t 1 * 1024 + 1024
    rw [(idx7 t).2]; omega

theorem final5 : (dats m 0 c).arrAt 5 cfg0.N = res5 m c :=
  (dats m 0 c).arrAt_eq_of_cover 5 (res5 m c) (fun t h => flushed_res5 m c t h) cover5
theorem final6 : (dats m 0 c).arrAt 6 cfg0.N = res6 m c :=
  (dats m 0 c).arrAt_eq_of_cover 6 (res6 m c) (fun t h => flushed_res6 m c t h) cover6
theorem final7 : (dats m 0 c).arrAt 7 cfg0.N = res7 m c :=
  (dats m 0 c).arrAt_eq_of_cover 7 (res7 m c) (fun t h => flushed_res7 m c t h) cover7

end Cert.Kernel9Ideal.Mat

end
-- ==== Proof.RmsRefUp0.lean ====
module

public import proofs.«01_k».proof.Defs
public import proofs.«01_k».proof.Proof.Gen.Reference9Ideal.Read
public import proofs.«01_k».proof.Proof.RmsAlg
public import Idealize.ShloMosaic.Lib.Pipeline.Value
public import Idealize.ShloMosaic.Lib.Pipeline.ValueKit
public import Idealize.ShloMosaic.Lib.KernelVsHost
public import Idealize.ShloMosaic.Lib.Tactic
public import Idealize.ShloMosaic.Lib.Pointwise

@[expose] public section

set_option maxRecDepth 16384

noncomputable section

open Idealize.ShloMosaic Idealize.ShloMosaic.TcCoe Idealize.SL.Sem

set_option maxHeartbeats 4000000

/-! The gradient through the product and the RMS normalisation into the first MLP: the reference's values. -/

namespace Cert.Reference9Ideal.Mat

open Cert.Reference9Ideal Cert.Reference9Ideal.Gen Cert.Reference9Ideal.Read Cert.Nat2

variable (x0 : (⟨S8192x4096, .bf16⟩ : BufTy).Contents (Elt Ideal)) (x1 : (⟨S2x1024x4096, .bf16⟩ : BufTy).Contents (Elt Ideal))
  (x2 : (⟨S8192x1024, .f32⟩ : BufTy).Contents (Elt Ideal)) (x3 : (⟨S1x1024, .f32⟩ : BufTy).Contents (Elt Ideal)) (x4 : (⟨S8192x1024, .f32⟩ : BufTy).Contents (Elt Ideal))

theorem bits_zero : (FloatOps.ofBits (F := Ideal) .f32 0x00000000#32 : EReal) = 0 := by
  show Ideal.ofBits .f32 0x00000000#32 = 0
  simp [Ideal.ofBits, Ideal.ieee]

abbrev X : ℕ → ℕ → EReal := at2 (x2 : S8192x1024.Idx → EReal)
abbrev dnr (r l : ℕ) : EReal := rowDot3 (x0 : S8192x4096.Idx → EReal) (x1 : S2x1024x4096.Idx → EReal) 0 4096 r l
abbrev gkr (r k : ℕ) : EReal := dnr x0 x1 r k * at2 (x3 : S1x1024.Idx → EReal) 0 k

/-! ## The row's mean square and its inverse root -/

theorem v1_at (i : S8192.Idx) : val_main_v1 (F := Ideal) x2 i = ∑ k ∈ Finset.range 1024, X x2 (i 0).val k * X x2 (i 0).val k := by
  rw [val_main_v1_apply, val_main_cst_apply, bits_zero, zero_add, Finset.sum_range]
  refine Finset.sum_congr rfl fun k _ => ?_
  rw [val_main_v0_apply]
  show (x2 _ : EReal) * x2 _ = _
  rw [at2_eq (x2 : S8192x1024.Idx → EReal) _ rfl rfl]
  try rfl

theorem v6_at (i : S8192x1.Idx) : val_main_v6 (F := Ideal) x2 i = msq (X x2 (i 0).val) := by
  rw [val_main_v6_apply, val_main_v4_apply, val_main_v2_apply, v1_at, val_main_v3_apply, val_main_v5_apply, val_main_cst_0_apply, val_main_cst_1_apply]
  try rfl

theorem v7_at (i : S8192x1.Idx) : val_main_v7 (F := Ideal) x2 i = rinv (X x2 (i 0).val) := by
  rw [val_main_v7_apply, v6_at]
  try rfl

theorem v10_at (i : S8192x1.Idx) : val_main_v10 (F := Ideal) x2 i = mhalf * Ideal.div (rinv (X x2 (i 0).val)) (msq (X x2 (i 0).val)) := by
  rw [val_main_v10_apply, val_main_v9_apply, val_main_cst_2_apply, val_main_v8_apply, v7_at, v6_at]
  try rfl

theorem v12_at (j : S8192x1024.Idx) : val_main_v12 (F := Ideal) x2 j = X x2 (j 0).val (j 1).val * rinv (X x2 (j 0).val) := by
  rw [val_main_v12_apply, val_main_v11_apply, v7_at]
  show (x2 _ : EReal) * _ = _
  rw [at2_eq (x2 : S8192x1024.Idx → EReal) j rfl rfl]
  try rfl

/-! ## The product -/

theorem v20_at (j : S8192x1024.Idx) : val_main_v20 (F := Ideal) x0 x1 j = dnr x0 x1 (j 0).val (j 1).val := by
  rw [val_main_v20_apply]
  unfold dnr rowDot3
  rw [Finset.sum_range]
  refine Finset.sum_congr rfl fun k _ => ?_
  rw [val_main_v19_apply, val_main_v17_apply, val_main_v16_apply, val_main_v15_apply]
  show (x0 _ : EReal) * x1 _ = _
  rw [at2_eq (x0 : S8192x4096.Idx → EReal) _ rfl rfl]
  refine congrArg (_ * ·) (at3_eq (x1 : S2x1024x4096.Idx → EReal) _ ?_ ?_ ?_)
  · rfl
  · show ((j 1).val * 4096 + k.val) / 4096 % 1024 = (j 1).val
    have h1 : (j 1).val < 1024 := (j 1).isLt
    have h2 := k.isLt
    omega
  · show ((j 1).val * 4096 + k.val) % 4096 = k.val
    have h2 := k.isLt
    omega

theorem v21_at (j : S8192x1024.Idx) : val_main_v21 (F := Ideal) x0 x1 x2 j = dnr x0 x1 (j 0).val (j 1).val * (X x2 (j 0).val (j 1).val * rinv (X x2 (j 0).val)) := by
  rw [val_main_v21_apply, v12_at, v20_at]
  exact mul_comm (_ : EReal) _

theorem v23_at (i : S1x1024.Idx) : val_main_v23 (F := Ideal) x0 x1 x2 i
    = ∑ r ∈ Finset.range 8192, dnr x0 x1 r (i 1).val * (X x2 r (i 1).val * rinv (X x2 r)) := by
  rw [val_main_v23_apply, val_main_v22_apply, val_main_cst_3_apply, bits_zero, zero_add, Finset.sum_range]
  refine Finset.sum_congr rfl fun k _ => ?_
  rw [v21_at]
  have e : (idx_main_v22 (idx_main_v23 i) k 1).val = (i 1).val := by
    show (i 0).val * 1024 + (i 1).val = (i 1).val
    have h0 : (i 0).val < 1 := (i 0).isLt
    omega
  rw [e]
  try rfl

theorem v25_at (j : S8192x1024.Idx) : val_main_v25 (F := Ideal) x0 x1 x3 j = gkr x0 x1 x3 (j 0).val (j 1).val := by
  rw [val_main_v25_apply, v20_at, val_main_v24_apply]
  show (_ : EReal) * x3 _ = _
  rw [at2_eq (x3 : S1x1024.Idx → EReal) _ rfl rfl]
  try rfl

theorem v28_at (i : S8192x1.Idx) : val_main_v28 (F := Ideal) x0 x1 x2 x3 i = ∑ k ∈ Finset.range 1024, X x2 (i 0).val k * gkr x0 x1 x3 (i 0).val k := by
  rw [val_main_v28_apply, val_main_v27_apply, val_main_cst_4_apply, bits_zero, zero_add, Finset.sum_range]
  refine Finset.sum_congr rfl fun k _ => ?_
  rw [val_main_v26_apply, v25_at]
  have e : (idx_main_v27 (idx_main_v28 i) k 0).val = (i 0).val := by
    show (i 0).val * 1 + (i 1).val = (i 0).val
    have h0 : (i 1).val < 1 := (i 1).isLt
    omega
  show (x2 _ : EReal) * _ = _
  rw [at2_eq (x2 : S8192x1024.Idx → EReal) _ rfl rfl, e]
  try rfl

theorem v33_at (i : S8192x1.Idx) : val_main_v33 (F := Ideal) x0 x1 x2 x3 i = rmsChain (X x2 (i 0).val) (gkr x0 x1 x3 (i 0).val) := by
  rw [val_main_v33_apply, val_main_v31_apply, v28_at, v10_at, val_main_v32_apply, val_main_cst_5_apply]
  try rfl

theorem v35_at (j : S8192x1024.Idx) : val_main_v35 (F := Ideal) x0 x1 x2 x3 j = rmsChain (X x2 (j 0).val) (gkr x0 x1 x3 (j 0).val) := by
  rw [val_main_v35_apply, val_main_v34_apply, val_main_cst_6_apply, bits_zero, zero_add, Fin.sum_univ_one, v33_at]
  try rfl

theorem v40_at (j : S8192x1024.Idx) : val_main_v40 (F := Ideal) x0 x1 x2 x3 x4 j
    = at2 (x4 : S8192x1024.Idx → EReal) (j 0).val (j 1).val + rmsBwd (X x2 (j 0).val) (gkr x0 x1 x3 (j 0).val) (j 1).val := by
  rw [val_main_v40_apply, val_main_v39_apply, val_main_v37_apply, val_main_v38_apply, val_main_v36_apply, val_main_v30_apply, val_main_v29_apply, v25_at, v35_at, v7_at]
  show (x4 _ : EReal) + (_ * _ + x2 _ * _ + _ * x2 _) = _
  rw [at2_eq (x4 : S8192x1024.Idx → EReal) j rfl rfl, at2_eq (x2 : S8192x1024.Idx → EReal) j rfl rfl]
  exact congrArg (_ + ·) (rms_eq (X x2 (j 0).val) (gkr x0 x1 x3 (j 0).val) (j 1).isLt)

theorem v41_at (j : S8192x1024.Idx) : (val_main_v41 (F := Ideal) x0 x1 x2 x3 x4 j : EReal)
    = at2 (x4 : S8192x1024.Idx → EReal) (j 0).val (j 1).val + rmsBwd (X x2 (j 0).val) (gkr x0 x1 x3 (j 0).val) (j 1).val := by
  rw [val_main_v41_apply, v40_at]
  rfl

/-- The scale's gradient lies in the first of eight rows; the others are zero. -/
theorem v42_at (j : S8x1024.Idx) : (val_main_v42 (F := Ideal) x0 x1 x2 j : EReal)
    = if (j 0).val = 0 then ∑ r ∈ Finset.range 8192, dnr x0 x1 r (j 1).val * (X x2 r (j 1).val * rinv (X x2 r)) else 0 := by
  have hz : (val_main_call0_v0 (F := Ideal) (Shape.Idx.first h_S_) : EReal) = 0 := by
    show (((0#32 : BitVec 32).toInt : ℝ) : EReal) = 0
    simp
  unfold val_main_v42
  by_cases h : (j 0).val = 0
  · rw [if_pos h]
    refine (pad_apply_of_inside ![0, 0] ![7, 0] ![0, 0] (val_main_v23 (F := Ideal) x0 x1 x2) (val_main_call0_v0 (F := Ideal)) pads_S1x1024_S8x1024_070_000 h_S_ j
      (ValueIdx.ix2 (0 : Fin 1) (j 1)) fun a => ?_).trans (v23_at x0 x1 x2 _)
    fin_cases a
    · show (j 0).val = 0 + 0 * (0 + 1); omega
    · show (j 1).val = 0 + (j 1).val * (0 + 1); omega
  · rw [if_neg h]
    refine (pad_apply_of_not_inside ![0, 0] ![7, 0] ![0, 0] (val_main_v23 (F := Ideal) x0 x1 x2) (val_main_call0_v0 (F := Ideal)) pads_S1x1024_S8x1024_070_000 h_S_ j 0
      (fun e => h ?_)).trans hz
    have h2 := e.2.2
    have h3 : ((j 0).val - 0) / (0 + 1) < 1 := h2
    omega

end Cert.Reference9Ideal.Mat

end
-- ==== Proof.NormUp0Value.lean ====
/- What `norm_mm_up0` leaves over the extended reals: the normalised rows, and their product with the columns of the weight. -/
module

public import proofs.«01_k».proof.Proof.NormUp0
public import proofs.«01_k».proof.Proof.Norm
public import Idealize.ShloMosaic.Lib.Pipeline.Value
public import Idealize.ShloMosaic.Lib.Pipeline.ValueKit
public import Idealize.ShloMosaic.Lib.KernelVsHost
public import Idealize.ShloMosaic.Lib.Tactic
public import Idealize.ShloMosaic.Lib.WritesUnit
public import Idealize.ShloMosaic.Lib.Pointwise

@[expose] public section

set_option maxRecDepth 16384

noncomputable section

namespace Cert.Kernel10Ideal.Mat

open Idealize.ShloMosaic Idealize.ShloMosaic.TcCoe Idealize.ShloMosaic.Tactic Idealize.SL.Sem
open Idealize.ShloMosaic.Rounds
open Idealize.ShloMosaic.Pipeline (Dat Cfg Window BodyObligation cellOf)
open Cert.Kernel10Ideal Cert.Kernel10Ideal.Gen Cert.Kernel10Ideal.Held Cert.Nat2

set_option maxHeartbeats 4000000

/-! ## One point's values -/

theorem pay1_apply (x : Vec Ideal S2048x1024 .f32) (g : Vec Ideal S1x1024 .f32) (y : S2048x1024.Idx) :
    k0_pay1 x g y = normRow (at2 x (y 0).val) (at2 g 0) (y 1).val := by
  unfold k0_pay1
  pointwise
  unfold normRow rinv msq
  rw [Finset.sum_range, at2_eq x y rfl rfl]
  refine congrArg₂ (fun s b => at2 x (y 0).val (y 1).val * Ideal.rsqrt (Ideal.div s wid + eps) * b) (Finset.sum_congr rfl fun k _ => ?_) (read_ix g 0 (y 1))
  have e := read_ix x (y 0) k
  exact congrArg₂ (· * ·) e e

theorem pay2_apply (x0 : Vec Ideal S2048x1024 .bf16) (x1 : Vec Ideal S1x1024x1024 .bf16) (y : S2048x1024.Idx) :
    k0_pay2 x0 x1 y = ∑ k : Fin 1024, at2 x0 (y 0).val k.val * at3 x1 0 k.val (y 1).val := by
  unfold k0_pay2
  pointwise
  refine Finset.sum_congr rfl fun k _ => ?_
  show x0 (ValueIdx.ix2 (y 0) k) * x1 (ValueIdx.ix3 0 k (y 1)) = _
  rw [at2_eq x0 (ValueIdx.ix2 (y 0) k) rfl rfl, at3_eq x1 (ValueIdx.ix3 0 k (y 1)) rfl rfl rfl]
  rfl

theorem normed_apply (x : Vec Ideal S2048x1024 .f32) (g : Vec Ideal S1x1024 .f32) (y : S2048x1024.Idx) :
    normed x g y = k0_pay1 x g y := by
  unfold normed
  frame_out

theorem times_apply (n : Vec Ideal S2048x1024 .bf16) (b : Vec Ideal S1x1024x1024 .bf16) (y : S2048x1024.Idx) :
    times n b y = k0_pay2 n b y := by
  unfold times
  frame_out

variable (m : (ℓ : Loc nD τ sig) → Buf (Elt Ideal) ℓ) (c : Dev nD)

/-! ## The blocks are parts of the arguments -/

abbrev argH : S8192x1024.Idx → EReal := m ((c : Thread nD τ).loc main_arg0)
abbrev argG : S1x1024.Idx → EReal := m ((c : Thread nD τ).loc main_arg1)
abbrev argW : S2x1024x4096.Idx → EReal := m ((c : Thread nD τ).loc main_arg2)

theorem idx0 : ∀ t : Fin cfg0.N, win0_0.index t 0 = t.val / 4 ∧ win0_0.index t 1 = 0 :=
  (by decide +kernel : ∀ t : Fin grid0.N, win0_0.index t 0 = t.val / 4 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 ∧ win0_2.index t 2 = t.val % 4 :=
  (by decide +kernel : ∀ t : Fin grid0.N, win0_2.index t 0 = 0 ∧ win0_2.index t 1 = 0 ∧ win0_2.index t 2 = t.val % 4)
theorem idx3 : ∀ t : Fin cfg0.N, win0_3.index t 0 = t.val / 4 ∧ win0_3.index t 1 = 0 :=
  (by decide +kernel : ∀ t : Fin grid0.N, win0_3.index t 0 = t.val / 4 ∧ win0_3.index t 1 = 0)
theorem idx4 : ∀ t : Fin cfg0.N, win0_4.index t 0 = t.val / 4 ∧ win0_4.index t 1 = t.val % 4 :=
  (by decide +kernel : ∀ t : Fin grid0.N, win0_4.index t 0 = t.val / 4 ∧ win0_4.index t 1 = t.val % 4)

theorem blk0 (t : Fin cfg0.N) (r : ℕ) (hr : r < 2048) :
    at2 (iblk m c 0 t : Vec Ideal S2048x1024 .f32) r = at2 (argH m c) (2048 * (t.val / 4) + r) := by
  have hN : cfg0.N = 16 := N_0
  have ht := t.isLt
  funext l
  by_cases hl : l < 1024
  · conv_lhs => unfold at2
    rw [dif_pos ⟨hr, hl⟩]
    unfold iblk
    rw [View.read_apply]
    show V m c main_arg0 _ = _
    rw [V_main_arg0]
    refine at2_eq (m ((c : Thread nD τ).loc main_arg0) : S8192x1024.Idx → EReal) _ ?_ ?_
    · show win0_0.index t 0 * 2048 + 1 * r = _; rw [(idx0 t).1]; omega
    · show win0_0.index t 1 * 1024 + 1 * l = _; rw [(idx0 t).2]; omega
  · unfold at2
    rw [dif_neg (fun e => hl e.2), dif_neg (fun e => hl e.2)]

theorem blk1 (t : Fin cfg0.N) :
    at2 (iblk m c 1 t : Vec Ideal S1x1024 .f32) 0 = at2 (argG m c) 0 := by
  funext l
  by_cases hl : l < 1024
  · conv_lhs => unfold at2
    rw [dif_pos ⟨Nat.zero_lt_one, hl⟩]
    unfold iblk
    rw [View.read_apply]
    show V m c main_arg1 _ = _
    rw [V_main_arg1]
    refine at2_eq (m ((c : Thread nD τ).loc main_arg1) : S1x1024.Idx → EReal) _ ?_ ?_
    · show win0_1.index t 0 * 1 + 1 * 0 = _; rw [(idx1 t).1]
    · show win0_1.index t 1 * 1024 + 1 * l = _; rw [(idx1 t).2]; omega
  · unfold at2
    rw [dif_neg (fun e => hl e.2), dif_neg (fun e => hl e.2)]

theorem blk2 (t : Fin cfg0.N) (k l : ℕ) (hk : k < 1024) (hl : l < 1024) :
    at3 (iblk m c 2 t : Vec Ideal S1x1024x1024 .bf16) 0 k l = at3 (argW m c) 0 k (1024 * (t.val % 4) + l) := by
  conv_lhs => unfold at3
  rw [dif_pos ⟨Nat.zero_lt_one, hk, hl⟩]
  unfold iblk
  rw [View.read_apply]
  show V m c main_arg2 _ = _
  rw [V_main_arg2]
  refine at3_eq (m ((c : Thread nD τ).loc main_arg2) : S2x1024x4096.Idx → EReal) _ ?_ ?_ ?_
  · show win0_2.index t 0 * 1 + 1 * 0 = _; rw [(idx2 t).1]
  · show win0_2.index t 1 * 1024 + 1 * k = _; rw [(idx2 t).2.1]; omega
  · show win0_2.index t 2 * 1024 + 1 * l = _; rw [(idx2 t).2.2]; omega

/-! ## The values -/

/-- The first result: the normalised rows. -/
def resN : Buf (Elt Ideal) ((c : Thread nD τ).loc main_v0_0) :=
  fun i : S8192x1024.Idx => normRow (at2 (argH m c) (i 0).val) (at2 (argG m c) 0) (i 1).val

/-- The second: their product with the weight. -/
def resO : Buf (Elt Ideal) ((c : Thread nD τ).loc main_v0_1) :=
  fun i : S8192x4096.Idx => normDot3 (argH m c) (argG m c) (argW m c) 0 (i 0).val (i 1).val

theorem rows_eq (t : Fin cfg0.N) (y : S2048x1024.Idx) :
    normed (F := Ideal) (iblk m c 0 t) (iblk m c 1 t) y = normRow (at2 (argH m c) (2048 * (t.val / 4) + (y 0).val)) (at2 (argG m c) 0) (y 1).val := by
  rw [normed_apply]
  refine (pay1_apply (iblk m c 0 t) (iblk m c 1 t) y).trans ?_
  rw [blk0 m c t (y 0).val (y 0).isLt, blk1 m c t]

theorem prod_eq (t : Fin cfg0.N) (y : S2048x1024.Idx) :
    times (F := Ideal) (normed (iblk m c 0 t) (iblk m c 1 t)) (iblk m c 2 t) y
      = normDot3 (argH m c) (argG m c) (argW m c) 0 (2048 * (t.val / 4) + (y 0).val) (1024 * (t.val % 4) + (y 1).val) := by
  rw [times_apply]
  refine (pay2_apply (normed (iblk m c 0 t) (iblk m c 1 t)) (iblk m c 2 t) y).trans ?_
  unfold normDot3
  rw [Finset.sum_range]
  refine Finset.sum_congr rfl fun k _ => ?_
  refine congrArg₂ (· * ·) ?_ (blk2 m c t k.val (y 1).val k.isLt (y 1).isLt)
  exact (read_ix (normed (F := Ideal) (iblk m c 0 t) (iblk m c 1 t)) (y 0) k).symm.trans (rows_eq m c t (ValueIdx.ix2 (y 0) k))

theorem flushed_rows (t : Fin cfg0.N) : (dats m 0 c).flushed 3 t = ((cfg0.win 3).blk t).view.read (Elt Ideal) (resN m c) := by
  show (cfg0.win 3).cut (grid0.coords t) ((dats m 0 c).after 3 t) = _
  rw [left3]
  funext j
  rw [View.read_apply]
  show normed (F := Ideal) (iblk m c 0 t) (iblk m c 1 t) (fun a => ⟨(j a).val, (j a).isLt⟩)
    = normRow (at2 (argH m c) (win0_3.index t 0 * 2048 + 1 * (j 0).val)) (at2 (argG m c) 0) (win0_3.index t 1 * 1024 + 1 * (j 1).val)
  rw [rows_eq m c t, (idx3 t).1, (idx3 t).2]
  have er : 2048 * (t.val / 4) + (j 0).val = (t.val / 4) * 2048 + 1 * (j 0).val := by omega
  have ec : (j 1).val = 0 * 1024 + 1 * (j 1).val := by omega
  dsimp only
  rw [er, ← ec]

theorem flushed_prod (t : Fin cfg0.N) : (dats m 0 c).flushed 4 t = ((cfg0.win 4).blk t).view.read (Elt Ideal) (resO m c) := by
  show (cfg0.win 4).cut (grid0.coords t) ((dats m 0 c).after 4 t) = _
  rw [left4]
  funext j
  rw [View.read_apply]
  show times (F := Ideal) (normed (iblk m c 0 t) (iblk m c 1 t)) (iblk m c 2 t) (fun a => ⟨(j a).val, (j a).isLt⟩)
    = normDot3 (argH m c) (argG m c) (argW m c) 0 (win0_4.index t 0 * 2048 + 1 * (j 0).val) (win0_4.index t 1 * 1024 + 1 * (j 1).val)
  rw [prod_eq m c t, (idx4 t).1, (idx4 t).2]
  have er : 2048 * (t.val / 4) + (j 0).val = (t.val / 4) * 2048 + 1 * (j 0).val := by omega
  have ec : 1024 * (t.val % 4) + (j 1).val = (t.val % 4) * 1024 + 1 * (j 1).val := by omega
  dsimp only
  rw [er, ec]

theorem cover_rows (i : S8192x1024.Idx) : ∃ t : Fin cfg0.N, (cfg0.win 3).flush t = true ∧ i ∈ ((cfg0.win 3).blk t).view.set := by
  have h0 : (i 0 : ℕ) < 8192 := (i 0).isLt
  have h1 : (i 1 : ℕ) < 1024 := (i 1).isLt
  have hN : cfg0.N = 16 := N_0
  let t : Fin cfg0.N := ⟨4 * ((i 0 : ℕ) / 2048) + 3, by omega⟩
  have e : t.val = 4 * ((i 0 : ℕ) / 2048) + 3 := rfl
  refine ⟨t, (flush0_3 t).mpr (by omega), ?_⟩
  show i ∈ ((View.whole main_v0_0).slice (win0_3.rect t)).set
  rw [View.set_slice_whole, Rect.mem_set_unit]
  intro a
  match a with
  | ⟨0, _⟩ =>
    show win0_3.index t 0 * 2048 ≤ (i 0 : ℕ) ∧ (i 0 : ℕ) < win0_3.index t 0 * 2048 + 2048
    rw [(idx3 t).1]; omega
  | ⟨1, _⟩ =>
    show win0_3.index t 1 * 1024 ≤ (i 1 : ℕ) ∧ (i 1 : ℕ) < win0_3.index t 1 * 1024 + 1024
    rw [(idx3 t).2]; omega

theorem cover_prod (i : S8192x4096.Idx) : ∃ t : Fin cfg0.N, (cfg0.win 4).flush t = true ∧ i ∈ ((cfg0.win 4).blk t).view.set := by
  have h0 : (i 0 : ℕ) < 8192 := (i 0).isLt
  have h1 : (i 1 : ℕ) < 4096 := (i 1).isLt
  have hN : cfg0.N = 16 := N_0
  let t : Fin cfg0.N := ⟨4 * ((i 0 : ℕ) / 2048) + (i 1 : ℕ) / 1024, by omega⟩
  have e : t.val = 4 * ((i 0 : ℕ) / 2048) + (i 1 : ℕ) / 1024 := rfl
  refine ⟨t, flush0_4 t, ?_⟩
  show i ∈ ((View.whole main_v0_1).slice (win0_4.rect t)).set
  rw [View.set_slice_whole, Rect.mem_set_unit]
  intro a
  match a with
  | ⟨0, _⟩ =>
    show win0_4.index t 0 * 2048 ≤ (i 0 : ℕ) ∧ (i 0 : ℕ) < win0_4.index t 0 * 2048 + 2048
    rw [(idx4 t).1]; omega
  | ⟨1, _⟩ =>
    show win0_4.index t 1 * 1024 ≤ (i 1 : ℕ) ∧ (i 1 : ℕ) < win0_4.index t 1 * 1024 + 1024
    rw [(idx4 t).2]; omega

theorem final_rows : (dats m 0 c).arrAt 3 cfg0.N = resN m c :=
  (dats m 0 c).arrAt_eq_of_cover 3 (resN m c) (fun t _ => flushed_rows m c t) cover_rows
theorem final_prod : (dats m 0 c).arrAt 4 cfg0.N = resO m c :=
  (dats m 0 c).arrAt_eq_of_cover 4 (resO m c) (fun t _ => flushed_prod m c t) cover_prod

/-- Every run ends with the two results in their arrays, and with the arguments as they were. -/
theorem run_res (ρ : Dev nD → PrngReg) :
    θ_run defs (onTc (τ := τ) (main (F := Ideal))) ⟨m, fun _ => 0, ρ⟩ fun r => ∀ c : Dev nD,
      r.2.mem ((c : Thread nD τ).loc main_v0_0) = resN m c
      ∧ r.2.mem ((c : Thread nD τ).loc main_v0_1) = resO m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (ends_arrays m ρ)
  have hin : ∀ w : Fin 5, (cfg0.win w).isOut = false → _ := fun w hw => ((h c).1 w).trans (((dats m 0 c).arrAt_in w hw _).trans (arrays_eq m c w))
  exact ⟨((h c).1 3).trans (final_rows m c), ((h c).1 4).trans (final_prod m c),
    (hin 0 rfl).trans (V_main_arg0 m c), (hin 1 rfl).trans (V_main_arg1 m c), (hin 2 rfl).trans (V_main_arg2 m c)⟩

end Cert.Kernel10Ideal.Mat

end
-- ==== Proof.MlpDown0.lean ====
module

public import proofs.«01_k».proof.Defs
public import proofs.«01_k».proof.Proof.Gen.Kernel11Ideal.Value
public import proofs.«01_k».proof.Proof.Nat3
public import Idealize.ShloMosaic.Lib.Pipeline.Value
public import Idealize.ShloMosaic.Lib.Pipeline.ValueKit
public import Idealize.ShloMosaic.Lib.KernelVsHost
public import Idealize.ShloMosaic.Lib.Tactic
public import Idealize.ShloMosaic.Lib.Pointwise

@[expose] public section

set_option maxRecDepth 16384

noncomputable section

open Idealize.ShloMosaic Idealize.ShloMosaic.TcCoe Idealize.SL.Sem

/-! The second product of the first MLP: what the blocks hold, and the array the run ends with. -/

namespace Cert.Kernel11Ideal.Mat

open Cert.Kernel11Ideal Cert.Kernel11Ideal.Gen Cert.Nat2

set_option maxHeartbeats 4000000

variable (m : (ℓ : Loc nD τ sig) → Buf (Elt Ideal) ℓ) (c : Dev nD)

/-- One point's product: rows of the squared ReLU of the left block against columns of the right block. -/
theorem pay1_apply (x0 : Vec Ideal S1024x2048 .bf16) (x1 : Vec Ideal S1x2048x1024 .bf16) (y : S1024x1024.Idx) :
    k0_pay1 x0 x1 y = ∑ k : Fin 2048, reluSq (at2 x0 (y 0).val k.val) * at3 x1 0 k.val (y 1).val := by
  unfold k0_pay1
  pointwise
  refine Finset.sum_congr rfl fun k _ => ?_
  show max (x0 (ValueIdx.ix2 (y 0) k)) 0 * max (x0 (ValueIdx.ix2 (y 0) k)) 0 * x1 (ValueIdx.ix3 0 k (y 1)) = _
  rw [at2_eq x0 (ValueIdx.ix2 (y 0) k) rfl rfl, at3_eq x1 (ValueIdx.ix3 0 k (y 1)) rfl rfl rfl]
  rfl

/-- The first point of a pair leaves its product in the scratch. -/
theorem scr_A (t : Fin cfg0.N) (h0 : t.val % 2 = 0) (h2 : ¬t.val % 2 = 1) (y : S1024x1024.Idx) :
    (outsAt0 m c t.val t.isLt).2 y = k0_pay1 (F := Ideal) (iblk m c 0 t) (iblk m c 1 t) y := by
  rw [outsAt0_A m c t h0 h2]; dsimp only
  frame_out
  unfold k0_pay2
  pointwise

/-- The second point of a pair adds its product to the scratch, and the residual block to that. -/
theorem out_B (t : Fin cfg0.N) (h0 : ¬t.val % 2 = 0) (h2 : t.val % 2 = 1) (y : S1024x1024.Idx) :
    (outsAt0 m c t.val t.isLt).1 y = (outsAt0 m c (t.val - 1) (Nat.lt_of_le_of_lt (Nat.sub_le _ _) t.isLt)).2 y + k0_pay1 (F := Ideal) (iblk m c 0 t) (iblk m c 1 t) y + (iblk m c 2 t : Vec Ideal S1024x1024 .f32) y := by
  rw [outsAt0_B m c t h0 h2]; dsimp only
  frame_out
  unfold k0_pay4
  pointwise
  refine congrArg (· + _ + _) ?_
  exact congrFun (Memref.IsWhole.read_unread (m := Memref.whole cc0_scratch0) _ _) y

/-! ## The blocks are parts of the arguments -/

abbrev argA : S8192x4096.Idx → EReal := m ((c : Thread nD τ).loc main_arg0)
abbrev argB : S2x4096x1024.Idx → EReal := m ((c : Thread nD τ).loc main_arg1)
abbrev argR : S8192x1024.Idx → EReal := m ((c : Thread nD τ).loc main_arg2)

theorem idx0 : ∀ t : Fin cfg0.N, win0_0.index t 0 = t.val / 2 ∧ win0_0.index t 1 = t.val % 2 :=
  (by decide +kernel : ∀ t : Fin grid0.N, win0_0.index t 0 = t.val / 2 ∧ win0_0.index t 1 = t.val % 2)
theorem idx1 : ∀ t : Fin cfg0.N, win0_1.index t 0 = 0 ∧ win0_1.index t 1 = t.val % 2 ∧ win0_1.index t 2 = 0 :=
  (by decide +kernel : ∀ t : Fin grid0.N, win0_1.index t 0 = 0 ∧ win0_1.index t 1 = t.val % 2 ∧ win0_1.index t 2 = 0)
theorem idx2 : ∀ t : Fin cfg0.N, win0_2.index t 0 = t.val / 2 ∧ win0_2.index t 1 = 0 :=
  (by decide +kernel : ∀ t : Fin grid0.N, win0_2.index t 0 = t.val / 2 ∧ win0_2.index t 1 = 0)
theorem idx3 : ∀ t : Fin cfg0.N, win0_3.index t 0 = t.val / 2 ∧ win0_3.index t 1 = 0 :=
  (by decide +kernel : ∀ t : Fin grid0.N, win0_3.index t 0 = t.val / 2 ∧ win0_3.index t 1 = 0)

theorem blk0 (t : Fin cfg0.N) (r l : ℕ) (hr : r < 1024) (hl : l < 2048) :
    at2 (iblk m c 0 t : Vec Ideal S1024x2048 .bf16) r l = at2 (argA m c) (1024 * (t.val / 2) + r) (2048 * (t.val % 2) + l) := by
  conv_lhs => unfold at2
  rw [dif_pos ⟨hr, hl⟩]
  unfold iblk
  rw [View.read_apply]
  show V m c main_arg0 _ = _
  rw [V_main_arg0]
  refine at2_eq (m ((c : Thread nD τ).loc main_arg0) : S8192x4096.Idx → EReal) _ ?_ ?_
  · show win0_0.index t 0 * 1024 + 1 * r = _; rw [(idx0 t).1]; omega
  · show win0_0.index t 1 * 2048 + 1 * l = _; rw [(idx0 t).2]; omega

theorem blk1 (t : Fin cfg0.N) (r l : ℕ) (hr : r < 2048) (hl : l < 1024) :
    at3 (iblk m c 1 t : Vec Ideal S1x2048x1024 .bf16) 0 r l = at3 (argB m c) 0 (2048 * (t.val % 2) + r) l := by
  conv_lhs => unfold at3
  rw [dif_pos ⟨Nat.zero_lt_one, hr, hl⟩]
  unfold iblk
  rw [View.read_apply]
  show V m c main_arg1 _ = _
  rw [V_main_arg1]
  refine at3_eq (m ((c : Thread nD τ).loc main_arg1) : S2x4096x1024.Idx → EReal) _ ?_ ?_ ?_
  · show win0_1.index t 0 * 1 + 1 * 0 = _; rw [(idx1 t).1]
  · show win0_1.index t 1 * 2048 + 1 * r = _; rw [(idx1 t).2.1]; omega
  · show win0_1.index t 2 * 1024 + 1 * l = _; rw [(idx1 t).2.2]; omega

theorem blk2 (t : Fin cfg0.N) (r l : ℕ) (hr : r < 1024) (hl : l < 1024) :
    at2 (iblk m c 2 t : Vec Ideal S1024x1024 .f32) r l = at2 (argR m c) (1024 * (t.val / 2) + r) (1024 * (0) + l) := by
  conv_lhs => unfold at2
  rw [dif_pos ⟨hr, hl⟩]
  unfold iblk
  rw [View.read_apply]
  show V m c main_arg2 _ = _
  rw [V_main_arg2]
  refine at2_eq (m ((c : Thread nD τ).loc main_arg2) : S8192x1024.Idx → EReal) _ ?_ ?_
  · show win0_2.index t 0 * 1024 + 1 * r = _; rw [(idx2 t).1]; omega
  · show win0_2.index t 1 * 1024 + 1 * l = _; rw [(idx2 t).2]; omega

/-- One point's product over the arguments: its half of the contraction. -/
theorem part_eq (t : Fin cfg0.N) (y : S1024x1024.Idx) :
    k0_pay1 (F := Ideal) (iblk m c 0 t) (iblk m c 1 t) y
      = ∑ k : Fin 2048, reluSq (at2 (argA m c) (1024 * (t.val / 2) + (y 0).val) (2048 * (t.val % 2) + k.val)) * at3 (argB m c) 0 (2048 * (t.val % 2) + k.val) (y 1).val := by
  refine (pay1_apply (iblk m c 0 t) (iblk m c 1 t) y).trans ?_
  refine Finset.sum_congr rfl fun k _ => ?_
  have e0 := blk0 m c t (y 0).val k.val (y 0).isLt k.isLt
  have e1 := blk1 m c t k.val (y 1).val k.isLt (y 1).isLt
  rw [e0, e1]

/-- The result: the squared ReLU's rows against the weight's columns, on top of the residual stream. -/
def res : Buf (Elt Ideal) ((c : Thread nD τ).loc main_v0) :=
  fun i : S8192x1024.Idx => rowCol3 reluSq (argA m c) (argB m c) 0 4096 ((i 0).val) ((i 1).val) + at2 (argR m c) ((i 0).val) ((i 1).val)

/-- The second point of a pair leaves its block of the result. -/
theorem out_eq (t : Fin cfg0.N) (h2 : t.val % 2 = 1) (y : S1024x1024.Idx) :
    (outsAt0 m c t.val t.isLt).1 y = rowCol3 reluSq (argA m c) (argB m c) 0 4096 (1024 * (t.val / 2) + (y 0).val) (1024 * (0) + (y 1).val) + at2 (argR m c) (1024 * (t.val / 2) + (y 0).val) (1024 * (0) + (y 1).val) := by
  have hN : cfg0.N = 16 := N_0
  have ht := t.isLt
  have h0 : ¬t.val % 2 = 0 := by omega
  rw [out_B m c t h0 h2]
  have hp : t.val - 1 < cfg0.N := by omega
  have hq0 : (⟨t.val - 1, hp⟩ : Fin cfg0.N).val % 2 = 0 := by dsimp only; omega
  have hq2 : ¬(⟨t.val - 1, hp⟩ : Fin cfg0.N).val % 2 = 1 := by dsimp only; omega
  refine congrArg₂ (· + ·) ?_ ((at2_eq (iblk m c 2 t : Vec Ideal S1024x1024 .f32) y rfl rfl).trans (blk2 m c t (y 0).val (y 1).val (y 0).isLt (y 1).isLt))
  refine Eq.trans (congrArg (· + _) (scr_A m c ⟨t.val - 1, hp⟩ hq0 hq2 y)) ?_
  rw [part_eq, part_eq]
  dsimp only
  rw [show (t.val - 1) % 2 = 0 from by omega, show (t.val - 1) / 2 = t.val / 2 from by omega, h2]
  unfold rowCol3
  refine Eq.trans ?_ (sum_two (fun k => reluSq (at2 (argA m c) (1024 * (t.val / 2) + (y 0).val) k) * at3 (argB m c) 0 k (1024 * (0) + (y 1).val)) 2048 2048)
  simp only [Nat.mul_zero, Nat.zero_add, Nat.mul_one]

theorem flushed_res (t : Fin cfg0.N) (hf : (cfg0.win 3).flush t = true) :
    (dats m 0 c).flushed 3 t = ((cfg0.win 3).blk t).view.read (Elt Ideal) (res m c) := by
  have h2 : t.val % 2 = 1 := (flush0_3 t).mp hf
  rw [Cert.Kernel11Ideal.Value.flushed3]
  funext j
  rw [View.read_apply]
  show (outsAt0 m c t.val t.isLt).1 (fun a => ⟨(j a).val, (j a).isLt⟩) = rowCol3 reluSq (argA m c) (argB m c) 0 4096 (win0_3.index t 0 * 1024 + 1 * (j 0).val) (win0_3.index t 1 * 1024 + 1 * (j 1).val) + at2 (argR m c) (win0_3.index t 0 * 1024 + 1 * (j 0).val) (win0_3.index t 1 * 1024 + 1 * (j 1).val)
  rw [out_eq m c t h2, (idx3 t).1, (idx3 t).2]
  have er : 1024 * (t.val / 2) + (j 0).val = (t.val / 2) * 1024 + 1 * (j 0).val := by omega
  have ec : 1024 * (0) + (j 1).val = (0) * 1024 + 1 * (j 1).val := by omega
  dsimp only
  rw [er, ec]

theorem final : (dats m 0 c).arrAt 3 cfg0.N = res m c :=
  (dats m 0 c).arrAt_eq_of_cover 3 (res m c) (fun t hf => flushed_res m c t hf) (fun i => (Cert.Kernel11Ideal.Value.covered_iff3 i).2 (by
    have h0 : (i 0).val < 8192 := (i 0).isLt; have h1 : (i 1).val < 1024 := (i 1).isLt; omega))

end Cert.Kernel11Ideal.Mat

end
-- ==== Proof.NtSquare.lean ====
module

public import proofs.«01_k».proof.Defs
public import proofs.«01_k».proof.Proof.Gen.Kernel12Ideal.Value
public import proofs.«01_k».proof.Proof.Nat3
public import Idealize.ShloMosaic.Lib.Pipeline.Value
public import Idealize.ShloMosaic.Lib.Pipeline.ValueKit
public import Idealize.ShloMosaic.Lib.KernelVsHost
public import Idealize.ShloMosaic.Lib.Tactic
public import Idealize.ShloMosaic.Lib.Pointwise

@[expose] public section

set_option maxRecDepth 16384

noncomputable section

open Idealize.ShloMosaic Idealize.ShloMosaic.TcCoe Idealize.SL.Sem

/-! The gradient of the operand of a square product: what the blocks hold, and the array the run ends with. -/

namespace Cert.Kernel12Ideal.Mat

open Cert.Kernel12Ideal Cert.Kernel12Ideal.Gen Cert.Nat2

set_option maxHeartbeats 4000000

variable (m : (ℓ : Loc nD τ sig) → Buf (Elt Ideal) ℓ) (c : Dev nD)

theorem pay2_apply (v : Vec Ideal S2048x1024 .f32) (x0 : Vec Ideal S2048x1024 .bf16) (x1 : Vec Ideal S1024x1024 .bf16) (y : S2048x1024.Idx) :
    k0_pay2 v x0 x1 y = v y + ∑ k : Fin 1024, at2 x0 (y 0).val k.val * at2 x1 (y 1).val k.val := by
  unfold k0_pay2
  pointwise
  refine congrArg (v y + ·) (Finset.sum_congr rfl fun k _ => ?_)
  show x0 (ValueIdx.ix2 (y 0) k) * x1 (ValueIdx.ix2 (y 1) k) = _
  rw [at2_eq x0 (ValueIdx.ix2 (y 0) k) rfl rfl, at2_eq x1 (ValueIdx.ix2 (y 1) k) rfl rfl]
  try rfl

theorem pay1_apply (y : S2048x1024.Idx) : k0_pay1 (F := Ideal) y = 0 := by
  unfold k0_pay1
  pointwise

theorem out_A (t : Fin cfg0.N) (y : S2048x1024.Idx) :
    outsAt0 m c t y = k0_pay2 (F := Ideal) (k0_pay1 (F := Ideal)) (iblk m c 0 t) (iblk m c 1 t) y := by
  unfold outsAt0
  frame_out

/-! ## The blocks are parts of the arguments -/

abbrev argA : S8192x1024.Idx → EReal := m ((c : Thread nD τ).loc main_arg0)
abbrev argB : S1024x1024.Idx → EReal := m ((c : Thread nD τ).loc main_arg1)

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)

theorem blk0 (t : Fin cfg0.N) (r l : ℕ) (hr : r < 2048) (hl : l < 1024) :
    at2 (iblk m c 0 t : Vec Ideal S2048x1024 .bf16) r l = at2 (argA m c) (2048 * (t.val) + r) (1024 * (0) + l) := by
  conv_lhs => unfold at2
  rw [dif_pos ⟨hr, hl⟩]
  unfold iblk
  rw [View.read_apply]
  show V m c main_arg0 _ = _
  rw [V_main_arg0]
  refine at2_eq (m ((c : Thread nD τ).loc main_arg0) : S8192x1024.Idx → EReal) _ ?_ ?_
  · show win0_0.index t 0 * 2048 + 1 * r = _; rw [(idx0 t).1]; omega
  · show win0_0.index t 1 * 1024 + 1 * l = _; rw [(idx0 t).2]; omega

theorem blk1 (t : Fin cfg0.N) (r l : ℕ) (hr : r < 1024) (hl : l < 1024) :
    at2 (iblk m c 1 t : Vec Ideal S1024x1024 .bf16) r l = at2 (argB m c) (1024 * (0) + r) (1024 * (0) + l) := by
  conv_lhs => unfold at2
  rw [dif_pos ⟨hr, hl⟩]
  unfold iblk
  rw [View.read_apply]
  show V m c main_arg1 _ = _
  rw [V_main_arg1]
  refine at2_eq (m ((c : Thread nD τ).loc main_arg1) : S1024x1024.Idx → EReal) _ ?_ ?_
  · show win0_1.index t 0 * 1024 + 1 * r = _; rw [(idx1 t).1]; omega
  · show win0_1.index t 1 * 1024 + 1 * l = _; rw [(idx1 t).2]; omega

/-- The result. -/
def res : Buf (Elt Ideal) ((c : Thread nD τ).loc main_v0) :=
  fun i : S8192x1024.Idx => rowRow (argA m c) (argB m c) 1024 ((i 0).val) ((i 1).val)

theorem out_eq (t : Fin cfg0.N) (y : S2048x1024.Idx) :
    outsAt0 m c t y = rowRow (argA m c) (argB m c) 1024 (2048 * (t.val) + (y 0).val) (1024 * (0) + (y 1).val) := by
  rw [out_A]
  refine (pay2_apply _ (iblk m c 0 t) (iblk m c 1 t) y).trans ?_
  rw [pay1_apply, zero_add]
  unfold rowRow
  rw [Finset.sum_range]
  refine Finset.sum_congr rfl fun k _ => ?_
  have e0 := blk0 m c t (y 0).val k.val (y 0).isLt k.isLt
  have e1 := blk1 m c t (y 1).val k.val (y 1).isLt k.isLt
  rw [e0, e1]
  simp only [Nat.mul_zero, Nat.zero_add, id]

theorem flushed_res (t : Fin cfg0.N) :
    (dats m 0 c).flushed 2 t = ((cfg0.win 2).blk t).view.read (Elt Ideal) (res m c) := by
  rw [Cert.Kernel12Ideal.Value.flushed2]
  funext j
  rw [View.read_apply]
  show outsAt0 m c t (fun a => ⟨(j a).val, (j a).isLt⟩) = rowRow (argA m c) (argB m c) 1024 (win0_2.index t 0 * 2048 + 1 * (j 0).val) (win0_2.index t 1 * 1024 + 1 * (j 1).val)
  rw [out_eq m c t, (idx2 t).1, (idx2 t).2]
  have er : 2048 * (t.val) + (j 0).val = (t.val) * 2048 + 1 * (j 0).val := by omega
  have ec : 1024 * (0) + (j 1).val = (0) * 1024 + 1 * (j 1).val := by omega
  dsimp only
  rw [er, ec]

theorem cover (i : S8192x1024.Idx) :
    ∃ t : Fin cfg0.N, (cfg0.win 2).flush t = true ∧ i ∈ ((cfg0.win 2).blk t).view.set := by
  have h0 : (i 0 : ℕ) < 8192 := (i 0).isLt
  have h1 : (i 1 : ℕ) < 1024 := (i 1).isLt
  have hN : cfg0.N = 4 := N_0
  let t : Fin cfg0.N := ⟨1 * ((i 0 : ℕ) / 2048) + (i 1 : ℕ) / 1024, by omega⟩
  refine ⟨t, flush0_2 t, ?_⟩
  show i ∈ ((View.whole main_v0).slice (win0_2.rect t)).set
  rw [View.set_slice_whole, Rect.mem_set_unit]
  have e : t.val = 1 * ((i 0 : ℕ) / 2048) + (i 1 : ℕ) / 1024 := rfl
  intro a
  match a with
  | ⟨0, _⟩ =>
    show win0_2.index t 0 * 2048 ≤ (i 0 : ℕ) ∧ (i 0 : ℕ) < win0_2.index t 0 * 2048 + 2048
    rw [(idx2 t).1]; omega
  | ⟨1, _⟩ =>
    show win0_2.index t 1 * 1024 ≤ (i 1 : ℕ) ∧ (i 1 : ℕ) < win0_2.index t 1 * 1024 + 1024
    rw [(idx2 t).2]; omega

theorem final : (dats m 0 c).arrAt 2 cfg0.N = res m c :=
  (dats m 0 c).arrAt_eq_of_cover 2 (res m c) (fun t _ => flushed_res m c t) cover

end Cert.Kernel12Ideal.Mat

end
-- ==== Proof.NnRef.lean ====
module

public import proofs.«01_k».proof.Defs
public import proofs.«01_k».proof.Proof.Gen.Reference12Ideal.Read
public import proofs.«01_k».proof.Proof.Gen.Reference17Ideal.Read
public import proofs.«01_k».proof.Proof.Gen.Reference18Ideal.Read
public import proofs.«01_k».proof.Proof.Gen.Reference19Ideal.Read
public import proofs.«01_k».proof.Proof.Nat3
public import Idealize.ShloMosaic.Lib.Pipeline.Value
public import Idealize.ShloMosaic.Lib.Pipeline.ValueKit
public import Idealize.ShloMosaic.Lib.KernelVsHost
public import Idealize.ShloMosaic.Lib.Tactic
public import Idealize.ShloMosaic.Lib.Pointwise

@[expose] public section

set_option maxRecDepth 16384

noncomputable section

open Idealize.ShloMosaic Idealize.ShloMosaic.TcCoe Idealize.SL.Sem

set_option maxHeartbeats 4000000

/-! ## The gradient of the operand of a square product -/

namespace Cert.Reference12Ideal.Mat

open Cert.Reference12Ideal Cert.Reference12Ideal.Gen Cert.Reference12Ideal.Read Cert.Nat2

variable (x0 : (⟨S8192x1024, .bf16⟩ : BufTy).Contents (Elt Ideal)) (x1 : (⟨S1024x1024, .bf16⟩ : BufTy).Contents (Elt Ideal))

theorem dot_at (j : S8192x1024.Idx) : val_main_v4 (F := Ideal) x0 x1 j = rowRow (x0 : S8192x1024.Idx → EReal) (x1 : S1024x1024.Idx → EReal) 1024 (j 0).val (j 1).val := by
  rw [val_main_v4_apply]
  unfold rowRow
  rw [Finset.sum_range]
  refine Finset.sum_congr rfl fun k _ => ?_
  rw [val_main_v3_apply, val_main_v1_apply]
  show (x0 _ : EReal) * x1 _ = _
  rw [at2_eq (x0 : S8192x1024.Idx → EReal) _ rfl rfl, at2_eq (x1 : S1024x1024.Idx → EReal) _ rfl rfl]
  try rfl

theorem v4_at (j : S8192x1024.Idx) : val_main_v4 (F := Ideal) x0 x1 j = rowRow (x0 : S8192x1024.Idx → EReal) (x1 : S1024x1024.Idx → EReal) 1024 (j 0).val (j 1).val := by
  exact dot_at x0 x1 j

end Cert.Reference12Ideal.Mat

/-! ## A product added to the residual stream -/

namespace Cert.Reference17Ideal.Mat

open Cert.Reference17Ideal Cert.Reference17Ideal.Gen Cert.Reference17Ideal.Read Cert.Nat2

variable (x0 : (⟨S8192x1024, .bf16⟩ : BufTy).Contents (Elt Ideal)) (x1 : (⟨S1024x1024, .bf16⟩ : BufTy).Contents (Elt Ideal)) (x2 : (⟨S8192x1024, .f32⟩ : BufTy).Contents (Elt Ideal))

theorem dot_at (j : S8192x1024.Idx) : val_main_v2 (F := Ideal) x0 x1 j = rowCol id (x0 : S8192x1024.Idx → EReal) (x1 : S1024x1024.Idx → EReal) 1024 (j 0).val (j 1).val := by
  rw [val_main_v2_apply]
  unfold rowCol
  rw [Finset.sum_range]
  refine Finset.sum_congr rfl fun k _ => ?_
  rw [val_main_v0_apply, val_main_v1_apply]
  show (x0 _ : EReal) * x1 _ = _
  rw [at2_eq (x0 : S8192x1024.Idx → EReal) _ rfl rfl, at2_eq (x1 : S1024x1024.Idx → EReal) _ rfl rfl]
  try rfl

theorem v3_at (j : S8192x1024.Idx) : val_main_v3 (F := Ideal) x0 x1 x2 j = rowCol id (x0 : S8192x1024.Idx → EReal) (x1 : S1024x1024.Idx → EReal) 1024 (j 0).val (j 1).val + at2 (x2 : S8192x1024.Idx → EReal) (j 0).val (j 1).val := by
  rw [val_main_v3_apply, dot_at]
  show (x2 j : EReal) + _ = _
  rw [at2_eq (x2 : S8192x1024.Idx → EReal) j rfl rfl, add_comm]

end Cert.Reference17Ideal.Mat

/-! ## The product into the long convolution -/

namespace Cert.Reference18Ideal.Mat

open Cert.Reference18Ideal Cert.Reference18Ideal.Gen Cert.Reference18Ideal.Read Cert.Nat2

variable (x0 : (⟨S8192x1024, .bf16⟩ : BufTy).Contents (Elt Ideal)) (x1 : (⟨S1024x1024, .bf16⟩ : BufTy).Contents (Elt Ideal))

theorem dot_at (j : S8192x1024.Idx) : val_main_v2 (F := Ideal) x0 x1 j = rowCol id (x0 : S8192x1024.Idx → EReal) (x1 : S1024x1024.Idx → EReal) 1024 (j 0).val (j 1).val := by
  rw [val_main_v2_apply]
  unfold rowCol
  rw [Finset.sum_range]
  refine Finset.sum_congr rfl fun k _ => ?_
  rw [val_main_v0_apply, val_main_v1_apply]
  show (x0 _ : EReal) * x1 _ = _
  rw [at2_eq (x0 : S8192x1024.Idx → EReal) _ rfl rfl, at2_eq (x1 : S1024x1024.Idx → EReal) _ rfl rfl]
  try rfl

theorem v2_at (j : S8192x1024.Idx) : val_main_v2 (F := Ideal) x0 x1 j = rowCol id (x0 : S8192x1024.Idx → EReal) (x1 : S1024x1024.Idx → EReal) 1024 (j 0).val (j 1).val := by
  exact dot_at x0 x1 j

end Cert.Reference18Ideal.Mat

/-! ## The product into the first attention group -/

namespace Cert.Reference19Ideal.Mat

open Cert.Reference19Ideal Cert.Reference19Ideal.Gen Cert.Reference19Ideal.Read Cert.Nat2

variable (x0 : (⟨S8192x1024, .bf16⟩ : BufTy).Contents (Elt Ideal)) (x1 : (⟨S1024x1536, .bf16⟩ : BufTy).Contents (Elt Ideal))

theorem dot_at (j : S8192x1536.Idx) : val_main_v2 (F := Ideal) x0 x1 j = rowCol id (x0 : S8192x1024.Idx → EReal) (x1 : S1024x1536.Idx → EReal) 1024 (j 0).val (j 1).val := by
  rw [val_main_v2_apply]
  unfold rowCol
  rw [Finset.sum_range]
  refine Finset.sum_congr rfl fun k _ => ?_
  rw [val_main_v0_apply, val_main_v1_apply]
  show (x0 _ : EReal) * x1 _ = _
  rw [at2_eq (x0 : S8192x1024.Idx → EReal) _ rfl rfl, at2_eq (x1 : S1024x1536.Idx → EReal) _ rfl rfl]
  try rfl

theorem v3_at (j : S8192x1536.Idx) : val_main_v3 (F := Ideal) x0 x1 j = rowCol id (x0 : S8192x1024.Idx → EReal) (x1 : S1024x1536.Idx → EReal) 1024 (j 0).val (j 1).val := by
  rw [val_main_v3_apply]
  exact dot_at x0 x1 j

end Cert.Reference19Ideal.Mat

end
-- ==== Proof.GwSquare.lean ====
module

public import proofs.«01_k».proof.Defs
public import proofs.«01_k».proof.Proof.Gen.Kernel13Ideal.Value
public import proofs.«01_k».proof.Proof.Nat2
public import Idealize.ShloMosaic.Lib.Pipeline.Value
public import Idealize.ShloMosaic.Lib.Pipeline.ValueKit
public import Idealize.ShloMosaic.Lib.Tactic
public import Idealize.ShloMosaic.Lib.Pointwise

@[expose] public section

set_option maxRecDepth 16384

noncomputable section

open Idealize.ShloMosaic Idealize.ShloMosaic.TcCoe Idealize.SL.Sem

/-! The gradient of a square weight: what the blocks hold, and the array the run ends with. -/

namespace Cert.Kernel13Ideal.Mat

open Cert.Kernel13Ideal Cert.Kernel13Ideal.Gen Cert.Nat2

set_option maxHeartbeats 4000000

variable (m : (ℓ : Loc nD τ sig) → Buf (Elt Ideal) ℓ) (c : Dev nD)

/-- One point's product: columns of the left block against columns of the right block. -/
theorem pay1_apply (x0 x1 : Vec Ideal S4096x1024 .bf16) (y : S1024x1024.Idx) :
    k0_pay1 x0 x1 y = ∑ k : Fin 4096, at2 x0 k.val (y 0).val * at2 x1 k.val (y 1).val := by
  unfold k0_pay1
  pointwise
  refine Finset.sum_congr rfl fun k _ => ?_
  show x0 (ValueIdx.ix2 k (y 0)) * x1 (ValueIdx.ix2 k (y 1)) = _
  rw [at2_eq x0 (ValueIdx.ix2 k (y 0)) rfl rfl, at2_eq x1 (ValueIdx.ix2 k (y 1)) rfl rfl]

/-- The first point of a pair leaves its product in the scratch. -/
theorem scr_A (t : Fin cfg0.N) (h0 : t.val % 2 = 0) (h2 : ¬t.val % 2 = 1) (y : S1024x1024.Idx) :
    (outsAt0 m c t.val t.isLt).2 y = k0_pay1 (F := Ideal) (iblk m c 0 t) (iblk m c 1 t) y := by
  rw [outsAt0_A m c t h0 h2]; dsimp only
  frame_out
  unfold k0_pay2
  pointwise

/-- The second point of a pair adds its product to the scratch and leaves the sum in the output block. -/
theorem out_B (t : Fin cfg0.N) (h0 : ¬t.val % 2 = 0) (h2 : t.val % 2 = 1) (y : S1024x1024.Idx) :
    (outsAt0 m c t.val t.isLt).1 y = (outsAt0 m c (t.val - 1) (Nat.lt_of_le_of_lt (Nat.sub_le _ _) t.isLt)).2 y + k0_pay1 (F := Ideal) (iblk m c 0 t) (iblk m c 1 t) y := by
  rw [outsAt0_B m c t h0 h2]; dsimp only
  frame_out
  unfold k0_pay4
  pointwise
  refine congrArg (· + _) ?_
  exact congrFun (Memref.IsWhole.read_unread (m := Memref.whole cc0_scratch0) _ _) y

/-! ## The blocks are rows of the arguments -/

/-- The two arguments as functions of their indices. -/
abbrev argA : S8192x1024.Idx → EReal := m ((c : Thread nD τ).loc main_arg0)
abbrev argB : S8192x1024.Idx → EReal := m ((c : Thread nD τ).loc main_arg1)

theorem idx0 : ∀ t : Fin cfg0.N, win0_0.index t 0 = t.val % 2 ∧ win0_0.index t 1 = 0 :=
  (by decide +kernel : ∀ t : Fin grid0.N, win0_0.index t 0 = t.val % 2 ∧ win0_0.index t 1 = 0)
theorem idx1 : ∀ t : Fin cfg0.N, win0_1.index t 0 = t.val % 2 ∧ win0_1.index t 1 = t.val / 2 :=
  (by decide +kernel : ∀ t : Fin grid0.N, win0_1.index t 0 = t.val % 2 ∧ win0_1.index t 1 = t.val / 2)
theorem idx2 : ∀ t : Fin cfg0.N, win0_2.index t 0 = 0 ∧ win0_2.index t 1 = t.val / 2 :=
  (by decide +kernel : ∀ t : Fin grid0.N, win0_2.index t 0 = 0 ∧ win0_2.index t 1 = t.val / 2)

theorem blk0 (t : Fin cfg0.N) (r l : ℕ) (hr : r < 4096) (hl : l < 1024) :
    at2 (iblk m c 0 t : Vec Ideal S4096x1024 .bf16) r l = at2 (argA m c) (4096 * (t.val % 2) + r) (1024 * (0) + l) := by
  conv_lhs => unfold at2
  rw [dif_pos ⟨hr, hl⟩]
  unfold iblk
  rw [View.read_apply]
  show V m c main_arg0 _ = _
  rw [V_main_arg0]
  refine at2_eq (m ((c : Thread nD τ).loc main_arg0) : S8192x1024.Idx → EReal) _ ?_ ?_
  · show win0_0.index t 0 * 4096 + 1 * r = _; rw [(idx0 t).1]; omega
  · show win0_0.index t 1 * 1024 + 1 * l = _; rw [(idx0 t).2]; omega

theorem blk1 (t : Fin cfg0.N) (r l : ℕ) (hr : r < 4096) (hl : l < 1024) :
    at2 (iblk m c 1 t : Vec Ideal S4096x1024 .bf16) r l = at2 (argB m c) (4096 * (t.val % 2) + r) (1024 * (t.val / 2) + l) := by
  conv_lhs => unfold at2
  rw [dif_pos ⟨hr, hl⟩]
  unfold iblk
  rw [View.read_apply]
  show V m c main_arg1 _ = _
  rw [V_main_arg1]
  refine at2_eq (m ((c : Thread nD τ).loc main_arg1) : S8192x1024.Idx → EReal) _ ?_ ?_
  · show win0_1.index t 0 * 4096 + 1 * r = _; rw [(idx1 t).1]; omega
  · show win0_1.index t 1 * 1024 + 1 * l = _; rw [(idx1 t).2]; omega

/-- One point's product over the arguments: its half of the rows. -/
theorem part_eq (t : Fin cfg0.N) (y : S1024x1024.Idx) :
    k0_pay1 (F := Ideal) (iblk m c 0 t) (iblk m c 1 t) y
      = ∑ k : Fin 4096, (at2 (argA m c) (4096 * (t.val % 2) + k.val) (1024 * (0) + (y 0).val)) * at2 (argB m c) (4096 * (t.val % 2) + k.val) (1024 * (t.val / 2) + (y 1).val) := by
  refine (pay1_apply (iblk m c 0 t) (iblk m c 1 t) y).trans ?_
  refine Finset.sum_congr rfl fun k _ => ?_
  have e0 := blk0 m c t k.val (y 0).val k.isLt (y 0).isLt
  have e1 := blk1 m c t k.val (y 1).val k.isLt (y 1).isLt
  rw [e0, e1]

/-- The result: every column of the left argument against every column of the right. -/
def res : Buf (Elt Ideal) ((c : Thread nD τ).loc main_v0) :=
  fun i : S1024x1024.Idx => colDot id (argA m c) (argB m c) 8192 (i 0).val (i 1).val

/-- The second point of a pair leaves its block of the result. -/
theorem out_eq (t : Fin cfg0.N) (h2 : t.val % 2 = 1) (y : S1024x1024.Idx) :
    (outsAt0 m c t.val t.isLt).1 y = colDot id (argA m c) (argB m c) 8192 (1024 * (0) + (y 0).val) (1024 * (t.val / 2) + (y 1).val) := by
  have hN : cfg0.N = 2 := N_0
  have ht := t.isLt
  have h0 : ¬t.val % 2 = 0 := by omega
  rw [out_B m c t h0 h2]
  have hp : t.val - 1 < cfg0.N := by omega
  have hq0 : (⟨t.val - 1, hp⟩ : Fin cfg0.N).val % 2 = 0 := by dsimp only; omega
  have hq2 : ¬(⟨t.val - 1, hp⟩ : Fin cfg0.N).val % 2 = 1 := by dsimp only; omega
  refine Eq.trans (congrArg (· + _) (scr_A m c ⟨t.val - 1, hp⟩ hq0 hq2 y)) ?_
  rw [part_eq, part_eq]
  dsimp only
  rw [show (t.val - 1) % 2 = 0 from by omega, show (t.val - 1) / 2 = t.val / 2 from by omega, h2]
  unfold colDot
  refine Eq.trans ?_ (sum_two (fun k => (at2 (argA m c) k (1024 * (0) + (y 0).val)) * at2 (argB m c) k (1024 * (t.val / 2) + (y 1).val)) 4096 4096)
  simp only [Nat.mul_zero, Nat.zero_add, Nat.mul_one]

theorem flushed_res (t : Fin cfg0.N) (hf : (cfg0.win 2).flush t = true) :
    (dats m 0 c).flushed 2 t = ((cfg0.win 2).blk t).view.read (Elt Ideal) (res m c) := by
  have h2 : t.val % 2 = 1 := (flush0_2 t).mp hf
  rw [Cert.Kernel13Ideal.Value.flushed2]
  funext j
  rw [View.read_apply]
  show (outsAt0 m c t.val t.isLt).1 (fun a => ⟨(j a).val, (j a).isLt⟩) = colDot id (argA m c) (argB m c) 8192 (win0_2.index t 0 * 1024 + 1 * (j 0).val) (win0_2.index t 1 * 1024 + 1 * (j 1).val)
  rw [out_eq m c t h2, (idx2 t).1, (idx2 t).2]
  congr 1 <;> dsimp only <;> omega

theorem final : (dats m 0 c).arrAt 2 cfg0.N = res m c :=
  (dats m 0 c).arrAt_eq_of_cover 2 (res m c) (fun t hf => flushed_res m c t hf) (fun i => (Cert.Kernel13Ideal.Value.covered_iff2 i).2 (by
    have h0 : (i 0).val < 1024 := (i 0).isLt; have h1 : (i 1).val < 1024 := (i 1).isLt; omega))

end Cert.Kernel13Ideal.Mat

end
-- ==== Proof.GwRef.lean ====
module

public import proofs.«01_k».proof.Defs
public import proofs.«01_k».proof.Proof.Nat2
public import proofs.«01_k».proof.Proof.Gen.Reference13Ideal.Read
public import proofs.«01_k».proof.Proof.Gen.Reference14Ideal.Read
public import proofs.«01_k».proof.Proof.Gen.Reference21Ideal.Read
public import Idealize.ShloMosaic.Lib.KernelVsHost
public import Idealize.ShloMosaic.Lib.Pipeline.Value
public import Idealize.ShloMosaic.Lib.Tactic
public import Idealize.ShloMosaic.Lib.Pointwise

@[expose] public section

set_option maxRecDepth 16384

noncomputable section

open Idealize.ShloMosaic Idealize.ShloMosaic.TcCoe Idealize.SL.Sem

set_option maxHeartbeats 4000000

/-! ## The gradient of a square weight -/

namespace Cert.Reference13Ideal.Mat

open Cert.Reference13Ideal Cert.Reference13Ideal.Gen Cert.Reference13Ideal.Read Cert.Nat2

variable (x0 : (⟨S8192x1024, .bf16⟩ : BufTy).Contents (Elt Ideal)) (x1 : (⟨S8192x1024, .bf16⟩ : BufTy).Contents (Elt Ideal))

theorem v7_at (j : S1024x1024.Idx) :
    val_main_v7 (F := Ideal) x0 x1 j = colDot id (x0 : S8192x1024.Idx → EReal) (x1 : S8192x1024.Idx → EReal) 8192 (j 0).val (j 1).val := by
  rw [val_main_v7_apply, val_main_v6_apply]
  show val_main_v5 (F := Ideal) x0 x1 _ = _
  rw [val_main_v5_apply]
  unfold colDot
  rw [Finset.sum_range]
  refine Finset.sum_congr rfl fun k _ => ?_
  rw [val_main_v1_apply, val_main_v4_apply, mul_comm]
  show id (x0 _) * x1 _ = _
  rw [at2_eq (x0 : S8192x1024.Idx → EReal) _ rfl rfl, at2_eq (x1 : S8192x1024.Idx → EReal) _ rfl rfl]

end Cert.Reference13Ideal.Mat

/-! ## The gradient of the weight into the short convolution -/

namespace Cert.Reference14Ideal.Mat

open Cert.Reference14Ideal Cert.Reference14Ideal.Gen Cert.Reference14Ideal.Read Cert.Nat2

variable (x0 : (⟨S8192x1024, .bf16⟩ : BufTy).Contents (Elt Ideal)) (x1 : (⟨S8192x3072, .bf16⟩ : BufTy).Contents (Elt Ideal))

theorem v7_at (j : S1024x3072.Idx) :
    val_main_v7 (F := Ideal) x0 x1 j = colDot id (x0 : S8192x1024.Idx → EReal) (x1 : S8192x3072.Idx → EReal) 8192 (j 0).val (j 1).val := by
  rw [val_main_v7_apply, val_main_v6_apply]
  show val_main_v5 (F := Ideal) x0 x1 _ = _
  rw [val_main_v5_apply]
  unfold colDot
  rw [Finset.sum_range]
  refine Finset.sum_congr rfl fun k _ => ?_
  rw [val_main_v1_apply, val_main_v4_apply, mul_comm]
  show id (x0 _) * x1 _ = _
  rw [at2_eq (x0 : S8192x1024.Idx → EReal) _ rfl rfl, at2_eq (x1 : S8192x3072.Idx → EReal) _ rfl rfl]

end Cert.Reference14Ideal.Mat

/-! ## The gradient of the weight of the first attention group -/

namespace Cert.Reference21Ideal.Mat

open Cert.Reference21Ideal Cert.Reference21Ideal.Gen Cert.Reference21Ideal.Read Cert.Nat2

variable (x0 : (⟨S8192x1024, .bf16⟩ : BufTy).Contents (Elt Ideal)) (x1 : (⟨S8192x1536, .bf16⟩ : BufTy).Contents (Elt Ideal))

theorem v7_at (j : S1024x1536.Idx) :
    val_main_v7 (F := Ideal) x0 x1 j = colDot id (x0 : S8192x1024.Idx → EReal) (x1 : S8192x1536.Idx → EReal) 8192 (j 0).val (j 1).val := by
  rw [val_main_v7_apply, val_main_v6_apply]
  show val_main_v5 (F := Ideal) x0 x1 _ = _
  rw [val_main_v5_apply]
  unfold colDot
  rw [Finset.sum_range]
  refine Finset.sum_congr rfl fun k _ => ?_
  rw [val_main_v1_apply, val_main_v4_apply, mul_comm]
  show id (x0 _) * x1 _ = _
  rw [at2_eq (x0 : S8192x1024.Idx → EReal) _ rfl rfl, at2_eq (x1 : S8192x1536.Idx → EReal) _ rfl rfl]

end Cert.Reference21Ideal.Mat

end
-- ==== Proof.GwScIn.lean ====
module

public import proofs.«01_k».proof.Defs
public import proofs.«01_k».proof.Proof.Gen.Kernel14Ideal.Value
public import proofs.«01_k».proof.Proof.Nat2
public import Idealize.ShloMosaic.Lib.Pipeline.Value
public import Idealize.ShloMosaic.Lib.Pipeline.ValueKit
public import Idealize.ShloMosaic.Lib.Tactic
public import Idealize.ShloMosaic.Lib.Pointwise

@[expose] public section

set_option maxRecDepth 16384

noncomputable section

open Idealize.ShloMosaic Idealize.ShloMosaic.TcCoe Idealize.SL.Sem

/-! The gradient of the weight into the short convolution: what the blocks hold, and the array the run ends with. -/

namespace Cert.Kernel14Ideal.Mat

open Cert.Kernel14Ideal Cert.Kernel14Ideal.Gen Cert.Nat2

set_option maxHeartbeats 4000000

variable (m : (ℓ : Loc nD τ sig) → Buf (Elt Ideal) ℓ) (c : Dev nD)

/-- One point's product: columns of the left block against columns of the right block. -/
theorem pay1_apply (x0 x1 : Vec Ideal S4096x1024 .bf16) (y : S1024x1024.Idx) :
    k0_pay1 x0 x1 y = ∑ k : Fin 4096, at2 x0 k.val (y 0).val * at2 x1 k.val (y 1).val := by
  unfold k0_pay1
  pointwise
  refine Finset.sum_congr rfl fun k _ => ?_
  show x0 (ValueIdx.ix2 k (y 0)) * x1 (ValueIdx.ix2 k (y 1)) = _
  rw [at2_eq x0 (ValueIdx.ix2 k (y 0)) rfl rfl, at2_eq x1 (ValueIdx.ix2 k (y 1)) rfl rfl]

/-- The first point of a pair leaves its product in the scratch. -/
theorem scr_A (t : Fin cfg0.N) (h0 : t.val % 2 = 0) (h2 : ¬t.val % 2 = 1) (y : S1024x1024.Idx) :
    (outsAt0 m c t.val t.isLt).2 y = k0_pay1 (F := Ideal) (iblk m c 0 t) (iblk m c 1 t) y := by
  rw [outsAt0_A m c t h0 h2]; dsimp only
  frame_out
  unfold k0_pay2
  pointwise

/-- The second point of a pair adds its product to the scratch and leaves the sum in the output block. -/
theorem out_B (t : Fin cfg0.N) (h0 : ¬t.val % 2 = 0) (h2 : t.val % 2 = 1) (y : S1024x1024.Idx) :
    (outsAt0 m c t.val t.isLt).1 y = (outsAt0 m c (t.val - 1) (Nat.lt_of_le_of_lt (Nat.sub_le _ _) t.isLt)).2 y + k0_pay1 (F := Ideal) (iblk m c 0 t) (iblk m c 1 t) y := by
  rw [outsAt0_B m c t h0 h2]; dsimp only
  frame_out
  unfold k0_pay4
  pointwise
  refine congrArg (· + _) ?_
  exact congrFun (Memref.IsWhole.read_unread (m := Memref.whole cc0_scratch0) _ _) y

/-! ## The blocks are rows of the arguments -/

/-- The two arguments as functions of their indices. -/
abbrev argA : S8192x1024.Idx → EReal := m ((c : Thread nD τ).loc main_arg0)
abbrev argB : S8192x3072.Idx → EReal := m ((c : Thread nD τ).loc main_arg1)

theorem idx0 : ∀ t : Fin cfg0.N, win0_0.index t 0 = t.val % 2 ∧ win0_0.index t 1 = 0 :=
  (by decide +kernel : ∀ t : Fin grid0.N, win0_0.index t 0 = t.val % 2 ∧ win0_0.index t 1 = 0)
theorem idx1 : ∀ t : Fin cfg0.N, win0_1.index t 0 = t.val % 2 ∧ win0_1.index t 1 = t.val / 2 :=
  (by decide +kernel : ∀ t : Fin grid0.N, win0_1.index t 0 = t.val % 2 ∧ win0_1.index t 1 = t.val / 2)
theorem idx2 : ∀ t : Fin cfg0.N, win0_2.index t 0 = 0 ∧ win0_2.index t 1 = t.val / 2 :=
  (by decide +kernel : ∀ t : Fin grid0.N, win0_2.index t 0 = 0 ∧ win0_2.index t 1 = t.val / 2)

theorem blk0 (t : Fin cfg0.N) (r l : ℕ) (hr : r < 4096) (hl : l < 1024) :
    at2 (iblk m c 0 t : Vec Ideal S4096x1024 .bf16) r l = at2 (argA m c) (4096 * (t.val % 2) + r) (1024 * (0) + l) := by
  conv_lhs => unfold at2
  rw [dif_pos ⟨hr, hl⟩]
  unfold iblk
  rw [View.read_apply]
  show V m c main_arg0 _ = _
  rw [V_main_arg0]
  refine at2_eq (m ((c : Thread nD τ).loc main_arg0) : S8192x1024.Idx → EReal) _ ?_ ?_
  · show win0_0.index t 0 * 4096 + 1 * r = _; rw [(idx0 t).1]; omega
  · show win0_0.index t 1 * 1024 + 1 * l = _; rw [(idx0 t).2]; omega

theorem blk1 (t : Fin cfg0.N) (r l : ℕ) (hr : r < 4096) (hl : l < 1024) :
    at2 (iblk m c 1 t : Vec Ideal S4096x1024 .bf16) r l = at2 (argB m c) (4096 * (t.val % 2) + r) (1024 * (t.val / 2) + l) := by
  conv_lhs => unfold at2
  rw [dif_pos ⟨hr, hl⟩]
  unfold iblk
  rw [View.read_apply]
  show V m c main_arg1 _ = _
  rw [V_main_arg1]
  refine at2_eq (m ((c : Thread nD τ).loc main_arg1) : S8192x3072.Idx → EReal) _ ?_ ?_
  · show win0_1.index t 0 * 4096 + 1 * r = _; rw [(idx1 t).1]; omega
  · show win0_1.index t 1 * 1024 + 1 * l = _; rw [(idx1 t).2]; omega

/-- One point's product over the arguments: its half of the rows. -/
theorem part_eq (t : Fin cfg0.N) (y : S1024x1024.Idx) :
    k0_pay1 (F := Ideal) (iblk m c 0 t) (iblk m c 1 t) y
      = ∑ k : Fin 4096, (at2 (argA m c) (4096 * (t.val % 2) + k.val) (1024 * (0) + (y 0).val)) * at2 (argB m c) (4096 * (t.val % 2) + k.val) (1024 * (t.val / 2) + (y 1).val) := by
  refine (pay1_apply (iblk m c 0 t) (iblk m c 1 t) y).trans ?_
  refine Finset.sum_congr rfl fun k _ => ?_
  have e0 := blk0 m c t k.val (y 0).val k.isLt (y 0).isLt
  have e1 := blk1 m c t k.val (y 1).val k.isLt (y 1).isLt
  rw [e0, e1]

/-- The result: every column of the left argument against every column of the right. -/
def res : Buf (Elt Ideal) ((c : Thread nD τ).loc main_v0) :=
  fun i : S1024x3072.Idx => colDot id (argA m c) (argB m c) 8192 (i 0).val (i 1).val

/-- The second point of a pair leaves its block of the result. -/
theorem out_eq (t : Fin cfg0.N) (h2 : t.val % 2 = 1) (y : S1024x1024.Idx) :
    (outsAt0 m c t.val t.isLt).1 y = colDot id (argA m c) (argB m c) 8192 (1024 * (0) + (y 0).val) (1024 * (t.val / 2) + (y 1).val) := by
  have hN : cfg0.N = 6 := N_0
  have ht := t.isLt
  have h0 : ¬t.val % 2 = 0 := by omega
  rw [out_B m c t h0 h2]
  have hp : t.val - 1 < cfg0.N := by omega
  have hq0 : (⟨t.val - 1, hp⟩ : Fin cfg0.N).val % 2 = 0 := by dsimp only; omega
  have hq2 : ¬(⟨t.val - 1, hp⟩ : Fin cfg0.N).val % 2 = 1 := by dsimp only; omega
  refine Eq.trans (congrArg (· + _) (scr_A m c ⟨t.val - 1, hp⟩ hq0 hq2 y)) ?_
  rw [part_eq, part_eq]
  dsimp only
  rw [show (t.val - 1) % 2 = 0 from by omega, show (t.val - 1) / 2 = t.val / 2 from by omega, h2]
  unfold colDot
  refine Eq.trans ?_ (sum_two (fun k => (at2 (argA m c) k (1024 * (0) + (y 0).val)) * at2 (argB m c) k (1024 * (t.val / 2) + (y 1).val)) 4096 4096)
  simp only [Nat.mul_zero, Nat.zero_add, Nat.mul_one]

theorem flushed_res (t : Fin cfg0.N) (hf : (cfg0.win 2).flush t = true) :
    (dats m 0 c).flushed 2 t = ((cfg0.win 2).blk t).view.read (Elt Ideal) (res m c) := by
  have h2 : t.val % 2 = 1 := (flush0_2 t).mp hf
  rw [Cert.Kernel14Ideal.Value.flushed2]
  funext j
  rw [View.read_apply]
  show (outsAt0 m c t.val t.isLt).1 (fun a => ⟨(j a).val, (j a).isLt⟩) = colDot id (argA m c) (argB m c) 8192 (win0_2.index t 0 * 1024 + 1 * (j 0).val) (win0_2.index t 1 * 1024 + 1 * (j 1).val)
  rw [out_eq m c t h2, (idx2 t).1, (idx2 t).2]
  congr 1 <;> dsimp only <;> omega

theorem final : (dats m 0 c).arrAt 2 cfg0.N = res m c :=
  (dats m 0 c).arrAt_eq_of_cover 2 (res m c) (fun t hf => flushed_res m c t hf) (fun i => (Cert.Kernel14Ideal.Value.covered_iff2 i).2 (by
    have h0 : (i 0).val < 1024 := (i 0).isLt; have h1 : (i 1).val < 3072 := (i 1).isLt; omega))

end Cert.Kernel14Ideal.Mat

end
-- ==== Proof.RmsScIn.lean ====
module

public import proofs.«01_k».proof.Defs
public import proofs.«01_k».proof.Proof.Gen.Kernel15Ideal.Value
public import proofs.«01_k».proof.Proof.RmsAlg
public import Idealize.ShloMosaic.Lib.Pipeline.Value
public import Idealize.ShloMosaic.Lib.Pipeline.ValueKit
public import Idealize.ShloMosaic.Lib.KernelVsHost
public import Idealize.ShloMosaic.Lib.Tactic
public import Idealize.ShloMosaic.Lib.WritesUnit
public import Idealize.ShloMosaic.Lib.Pointwise

@[expose] public section

set_option maxRecDepth 16384

noncomputable section

open Idealize.ShloMosaic Idealize.ShloMosaic.TcCoe Idealize.SL.Sem

namespace Cert.Kernel15Ideal.Mat

open Cert.Kernel15Ideal Cert.Kernel15Ideal.Gen Cert.Nat2

set_option maxHeartbeats 4000000

/-! The gradient through the product and the RMS normalisation into the short convolution: what the blocks hold, and the arrays the run ends with. -/

theorem at2_ix {a b : ℕ} (X : (⟨2, ![a, b]⟩ : Shape).Idx → EReal) (r : Fin a) (l : Fin b) : X (ValueIdx.ix2 r l) = at2 X r.val l.val :=
  at2_eq X (ValueIdx.ix2 r l) rfl rfl

theorem pay6_apply (v22 : Vec Ideal S1024x1024 .f32) (y : S1024x1.Idx) : k0_pay6 v22 y = rinv (at2 v22 (y 0).val) := by
  unfold k0_pay6
  pointwise
  unfold rinv msq
  rw [Finset.sum_range]
  refine congrArg (fun s => Ideal.rsqrt (Ideal.div s wid + eps)) (Finset.sum_congr rfl fun k _ => ?_)
  have e := at2_ix v22 (y 0) k
  exact congrArg₂ (· * ·) e e

theorem pay7_apply (v22 : Vec Ideal S1024x1024 .f32) (y : S1024x1024.Idx) : k0_pay7 v22 y = v22 y * rinv (at2 v22 (y 0).val) := by
  unfold k0_pay7
  pointwise
  rw [pay6_apply]
  rfl

theorem pay8_apply (v3 v20 v22 : Vec Ideal S1024x1024 .f32) (v23 : Vec Ideal S1x1024 .f32) (v47 : Vec Ideal S1024x1024 .f32) (y : S1024x1024.Idx) :
    k0_pay8 v3 v20 v22 v23 v47 y = v47 y + rmsBwd (at2 v22 (y 0).val) (fun k => (at2 v20 (y 0).val k + at2 v3 (y 0).val k) * at2 v23 0 k) (y 1).val := by
  unfold k0_pay8 k0_pay5
  pointwise
  unfold rmsBwd
  rw [Finset.sum_range, pay6_apply, pay7_apply, at2_eq v20 y rfl rfl, at2_eq v3 y rfl rfl, at2_eq v22 y rfl rfl]
  refine congrArg (v47 y + ·) (congrArg₂ (fun a s => rinv (at2 v22 (y 0).val) * ((at2 v20 (y 0).val (y 1).val + at2 v3 (y 0).val (y 1).val) * a -
    at2 v22 (y 0).val (y 1).val * rinv (at2 v22 (y 0).val) * Ideal.div s wid)) (at2_ix v23 0 (y 1)) (Finset.sum_congr rfl fun k _ => ?_))
  rw [pay7_apply]
  exact congrArg₂ (· * ·) (congrArg (· * _) (at2_ix v22 (y 0) k)) (congrArg₂ (· * ·) (congrArg₂ (· + ·) (at2_ix v20 (y 0) k) (at2_ix v3 (y 0) k)) (at2_ix v23 0 k))

theorem pay10_apply (v3 v20 v22 : Vec Ideal S1024x1024 .f32) (v52 : Vec Ideal S1x1024 .f32) (y : S1x1024.Idx) :
    k0_pay10 v3 v20 v22 v52 y = v52 y + ∑ r : Fin 1024, (at2 v20 r.val (y 1).val + at2 v3 r.val (y 1).val) * (at2 v22 r.val (y 1).val * rinv (at2 v22 r.val)) := by
  unfold k0_pay10 k0_pay5
  pointwise
  refine congrArg (v52 y + ·) (Finset.sum_congr rfl fun r _ => ?_)
  rw [pay7_apply]
  exact congrArg₂ (· * ·) (congrArg₂ (· + ·) (at2_ix v20 r (y 1)) (at2_ix v3 r (y 1))) (congrArg (· * _) (at2_ix v22 r (y 1)))

theorem pay1_apply (x0 : Vec Ideal S1024x1024 .bf16) (x1 : Vec Ideal S1024x1024 .bf16) (y : S1024x1024.Idx) :
    k0_pay1 x0 x1 y = ∑ k : Fin 1024, at2 x0 (y 0).val k.val * at2 x1 (y 1).val k.val := by
  unfold k0_pay1
  pointwise
  refine Finset.sum_congr rfl fun k _ => ?_
  show x0 (ValueIdx.ix2 (y 0) k) * x1 (ValueIdx.ix2 (y 1) k) = _
  rw [at2_eq x0 (ValueIdx.ix2 (y 0) k) rfl rfl, at2_eq x1 (ValueIdx.ix2 (y 1) k) rfl rfl]

variable (m : (ℓ : Loc nD τ sig) → Buf (Elt Ideal) ℓ) (c : Dev nD)

/-- What the point before left. -/
abbrev prev (t : Fin cfg0.N) := outsAt0 m c (t.val - 1) (Nat.lt_of_le_of_lt (Nat.sub_le _ _) t.isLt)

theorem scr_0 (t : Fin cfg0.N) (h : t.val % 3 = 0) (y : S1024x1024.Idx) :
    (outsAt0 m c t.val t.isLt).2.2.2 y = k0_pay1 (F := Ideal) (iblk m c 0 t) (iblk m c 1 t) y := by
  by_cases h0 : t.val % 24 = 0
  · rw [outsAt0_A m c t h0 h (by omega) (by omega)]; dsimp only
    frame_out
    unfold k0_pay3
    pointwise
  · rw [outsAt0_D m c t h0 h (by omega) (by omega)]; dsimp only
    frame_out
    unfold k0_pay3
    pointwise

theorem scr_mid (t : Fin cfg0.N) (h : t.val % 3 = 1) (y : S1024x1024.Idx) :
    (outsAt0 m c t.val t.isLt).2.2.2 y = (prev m c t).2.2.2 y + k0_pay1 (F := Ideal) (iblk m c 0 t) (iblk m c 1 t) y := by
  rw [outsAt0_B m c t (by omega) (by omega) h (by omega)]; dsimp only
  frame_out
  unfold k0_pay4
  pointwise
  refine congrArg (· + _) ?_
  exact congrFun (Memref.IsWhole.read_unread (m := Memref.whole cc0_scratch0) _ _) y

theorem dg_A (t : Fin cfg0.N) (h0 : t.val % 24 = 0) (y : S8x1024.Idx) :
    (outsAt0 m c t.val t.isLt).2.2.1 y = (0 : EReal) := by
  rw [outsAt0_A m c t h0 (by omega) (by omega) (by omega)]; dsimp only
  frame_out
  unfold k0_pay2
  pointwise

theorem dg_keep (t : Fin cfg0.N) (h0 : ¬t.val % 24 = 0) (h3 : ¬t.val % 3 = 2) (y : S8x1024.Idx) :
    (outsAt0 m c t.val t.isLt).2.2.1 y = (prev m c t).2.2.1 y := by
  by_cases h : t.val % 3 = 0
  · rw [outsAt0_D m c t h0 h (by omega) (by omega)]; dsimp only
    rfl
  · rw [outsAt0_B m c t h0 h (by omega) h3]; dsimp only
    rfl

theorem dx_C (t : Fin cfg0.N) (h3 : t.val % 3 = 2) (y : S1024x1024.Idx) :
    (outsAt0 m c t.val t.isLt).1 y = k0_pay8 (F := Ideal) (k0_pay1 (F := Ideal) (iblk m c 0 t) (iblk m c 1 t)) (prev m c t).2.2.2 (iblk m c 2 t) (iblk m c 3 t) (iblk m c 4 t) y := by
  rw [outsAt0_C m c t (by omega) (by omega) (by omega) h3]; dsimp only
  frame_out
  exact congrArg (fun v => k0_pay8 (F := Ideal) (k0_pay1 (F := Ideal) (iblk m c 0 t) (iblk m c 1 t)) v (iblk m c 2 t) (iblk m c 3 t) (iblk m c 4 t) y)
    (Memref.IsWhole.read_unread (m := Memref.whole cc0_scratch0) _ _)

theorem dxb_C (t : Fin cfg0.N) (h3 : t.val % 3 = 2) (y : S1024x1024.Idx) :
    ((outsAt0 m c t.val t.isLt).2.1 y : EReal) = (outsAt0 m c t.val t.isLt).1 y := by
  rw [outsAt0_C m c t (by omega) (by omega) (by omega) h3]; dsimp only
  frame_out
  unfold k0_pay9
  rfl

theorem dg_C (t : Fin cfg0.N) (h3 : t.val % 3 = 2) (y : S8x1024.Idx) :
    ((outsAt0 m c t.val t.isLt).2.2.1 y : EReal) = if (y 0).val = 0 then
      (prev m c t).2.2.1 y + ∑ r : Fin 1024, (at2 ((prev m c t).2.2.2) r.val (y 1).val + at2 (k0_pay1 (F := Ideal) (iblk m c 0 t) (iblk m c 1 t)) r.val (y 1).val)
        * (at2 (iblk m c 2 t : Vec Ideal S1024x1024 .f32) r.val (y 1).val * rinv (at2 (iblk m c 2 t : Vec Ideal S1024x1024 .f32) r.val))
      else (prev m c t).2.2.1 y := by
  rw [outsAt0_C m c t (by omega) (by omega) (by omega) h3]; dsimp only
  frame_out
  by_cases h : (y 0).val = 0
  · rw [if_pos h]
    have hy : ∀ a, ((ValueIdx.ix2 (0 : Fin 1) (y 1) : S1x1024.Idx) a).val + (![0, 0] : Fin 2 → ℕ) a = (y a).val := fun a => by
      match a with
      | ⟨0, _⟩ => exact h.symm
      | ⟨1, _⟩ => rfl
    refine (View.read_writes_cons_unit_of_mem _ _ _ _ _ y (ValueIdx.ix2 (0 : Fin 1) (y 1)) rfl (fun a => (hy a).symm.trans (Nat.add_comm _ _))).trans ?_
    refine (pay10_apply _ _ _ _ _).trans ?_
    refine congrArg₂ (· + ·) ?_ (Finset.sum_congr rfl fun r _ => ?_)
    · refine congrArg (prev m c t).2.2.1 (funext fun a => Fin.ext ?_)
      match a with
      | ⟨0, _⟩ => show 0 + 1 * 0 = (y 0).val; omega
      | ⟨1, _⟩ => show 0 + 1 * (y 1).val = (y 1).val; omega
    · refine congrArg (fun v => (at2 v r.val (y 1).val + _) * _) ?_
      exact Memref.IsWhole.read_unread (m := Memref.whole cc0_scratch0) _ _
  · rw [if_neg h]
    refine (View.read_writes_cons_unit_of_not_mem _ _ _ _ _ y rfl 0 (by
      show (y 0).val < 0 ∨ 0 + 1 ≤ (y 0).val
      omega)).trans ?_
    exact congrFun ((hs0_7 t).read_unread _) y

/-! ## The blocks are rows of the arguments -/

/-- The five arguments as functions of their indices. -/
abbrev argD : S8192x3072.Idx → EReal := m ((c : Thread nD τ).loc main_arg0)
abbrev argW : S1024x3072.Idx → EReal := m ((c : Thread nD τ).loc main_arg1)
abbrev argX : S8192x1024.Idx → EReal := m ((c : Thread nD τ).loc main_arg2)
abbrev argG : S1x1024.Idx → EReal := m ((c : Thread nD τ).loc main_arg3)
abbrev argR : S8192x1024.Idx → EReal := m ((c : Thread nD τ).loc main_arg4)

theorem idx0 : ∀ t : Fin cfg0.N, win0_0.index t 0 = t.val / 3 ∧ win0_0.index t 1 = t.val % 3 :=
  (by decide +kernel : ∀ t : Fin grid0.N, win0_0.index t 0 = t.val / 3 ∧ win0_0.index t 1 = t.val % 3)
theorem idx1 : ∀ t : Fin cfg0.N, win0_1.index t 0 = 0 ∧ win0_1.index t 1 = t.val % 3 :=
  (by decide +kernel : ∀ t : Fin grid0.N, win0_1.index t 0 = 0 ∧ win0_1.index t 1 = t.val % 3)
theorem idx2 : ∀ t : Fin cfg0.N, win0_2.index t 0 = t.val / 3 ∧ win0_2.index t 1 = 0 :=
  (by decide +kernel : ∀ t : Fin grid0.N, win0_2.index t 0 = t.val / 3 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val / 3 ∧ win0_4.index t 1 = 0 :=
  (by decide +kernel : ∀ t : Fin grid0.N, win0_4.index t 0 = t.val / 3 ∧ win0_4.index t 1 = 0)
theorem idx5 : ∀ t : Fin cfg0.N, win0_5.index t 0 = t.val / 3 ∧ win0_5.index t 1 = 0 :=
  (by decide +kernel : ∀ t : Fin grid0.N, win0_5.index t 0 = t.val / 3 ∧ win0_5.index t 1 = 0)
theorem idx6 : ∀ t : Fin cfg0.N, win0_6.index t 0 = t.val / 3 ∧ win0_6.index t 1 = 0 :=
  (by decide +kernel : ∀ t : Fin grid0.N, win0_6.index t 0 = t.val / 3 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)

theorem blk0 (t : Fin cfg0.N) (r l : ℕ) (hr : r < 1024) (hl : l < 1024) :
    at2 (iblk m c 0 t : Vec Ideal S1024x1024 .bf16) r l = at2 (argD m c) (1024 * (t.val / 3) + r) (1024 * (t.val % 3) + l) := by
  conv_lhs => unfold at2
  rw [dif_pos ⟨hr, hl⟩]
  unfold iblk
  rw [View.read_apply]
  show V m c main_arg0 _ = _
  rw [V_main_arg0]
  refine at2_eq (m ((c : Thread nD τ).loc main_arg0) : S8192x3072.Idx → EReal) _ ?_ ?_
  · show win0_0.index t 0 * 1024 + 1 * r = _; rw [(idx0 t).1]; omega
  · show win0_0.index t 1 * 1024 + 1 * l = _; rw [(idx0 t).2]; omega

theorem blk1 (t : Fin cfg0.N) (r l : ℕ) (hr : r < 1024) (hl : l < 1024) :
    at2 (iblk m c 1 t : Vec Ideal S1024x1024 .bf16) r l = at2 (argW m c) r (1024 * (t.val % 3) + l) := by
  conv_lhs => unfold at2
  rw [dif_pos ⟨hr, hl⟩]
  unfold iblk
  rw [View.read_apply]
  show V m c main_arg1 _ = _
  rw [V_main_arg1]
  refine at2_eq (m ((c : Thread nD τ).loc main_arg1) : S1024x3072.Idx → EReal) _ ?_ ?_
  · show win0_1.index t 0 * 1024 + 1 * r = _; rw [(idx1 t).1]; omega
  · show win0_1.index t 1 * 1024 + 1 * l = _; rw [(idx1 t).2]; omega

theorem blk2 (t : Fin cfg0.N) (r : ℕ) (hr : r < 1024) :
    at2 (iblk m c 2 t : Vec Ideal S1024x1024 .f32) r = at2 (argX m c) (1024 * (t.val / 3) + r) := by
  funext l
  by_cases hl : l < 1024
  · conv_lhs => unfold at2
    rw [dif_pos ⟨hr, hl⟩]
    unfold iblk
    rw [View.read_apply]
    show V m c main_arg2 _ = _
    rw [V_main_arg2]
    refine at2_eq (m ((c : Thread nD τ).loc main_arg2) : S8192x1024.Idx → EReal) _ ?_ ?_
    · show win0_2.index t 0 * 1024 + 1 * r = _; rw [(idx2 t).1]; omega
    · show win0_2.index t 1 * 1024 + 1 * l = _; rw [(idx2 t).2]; omega
  · unfold at2
    rw [dif_neg (fun e => hl e.2), dif_neg (fun e => hl e.2)]

theorem blk3 (t : Fin cfg0.N) : at2 (iblk m c 3 t : Vec Ideal S1x1024 .f32) 0 = at2 (argG m c) 0 := by
  funext l
  by_cases hl : l < 1024
  · conv_lhs => unfold at2
    rw [dif_pos ⟨Nat.zero_lt_one, hl⟩]
    unfold iblk
    rw [View.read_apply]
    show V m c main_arg3 _ = _
    rw [V_main_arg3]
    refine at2_eq (m ((c : Thread nD τ).loc main_arg3) : S1x1024.Idx → EReal) _ ?_ ?_
    · show win0_3.index t 0 * 1 + 1 * 0 = _; rw [(idx3 t).1]
    · show win0_3.index t 1 * 1024 + 1 * l = _; rw [(idx3 t).2]; omega
  · unfold at2
    rw [dif_neg (fun e => hl e.2), dif_neg (fun e => hl e.2)]

theorem blk4 (t : Fin cfg0.N) (y : S1024x1024.Idx) :
    (iblk m c 4 t : Vec Ideal S1024x1024 .f32) y = at2 (argR m c) (1024 * (t.val / 3) + (y 0).val) (y 1).val := by
  unfold iblk
  rw [View.read_apply]
  show V m c main_arg4 _ = _
  rw [V_main_arg4]
  refine at2_eq (m ((c : Thread nD τ).loc main_arg4) : S8192x1024.Idx → EReal) _ ?_ ?_
  · show win0_4.index t 0 * 1024 + 1 * (y 0).val = _; rw [(idx4 t).1]; omega
  · show win0_4.index t 1 * 1024 + 1 * (y 1).val = _; rw [(idx4 t).2]; omega

/-! ## The values -/

/-- The gradient against the weight's rows, over the first columns; -/
abbrev dn (n r l : ℕ) : EReal := rowRow (argD m c) (argW m c) n r l
/-- the gradient of the normalised row, scaled; -/
abbrev gk (r k : ℕ) : EReal := dn m c 3072 r k * at2 (argG m c) 0 k
/-- what one row adds to the scale's gradient. -/
abbrev gw (r l : ℕ) : EReal := dn m c 3072 r l * (at2 (argX m c) r l * rinv (at2 (argX m c) r))

theorem part_eq (t : Fin cfg0.N) (r l : ℕ) (hr : r < 1024) (hl : l < 1024) :
    dn m c (1024 * (t.val % 3)) (1024 * (t.val / 3) + r) l + at2 (k0_pay1 (F := Ideal) (iblk m c 0 t) (iblk m c 1 t)) r l
      = dn m c (1024 * (t.val % 3 + 1)) (1024 * (t.val / 3) + r) l := by
  have e : at2 (k0_pay1 (F := Ideal) (iblk m c 0 t) (iblk m c 1 t)) r l = _ :=
    (at2_ix _ (⟨r, hr⟩ : Fin 1024) (⟨l, hl⟩ : Fin 1024)).symm.trans (pay1_apply (iblk m c 0 t) (iblk m c 1 t) _)
  rw [e]
  show rowRow _ _ _ _ _ + _ = rowRow _ _ _ _ _
  unfold rowRow
  rw [Nat.mul_add, Nat.mul_one, Finset.sum_range_add]
  refine congrArg (_ + ·) ?_
  rw [Finset.sum_range]
  refine Finset.sum_congr rfl fun k _ => ?_
  exact congrArg₂ (· * ·) (blk0 m c t r k.val hr k.isLt) (blk1 m c t l k.val hl k.isLt)

theorem scr_eq (j : ℕ) (hj : j ≤ 1) : ∀ (t : Fin cfg0.N), t.val % 3 = j → ∀ y : S1024x1024.Idx,
    (outsAt0 m c t.val t.isLt).2.2.2 y = dn m c (1024 * (j + 1)) (1024 * (t.val / 3) + (y 0).val) (y 1).val := by
  induction j with
  | zero =>
    intro t ht y
    rw [scr_0 m c t ht y]
    have e := part_eq m c t (y 0).val (y 1).val (y 0).isLt (y 1).isLt
    rw [ht] at e
    refine Eq.trans ?_ e
    have z : dn m c (1024 * 0) (1024 * (t.val / 3) + (y 0).val) (y 1).val = 0 := Finset.sum_range_zero _
    rw [z, zero_add]
    exact at2_eq _ y rfl rfl
  | succ j ih =>
    intro t ht y
    rw [scr_mid m c t (by omega) y]
    have hp : (t.val - 1) % 3 = j := by omega
    have hq : (t.val - 1) / 3 = t.val / 3 := by omega
    have e1 := ih (by omega) ⟨t.val - 1, Nat.lt_of_le_of_lt (Nat.sub_le _ _) t.isLt⟩ hp y
    have e := part_eq m c t (y 0).val (y 1).val (y 0).isLt (y 1).isLt
    rw [ht] at e
    refine Eq.trans ?_ e
    refine congrArg₂ (· + ·) (e1.trans ?_) (at2_eq _ y rfl rfl)
    show dn m c _ (1024 * ((t.val - 1) / 3) + _) _ = _
    rw [hq]

/-- At the last block of a row of blocks, the sum is complete. -/
theorem full_eq (t : Fin cfg0.N) (h3 : t.val % 3 = 2) (r l : ℕ) (hr : r < 1024) (hl : l < 1024) :
    at2 ((prev m c t).2.2.2) r l + at2 (k0_pay1 (F := Ideal) (iblk m c 0 t) (iblk m c 1 t)) r l = dn m c 3072 (1024 * (t.val / 3) + r) l := by
  have e := part_eq m c t r l hr hl
  rw [h3] at e
  refine Eq.trans (congrArg (· + _) ?_) e
  have hp : (t.val - 1) % 3 = 1 := by omega
  have hq : (t.val - 1) / 3 = t.val / 3 := by omega
  have e1 := scr_eq m c 1 (Nat.le_refl _) ⟨t.val - 1, Nat.lt_of_le_of_lt (Nat.sub_le _ _) t.isLt⟩ hp (ValueIdx.ix2 (⟨r, hr⟩ : Fin 1024) (⟨l, hl⟩ : Fin 1024))
  refine ((at2_ix _ (⟨r, hr⟩ : Fin 1024) (⟨l, hl⟩ : Fin 1024)).symm.trans e1).trans ?_
  show dn m c _ (1024 * ((t.val - 1) / 3) + r) l = _
  rw [hq]

/-- The residual's gradient plus the normalisation's backward step. -/
abbrev dxv (r l : ℕ) : EReal := at2 (argR m c) r l + rmsBwd (at2 (argX m c) r) (gk m c r) l

theorem dx_eq (t : Fin cfg0.N) (h3 : t.val % 3 = 2) (y : S1024x1024.Idx) :
    (outsAt0 m c t.val t.isLt).1 y = dxv m c (1024 * (t.val / 3) + (y 0).val) (y 1).val := by
  rw [dx_C m c t h3 y]
  refine (pay8_apply _ _ _ _ _ y).trans ?_
  have e2 := blk2 m c t (y 0).val (y 0).isLt
  have e3 := blk3 m c t
  refine congrArg₂ (· + ·) (blk4 m c t y) ?_
  rw [e2, e3]
  refine congrArg (fun G => rmsBwd _ G _) (funext fun k => ?_)
  by_cases hk : k < 1024
  · exact congrArg (· * _) (full_eq m c t h3 (y 0).val k (y 0).isLt hk)
  · have z : at2 (argG m c) 0 k = 0 := by
      unfold at2
      rw [dif_neg (fun e => hk e.2)]
    show _ * at2 (argG m c) 0 k = dn m c 3072 _ k * at2 (argG m c) 0 k
    rw [z, mul_zero, mul_zero]

theorem dg_eq (n : ℕ) : ∀ (hn : n < cfg0.N) (y : S8x1024.Idx),
    ((outsAt0 m c n hn).2.2.1 y : EReal) = if (y 0).val = 0 then ∑ r ∈ Finset.range (1024 * ((n + 1) / 3)), gw m c r (y 1).val else 0 := by
  induction n with
  | zero =>
    intro hn y
    refine (dg_A m c ⟨0, hn⟩ rfl y).trans ?_
    split
    · exact (Finset.sum_range_zero _).symm
    · rfl
  | succ n ih =>
    intro hn y
    have hN : cfg0.N = 24 := N_0
    have e := ih (Nat.lt_of_succ_lt hn) y
    by_cases h3 : (n + 1) % 3 = 2
    · refine (dg_C m c ⟨n + 1, hn⟩ h3 y).trans ?_
      split
      · rename_i h
        rw [if_pos h] at e
        have hq : (n + 1 + 1) / 3 = (n + 1) / 3 + 1 := by omega
        rw [hq, Nat.mul_add, Nat.mul_one, Finset.sum_range_add]
        refine congrArg₂ (· + ·) e ?_
        rw [Finset.sum_range]
        refine Finset.sum_congr rfl fun r _ => ?_
        have e1 := full_eq m c ⟨n + 1, hn⟩ h3 r.val (y 1).val r.isLt (y 1).isLt
        have e2 := blk2 m c ⟨n + 1, hn⟩ r.val r.isLt
        rw [e2]
        exact congrArg (· * _) e1
      · rename_i h
        rw [if_neg h] at e
        exact e
    · refine (dg_keep m c ⟨n + 1, hn⟩ (by show ¬(n + 1) % 24 = 0; omega) h3 y).trans (e.trans ?_)
      have hq : (n + 1 + 1) / 3 = (n + 1) / 3 := by omega
      rw [hq]

/-! ## The three arrays -/

def res5 : Buf (Elt Ideal) ((c : Thread nD τ).loc main_v0_0) :=
  fun i : S8192x1024.Idx => dxv m c (i 0).val (i 1).val
def res6 : Buf (Elt Ideal) ((c : Thread nD τ).loc main_v0_1) :=
  fun i : S8192x1024.Idx => dxv m c (i 0).val (i 1).val
def res7 : Buf (Elt Ideal) ((c : Thread nD τ).loc main_v0_2) :=
  fun i : S8x1024.Idx => (if (i 0).val = 0 then ∑ r ∈ Finset.range 8192, gw m c r (i 1).val else 0 : EReal)

theorem flushed_res5 (t : Fin cfg0.N) (h : (cfg0.win 5).flush t = true) :
    (dats m 0 c).flushed 5 t = ((cfg0.win 5).blk t).view.read (Elt Ideal) (res5 m c) := by
  have h3 := (flush0_5 t).1 h
  rw [Cert.Kernel15Ideal.Value.flushed5]
  funext j
  rw [View.read_apply]
  show (outsAt0 m c t.val t.isLt).1 (fun a => ⟨(j a).val, (j a).isLt⟩) = dxv m c (win0_5.index t 0 * 1024 + 1 * (j 0).val) (win0_5.index t 1 * 1024 + 1 * (j 1).val)
  rw [dx_eq m c t h3, (idx5 t).1, (idx5 t).2]
  rw [Nat.mul_comm (t.val / 3) 1024, Nat.zero_mul, Nat.zero_add, Nat.one_mul, Nat.one_mul]

theorem flushed_res6 (t : Fin cfg0.N) (h : (cfg0.win 6).flush t = true) :
    (dats m 0 c).flushed 6 t = ((cfg0.win 6).blk t).view.read (Elt Ideal) (res6 m c) := by
  have h3 := (flush0_6 t).1 h
  rw [Cert.Kernel15Ideal.Value.flushed6]
  funext j
  rw [View.read_apply]
  show ((outsAt0 m c t.val t.isLt).2.1 (fun a => ⟨(j a).val, (j a).isLt⟩) : EReal) = dxv m c (win0_6.index t 0 * 1024 + 1 * (j 0).val) (win0_6.index t 1 * 1024 + 1 * (j 1).val)
  rw [dxb_C m c t h3, dx_eq m c t h3, (idx6 t).1, (idx6 t).2]
  rw [Nat.mul_comm (t.val / 3) 1024, Nat.zero_mul, Nat.zero_add, Nat.one_mul, Nat.one_mul]

theorem flushed_res7 (t : Fin cfg0.N) (h : (cfg0.win 7).flush t = true) :
    (dats m 0 c).flushed 7 t = ((cfg0.win 7).blk t).view.read (Elt Ideal) (res7 m c) := by
  have hN : cfg0.N = 24 := N_0
  have h3 := (flush0_7 t).1 h
  have hq : 1024 * ((t.val + 1) / 3) = 8192 := by have := t.isLt; omega
  rw [Cert.Kernel15Ideal.Value.flushed7]
  funext j
  rw [View.read_apply]
  show ((outsAt0 m c t.val t.isLt).2.2.1 (fun a => ⟨(j a).val, (j a).isLt⟩) : EReal)
    = if win0_7.index t 0 * 8 + 1 * (j 0).val = 0 then ∑ r ∈ Finset.range 8192, gw m c r (win0_7.index t 1 * 1024 + 1 * (j 1).val) else 0
  rw [dg_eq m c t.val t.isLt, (idx7 t).1, (idx7 t).2, hq]
  rw [Nat.zero_add, Nat.zero_add, Nat.one_mul, Nat.one_mul]

theorem cover5 (i : S8192x1024.Idx) :
    ∃ t : Fin cfg0.N, (cfg0.win 5).flush t = true ∧ i ∈ ((cfg0.win 5).blk t).view.set := by
  have h0 : (i 0 : ℕ) < 8192 := (i 0).isLt
  have h1 : (i 1 : ℕ) < 1024 := (i 1).isLt
  have hN : cfg0.N = 24 := N_0
  let t : Fin cfg0.N := ⟨3 * ((i 0 : ℕ) / 1024) + 2, by omega⟩
  have e : t.val = 3 * ((i 0 : ℕ) / 1024) + 2 := rfl
  refine ⟨t, (flush0_5 t).2 (by omega), ?_⟩
  show i ∈ ((View.whole main_v0_0).slice (win0_5.rect t)).set
  rw [View.set_slice_whole, Rect.mem_set_unit]
  intro a
  match a with
  | ⟨0, _⟩ =>
    show win0_5.index t 0 * 1024 ≤ (i 0 : ℕ) ∧ (i 0 : ℕ) < win0_5.index t 0 * 1024 + 1024
    rw [(idx5 t).1]; omega
  | ⟨1, _⟩ =>
    show win0_5.index t 1 * 1024 ≤ (i 1 : ℕ) ∧ (i 1 : ℕ) < win0_5.index t 1 * 1024 + 1024
    rw [(idx5 t).2]; omega

theorem cover6 (i : S8192x1024.Idx) :
    ∃ t : Fin cfg0.N, (cfg0.win 6).flush t = true ∧ i ∈ ((cfg0.win 6).blk t).view.set := by
  have h0 : (i 0 : ℕ) < 8192 := (i 0).isLt
  have h1 : (i 1 : ℕ) < 1024 := (i 1).isLt
  have hN : cfg0.N = 24 := N_0
  let t : Fin cfg0.N := ⟨3 * ((i 0 : ℕ) / 1024) + 2, by omega⟩
  have e : t.val = 3 * ((i 0 : ℕ) / 1024) + 2 := rfl
  refine ⟨t, (flush0_6 t).2 (by omega), ?_⟩
  show i ∈ ((View.whole main_v0_1).slice (win0_6.rect t)).set
  rw [View.set_slice_whole, Rect.mem_set_unit]
  intro a
  match a with
  | ⟨0, _⟩ =>
    show win0_6.index t 0 * 1024 ≤ (i 0 : ℕ) ∧ (i 0 : ℕ) < win0_6.index t 0 * 1024 + 1024
    rw [(idx6 t).1]; omega
  | ⟨1, _⟩ =>
    show win0_6.index t 1 * 1024 ≤ (i 1 : ℕ) ∧ (i 1 : ℕ) < win0_6.index t 1 * 1024 + 1024
    rw [(idx6 t).2]; omega

theorem cover7 (i : S8x1024.Idx) :
    ∃ t : Fin cfg0.N, (cfg0.win 7).flush t = true ∧ i ∈ ((cfg0.win 7).blk t).view.set := by
  have h0 : (i 0 : ℕ) < 8 := (i 0).isLt
  have h1 : (i 1 : ℕ) < 1024 := (i 1).isLt
  have hN : cfg0.N = 24 := N_0
  let t : Fin cfg0.N := ⟨cfg0.N - 1, by omega⟩
  have e : t.val = cfg0.N - 1 := rfl
  refine ⟨t, (flush0_7 t).2 (by omega), ?_⟩
  show i ∈ ((View.whole main_v0_2).slice (win0_7.rect t)).set
  rw [View.set_slice_whole, Rect.mem_set_unit]
  intro a
  match a with
  | ⟨0, _⟩ =>
    show win0_7.index t 0 * 8 ≤ (i 0 : ℕ) ∧ (i 0 : ℕ) < win0_7.index t 0 * 8 + 8
    rw [(idx7 t).1]; omega
  | ⟨1, _⟩ =>
    show win0_7.index t 1 * 1024 ≤ (i 1 : ℕ) ∧ (i 1 : ℕ) < win0_7.index t 1 * 1024 + 1024
    rw [(idx7 t).2]; omega

theorem final5 : (dats m 0 c).arrAt 5 cfg0.N = res5 m c :=
  (dats m 0 c).arrAt_eq_of_cover 5 (res5 m c) (fun t h => flushed_res5 m c t h) cover5
theorem final6 : (dats m 0 c).arrAt 6 cfg0.N = res6 m c :=
  (dats m 0 c).arrAt_eq_of_cover 6 (res6 m c) (fun t h => flushed_res6 m c t h) cover6
theorem final7 : (dats m 0 c).arrAt 7 cfg0.N = res7 m c :=
  (dats m 0 c).arrAt_eq_of_cover 7 (res7 m c) (fun t h => flushed_res7 m c t h) cover7

end Cert.Kernel15Ideal.Mat

end
-- ==== Proof.RmsRefScIn.lean ====
module

public import proofs.«01_k».proof.Defs
public import proofs.«01_k».proof.Proof.Gen.Reference15Ideal.Read
public import proofs.«01_k».proof.Proof.RmsAlg
public import Idealize.ShloMosaic.Lib.Pipeline.Value
public import Idealize.ShloMosaic.Lib.Pipeline.ValueKit
public import Idealize.ShloMosaic.Lib.KernelVsHost
public import Idealize.ShloMosaic.Lib.Tactic
public import Idealize.ShloMosaic.Lib.Pointwise

@[expose] public section

set_option maxRecDepth 16384

noncomputable section

open Idealize.ShloMosaic Idealize.ShloMosaic.TcCoe Idealize.SL.Sem

set_option maxHeartbeats 4000000

/-! The gradient through the product and the RMS normalisation into the short convolution: the reference's values. -/

namespace Cert.Reference15Ideal.Mat

open Cert.Reference15Ideal Cert.Reference15Ideal.Gen Cert.Reference15Ideal.Read Cert.Nat2

variable (x0 : (⟨S8192x3072, .bf16⟩ : BufTy).Contents (Elt Ideal)) (x1 : (⟨S1024x3072, .bf16⟩ : BufTy).Contents (Elt Ideal))
  (x2 : (⟨S8192x1024, .f32⟩ : BufTy).Contents (Elt Ideal)) (x3 : (⟨S1x1024, .f32⟩ : BufTy).Contents (Elt Ideal)) (x4 : (⟨S8192x1024, .f32⟩ : BufTy).Contents (Elt Ideal))

theorem bits_zero : (FloatOps.ofBits (F := Ideal) .f32 0x00000000#32 : EReal) = 0 := by
  show Ideal.ofBits .f32 0x00000000#32 = 0
  simp [Ideal.ofBits, Ideal.ieee]

abbrev X : ℕ → ℕ → EReal := at2 (x2 : S8192x1024.Idx → EReal)
abbrev dnr (r l : ℕ) : EReal := rowRow (x0 : S8192x3072.Idx → EReal) (x1 : S1024x3072.Idx → EReal) 3072 r l
abbrev gkr (r k : ℕ) : EReal := dnr x0 x1 r k * at2 (x3 : S1x1024.Idx → EReal) 0 k

/-! ## The row's mean square and its inverse root -/

theorem v1_at (i : S8192.Idx) : val_main_v1 (F := Ideal) x2 i = ∑ k ∈ Finset.range 1024, X x2 (i 0).val k * X x2 (i 0).val k := by
  rw [val_main_v1_apply, val_main_cst_apply, bits_zero, zero_add, Finset.sum_range]
  refine Finset.sum_congr rfl fun k _ => ?_
  rw [val_main_v0_apply]
  show (x2 _ : EReal) * x2 _ = _
  rw [at2_eq (x2 : S8192x1024.Idx → EReal) _ rfl rfl]
  try rfl

theorem v6_at (i : S8192x1.Idx) : val_main_v6 (F := Ideal) x2 i = msq (X x2 (i 0).val) := by
  rw [val_main_v6_apply, val_main_v4_apply, val_main_v2_apply, v1_at, val_main_v3_apply, val_main_v5_apply, val_main_cst_0_apply, val_main_cst_1_apply]
  try rfl

theorem v7_at (i : S8192x1.Idx) : val_main_v7 (F := Ideal) x2 i = rinv (X x2 (i 0).val) := by
  rw [val_main_v7_apply, v6_at]
  try rfl

theorem v10_at (i : S8192x1.Idx) : val_main_v10 (F := Ideal) x2 i = mhalf * Ideal.div (rinv (X x2 (i 0).val)) (msq (X x2 (i 0).val)) := by
  rw [val_main_v10_apply, val_main_v9_apply, val_main_cst_2_apply, val_main_v8_apply, v7_at, v6_at]
  try rfl

theorem v12_at (j : S8192x1024.Idx) : val_main_v12 (F := Ideal) x2 j = X x2 (j 0).val (j 1).val * rinv (X x2 (j 0).val) := by
  rw [val_main_v12_apply, val_main_v11_apply, v7_at]
  show (x2 _ : EReal) * _ = _
  rw [at2_eq (x2 : S8192x1024.Idx → EReal) j rfl rfl]
  try rfl

/-! ## The product -/

theorem v18_at (j : S8192x1024.Idx) : val_main_v18 (F := Ideal) x0 x1 j = dnr x0 x1 (j 0).val (j 1).val := by
  rw [val_main_v18_apply]
  unfold dnr rowRow
  rw [Finset.sum_range]
  refine Finset.sum_congr rfl fun k _ => ?_
  rw [val_main_v17_apply, val_main_v15_apply]
  show (x0 _ : EReal) * x1 _ = _
  rw [at2_eq (x0 : S8192x3072.Idx → EReal) _ rfl rfl, at2_eq (x1 : S1024x3072.Idx → EReal) _ rfl rfl]
  try rfl

theorem v19_at (j : S8192x1024.Idx) : val_main_v19 (F := Ideal) x0 x1 x2 j = dnr x0 x1 (j 0).val (j 1).val * (X x2 (j 0).val (j 1).val * rinv (X x2 (j 0).val)) := by
  rw [val_main_v19_apply, v12_at, v18_at]
  exact mul_comm (_ : EReal) _

theorem v21_at (i : S1x1024.Idx) : val_main_v21 (F := Ideal) x0 x1 x2 i
    = ∑ r ∈ Finset.range 8192, dnr x0 x1 r (i 1).val * (X x2 r (i 1).val * rinv (X x2 r)) := by
  rw [val_main_v21_apply, val_main_v20_apply, val_main_cst_3_apply, bits_zero, zero_add, Finset.sum_range]
  refine Finset.sum_congr rfl fun k _ => ?_
  rw [v19_at]
  have e : (idx_main_v20 (idx_main_v21 i) k 1).val = (i 1).val := by
    show (i 0).val * 1024 + (i 1).val = (i 1).val
    have h0 : (i 0).val < 1 := (i 0).isLt
    omega
  rw [e]
  try rfl

theorem v23_at (j : S8192x1024.Idx) : val_main_v23 (F := Ideal) x0 x1 x3 j = gkr x0 x1 x3 (j 0).val (j 1).val := by
  rw [val_main_v23_apply, v18_at, val_main_v22_apply]
  show (_ : EReal) * x3 _ = _
  rw [at2_eq (x3 : S1x1024.Idx → EReal) _ rfl rfl]
  try rfl

theorem v26_at (i : S8192x1.Idx) : val_main_v26 (F := Ideal) x0 x1 x2 x3 i = ∑ k ∈ Finset.range 1024, X x2 (i 0).val k * gkr x0 x1 x3 (i 0).val k := by
  rw [val_main_v26_apply, val_main_v25_apply, val_main_cst_4_apply, bits_zero, zero_add, Finset.sum_range]
  refine Finset.sum_congr rfl fun k _ => ?_
  rw [val_main_v24_apply, v23_at]
  have e : (idx_main_v25 (idx_main_v26 i) k 0).val = (i 0).val := by
    show (i 0).val * 1 + (i 1).val = (i 0).val
    have h0 : (i 1).val < 1 := (i 1).isLt
    omega
  show (x2 _ : EReal) * _ = _
  rw [at2_eq (x2 : S8192x1024.Idx → EReal) _ rfl rfl, e]
  try rfl

theorem v31_at (i : S8192x1.Idx) : val_main_v31 (F := Ideal) x0 x1 x2 x3 i = rmsChain (X x2 (i 0).val) (gkr x0 x1 x3 (i 0).val) := by
  rw [val_main_v31_apply, val_main_v29_apply, v26_at, v10_at, val_main_v30_apply, val_main_cst_5_apply]
  try rfl

theorem v33_at (j : S8192x1024.Idx) : val_main_v33 (F := Ideal) x0 x1 x2 x3 j = rmsChain (X x2 (j 0).val) (gkr x0 x1 x3 (j 0).val) := by
  rw [val_main_v33_apply, val_main_v32_apply, val_main_cst_6_apply, bits_zero, zero_add, Fin.sum_univ_one, v31_at]
  try rfl

theorem v38_at (j : S8192x1024.Idx) : val_main_v38 (F := Ideal) x0 x1 x2 x3 x4 j
    = at2 (x4 : S8192x1024.Idx → EReal) (j 0).val (j 1).val + rmsBwd (X x2 (j 0).val) (gkr x0 x1 x3 (j 0).val) (j 1).val := by
  rw [val_main_v38_apply, val_main_v37_apply, val_main_v35_apply, val_main_v36_apply, val_main_v34_apply, val_main_v28_apply, val_main_v27_apply, v23_at, v33_at, v7_at]
  show (x4 _ : EReal) + (_ * _ + x2 _ * _ + _ * x2 _) = _
  rw [at2_eq (x4 : S8192x1024.Idx → EReal) j rfl rfl, at2_eq (x2 : S8192x1024.Idx → EReal) j rfl rfl]
  exact congrArg (_ + ·) (rms_eq (X x2 (j 0).val) (gkr x0 x1 x3 (j 0).val) (j 1).isLt)

theorem v39_at (j : S8192x1024.Idx) : (val_main_v39 (F := Ideal) x0 x1 x2 x3 x4 j : EReal)
    = at2 (x4 : S8192x1024.Idx → EReal) (j 0).val (j 1).val + rmsBwd (X x2 (j 0).val) (gkr x0 x1 x3 (j 0).val) (j 1).val := by
  rw [val_main_v39_apply, v38_at]
  rfl

/-- The scale's gradient lies in the first of eight rows; the others are zero. -/
theorem v40_at (j : S8x1024.Idx) : (val_main_v40 (F := Ideal) x0 x1 x2 j : EReal)
    = if (j 0).val = 0 then ∑ r ∈ Finset.range 8192, dnr x0 x1 r (j 1).val * (X x2 r (j 1).val * rinv (X x2 r)) else 0 := by
  have hz : (val_main_call0_v0 (F := Ideal) (Shape.Idx.first h_S_) : EReal) = 0 := by
    show (((0#32 : BitVec 32).toInt : ℝ) : EReal) = 0
    simp
  unfold val_main_v40
  by_cases h : (j 0).val = 0
  · rw [if_pos h]
    refine (pad_apply_of_inside ![0, 0] ![7, 0] ![0, 0] (val_main_v21 (F := Ideal) x0 x1 x2) (val_main_call0_v0 (F := Ideal)) pads_S1x1024_S8x1024_070_000 h_S_ j
      (ValueIdx.ix2 (0 : Fin 1) (j 1)) fun a => ?_).trans (v21_at x0 x1 x2 _)
    fin_cases a
    · show (j 0).val = 0 + 0 * (0 + 1); omega
    · show (j 1).val = 0 + (j 1).val * (0 + 1); omega
  · rw [if_neg h]
    refine (pad_apply_of_not_inside ![0, 0] ![7, 0] ![0, 0] (val_main_v21 (F := Ideal) x0 x1 x2) (val_main_call0_v0 (F := Ideal)) pads_S1x1024_S8x1024_070_000 h_S_ j 0
      (fun e => h ?_)).trans hz
    have h2 := e.2.2
    have h3 : ((j 0).val - 0) / (0 + 1) < 1 := h2
    omega

end Cert.Reference15Ideal.Mat

end
-- ==== Proof.NormScInValue.lean ====
/- What `norm_mm_sc_in` leaves over the extended reals: the normalised rows, and their product with the columns of the weight. -/
module

public import proofs.«01_k».proof.Proof.NormScIn
public import proofs.«01_k».proof.Proof.Norm
public import Idealize.ShloMosaic.Lib.Pipeline.Value
public import Idealize.ShloMosaic.Lib.Pipeline.ValueKit
public import Idealize.ShloMosaic.Lib.KernelVsHost
public import Idealize.ShloMosaic.Lib.Tactic
public import Idealize.ShloMosaic.Lib.WritesUnit
public import Idealize.ShloMosaic.Lib.Pointwise

@[expose] public section

set_option maxRecDepth 16384

noncomputable section

namespace Cert.Kernel16Ideal.Mat

open Idealize.ShloMosaic Idealize.ShloMosaic.TcCoe Idealize.ShloMosaic.Tactic Idealize.SL.Sem
open Idealize.ShloMosaic.Rounds
open Idealize.ShloMosaic.Pipeline (Dat Cfg Window BodyObligation cellOf)
open Cert.Kernel16Ideal Cert.Kernel16Ideal.Gen Cert.Kernel16Ideal.Held Cert.Nat2

set_option maxHeartbeats 4000000

/-! ## One point's values -/

theorem pay1_apply (x : Vec Ideal S2048x1024 .f32) (g : Vec Ideal S1x1024 .f32) (y : S2048x1024.Idx) :
    k0_pay1 x g y = normRow (at2 x (y 0).val) (at2 g 0) (y 1).val := by
  unfold k0_pay1
  pointwise
  unfold normRow rinv msq
  rw [Finset.sum_range, at2_eq x y rfl rfl]
  refine congrArg₂ (fun s b => at2 x (y 0).val (y 1).val * Ideal.rsqrt (Ideal.div s wid + eps) * b) (Finset.sum_congr rfl fun k _ => ?_) (read_ix g 0 (y 1))
  have e := read_ix x (y 0) k
  exact congrArg₂ (· * ·) e e

theorem pay2_apply (x0 : Vec Ideal S2048x1024 .bf16) (x1 : Vec Ideal S1024x1024 .bf16) (y : S2048x1024.Idx) :
    k0_pay2 x0 x1 y = ∑ k : Fin 1024, at2 x0 (y 0).val k.val * at2 x1 k.val (y 1).val := by
  unfold k0_pay2
  pointwise
  refine Finset.sum_congr rfl fun k _ => ?_
  show x0 (ValueIdx.ix2 (y 0) k) * x1 (ValueIdx.ix2 k (y 1)) = _
  rw [at2_eq x0 (ValueIdx.ix2 (y 0) k) rfl rfl, at2_eq x1 (ValueIdx.ix2 k (y 1)) rfl rfl]
  try rfl

theorem normed_apply (x : Vec Ideal S2048x1024 .f32) (g : Vec Ideal S1x1024 .f32) (y : S2048x1024.Idx) :
    normed x g y = k0_pay1 x g y := by
  unfold normed
  frame_out

theorem times_apply (n : Vec Ideal S2048x1024 .bf16) (b : Vec Ideal S1024x1024 .bf16) (y : S2048x1024.Idx) :
    times n b y = k0_pay2 n b y := by
  unfold times
  frame_out

variable (m : (ℓ : Loc nD τ sig) → Buf (Elt Ideal) ℓ) (c : Dev nD)

/-! ## The blocks are parts of the arguments -/

abbrev argH : S8192x1024.Idx → EReal := m ((c : Thread nD τ).loc main_arg0)
abbrev argG : S1x1024.Idx → EReal := m ((c : Thread nD τ).loc main_arg1)
abbrev argW : S1024x3072.Idx → EReal := m ((c : Thread nD τ).loc main_arg2)

theorem idx0 : ∀ t : Fin cfg0.N, win0_0.index t 0 = t.val / 3 ∧ win0_0.index t 1 = 0 :=
  (by decide +kernel : ∀ t : Fin grid0.N, win0_0.index t 0 = t.val / 3 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = t.val % 3 :=
  (by decide +kernel : ∀ t : Fin grid0.N, win0_2.index t 0 = 0 ∧ win0_2.index t 1 = t.val % 3)
theorem idx3 : ∀ t : Fin cfg0.N, win0_3.index t 0 = t.val / 3 ∧ win0_3.index t 1 = 0 :=
  (by decide +kernel : ∀ t : Fin grid0.N, win0_3.index t 0 = t.val / 3 ∧ win0_3.index t 1 = 0)
theorem idx4 : ∀ t : Fin cfg0.N, win0_4.index t 0 = t.val / 3 ∧ win0_4.index t 1 = t.val % 3 :=
  (by decide +kernel : ∀ t : Fin grid0.N, win0_4.index t 0 = t.val / 3 ∧ win0_4.index t 1 = t.val % 3)

theorem blk0 (t : Fin cfg0.N) (r : ℕ) (hr : r < 2048) :
    at2 (iblk m c 0 t : Vec Ideal S2048x1024 .f32) r = at2 (argH m c) (2048 * (t.val / 3) + r) := by
  have hN : cfg0.N = 12 := N_0
  have ht := t.isLt
  funext l
  by_cases hl : l < 1024
  · conv_lhs => unfold at2
    rw [dif_pos ⟨hr, hl⟩]
    unfold iblk
    rw [View.read_apply]
    show V m c main_arg0 _ = _
    rw [V_main_arg0]
    refine at2_eq (m ((c : Thread nD τ).loc main_arg0) : S8192x1024.Idx → EReal) _ ?_ ?_
    · show win0_0.index t 0 * 2048 + 1 * r = _; rw [(idx0 t).1]; omega
    · show win0_0.index t 1 * 1024 + 1 * l = _; rw [(idx0 t).2]; omega
  · unfold at2
    rw [dif_neg (fun e => hl e.2), dif_neg (fun e => hl e.2)]

theorem blk1 (t : Fin cfg0.N) :
    at2 (iblk m c 1 t : Vec Ideal S1x1024 .f32) 0 = at2 (argG m c) 0 := by
  funext l
  by_cases hl : l < 1024
  · conv_lhs => unfold at2
    rw [dif_pos ⟨Nat.zero_lt_one, hl⟩]
    unfold iblk
    rw [View.read_apply]
    show V m c main_arg1 _ = _
    rw [V_main_arg1]
    refine at2_eq (m ((c : Thread nD τ).loc main_arg1) : S1x1024.Idx → EReal) _ ?_ ?_
    · show win0_1.index t 0 * 1 + 1 * 0 = _; rw [(idx1 t).1]
    · show win0_1.index t 1 * 1024 + 1 * l = _; rw [(idx1 t).2]; omega
  · unfold at2
    rw [dif_neg (fun e => hl e.2), dif_neg (fun e => hl e.2)]

theorem blk2 (t : Fin cfg0.N) (k l : ℕ) (hk : k < 1024) (hl : l < 1024) :
    at2 (iblk m c 2 t : Vec Ideal S1024x1024 .bf16) k l = at2 (argW m c) k (1024 * (t.val % 3) + l) := by
  conv_lhs => unfold at2
  rw [dif_pos ⟨hk, hl⟩]
  unfold iblk
  rw [View.read_apply]
  show V m c main_arg2 _ = _
  rw [V_main_arg2]
  refine at2_eq (m ((c : Thread nD τ).loc main_arg2) : S1024x3072.Idx → EReal) _ ?_ ?_
  · show win0_2.index t 0 * 1024 + 1 * k = _; rw [(idx2 t).1]; omega
  · show win0_2.index t 1 * 1024 + 1 * l = _; rw [(idx2 t).2]; omega

/-! ## The values -/

/-- The first result: the normalised rows. -/
def resN : Buf (Elt Ideal) ((c : Thread nD τ).loc main_v0_0) :=
  fun i : S8192x1024.Idx => normRow (at2 (argH m c) (i 0).val) (at2 (argG m c) 0) (i 1).val

/-- The second: their product with the weight. -/
def resO : Buf (Elt Ideal) ((c : Thread nD τ).loc main_v0_1) :=
  fun i : S8192x3072.Idx => normDot (argH m c) (argG m c) (argW m c) (i 0).val (i 1).val

theorem rows_eq (t : Fin cfg0.N) (y : S2048x1024.Idx) :
    normed (F := Ideal) (iblk m c 0 t) (iblk m c 1 t) y = normRow (at2 (argH m c) (2048 * (t.val / 3) + (y 0).val)) (at2 (argG m c) 0) (y 1).val := by
  rw [normed_apply]
  refine (pay1_apply (iblk m c 0 t) (iblk m c 1 t) y).trans ?_
  rw [blk0 m c t (y 0).val (y 0).isLt, blk1 m c t]

theorem prod_eq (t : Fin cfg0.N) (y : S2048x1024.Idx) :
    times (F := Ideal) (normed (iblk m c 0 t) (iblk m c 1 t)) (iblk m c 2 t) y
      = normDot (argH m c) (argG m c) (argW m c) (2048 * (t.val / 3) + (y 0).val) (1024 * (t.val % 3) + (y 1).val) := by
  rw [times_apply]
  refine (pay2_apply (normed (iblk m c 0 t) (iblk m c 1 t)) (iblk m c 2 t) y).trans ?_
  unfold normDot
  rw [Finset.sum_range]
  refine Finset.sum_congr rfl fun k _ => ?_
  refine congrArg₂ (· * ·) ?_ (blk2 m c t k.val (y 1).val k.isLt (y 1).isLt)
  exact (read_ix (normed (F := Ideal) (iblk m c 0 t) (iblk m c 1 t)) (y 0) k).symm.trans (rows_eq m c t (ValueIdx.ix2 (y 0) k))

theorem flushed_rows (t : Fin cfg0.N) : (dats m 0 c).flushed 3 t = ((cfg0.win 3).blk t).view.read (Elt Ideal) (resN m c) := by
  show (cfg0.win 3).cut (grid0.coords t) ((dats m 0 c).after 3 t) = _
  rw [left3]
  funext j
  rw [View.read_apply]
  show normed (F := Ideal) (iblk m c 0 t) (iblk m c 1 t) (fun a => ⟨(j a).val, (j a).isLt⟩)
    = normRow (at2 (argH m c) (win0_3.index t 0 * 2048 + 1 * (j 0).val)) (at2 (argG m c) 0) (win0_3.index t 1 * 1024 + 1 * (j 1).val)
  rw [rows_eq m c t, (idx3 t).1, (idx3 t).2]
  have er : 2048 * (t.val / 3) + (j 0).val = (t.val / 3) * 2048 + 1 * (j 0).val := by omega
  have ec : (j 1).val = 0 * 1024 + 1 * (j 1).val := by omega
  dsimp only
  rw [er, ← ec]

theorem flushed_prod (t : Fin cfg0.N) : (dats m 0 c).flushed 4 t = ((cfg0.win 4).blk t).view.read (Elt Ideal) (resO m c) := by
  show (cfg0.win 4).cut (grid0.coords t) ((dats m 0 c).after 4 t) = _
  rw [left4]
  funext j
  rw [View.read_apply]
  show times (F := Ideal) (normed (iblk m c 0 t) (iblk m c 1 t)) (iblk m c 2 t) (fun a => ⟨(j a).val, (j a).isLt⟩)
    = normDot (argH m c) (argG m c) (argW m c) (win0_4.index t 0 * 2048 + 1 * (j 0).val) (win0_4.index t 1 * 1024 + 1 * (j 1).val)
  rw [prod_eq m c t, (idx4 t).1, (idx4 t).2]
  have er : 2048 * (t.val / 3) + (j 0).val = (t.val / 3) * 2048 + 1 * (j 0).val := by omega
  have ec : 1024 * (t.val % 3) + (j 1).val = (t.val % 3) * 1024 + 1 * (j 1).val := by omega
  dsimp only
  rw [er, ec]

theorem cover_rows (i : S8192x1024.Idx) : ∃ t : Fin cfg0.N, (cfg0.win 3).flush t = true ∧ i ∈ ((cfg0.win 3).blk t).view.set := by
  have h0 : (i 0 : ℕ) < 8192 := (i 0).isLt
  have h1 : (i 1 : ℕ) < 1024 := (i 1).isLt
  have hN : cfg0.N = 12 := N_0
  let t : Fin cfg0.N := ⟨3 * ((i 0 : ℕ) / 2048) + 2, by omega⟩
  have e : t.val = 3 * ((i 0 : ℕ) / 2048) + 2 := rfl
  refine ⟨t, (flush0_3 t).mpr (by omega), ?_⟩
  show i ∈ ((View.whole main_v0_0).slice (win0_3.rect t)).set
  rw [View.set_slice_whole, Rect.mem_set_unit]
  intro a
  match a with
  | ⟨0, _⟩ =>
    show win0_3.index t 0 * 2048 ≤ (i 0 : ℕ) ∧ (i 0 : ℕ) < win0_3.index t 0 * 2048 + 2048
    rw [(idx3 t).1]; omega
  | ⟨1, _⟩ =>
    show win0_3.index t 1 * 1024 ≤ (i 1 : ℕ) ∧ (i 1 : ℕ) < win0_3.index t 1 * 1024 + 1024
    rw [(idx3 t).2]; omega

theorem cover_prod (i : S8192x3072.Idx) : ∃ t : Fin cfg0.N, (cfg0.win 4).flush t = true ∧ i ∈ ((cfg0.win 4).blk t).view.set := by
  have h0 : (i 0 : ℕ) < 8192 := (i 0).isLt
  have h1 : (i 1 : ℕ) < 3072 := (i 1).isLt
  have hN : cfg0.N = 12 := N_0
  let t : Fin cfg0.N := ⟨3 * ((i 0 : ℕ) / 2048) + (i 1 : ℕ) / 1024, by omega⟩
  have e : t.val = 3 * ((i 0 : ℕ) / 2048) + (i 1 : ℕ) / 1024 := rfl
  refine ⟨t, flush0_4 t, ?_⟩
  show i ∈ ((View.whole main_v0_1).slice (win0_4.rect t)).set
  rw [View.set_slice_whole, Rect.mem_set_unit]
  intro a
  match a with
  | ⟨0, _⟩ =>
    show win0_4.index t 0 * 2048 ≤ (i 0 : ℕ) ∧ (i 0 : ℕ) < win0_4.index t 0 * 2048 + 2048
    rw [(idx4 t).1]; omega
  | ⟨1, _⟩ =>
    show win0_4.index t 1 * 1024 ≤ (i 1 : ℕ) ∧ (i 1 : ℕ) < win0_4.index t 1 * 1024 + 1024
    rw [(idx4 t).2]; omega

theorem final_rows : (dats m 0 c).arrAt 3 cfg0.N = resN m c :=
  (dats m 0 c).arrAt_eq_of_cover 3 (resN m c) (fun t _ => flushed_rows m c t) cover_rows
theorem final_prod : (dats m 0 c).arrAt 4 cfg0.N = resO m c :=
  (dats m 0 c).arrAt_eq_of_cover 4 (resO m c) (fun t _ => flushed_prod m c t) cover_prod

/-- Every run ends with the two results in their arrays, and with the arguments as they were. -/
theorem run_res (ρ : Dev nD → PrngReg) :
    θ_run defs (onTc (τ := τ) (main (F := Ideal))) ⟨m, fun _ => 0, ρ⟩ fun r => ∀ c : Dev nD,
      r.2.mem ((c : Thread nD τ).loc main_v0_0) = resN m c
      ∧ r.2.mem ((c : Thread nD τ).loc main_v0_1) = resO m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (ends_arrays m ρ)
  have hin : ∀ w : Fin 5, (cfg0.win w).isOut = false → _ := fun w hw => ((h c).1 w).trans (((dats m 0 c).arrAt_in w hw _).trans (arrays_eq m c w))
  exact ⟨((h c).1 3).trans (final_rows m c), ((h c).1 4).trans (final_prod m c),
    (hin 0 rfl).trans (V_main_arg0 m c), (hin 1 rfl).trans (V_main_arg1 m c), (hin 2 rfl).trans (V_main_arg2 m c)⟩

end Cert.Kernel16Ideal.Mat

end
-- ==== Proof.NnRes.lean ====
module

public import proofs.«01_k».proof.Defs
public import proofs.«01_k».proof.Proof.Gen.Kernel17Ideal.Value
public import proofs.«01_k».proof.Proof.Nat3
public import Idealize.ShloMosaic.Lib.Pipeline.Value
public import Idealize.ShloMosaic.Lib.Pipeline.ValueKit
public import Idealize.ShloMosaic.Lib.KernelVsHost
public import Idealize.ShloMosaic.Lib.Tactic
public import Idealize.ShloMosaic.Lib.Pointwise

@[expose] public section

set_option maxRecDepth 16384

noncomputable section

open Idealize.ShloMosaic Idealize.ShloMosaic.TcCoe Idealize.SL.Sem

/-! A product added to the residual stream: what the blocks hold, and the array the run ends with. -/

namespace Cert.Kernel17Ideal.Mat

open Cert.Kernel17Ideal Cert.Kernel17Ideal.Gen Cert.Nat2

set_option maxHeartbeats 4000000

variable (m : (ℓ : Loc nD τ sig) → Buf (Elt Ideal) ℓ) (c : Dev nD)

theorem pay1_apply (x0 : Vec Ideal S1024x1024 .bf16) (x1 : Vec Ideal S1024x1024 .bf16) (x2 : Vec Ideal S1024x1024 .f32) (y : S1024x1024.Idx) :
    k0_pay1 x0 x1 x2 y = (∑ k : Fin 1024, at2 x0 (y 0).val k.val * at2 x1 k.val (y 1).val) + x2 y := by
  unfold k0_pay1
  pointwise
  refine congrArg (· + x2 y) (Finset.sum_congr rfl fun k _ => ?_)
  show x0 (ValueIdx.ix2 (y 0) k) * x1 (ValueIdx.ix2 k (y 1)) = _
  rw [at2_eq x0 (ValueIdx.ix2 (y 0) k) rfl rfl, at2_eq x1 (ValueIdx.ix2 k (y 1)) rfl rfl]
  try rfl

theorem out_A (t : Fin cfg0.N) (y : S1024x1024.Idx) :
    out0_3 (iblk m c 0 t : Vec Ideal S1024x1024 .bf16) (iblk m c 1 t : Vec Ideal S1024x1024 .bf16) (iblk m c 2 t : Vec Ideal S1024x1024 .f32) y = k0_pay1 (F := Ideal) (iblk m c 0 t) (iblk m c 1 t) (iblk m c 2 t) y := by
  unfold out0_3
  frame_out

/-! ## The blocks are parts of the arguments -/

abbrev argA : S8192x1024.Idx → EReal := m ((c : Thread nD τ).loc main_arg0)
abbrev argB : S1024x1024.Idx → EReal := m ((c : Thread nD τ).loc main_arg1)
abbrev argR : S8192x1024.Idx → EReal := m ((c : Thread nD τ).loc main_arg2)

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)

theorem blk0 (t : Fin cfg0.N) (r l : ℕ) (hr : r < 1024) (hl : l < 1024) :
    at2 (iblk m c 0 t : Vec Ideal S1024x1024 .bf16) r l = at2 (argA m c) (1024 * (t.val) + r) (1024 * (0) + l) := by
  conv_lhs => unfold at2
  rw [dif_pos ⟨hr, hl⟩]
  unfold iblk
  rw [View.read_apply]
  show V m c main_arg0 _ = _
  rw [V_main_arg0]
  refine at2_eq (m ((c : Thread nD τ).loc main_arg0) : S8192x1024.Idx → EReal) _ ?_ ?_
  · show win0_0.index t 0 * 1024 + 1 * r = _; rw [(idx0 t).1]; omega
  · show win0_0.index t 1 * 1024 + 1 * l = _; rw [(idx0 t).2]; omega

theorem blk1 (t : Fin cfg0.N) (r l : ℕ) (hr : r < 1024) (hl : l < 1024) :
    at2 (iblk m c 1 t : Vec Ideal S1024x1024 .bf16) r l = at2 (argB m c) (1024 * (0) + r) (1024 * (0) + l) := by
  conv_lhs => unfold at2
  rw [dif_pos ⟨hr, hl⟩]
  unfold iblk
  rw [View.read_apply]
  show V m c main_arg1 _ = _
  rw [V_main_arg1]
  refine at2_eq (m ((c : Thread nD τ).loc main_arg1) : S1024x1024.Idx → EReal) _ ?_ ?_
  · show win0_1.index t 0 * 1024 + 1 * r = _; rw [(idx1 t).1]; omega
  · show win0_1.index t 1 * 1024 + 1 * l = _; rw [(idx1 t).2]; omega

theorem blk2 (t : Fin cfg0.N) (r l : ℕ) (hr : r < 1024) (hl : l < 1024) :
    at2 (iblk m c 2 t : Vec Ideal S1024x1024 .f32) r l = at2 (argR m c) (1024 * (t.val) + r) (1024 * (0) + l) := by
  conv_lhs => unfold at2
  rw [dif_pos ⟨hr, hl⟩]
  unfold iblk
  rw [View.read_apply]
  show V m c main_arg2 _ = _
  rw [V_main_arg2]
  refine at2_eq (m ((c : Thread nD τ).loc main_arg2) : S8192x1024.Idx → EReal) _ ?_ ?_
  · show win0_2.index t 0 * 1024 + 1 * r = _; rw [(idx2 t).1]; omega
  · show win0_2.index t 1 * 1024 + 1 * l = _; rw [(idx2 t).2]; omega

/-- The result. -/
def res : Buf (Elt Ideal) ((c : Thread nD τ).loc main_v0) :=
  fun i : S8192x1024.Idx => rowCol id (argA m c) (argB m c) 1024 ((i 0).val) ((i 1).val) + at2 (argR m c) ((i 0).val) ((i 1).val)

theorem out_eq (t : Fin cfg0.N) (y : S1024x1024.Idx) :
    out0_3 (iblk m c 0 t : Vec Ideal S1024x1024 .bf16) (iblk m c 1 t : Vec Ideal S1024x1024 .bf16) (iblk m c 2 t : Vec Ideal S1024x1024 .f32) y = rowCol id (argA m c) (argB m c) 1024 (1024 * (t.val) + (y 0).val) (1024 * (0) + (y 1).val) + at2 (argR m c) (1024 * (t.val) + (y 0).val) (1024 * (0) + (y 1).val) := by
  rw [out_A]
  refine (pay1_apply (iblk m c 0 t) (iblk m c 1 t) (iblk m c 2 t) y).trans ?_
  refine congrArg₂ (· + ·) ?_ ((at2_eq (iblk m c 2 t : Vec Ideal S1024x1024 .f32) y rfl rfl).trans (blk2 m c t (y 0).val (y 1).val (y 0).isLt (y 1).isLt))
  unfold rowCol
  rw [Finset.sum_range]
  refine Finset.sum_congr rfl fun k _ => ?_
  have e0 := blk0 m c t (y 0).val k.val (y 0).isLt k.isLt
  have e1 := blk1 m c t k.val (y 1).val k.isLt (y 1).isLt
  rw [e0, e1]
  simp only [Nat.mul_zero, Nat.zero_add, id]

theorem flushed_res (t : Fin cfg0.N) :
    (dats m 0 c).flushed 3 t = ((cfg0.win 3).blk t).view.read (Elt Ideal) (res m c) := by
  rw [Cert.Kernel17Ideal.Value.flushed3]
  funext j
  rw [View.read_apply]
  show out0_3 (iblk m c 0 t : Vec Ideal S1024x1024 .bf16) (iblk m c 1 t : Vec Ideal S1024x1024 .bf16) (iblk m c 2 t : Vec Ideal S1024x1024 .f32) (fun a => ⟨(j a).val, (j a).isLt⟩) = rowCol id (argA m c) (argB m c) 1024 (win0_3.index t 0 * 1024 + 1 * (j 0).val) (win0_3.index t 1 * 1024 + 1 * (j 1).val) + at2 (argR m c) (win0_3.index t 0 * 1024 + 1 * (j 0).val) (win0_3.index t 1 * 1024 + 1 * (j 1).val)
  rw [out_eq m c t, (idx3 t).1, (idx3 t).2]
  have er : 1024 * (t.val) + (j 0).val = (t.val) * 1024 + 1 * (j 0).val := by omega
  have ec : 1024 * (0) + (j 1).val = (0) * 1024 + 1 * (j 1).val := by omega
  dsimp only
  rw [er, ec]

theorem cover (i : S8192x1024.Idx) :
    ∃ t : Fin cfg0.N, (cfg0.win 3).flush t = true ∧ i ∈ ((cfg0.win 3).blk t).view.set := by
  have h0 : (i 0 : ℕ) < 8192 := (i 0).isLt
  have h1 : (i 1 : ℕ) < 1024 := (i 1).isLt
  have hN : cfg0.N = 8 := N_0
  let t : Fin cfg0.N := ⟨1 * ((i 0 : ℕ) / 1024) + (i 1 : ℕ) / 1024, by omega⟩
  refine ⟨t, flush0_3 t, ?_⟩
  show i ∈ ((View.whole main_v0).slice (win0_3.rect t)).set
  rw [View.set_slice_whole, Rect.mem_set_unit]
  have e : t.val = 1 * ((i 0 : ℕ) / 1024) + (i 1 : ℕ) / 1024 := rfl
  intro a
  match a with
  | ⟨0, _⟩ =>
    show win0_3.index t 0 * 1024 ≤ (i 0 : ℕ) ∧ (i 0 : ℕ) < win0_3.index t 0 * 1024 + 1024
    rw [(idx3 t).1]; omega
  | ⟨1, _⟩ =>
    show win0_3.index t 1 * 1024 ≤ (i 1 : ℕ) ∧ (i 1 : ℕ) < win0_3.index t 1 * 1024 + 1024
    rw [(idx3 t).2]; omega

theorem final : (dats m 0 c).arrAt 3 cfg0.N = res m c :=
  (dats m 0 c).arrAt_eq_of_cover 3 (res m c) (fun t _ => flushed_res m c t) cover

end Cert.Kernel17Ideal.Mat

end
-- ==== Proof.NnConv.lean ====
module

public import proofs.«01_k».proof.Defs
public import proofs.«01_k».proof.Proof.Gen.Kernel18Ideal.Value
public import proofs.«01_k».proof.Proof.Nat3
public import Idealize.ShloMosaic.Lib.Pipeline.Value
public import Idealize.ShloMosaic.Lib.Pipeline.ValueKit
public import Idealize.ShloMosaic.Lib.KernelVsHost
public import Idealize.ShloMosaic.Lib.Tactic
public import Idealize.ShloMosaic.Lib.Pointwise

@[expose] public section

set_option maxRecDepth 16384

noncomputable section

open Idealize.ShloMosaic Idealize.ShloMosaic.TcCoe Idealize.SL.Sem

/-! The product into the long convolution: what the blocks hold, and the array the run ends with. -/

namespace Cert.Kernel18Ideal.Mat

open Cert.Kernel18Ideal Cert.Kernel18Ideal.Gen Cert.Nat2

set_option maxHeartbeats 4000000

variable (m : (ℓ : Loc nD τ sig) → Buf (Elt Ideal) ℓ) (c : Dev nD)

theorem pay1_apply (x0 : Vec Ideal S1024x1024 .bf16) (x1 : Vec Ideal S1024x1024 .bf16) (y : S1024x1024.Idx) :
    k0_pay1 x0 x1 y = ∑ k : Fin 1024, at2 x0 (y 0).val k.val * at2 x1 k.val (y 1).val := by
  unfold k0_pay1
  pointwise
  refine Finset.sum_congr rfl fun k _ => ?_
  show x0 (ValueIdx.ix2 (y 0) k) * x1 (ValueIdx.ix2 k (y 1)) = _
  rw [at2_eq x0 (ValueIdx.ix2 (y 0) k) rfl rfl, at2_eq x1 (ValueIdx.ix2 k (y 1)) rfl rfl]
  try rfl

theorem out_A (t : Fin cfg0.N) (y : S1024x1024.Idx) :
    out0_2 (iblk m c 0 t : Vec Ideal S1024x1024 .bf16) (iblk m c 1 t : Vec Ideal S1024x1024 .bf16) y = k0_pay1 (F := Ideal) (iblk m c 0 t) (iblk m c 1 t) y := by
  unfold out0_2
  frame_out

/-! ## The blocks are parts of the arguments -/

abbrev argA : S8192x1024.Idx → EReal := m ((c : Thread nD τ).loc main_arg0)
abbrev argB : S1024x1024.Idx → EReal := m ((c : Thread nD τ).loc main_arg1)

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)

theorem blk0 (t : Fin cfg0.N) (r l : ℕ) (hr : r < 1024) (hl : l < 1024) :
    at2 (iblk m c 0 t : Vec Ideal S1024x1024 .bf16) r l = at2 (argA m c) (1024 * (t.val) + r) (1024 * (0) + l) := by
  conv_lhs => unfold at2
  rw [dif_pos ⟨hr, hl⟩]
  unfold iblk
  rw [View.read_apply]
  show V m c main_arg0 _ = _
  rw [V_main_arg0]
  refine at2_eq (m ((c : Thread nD τ).loc main_arg0) : S8192x1024.Idx → EReal) _ ?_ ?_
  · show win0_0.index t 0 * 1024 + 1 * r = _; rw [(idx0 t).1]; omega
  · show win0_0.index t 1 * 1024 + 1 * l = _; rw [(idx0 t).2]; omega

theorem blk1 (t : Fin cfg0.N) (r l : ℕ) (hr : r < 1024) (hl : l < 1024) :
    at2 (iblk m c 1 t : Vec Ideal S1024x1024 .bf16) r l = at2 (argB m c) (1024 * (0) + r) (1024 * (0) + l) := by
  conv_lhs => unfold at2
  rw [dif_pos ⟨hr, hl⟩]
  unfold iblk
  rw [View.read_apply]
  show V m c main_arg1 _ = _
  rw [V_main_arg1]
  refine at2_eq (m ((c : Thread nD τ).loc main_arg1) : S1024x1024.Idx → EReal) _ ?_ ?_
  · show win0_1.index t 0 * 1024 + 1 * r = _; rw [(idx1 t).1]; omega
  · show win0_1.index t 1 * 1024 + 1 * l = _; rw [(idx1 t).2]; omega

/-- The result. -/
def res : Buf (Elt Ideal) ((c : Thread nD τ).loc main_v0) :=
  fun i : S8192x1024.Idx => rowCol id (argA m c) (argB m c) 1024 ((i 0).val) ((i 1).val)

theorem out_eq (t : Fin cfg0.N) (y : S1024x1024.Idx) :
    out0_2 (iblk m c 0 t : Vec Ideal S1024x1024 .bf16) (iblk m c 1 t : Vec Ideal S1024x1024 .bf16) y = rowCol id (argA m c) (argB m c) 1024 (1024 * (t.val) + (y 0).val) (1024 * (0) + (y 1).val) := by
  rw [out_A]
  refine (pay1_apply (iblk m c 0 t) (iblk m c 1 t) y).trans ?_
  unfold rowCol
  rw [Finset.sum_range]
  refine Finset.sum_congr rfl fun k _ => ?_
  have e0 := blk0 m c t (y 0).val k.val (y 0).isLt k.isLt
  have e1 := blk1 m c t k.val (y 1).val k.isLt (y 1).isLt
  rw [e0, e1]
  simp only [Nat.mul_zero, Nat.zero_add, id]

theorem flushed_res (t : Fin cfg0.N) :
    (dats m 0 c).flushed 2 t = ((cfg0.win 2).blk t).view.read (Elt Ideal) (res m c) := by
  rw [Cert.Kernel18Ideal.Value.flushed2]
  funext j
  rw [View.read_apply]
  show out0_2 (iblk m c 0 t : Vec Ideal S1024x1024 .bf16) (iblk m c 1 t : Vec Ideal S1024x1024 .bf16) (fun a => ⟨(j a).val, (j a).isLt⟩) = rowCol id (argA m c) (argB m c) 1024 (win0_2.index t 0 * 1024 + 1 * (j 0).val) (win0_2.index t 1 * 1024 + 1 * (j 1).val)
  rw [out_eq m c t, (idx2 t).1, (idx2 t).2]
  have er : 1024 * (t.val) + (j 0).val = (t.val) * 1024 + 1 * (j 0).val := by omega
  have ec : 1024 * (0) + (j 1).val = (0) * 1024 + 1 * (j 1).val := by omega
  dsimp only
  rw [er, ec]

theorem cover (i : S8192x1024.Idx) :
    ∃ t : Fin cfg0.N, (cfg0.win 2).flush t = true ∧ i ∈ ((cfg0.win 2).blk t).view.set := by
  have h0 : (i 0 : ℕ) < 8192 := (i 0).isLt
  have h1 : (i 1 : ℕ) < 1024 := (i 1).isLt
  have hN : cfg0.N = 8 := N_0
  let t : Fin cfg0.N := ⟨1 * ((i 0 : ℕ) / 1024) + (i 1 : ℕ) / 1024, by omega⟩
  refine ⟨t, flush0_2 t, ?_⟩
  show i ∈ ((View.whole main_v0).slice (win0_2.rect t)).set
  rw [View.set_slice_whole, Rect.mem_set_unit]
  have e : t.val = 1 * ((i 0 : ℕ) / 1024) + (i 1 : ℕ) / 1024 := rfl
  intro a
  match a with
  | ⟨0, _⟩ =>
    show win0_2.index t 0 * 1024 ≤ (i 0 : ℕ) ∧ (i 0 : ℕ) < win0_2.index t 0 * 1024 + 1024
    rw [(idx2 t).1]; omega
  | ⟨1, _⟩ =>
    show win0_2.index t 1 * 1024 ≤ (i 1 : ℕ) ∧ (i 1 : ℕ) < win0_2.index t 1 * 1024 + 1024
    rw [(idx2 t).2]; omega

theorem final : (dats m 0 c).arrAt 2 cfg0.N = res m c :=
  (dats m 0 c).arrAt_eq_of_cover 2 (res m c) (fun t _ => flushed_res m c t) cover

end Cert.Kernel18Ideal.Mat

end
-- ==== Proof.NnQkv.lean ====
module

public import proofs.«01_k».proof.Defs
public import proofs.«01_k».proof.Proof.Gen.Kernel19Ideal.Value
public import proofs.«01_k».proof.Proof.Nat3
public import Idealize.ShloMosaic.Lib.Pipeline.Value
public import Idealize.ShloMosaic.Lib.Pipeline.ValueKit
public import Idealize.ShloMosaic.Lib.KernelVsHost
public import Idealize.ShloMosaic.Lib.Tactic
public import Idealize.ShloMosaic.Lib.Pointwise

@[expose] public section

set_option maxRecDepth 16384

noncomputable section

open Idealize.ShloMosaic Idealize.ShloMosaic.TcCoe Idealize.SL.Sem

/-! The product into the first attention group: what the blocks hold, and the array the run ends with. -/

namespace Cert.Kernel19Ideal.Mat

open Cert.Kernel19Ideal Cert.Kernel19Ideal.Gen Cert.Nat2

set_option maxHeartbeats 4000000

variable (m : (ℓ : Loc nD τ sig) → Buf (Elt Ideal) ℓ) (c : Dev nD)

theorem pay1_apply (x0 : Vec Ideal S2048x1024 .bf16) (x1 : Vec Ideal S1024x512 .bf16) (y : S2048x512.Idx) :
    k0_pay1 x0 x1 y = ∑ k : Fin 1024, at2 x0 (y 0).val k.val * at2 x1 k.val (y 1).val := by
  unfold k0_pay1
  pointwise
  refine Finset.sum_congr rfl fun k _ => ?_
  show x0 (ValueIdx.ix2 (y 0) k) * x1 (ValueIdx.ix2 k (y 1)) = _
  rw [at2_eq x0 (ValueIdx.ix2 (y 0) k) rfl rfl, at2_eq x1 (ValueIdx.ix2 k (y 1)) rfl rfl]
  try rfl

theorem out_A (t : Fin cfg0.N) (y : S2048x512.Idx) :
    out0_2 (iblk m c 0 t : Vec Ideal S2048x1024 .bf16) (iblk m c 1 t : Vec Ideal S1024x512 .bf16) y = k0_pay1 (F := Ideal) (iblk m c 0 t) (iblk m c 1 t) y := by
  unfold out0_2
  frame_out

/-! ## The blocks are parts of the arguments -/

abbrev argA : S8192x1024.Idx → EReal := m ((c : Thread nD τ).loc main_arg0)
abbrev argB : S1024x1536.Idx → EReal := m ((c : Thread nD τ).loc main_arg1)

theorem idx0 : ∀ t : Fin cfg0.N, win0_0.index t 0 = t.val / 3 ∧ win0_0.index t 1 = 0 :=
  (by decide +kernel : ∀ t : Fin grid0.N, win0_0.index t 0 = t.val / 3 ∧ win0_0.index t 1 = 0)
theorem idx1 : ∀ t : Fin cfg0.N, win0_1.index t 0 = 0 ∧ win0_1.index t 1 = t.val % 3 :=
  (by decide +kernel : ∀ t : Fin grid0.N, win0_1.index t 0 = 0 ∧ win0_1.index t 1 = t.val % 3)
theorem idx2 : ∀ t : Fin cfg0.N, win0_2.index t 0 = t.val / 3 ∧ win0_2.index t 1 = t.val % 3 :=
  (by decide +kernel : ∀ t : Fin grid0.N, win0_2.index t 0 = t.val / 3 ∧ win0_2.index t 1 = t.val % 3)

theorem blk0 (t : Fin cfg0.N) (r l : ℕ) (hr : r < 2048) (hl : l < 1024) :
    at2 (iblk m c 0 t : Vec Ideal S2048x1024 .bf16) r l = at2 (argA m c) (2048 * (t.val / 3) + r) (1024 * (0) + l) := by
  conv_lhs => unfold at2
  rw [dif_pos ⟨hr, hl⟩]
  unfold iblk
  rw [View.read_apply]
  show V m c main_arg0 _ = _
  rw [V_main_arg0]
  refine at2_eq (m ((c : Thread nD τ).loc main_arg0) : S8192x1024.Idx → EReal) _ ?_ ?_
  · show win0_0.index t 0 * 2048 + 1 * r = _; rw [(idx0 t).1]; omega
  · show win0_0.index t 1 * 1024 + 1 * l = _; rw [(idx0 t).2]; omega

theorem blk1 (t : Fin cfg0.N) (r l : ℕ) (hr : r < 1024) (hl : l < 512) :
    at2 (iblk m c 1 t : Vec Ideal S1024x512 .bf16) r l = at2 (argB m c) (1024 * (0) + r) (512 * (t.val % 3) + l) := by
  conv_lhs => unfold at2
  rw [dif_pos ⟨hr, hl⟩]
  unfold iblk
  rw [View.read_apply]
  show V m c main_arg1 _ = _
  rw [V_main_arg1]
  refine at2_eq (m ((c : Thread nD τ).loc main_arg1) : S1024x1536.Idx → EReal) _ ?_ ?_
  · show win0_1.index t 0 * 1024 + 1 * r = _; rw [(idx1 t).1]; omega
  · show win0_1.index t 1 * 512 + 1 * l = _; rw [(idx1 t).2]; omega

/-- The result. -/
def res : Buf (Elt Ideal) ((c : Thread nD τ).loc main_v0) :=
  fun i : S8192x1536.Idx => rowCol id (argA m c) (argB m c) 1024 ((i 0).val) ((i 1).val)

theorem out_eq (t : Fin cfg0.N) (y : S2048x512.Idx) :
    out0_2 (iblk m c 0 t : Vec Ideal S2048x1024 .bf16) (iblk m c 1 t : Vec Ideal S1024x512 .bf16) y = rowCol id (argA m c) (argB m c) 1024 (2048 * (t.val / 3) + (y 0).val) (512 * (t.val % 3) + (y 1).val) := by
  rw [out_A]
  refine (pay1_apply (iblk m c 0 t) (iblk m c 1 t) y).trans ?_
  unfold rowCol
  rw [Finset.sum_range]
  refine Finset.sum_congr rfl fun k _ => ?_
  have e0 := blk0 m c t (y 0).val k.val (y 0).isLt k.isLt
  have e1 := blk1 m c t k.val (y 1).val k.isLt (y 1).isLt
  rw [e0, e1]
  simp only [Nat.mul_zero, Nat.zero_add, id]

theorem flushed_res (t : Fin cfg0.N) :
    (dats m 0 c).flushed 2 t = ((cfg0.win 2).blk t).view.read (Elt Ideal) (res m c) := by
  rw [Cert.Kernel19Ideal.Value.flushed2]
  funext j
  rw [View.read_apply]
  show out0_2 (iblk m c 0 t : Vec Ideal S2048x1024 .bf16) (iblk m c 1 t : Vec Ideal S1024x512 .bf16) (fun a => ⟨(j a).val, (j a).isLt⟩) = rowCol id (argA m c) (argB m c) 1024 (win0_2.index t 0 * 2048 + 1 * (j 0).val) (win0_2.index t 1 * 512 + 1 * (j 1).val)
  rw [out_eq m c t, (idx2 t).1, (idx2 t).2]
  have er : 2048 * (t.val / 3) + (j 0).val = (t.val / 3) * 2048 + 1 * (j 0).val := by omega
  have ec : 512 * (t.val % 3) + (j 1).val = (t.val % 3) * 512 + 1 * (j 1).val := by omega
  dsimp only
  rw [er, ec]

theorem cover (i : S8192x1536.Idx) :
    ∃ t : Fin cfg0.N, (cfg0.win 2).flush t = true ∧ i ∈ ((cfg0.win 2).blk t).view.set := by
  have h0 : (i 0 : ℕ) < 8192 := (i 0).isLt
  have h1 : (i 1 : ℕ) < 1536 := (i 1).isLt
  have hN : cfg0.N = 12 := N_0
  let t : Fin cfg0.N := ⟨3 * ((i 0 : ℕ) / 2048) + (i 1 : ℕ) / 512, by omega⟩
  refine ⟨t, flush0_2 t, ?_⟩
  show i ∈ ((View.whole main_v0).slice (win0_2.rect t)).set
  rw [View.set_slice_whole, Rect.mem_set_unit]
  have e : t.val = 3 * ((i 0 : ℕ) / 2048) + (i 1 : ℕ) / 512 := rfl
  intro a
  match a with
  | ⟨0, _⟩ =>
    show win0_2.index t 0 * 2048 ≤ (i 0 : ℕ) ∧ (i 0 : ℕ) < win0_2.index t 0 * 2048 + 2048
    rw [(idx2 t).1]; omega
  | ⟨1, _⟩ =>
    show win0_2.index t 1 * 512 ≤ (i 1 : ℕ) ∧ (i 1 : ℕ) < win0_2.index t 1 * 512 + 512
    rw [(idx2 t).2]; omega

theorem final : (dats m 0 c).arrAt 2 cfg0.N = res m c :=
  (dats m 0 c).arrAt_eq_of_cover 2 (res m c) (fun t _ => flushed_res m c t) cover

end Cert.Kernel19Ideal.Mat

end
-- ==== Proof.NtPair.lean ====
module

public import proofs.«01_k».proof.Defs
public import proofs.«01_k».proof.Proof.Gen.Kernel20Ideal.Frame
public import proofs.«01_k».proof.Proof.Nat3
public import Idealize.ShloMosaic.Lib.Pipeline.Value
public import Idealize.ShloMosaic.Lib.Pipeline.ValueKit
public import Idealize.ShloMosaic.Lib.KernelVsHost
public import Idealize.ShloMosaic.Lib.Tactic
public import Idealize.ShloMosaic.Lib.Pointwise

@[expose] public section

set_option maxRecDepth 16384

noncomputable section

open Idealize.ShloMosaic Idealize.ShloMosaic.TcCoe Idealize.SL.Sem

/-! The gradient of the attention block's normalised input from two pairs of operands: what the blocks hold, and the array the run ends with. -/

namespace Cert.Kernel20Ideal.Mat

open Cert.Kernel20Ideal Cert.Kernel20Ideal.Gen Cert.Nat2

set_option maxHeartbeats 4000000

variable (m : (ℓ : Loc nD τ sig) → Buf (Elt Ideal) ℓ) (c : Dev nD)

theorem pay1_apply (y : S2048x1024.Idx) : k0_pay1 (F := Ideal) y = 0 := by
  unfold k0_pay1
  pointwise

theorem pay2_apply (v : Vec Ideal S2048x1024 .f32) (x0 : Vec Ideal S2048x1024 .bf16) (x1 : Vec Ideal S1024x1024 .bf16) (y : S2048x1024.Idx) :
    k0_pay2 v x0 x1 y = v y + ∑ k : Fin 1024, at2 x0 (y 0).val k.val * at2 x1 (y 1).val k.val := by
  unfold k0_pay2
  pointwise
  refine congrArg (v y + ·) (Finset.sum_congr rfl fun k _ => ?_)
  show x0 (ValueIdx.ix2 (y 0) k) * x1 (ValueIdx.ix2 (y 1) k) = _
  rw [at2_eq x0 (ValueIdx.ix2 (y 0) k) rfl rfl, at2_eq x1 (ValueIdx.ix2 (y 1) k) rfl rfl]
  try rfl

theorem pay3_apply (v : Vec Ideal S2048x1024 .f32) (x0 : Vec Ideal S2048x768 .bf16) (x1 : Vec Ideal S1024x768 .bf16) (y : S2048x1024.Idx) :
    k0_pay3 v x0 x1 y = v y + ∑ k : Fin 768, at2 x0 (y 0).val k.val * at2 x1 (y 1).val k.val := by
  unfold k0_pay3
  pointwise
  refine congrArg (v y + ·) (Finset.sum_congr rfl fun k _ => ?_)
  show x0 (ValueIdx.ix2 (y 0) k) * x1 (ValueIdx.ix2 (y 1) k) = _
  rw [at2_eq x0 (ValueIdx.ix2 (y 0) k) rfl rfl, at2_eq x1 (ValueIdx.ix2 (y 1) k) rfl rfl]
  try rfl

/-- The first point of three leaves the first pair's product in the scratch. -/
theorem scr_A (t : Fin cfg0.N) (h0 : t.val % 3 = 0) (y : S2048x1024.Idx) :
    (outsAt0 m c t.val t.isLt).2 y = k0_pay2 (F := Ideal) (k0_pay1 (F := Ideal)) (iblk m c 0 t) (iblk m c 1 t) y := by
  rw [outsAt0_A m c t h0 h0 (by omega) (by omega)]; dsimp only
  frame_out

/-- The second point adds the first half of the second pair's product. -/
theorem scr_B (t : Fin cfg0.N) (h0 : t.val % 3 = 1) (y : S2048x1024.Idx) :
    (outsAt0 m c t.val t.isLt).2 y = k0_pay3 (F := Ideal) (outsAt0 m c (t.val - 1) (Nat.lt_of_le_of_lt (Nat.sub_le _ _) t.isLt)).2 (iblk m c 2 t) (iblk m c 3 t) y := by
  rw [outsAt0_B m c t (by omega) (by omega) (by omega) (by omega)]; dsimp only
  frame_out
  rw [pay3_apply, pay3_apply]
  refine congrArg (· + _) ?_
  exact congrFun (Memref.IsWhole.read_unread (m := Memref.whole cc0_scratch0) _ _) y

/-- The last point adds the second half, and leaves the sum in the output block. -/
theorem out_C (t : Fin cfg0.N) (h0 : t.val % 3 = 2) (y : S2048x1024.Idx) :
    (outsAt0 m c t.val t.isLt).1 y = k0_pay3 (F := Ideal) (outsAt0 m c (t.val - 1) (Nat.lt_of_le_of_lt (Nat.sub_le _ _) t.isLt)).2 (iblk m c 2 t) (iblk m c 3 t) y := by
  rw [outsAt0_C m c t (by omega) (by omega) (by omega) (by omega)]; dsimp only
  frame_out
  rw [pay3_apply, pay3_apply]
  refine congrArg (· + _) ?_
  exact congrFun (Memref.IsWhole.read_unread (m := Memref.whole cc0_scratch0) _ _) y

/-! ## The blocks are parts of the arguments -/

abbrev argA : S8192x1024.Idx → EReal := m ((c : Thread nD τ).loc main_arg0)
abbrev argB : S1024x1024.Idx → EReal := m ((c : Thread nD τ).loc main_arg1)
abbrev argC : S8192x1536.Idx → EReal := m ((c : Thread nD τ).loc main_arg2)
abbrev argD : S1024x1536.Idx → EReal := m ((c : Thread nD τ).loc main_arg3)

theorem idx0 : ∀ t : Fin cfg0.N, win0_0.index t 0 = t.val / 3 ∧ win0_0.index t 1 = 0 :=
  (by decide +kernel : ∀ t : Fin grid0.N, win0_0.index t 0 = t.val / 3 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val / 3 ∧ win0_2.index t 1 = t.val % 3 - 1 :=
  (by decide +kernel : ∀ t : Fin grid0.N, win0_2.index t 0 = t.val / 3 ∧ win0_2.index t 1 = t.val % 3 - 1)
theorem idx3 : ∀ t : Fin cfg0.N, win0_3.index t 0 = 0 ∧ win0_3.index t 1 = t.val % 3 - 1 :=
  (by decide +kernel : ∀ t : Fin grid0.N, win0_3.index t 0 = 0 ∧ win0_3.index t 1 = t.val % 3 - 1)
theorem idx4 : ∀ t : Fin cfg0.N, win0_4.index t 0 = t.val / 3 ∧ win0_4.index t 1 = 0 :=
  (by decide +kernel : ∀ t : Fin grid0.N, win0_4.index t 0 = t.val / 3 ∧ win0_4.index t 1 = 0)

theorem blk0 (t : Fin cfg0.N) (r l : ℕ) (hr : r < 2048) (hl : l < 1024) :
    at2 (iblk m c 0 t : Vec Ideal S2048x1024 .bf16) r l = at2 (argA m c) (2048 * (t.val / 3) + r) (1024 * (0) + l) := by
  conv_lhs => unfold at2
  rw [dif_pos ⟨hr, hl⟩]
  unfold iblk
  rw [View.read_apply]
  show V m c main_arg0 _ = _
  rw [V_main_arg0]
  refine at2_eq (m ((c : Thread nD τ).loc main_arg0) : S8192x1024.Idx → EReal) _ ?_ ?_
  · show win0_0.index t 0 * 2048 + 1 * r = _; rw [(idx0 t).1]; omega
  · show win0_0.index t 1 * 1024 + 1 * l = _; rw [(idx0 t).2]; omega

theorem blk1 (t : Fin cfg0.N) (r l : ℕ) (hr : r < 1024) (hl : l < 1024) :
    at2 (iblk m c 1 t : Vec Ideal S1024x1024 .bf16) r l = at2 (argB m c) (1024 * (0) + r) (1024 * (0) + l) := by
  conv_lhs => unfold at2
  rw [dif_pos ⟨hr, hl⟩]
  unfold iblk
  rw [View.read_apply]
  show V m c main_arg1 _ = _
  rw [V_main_arg1]
  refine at2_eq (m ((c : Thread nD τ).loc main_arg1) : S1024x1024.Idx → EReal) _ ?_ ?_
  · show win0_1.index t 0 * 1024 + 1 * r = _; rw [(idx1 t).1]; omega
  · show win0_1.index t 1 * 1024 + 1 * l = _; rw [(idx1 t).2]; omega

theorem blk2 (t : Fin cfg0.N) (r l : ℕ) (hr : r < 2048) (hl : l < 768) :
    at2 (iblk m c 2 t : Vec Ideal S2048x768 .bf16) r l = at2 (argC m c) (2048 * (t.val / 3) + r) (768 * (t.val % 3 - 1) + l) := by
  conv_lhs => unfold at2
  rw [dif_pos ⟨hr, hl⟩]
  unfold iblk
  rw [View.read_apply]
  show V m c main_arg2 _ = _
  rw [V_main_arg2]
  refine at2_eq (m ((c : Thread nD τ).loc main_arg2) : S8192x1536.Idx → EReal) _ ?_ ?_
  · show win0_2.index t 0 * 2048 + 1 * r = _; rw [(idx2 t).1]; omega
  · show win0_2.index t 1 * 768 + 1 * l = _; rw [(idx2 t).2]; omega

theorem blk3 (t : Fin cfg0.N) (r l : ℕ) (hr : r < 1024) (hl : l < 768) :
    at2 (iblk m c 3 t : Vec Ideal S1024x768 .bf16) r l = at2 (argD m c) (1024 * (0) + r) (768 * (t.val % 3 - 1) + l) := by
  conv_lhs => unfold at2
  rw [dif_pos ⟨hr, hl⟩]
  unfold iblk
  rw [View.read_apply]
  show V m c main_arg3 _ = _
  rw [V_main_arg3]
  refine at2_eq (m ((c : Thread nD τ).loc main_arg3) : S1024x1536.Idx → EReal) _ ?_ ?_
  · show win0_3.index t 0 * 1024 + 1 * r = _; rw [(idx3 t).1]; omega
  · show win0_3.index t 1 * 768 + 1 * l = _; rw [(idx3 t).2]; omega

/-- The result. -/
def res : Buf (Elt Ideal) ((c : Thread nD τ).loc main_v0) :=
  fun i : S8192x1024.Idx => rowRow (argA m c) (argB m c) 1024 ((i 0).val) ((i 1).val) + rowRow (argC m c) (argD m c) 1536 ((i 0).val) ((i 1).val)

theorem part_A (t : Fin cfg0.N) (y : S2048x1024.Idx) :
    ∑ k : Fin 1024, at2 (iblk m c 0 t : Vec Ideal S2048x1024 .bf16) (y 0).val k.val * at2 (iblk m c 1 t : Vec Ideal S1024x1024 .bf16) (y 1).val k.val
      = rowRow (argA m c) (argB m c) 1024 (2048 * (t.val / 3) + (y 0).val) (1024 * (0) + (y 1).val) := by
  unfold rowRow
  rw [Finset.sum_range]
  refine Finset.sum_congr rfl fun k _ => ?_
  rw [blk0 m c t (y 0).val k.val (y 0).isLt k.isLt, blk1 m c t (y 1).val k.val (y 1).isLt k.isLt]
  simp only [Nat.mul_zero, Nat.zero_add]

theorem part_B (t : Fin cfg0.N) (y : S2048x1024.Idx) :
    ∑ k : Fin 768, at2 (iblk m c 2 t : Vec Ideal S2048x768 .bf16) (y 0).val k.val * at2 (iblk m c 3 t : Vec Ideal S1024x768 .bf16) (y 1).val k.val
      = ∑ k : Fin 768, at2 (argC m c) (2048 * (t.val / 3) + (y 0).val) (768 * (t.val % 3 - 1) + k.val) * at2 (argD m c) (1024 * (0) + (y 1).val) (768 * (t.val % 3 - 1) + k.val) := by
  refine Finset.sum_congr rfl fun k _ => ?_
  rw [blk2 m c t (y 0).val k.val (y 0).isLt k.isLt, blk3 m c t (y 1).val k.val (y 1).isLt k.isLt]

/-- The last point of three leaves its block of the result. -/
theorem out_eq (t : Fin cfg0.N) (h2 : t.val % 3 = 2) (y : S2048x1024.Idx) :
    (outsAt0 m c t.val t.isLt).1 y = rowRow (argA m c) (argB m c) 1024 (2048 * (t.val / 3) + (y 0).val) (1024 * (0) + (y 1).val) + rowRow (argC m c) (argD m c) 1536 (2048 * (t.val / 3) + (y 0).val) (1024 * (0) + (y 1).val) := by
  have hN : cfg0.N = 12 := N_0
  have ht := t.isLt
  have hp : t.val - 1 < cfg0.N := by omega
  have hq : t.val - 1 - 1 < cfg0.N := by omega
  have h1 : (⟨t.val - 1, hp⟩ : Fin cfg0.N).val % 3 = 1 := by dsimp only; omega
  have h0 : (⟨t.val - 1 - 1, hq⟩ : Fin cfg0.N).val % 3 = 0 := by dsimp only; omega
  rw [out_C m c t h2]
  refine (pay3_apply _ (iblk m c 2 t) (iblk m c 3 t) y).trans ?_
  refine Eq.trans (congrArg (· + _) ((scr_B m c ⟨t.val - 1, hp⟩ h1 y).trans ((pay3_apply _ (iblk m c 2 ⟨t.val - 1, hp⟩) (iblk m c 3 ⟨t.val - 1, hp⟩) y).trans (congrArg (· + _)
    ((scr_A m c ⟨t.val - 1 - 1, hq⟩ h0 y).trans (pay2_apply _ (iblk m c 0 ⟨t.val - 1 - 1, hq⟩) (iblk m c 1 ⟨t.val - 1 - 1, hq⟩) y)))))) ?_
  rw [pay1_apply, zero_add, part_A, part_B, part_B]
  dsimp only
  rw [show (t.val - 1) % 3 = 1 from by omega, show (t.val - 1) / 3 = t.val / 3 from by omega, show (t.val - 1 - 1) / 3 = t.val / 3 from by omega, h2, add_assoc]
  refine congrArg (_ + ·) ?_
  unfold rowRow
  refine Eq.trans ?_ (sum_two (fun k => at2 (argC m c) (2048 * (t.val / 3) + (y 0).val) k * at2 (argD m c) (1024 * (0) + (y 1).val) k) 768 768)
  simp only [Nat.sub_self, Nat.mul_zero, Nat.zero_add, Nat.mul_one, Nat.reduceSub]

theorem flushed_res (t : Fin cfg0.N) (hf : (cfg0.win 4).flush t = true) :
    (dats m 0 c).flushed 4 t = ((cfg0.win 4).blk t).view.read (Elt Ideal) (res m c) := by
  have h2 : t.val % 3 = 2 := (flush0_4 t).mp hf
  show (cfg0.win 4).cut (grid0.coords t) ((dats m 0 c).after 4 t) = _
  rw [after0_4]
  funext j
  rw [View.read_apply]
  show (outsAt0 m c t.val t.isLt).1 (fun a => ⟨(j a).val, (j a).isLt⟩) = rowRow (argA m c) (argB m c) 1024 (win0_4.index t 0 * 2048 + 1 * (j 0).val) (win0_4.index t 1 * 1024 + 1 * (j 1).val) + rowRow (argC m c) (argD m c) 1536 (win0_4.index t 0 * 2048 + 1 * (j 0).val) (win0_4.index t 1 * 1024 + 1 * (j 1).val)
  rw [out_eq m c t h2, (idx4 t).1, (idx4 t).2]
  have er : 2048 * (t.val / 3) + (j 0).val = (t.val / 3) * 2048 + 1 * (j 0).val := by omega
  have ec : 1024 * (0) + (j 1).val = (0) * 1024 + 1 * (j 1).val := by omega
  dsimp only
  rw [er, ec]

theorem cover (i : S8192x1024.Idx) :
    ∃ t : Fin cfg0.N, (cfg0.win 4).flush t = true ∧ i ∈ ((cfg0.win 4).blk t).view.set := by
  have h0 : (i 0 : ℕ) < 8192 := (i 0).isLt
  have h1 : (i 1 : ℕ) < 1024 := (i 1).isLt
  have hN : cfg0.N = 12 := N_0
  let t : Fin cfg0.N := ⟨3 * ((i 0 : ℕ) / 2048) + 2, by omega⟩
  have e : t.val = 3 * ((i 0 : ℕ) / 2048) + 2 := rfl
  refine ⟨t, (flush0_4 t).mpr (by omega), ?_⟩
  show i ∈ ((View.whole main_v0).slice (win0_4.rect t)).set
  rw [View.set_slice_whole, Rect.mem_set_unit]
  intro a
  match a with
  | ⟨0, _⟩ =>
    show win0_4.index t 0 * 2048 ≤ (i 0 : ℕ) ∧ (i 0 : ℕ) < win0_4.index t 0 * 2048 + 2048
    rw [(idx4 t).1]; omega
  | ⟨1, _⟩ =>
    show win0_4.index t 1 * 1024 ≤ (i 1 : ℕ) ∧ (i 1 : ℕ) < win0_4.index t 1 * 1024 + 1024
    rw [(idx4 t).2]; omega

theorem final : (dats m 0 c).arrAt 4 cfg0.N = res m c :=
  (dats m 0 c).arrAt_eq_of_cover 4 (res m c) (fun t hf => flushed_res m c t hf) cover

/-- Every run ends with the result in its array, and with the arguments as they were. -/
theorem run_res (ρ : Dev nD → PrngReg) :
    θ_run defs (onTc (τ := τ) (main (F := Ideal))) ⟨m, fun _ => 0, ρ⟩ fun r => ∀ c : Dev nD,
      r.2.mem ((c : Thread nD τ).loc main_v0) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (run_main m ρ)
  have hin : ∀ w : Fin 5, (cfg0.win w).isOut = false → _ := fun w hw => ((h c).1 w).trans (((dats m 0 c).arrAt_in w hw _).trans (A_eq m c w))
  exact ⟨(h c).1 4, (hin 0 rfl).trans (V_main_arg0 m c), (hin 1 rfl).trans (V_main_arg1 m c), (hin 2 rfl).trans (V_main_arg2 m c), (hin 3 rfl).trans (V_main_arg3 m c)⟩

end Cert.Kernel20Ideal.Mat

end
-- ==== Proof.NtPairRef.lean ====
module

public import proofs.«01_k».proof.Defs
public import proofs.«01_k».proof.Proof.Gen.Reference20Ideal.Read
public import proofs.«01_k».proof.Proof.Nat3
public import Idealize.ShloMosaic.Lib.Pipeline.Value
public import Idealize.ShloMosaic.Lib.Pipeline.ValueKit
public import Idealize.ShloMosaic.Lib.KernelVsHost
public import Idealize.ShloMosaic.Lib.Tactic
public import Idealize.ShloMosaic.Lib.Pointwise

@[expose] public section

set_option maxRecDepth 16384

noncomputable section

open Idealize.ShloMosaic Idealize.ShloMosaic.TcCoe Idealize.SL.Sem

set_option maxHeartbeats 4000000

/-! The gradient of the attention block's normalised input: the reference's value. -/

namespace Cert.Reference20Ideal.Mat

open Cert.Reference20Ideal Cert.Reference20Ideal.Gen Cert.Reference20Ideal.Read Cert.Nat2

variable (x0 : (⟨S8192x1024, .bf16⟩ : BufTy).Contents (Elt Ideal)) (x1 : (⟨S1024x1024, .bf16⟩ : BufTy).Contents (Elt Ideal))
  (x2 : (⟨S8192x1536, .bf16⟩ : BufTy).Contents (Elt Ideal)) (x3 : (⟨S1024x1536, .bf16⟩ : BufTy).Contents (Elt Ideal))

theorem v8_at (j : S8192x1024.Idx) : val_main_v8 (F := Ideal) x0 x1 j = rowRow (x0 : S8192x1024.Idx → EReal) (x1 : S1024x1024.Idx → EReal) 1024 (j 0).val (j 1).val := by
  rw [val_main_v8_apply]
  unfold rowRow
  rw [Finset.sum_range]
  refine Finset.sum_congr rfl fun k _ => ?_
  rw [val_main_v1_apply, val_main_v3_apply]
  show (x0 _ : EReal) * x1 _ = _
  rw [at2_eq (x0 : S8192x1024.Idx → EReal) _ rfl rfl, at2_eq (x1 : S1024x1024.Idx → EReal) _ rfl rfl]
  try rfl

theorem v7_at (j : S8192x1024.Idx) : val_main_v7 (F := Ideal) x2 x3 j = rowRow (x2 : S8192x1536.Idx → EReal) (x3 : S1024x1536.Idx → EReal) 1536 (j 0).val (j 1).val := by
  rw [val_main_v7_apply]
  unfold rowRow
  rw [Finset.sum_range]
  refine Finset.sum_congr rfl fun k _ => ?_
  rw [val_main_v2_apply, val_main_v5_apply]
  show (x2 _ : EReal) * x3 _ = _
  rw [at2_eq (x2 : S8192x1536.Idx → EReal) _ rfl rfl, at2_eq (x3 : S1024x1536.Idx → EReal) _ rfl rfl]
  try rfl

theorem v9_at (j : S8192x1024.Idx) : val_main_v9 (F := Ideal) x0 x1 x2 x3 j
    = rowRow (x0 : S8192x1024.Idx → EReal) (x1 : S1024x1024.Idx → EReal) 1024 (j 0).val (j 1).val + rowRow (x2 : S8192x1536.Idx → EReal) (x3 : S1024x1536.Idx → EReal) 1536 (j 0).val (j 1).val := by
  rw [val_main_v9_apply, v7_at, v8_at]
  exact add_comm (_ : EReal) _

end Cert.Reference20Ideal.Mat

end
-- ==== Proof.GwQkv.lean ====
module

public import proofs.«01_k».proof.Defs
public import proofs.«01_k».proof.Proof.Gen.Kernel21Ideal.Value
public import proofs.«01_k».proof.Proof.Nat2
public import Idealize.ShloMosaic.Lib.Pipeline.Value
public import Idealize.ShloMosaic.Lib.Pipeline.ValueKit
public import Idealize.ShloMosaic.Lib.Tactic
public import Idealize.ShloMosaic.Lib.Pointwise

@[expose] public section

set_option maxRecDepth 16384

noncomputable section

open Idealize.ShloMosaic Idealize.ShloMosaic.TcCoe Idealize.SL.Sem

/-! The gradient of the weight of the first attention group: what the blocks hold, and the array the run ends with. -/

namespace Cert.Kernel21Ideal.Mat

open Cert.Kernel21Ideal Cert.Kernel21Ideal.Gen Cert.Nat2

set_option maxHeartbeats 4000000

variable (m : (ℓ : Loc nD τ sig) → Buf (Elt Ideal) ℓ) (c : Dev nD)

/-- One point's product: columns of the left block against columns of the right block. -/
theorem pay1_apply (x0 : Vec Ideal S4096x1024 .bf16) (x1 : Vec Ideal S4096x768 .bf16) (y : S1024x768.Idx) :
    k0_pay1 x0 x1 y = ∑ k : Fin 4096, at2 x0 k.val (y 0).val * at2 x1 k.val (y 1).val := by
  unfold k0_pay1
  pointwise
  refine Finset.sum_congr rfl fun k _ => ?_
  show x0 (ValueIdx.ix2 k (y 0)) * x1 (ValueIdx.ix2 k (y 1)) = _
  rw [at2_eq x0 (ValueIdx.ix2 k (y 0)) rfl rfl, at2_eq x1 (ValueIdx.ix2 k (y 1)) rfl rfl]

/-- The first point of a pair leaves its product in the scratch. -/
theorem scr_A (t : Fin cfg0.N) (h0 : t.val % 2 = 0) (h2 : ¬t.val % 2 = 1) (y : S1024x768.Idx) :
    (outsAt0 m c t.val t.isLt).2 y = k0_pay1 (F := Ideal) (iblk m c 0 t) (iblk m c 1 t) y := by
  rw [outsAt0_A m c t h0 h2]; dsimp only
  frame_out
  unfold k0_pay2
  pointwise

/-- The second point of a pair adds its product to the scratch and leaves the sum in the output block. -/
theorem out_B (t : Fin cfg0.N) (h0 : ¬t.val % 2 = 0) (h2 : t.val % 2 = 1) (y : S1024x768.Idx) :
    (outsAt0 m c t.val t.isLt).1 y = (outsAt0 m c (t.val - 1) (Nat.lt_of_le_of_lt (Nat.sub_le _ _) t.isLt)).2 y + k0_pay1 (F := Ideal) (iblk m c 0 t) (iblk m c 1 t) y := by
  rw [outsAt0_B m c t h0 h2]; dsimp only
  frame_out
  unfold k0_pay4
  pointwise
  refine congrArg (· + _) ?_
  exact congrFun (Memref.IsWhole.read_unread (m := Memref.whole cc0_scratch0) _ _) y

/-! ## The blocks are rows of the arguments -/

/-- The two arguments as functions of their indices. -/
abbrev argA : S8192x1024.Idx → EReal := m ((c : Thread nD τ).loc main_arg0)
abbrev argB : S8192x1536.Idx → EReal := m ((c : Thread nD τ).loc main_arg1)

theorem idx0 : ∀ t : Fin cfg0.N, win0_0.index t 0 = t.val % 2 ∧ win0_0.index t 1 = 0 :=
  (by decide +kernel : ∀ t : Fin grid0.N, win0_0.index t 0 = t.val % 2 ∧ win0_0.index t 1 = 0)
theorem idx1 : ∀ t : Fin cfg0.N, win0_1.index t 0 = t.val % 2 ∧ win0_1.index t 1 = t.val / 2 :=
  (by decide +kernel : ∀ t : Fin grid0.N, win0_1.index t 0 = t.val % 2 ∧ win0_1.index t 1 = t.val / 2)
theorem idx2 : ∀ t : Fin cfg0.N, win0_2.index t 0 = 0 ∧ win0_2.index t 1 = t.val / 2 :=
  (by decide +kernel : ∀ t : Fin grid0.N, win0_2.index t 0 = 0 ∧ win0_2.index t 1 = t.val / 2)

theorem blk0 (t : Fin cfg0.N) (r l : ℕ) (hr : r < 4096) (hl : l < 1024) :
    at2 (iblk m c 0 t : Vec Ideal S4096x1024 .bf16) r l = at2 (argA m c) (4096 * (t.val % 2) + r) (1024 * (0) + l) := by
  conv_lhs => unfold at2
  rw [dif_pos ⟨hr, hl⟩]
  unfold iblk
  rw [View.read_apply]
  show V m c main_arg0 _ = _
  rw [V_main_arg0]
  refine at2_eq (m ((c : Thread nD τ).loc main_arg0) : S8192x1024.Idx → EReal) _ ?_ ?_
  · show win0_0.index t 0 * 4096 + 1 * r = _; rw [(idx0 t).1]; omega
  · show win0_0.index t 1 * 1024 + 1 * l = _; rw [(idx0 t).2]; omega

theorem blk1 (t : Fin cfg0.N) (r l : ℕ) (hr : r < 4096) (hl : l < 768) :
    at2 (iblk m c 1 t : Vec Ideal S4096x768 .bf16) r l = at2 (argB m c) (4096 * (t.val % 2) + r) (768 * (t.val / 2) + l) := by
  conv_lhs => unfold at2
  rw [dif_pos ⟨hr, hl⟩]
  unfold iblk
  rw [View.read_apply]
  show V m c main_arg1 _ = _
  rw [V_main_arg1]
  refine at2_eq (m ((c : Thread nD τ).loc main_arg1) : S8192x1536.Idx → EReal) _ ?_ ?_
  · show win0_1.index t 0 * 4096 + 1 * r = _; rw [(idx1 t).1]; omega
  · show win0_1.index t 1 * 768 + 1 * l = _; rw [(idx1 t).2]; omega

/-- One point's product over the arguments: its half of the rows. -/
theorem part_eq (t : Fin cfg0.N) (y : S1024x768.Idx) :
    k0_pay1 (F := Ideal) (iblk m c 0 t) (iblk m c 1 t) y
      = ∑ k : Fin 4096, (at2 (argA m c) (4096 * (t.val % 2) + k.val) (1024 * (0) + (y 0).val)) * at2 (argB m c) (4096 * (t.val % 2) + k.val) (768 * (t.val / 2) + (y 1).val) := by
  refine (pay1_apply (iblk m c 0 t) (iblk m c 1 t) y).trans ?_
  refine Finset.sum_congr rfl fun k _ => ?_
  have e0 := blk0 m c t k.val (y 0).val k.isLt (y 0).isLt
  have e1 := blk1 m c t k.val (y 1).val k.isLt (y 1).isLt
  rw [e0, e1]

/-- The result: every column of the left argument against every column of the right. -/
def res : Buf (Elt Ideal) ((c : Thread nD τ).loc main_v0) :=
  fun i : S1024x1536.Idx => colDot id (argA m c) (argB m c) 8192 (i 0).val (i 1).val

/-- The second point of a pair leaves its block of the result. -/
theorem out_eq (t : Fin cfg0.N) (h2 : t.val % 2 = 1) (y : S1024x768.Idx) :
    (outsAt0 m c t.val t.isLt).1 y = colDot id (argA m c) (argB m c) 8192 (1024 * (0) + (y 0).val) (768 * (t.val / 2) + (y 1).val) := by
  have hN : cfg0.N = 4 := N_0
  have ht := t.isLt
  have h0 : ¬t.val % 2 = 0 := by omega
  rw [out_B m c t h0 h2]
  have hp : t.val - 1 < cfg0.N := by omega
  have hq0 : (⟨t.val - 1, hp⟩ : Fin cfg0.N).val % 2 = 0 := by dsimp only; omega
  have hq2 : ¬(⟨t.val - 1, hp⟩ : Fin cfg0.N).val % 2 = 1 := by dsimp only; omega
  refine Eq.trans (congrArg (· + _) (scr_A m c ⟨t.val - 1, hp⟩ hq0 hq2 y)) ?_
  rw [part_eq, part_eq]
  dsimp only
  rw [show (t.val - 1) % 2 = 0 from by omega, show (t.val - 1) / 2 = t.val / 2 from by omega, h2]
  unfold colDot
  refine Eq.trans ?_ (sum_two (fun k => (at2 (argA m c) k (1024 * (0) + (y 0).val)) * at2 (argB m c) k (768 * (t.val / 2) + (y 1).val)) 4096 4096)
  simp only [Nat.mul_zero, Nat.zero_add, Nat.mul_one]

theorem flushed_res (t : Fin cfg0.N) (hf : (cfg0.win 2).flush t = true) :
    (dats m 0 c).flushed 2 t = ((cfg0.win 2).blk t).view.read (Elt Ideal) (res m c) := by
  have h2 : t.val % 2 = 1 := (flush0_2 t).mp hf
  rw [Cert.Kernel21Ideal.Value.flushed2]
  funext j
  rw [View.read_apply]
  show (outsAt0 m c t.val t.isLt).1 (fun a => ⟨(j a).val, (j a).isLt⟩) = colDot id (argA m c) (argB m c) 8192 (win0_2.index t 0 * 1024 + 1 * (j 0).val) (win0_2.index t 1 * 768 + 1 * (j 1).val)
  rw [out_eq m c t h2, (idx2 t).1, (idx2 t).2]
  congr 1 <;> dsimp only <;> omega

theorem final : (dats m 0 c).arrAt 2 cfg0.N = res m c :=
  (dats m 0 c).arrAt_eq_of_cover 2 (res m c) (fun t hf => flushed_res m c t hf) (fun i => (Cert.Kernel21Ideal.Value.covered_iff2 i).2 (by
    have h0 : (i 0).val < 1024 := (i 0).isLt; have h1 : (i 1).val < 1536 := (i 1).isLt; omega))

end Cert.Kernel21Ideal.Mat

end
-- ==== Proof.Slab.lean ====
module

public import proofs.«01_k».proof.Proof.Nat2

@[expose] public section

noncomputable section

open Idealize.ShloMosaic

/-! Products of an array whose columns are laid out in slabs: every row holds several consecutive tokens side by side. -/

namespace Cert.Nat2

/-- Slab `l / p` of row `r` against column `l % p` of the right array: the `n` terms. -/
def slabRowCol {a b q s : ℕ} (A : (⟨2, ![a, b]⟩ : Shape).Idx → EReal) (B : (⟨2, ![q, s]⟩ : Shape).Idx → EReal) (n p r l : ℕ) : EReal :=
  ∑ k ∈ Finset.range n, at2 A r (n * (l / p) + k) * at2 B k (l % p)

/-- Slab `l / p` of row `r` against row `l % p` of the right array: the `n` terms. -/
def slabRowRow {a b q s : ℕ} (A : (⟨2, ![a, b]⟩ : Shape).Idx → EReal) (B : (⟨2, ![q, s]⟩ : Shape).Idx → EReal) (n p r l : ℕ) : EReal :=
  ∑ k ∈ Finset.range n, at2 A r (n * (l / p) + k) * at2 B (l % p) k

/-- Column `r` of every slab of the left array against column `l` of the same slab of the right one: the first `d` slabs of `M` rows. -/
def slabColDot {a b q s : ℕ} (A : (⟨2, ![a, b]⟩ : Shape).Idx → EReal) (B : (⟨2, ![q, s]⟩ : Shape).Idx → EReal) (p p' M d r l : ℕ) : EReal :=
  ∑ s ∈ Finset.range d, ∑ k ∈ Finset.range M, at2 A k (p * s + r) * at2 B k (p' * s + l)

theorem slabColDot_succ {a b q s : ℕ} (A : (⟨2, ![a, b]⟩ : Shape).Idx → EReal) (B : (⟨2, ![q, s]⟩ : Shape).Idx → EReal) (p p' M d r l : ℕ) :
    slabColDot A B p p' M (d + 1) r l = slabColDot A B p p' M d r l + ∑ k ∈ Finset.range M, at2 A k (p * d + r) * at2 B k (p' * d + l) :=
  Finset.sum_range_succ _ _

/-- A sum over tokens is a sum over slabs of sums over rows. -/
theorem sum_slabs (f : ℕ → ℕ → EReal) (d : ℕ) : ∀ M : ℕ,
    ∑ T ∈ Finset.range (M * d), f (T / d) (T % d) = ∑ s ∈ Finset.range d, ∑ k ∈ Finset.range M, f k s
  | 0 => by simp
  | M + 1 => by
    rw [Nat.succ_mul, Finset.sum_range_add, sum_slabs f d M]
    simp only [Finset.sum_range_succ, Finset.sum_add_distrib]
    refine congrArg (_ + ·) (Finset.sum_congr rfl fun x hx => ?_)
    have h : x < d := Finset.mem_range.1 hx
    rw [Nat.mul_comm M d, Nat.mul_add_div (Nat.lt_of_le_of_lt (Nat.zero_le _) h), Nat.mul_add_mod, Nat.div_eq_of_lt h, Nat.mod_eq_of_lt h, Nat.add_zero]

end Cert.Nat2

end
-- ==== Proof.SlabNn1.lean ====
module

public import proofs.«01_k».proof.Defs
public import proofs.«01_k».proof.Proof.Gen.Kernel22Ideal.Value
public import proofs.«01_k».proof.Proof.Slab
public import Idealize.ShloMosaic.Lib.Pipeline.Value
public import Idealize.ShloMosaic.Lib.Pipeline.ValueKit
public import Idealize.ShloMosaic.Lib.KernelVsHost
public import Idealize.ShloMosaic.Lib.Tactic
public import Idealize.ShloMosaic.Lib.Pointwise

@[expose] public section

set_option maxRecDepth 16384

noncomputable section

open Idealize.ShloMosaic Idealize.ShloMosaic.TcCoe Idealize.SL.Sem

/-! The product into the second attention group: what the blocks hold, and the array the run ends with. -/

namespace Cert.Kernel22Ideal.Mat

open Cert.Kernel22Ideal Cert.Kernel22Ideal.Gen Cert.Nat2

set_option maxHeartbeats 4000000

variable (m : (ℓ : Loc nD τ sig) → Buf (Elt Ideal) ℓ) (c : Dev nD)

theorem pay1_apply (x0 : Vec Ideal S2048x1024 .bf16) (x1 : Vec Ideal S1024x512 .bf16) (y : S2048x512.Idx) :
    k0_pay1 x0 x1 y = ∑ k : Fin 1024, at2 x0 (y 0).val k.val * at2 x1 k.val (y 1).val := by
  unfold k0_pay1
  pointwise
  refine Finset.sum_congr rfl fun k _ => ?_
  show x0 (ValueIdx.ix2 (y 0) k) * x1 (ValueIdx.ix2 k (y 1)) = _
  rw [at2_eq x0 (ValueIdx.ix2 (y 0) k) rfl rfl, at2_eq x1 (ValueIdx.ix2 k (y 1)) rfl rfl]
  try rfl

theorem out_A (t : Fin cfg0.N) (y : S2048x512.Idx) :
    out0_2 (iblk m c 0 t : Vec Ideal S2048x1024 .bf16) (iblk m c 1 t : Vec Ideal S1024x512 .bf16) y = k0_pay1 (F := Ideal) (iblk m c 0 t) (iblk m c 1 t) y := by
  unfold out0_2
  frame_out

/-! ## The blocks are parts of the arguments -/

abbrev argA : S2048x4096.Idx → EReal := m ((c : Thread nD τ).loc main_arg0)
abbrev argB : S1024x1536.Idx → EReal := m ((c : Thread nD τ).loc main_arg1)

theorem idx0 : ∀ t : Fin cfg0.N, win0_0.index t 0 = 0 ∧ win0_0.index t 1 = t.val / 3 :=
  (by decide +kernel : ∀ t : Fin grid0.N, win0_0.index t 0 = 0 ∧ win0_0.index t 1 = t.val / 3)
theorem idx1 : ∀ t : Fin cfg0.N, win0_1.index t 0 = 0 ∧ win0_1.index t 1 = t.val % 3 :=
  (by decide +kernel : ∀ t : Fin grid0.N, win0_1.index t 0 = 0 ∧ win0_1.index t 1 = t.val % 3)
theorem idx2 : ∀ t : Fin cfg0.N, win0_2.index t 0 = 0 ∧ win0_2.index t 1 = t.val :=
  (by decide +kernel : ∀ t : Fin grid0.N, win0_2.index t 0 = 0 ∧ win0_2.index t 1 = t.val)

theorem blk0 (t : Fin cfg0.N) (r l : ℕ) (hr : r < 2048) (hl : l < 1024) :
    at2 (iblk m c 0 t : Vec Ideal S2048x1024 .bf16) r l = at2 (argA m c) (2048 * (0) + r) (1024 * (t.val / 3) + l) := by
  conv_lhs => unfold at2
  rw [dif_pos ⟨hr, hl⟩]
  unfold iblk
  rw [View.read_apply]
  show V m c main_arg0 _ = _
  rw [V_main_arg0]
  refine at2_eq (m ((c : Thread nD τ).loc main_arg0) : S2048x4096.Idx → EReal) _ ?_ ?_
  · show win0_0.index t 0 * 2048 + 1 * r = _; rw [(idx0 t).1]; omega
  · show win0_0.index t 1 * 1024 + 1 * l = _; rw [(idx0 t).2]; omega

theorem blk1 (t : Fin cfg0.N) (r l : ℕ) (hr : r < 1024) (hl : l < 512) :
    at2 (iblk m c 1 t : Vec Ideal S1024x512 .bf16) r l = at2 (argB m c) (1024 * (0) + r) (512 * (t.val % 3) + l) := by
  conv_lhs => unfold at2
  rw [dif_pos ⟨hr, hl⟩]
  unfold iblk
  rw [View.read_apply]
  show V m c main_arg1 _ = _
  rw [V_main_arg1]
  refine at2_eq (m ((c : Thread nD τ).loc main_arg1) : S1024x1536.Idx → EReal) _ ?_ ?_
  · show win0_1.index t 0 * 1024 + 1 * r = _; rw [(idx1 t).1]; omega
  · show win0_1.index t 1 * 512 + 1 * l = _; rw [(idx1 t).2]; omega

/-- The result: in every slab, the slab's rows against the columns of the weight. -/
def res : Buf (Elt Ideal) ((c : Thread nD τ).loc main_v0) :=
  fun i : S2048x6144.Idx => slabRowCol (argA m c) (argB m c) 1024 1536 (i 0).val (i 1).val

theorem out_eq (t : Fin cfg0.N) (y : S2048x512.Idx) :
    out0_2 (iblk m c 0 t : Vec Ideal S2048x1024 .bf16) (iblk m c 1 t : Vec Ideal S1024x512 .bf16) y = slabRowCol (argA m c) (argB m c) 1024 1536 (y 0).val (512 * t.val + (y 1).val) := by
  have hy : (y 1).val < 512 := (y 1).isLt
  rw [out_A]
  refine (pay1_apply (iblk m c 0 t) (iblk m c 1 t) y).trans ?_
  unfold slabRowCol
  rw [Finset.sum_range]
  refine Finset.sum_congr rfl fun k _ => ?_
  have e0 := blk0 m c t (y 0).val k.val (y 0).isLt k.isLt
  have e1 := blk1 m c t k.val (y 1).val k.isLt (y 1).isLt
  rw [e0, e1]
  rw [show (512 * t.val + (y 1).val) / 1536 = t.val / 3 from by omega, show (512 * t.val + (y 1).val) % 1536 = 512 * (t.val % 3) + (y 1).val from by omega]
  simp only [Nat.mul_zero, Nat.zero_add]

theorem flushed_res (t : Fin cfg0.N) :
    (dats m 0 c).flushed 2 t = ((cfg0.win 2).blk t).view.read (Elt Ideal) (res m c) := by
  rw [Cert.Kernel22Ideal.Value.flushed2]
  funext j
  rw [View.read_apply]
  show out0_2 (iblk m c 0 t : Vec Ideal S2048x1024 .bf16) (iblk m c 1 t : Vec Ideal S1024x512 .bf16) (fun a => ⟨(j a).val, (j a).isLt⟩) = slabRowCol (argA m c) (argB m c) 1024 1536 (win0_2.index t 0 * 2048 + 1 * (j 0).val) (win0_2.index t 1 * 512 + 1 * (j 1).val)
  rw [out_eq m c t, (idx2 t).1, (idx2 t).2]
  congr 1 <;> dsimp only <;> omega

theorem cover (i : S2048x6144.Idx) :
    ∃ t : Fin cfg0.N, (cfg0.win 2).flush t = true ∧ i ∈ ((cfg0.win 2).blk t).view.set := by
  have h0 : (i 0 : ℕ) < 2048 := (i 0).isLt
  have h1 : (i 1 : ℕ) < 6144 := (i 1).isLt
  have hN : cfg0.N = 12 := N_0
  let t : Fin cfg0.N := ⟨(i 1 : ℕ) / 512, by omega⟩
  have e : t.val = (i 1 : ℕ) / 512 := rfl
  refine ⟨t, flush0_2 t, ?_⟩
  show i ∈ ((View.whole main_v0).slice (win0_2.rect t)).set
  rw [View.set_slice_whole, Rect.mem_set_unit]
  intro a
  match a with
  | ⟨0, _⟩ =>
    show win0_2.index t 0 * 2048 ≤ (i 0 : ℕ) ∧ (i 0 : ℕ) < win0_2.index t 0 * 2048 + 2048
    rw [(idx2 t).1]; omega
  | ⟨1, _⟩ =>
    show win0_2.index t 1 * 512 ≤ (i 1 : ℕ) ∧ (i 1 : ℕ) < win0_2.index t 1 * 512 + 512
    rw [(idx2 t).2]; omega

theorem final : (dats m 0 c).arrAt 2 cfg0.N = res m c :=
  (dats m 0 c).arrAt_eq_of_cover 2 (res m c) (fun t _ => flushed_res m c t) cover

end Cert.Kernel22Ideal.Mat

end
-- ==== Proof.SlabRef.lean ====
module

public import proofs.«01_k».proof.Defs
public import proofs.«01_k».proof.Proof.Gen.Reference22Ideal
public import proofs.«01_k».proof.Proof.Gen.Reference22Ideal.Run
public import proofs.«01_k».proof.Proof.Gen.Reference22Ideal.Read
public import proofs.«01_k».proof.Proof.Gen.Reference23Ideal
public import proofs.«01_k».proof.Proof.Gen.Reference23Ideal.Run
public import proofs.«01_k».proof.Proof.Gen.Reference23Ideal.Read
public import proofs.«01_k».proof.Proof.Gen.Reference24Ideal
public import proofs.«01_k».proof.Proof.Gen.Reference24Ideal.Run
public import proofs.«01_k».proof.Proof.Gen.Reference24Ideal.Read
public import proofs.«01_k».proof.Proof.Gen.Reference25Ideal
public import proofs.«01_k».proof.Proof.Gen.Reference25Ideal.Run
public import proofs.«01_k».proof.Proof.Gen.Reference25Ideal.Read
public import proofs.«01_k».proof.Proof.Gen.Reference26Ideal
public import proofs.«01_k».proof.Proof.Gen.Reference26Ideal.Run
public import proofs.«01_k».proof.Proof.Gen.Reference26Ideal.Read
public import proofs.«01_k».proof.Proof.Gen.Reference27Ideal
public import proofs.«01_k».proof.Proof.Gen.Reference27Ideal.Run
public import proofs.«01_k».proof.Proof.Gen.Reference27Ideal.Read
public import proofs.«01_k».proof.Proof.Slab
public import Idealize.ShloMosaic.Lib.ValueIdx
public import Idealize.ShloMosaic.PureOps.Ideal.Laws

@[expose] public section

set_option maxRecDepth 16384

noncomputable section

open Idealize.ShloMosaic Idealize.ShloMosaic.TcCoe Idealize.SL.Sem

/-! The references of the products of the second and third attention groups, element by element. -/

namespace Cert.Reference22Ideal.Mat

open Cert.Reference22Ideal Cert.Reference22Ideal.Gen Cert.Reference22Ideal.Read Cert.Nat2

variable (x0 : (⟨S2048x4096, .bf16⟩ : BufTy).Contents (Elt Ideal)) (x1 : (⟨S1024x1536, .bf16⟩ : BufTy).Contents (Elt Ideal))

theorem v5_at (j : S2048x6144.Idx) :
    val_main_v5 (F := Ideal) x0 x1 j = slabRowCol (x0 : S2048x4096.Idx → EReal) (x1 : S1024x1536.Idx → EReal) 1024 1536 (j 0).val (j 1).val := by
  have h0 : (j 0).val < 2048 := (j 0).isLt
  have h1 : (j 1).val < 6144 := (j 1).isLt
  rw [val_main_v5_apply, val_main_v4_apply]
  show val_main_v3 (F := Ideal) x0 x1 _ = _
  rw [val_main_v3_apply]
  unfold slabRowCol
  rw [Finset.sum_range]
  refine Finset.sum_congr rfl fun k _ => ?_
  have hk := k.isLt
  rw [val_main_v1_apply, val_main_v0_apply, val_main_v2_apply]
  show (x0 _ : EReal) * x1 _ = _
  refine congrArg₂ (· * ·) (at2_eq (x0 : S2048x4096.Idx → EReal) _ ?_ ?_) (at2_eq (x1 : S1024x1536.Idx → EReal) _ rfl ?_)
  · show (((j 0).val * 6144 + (j 1).val) / 1536 * 1024 + k.val) / 4096 = (j 0).val; omega
  · show (((j 0).val * 6144 + (j 1).val) / 1536 * 1024 + k.val) % 4096 = 1024 * ((j 1).val / 1536) + k.val; omega
  · show ((j 0).val * 6144 + (j 1).val) % 1536 = (j 1).val % 1536; omega

end Cert.Reference22Ideal.Mat

namespace Cert.Reference24Ideal.Mat

open Cert.Reference24Ideal Cert.Reference24Ideal.Gen Cert.Reference24Ideal.Read Cert.Nat2

variable (x0 : (⟨S2048x4096, .bf16⟩ : BufTy).Contents (Elt Ideal)) (x1 : (⟨S2048x6144, .bf16⟩ : BufTy).Contents (Elt Ideal))

theorem v9_at (j : S1024x1536.Idx) :
    val_main_v9 (F := Ideal) x0 x1 j = slabColDot (x0 : S2048x4096.Idx → EReal) (x1 : S2048x6144.Idx → EReal) 1024 1536 2048 4 (j 0).val (j 1).val := by
  have h0 : (j 0).val < 1024 := (j 0).isLt
  have h1 : (j 1).val < 1536 := (j 1).isLt
  rw [val_main_v9_apply, val_main_v8_apply]
  show val_main_v7 (F := Ideal) x0 x1 _ = _
  rw [val_main_v7_apply]
  unfold slabColDot
  refine Eq.trans ?_ (sum_slabs (fun k s => at2 (x0 : S2048x4096.Idx → EReal) k (1024 * s + (j 0).val) * at2 (x1 : S2048x6144.Idx → EReal) k (1536 * s + (j 1).val)) 4 2048)
  rw [show 2048 * 4 = 8192 from rfl, Finset.sum_range]
  refine Finset.sum_congr rfl fun T _ => ?_
  have hT := T.isLt
  rw [val_main_v6_apply, val_main_v5_apply, val_main_v2_apply, val_main_v1_apply, mul_comm]
  show (x0 _ : EReal) * x1 _ = _
  refine congrArg₂ (· * ·) (at2_eq (x0 : S2048x4096.Idx → EReal) _ ?_ ?_) (at2_eq (x1 : S2048x6144.Idx → EReal) _ ?_ ?_)
  · show (T.val * 1024 + (j 0).val) / 4096 = T.val / 4; omega
  · show (T.val * 1024 + (j 0).val) % 4096 = 1024 * (T.val % 4) + (j 0).val; omega
  · show (T.val * 1536 + (j 1).val) / 6144 = T.val / 4; omega
  · show (T.val * 1536 + (j 1).val) % 6144 = 1536 * (T.val % 4) + (j 1).val; omega

end Cert.Reference24Ideal.Mat

namespace Cert.Reference26Ideal.Mat

open Cert.Reference26Ideal Cert.Reference26Ideal.Gen Cert.Reference26Ideal.Read Cert.Nat2

variable (x0 : (⟨S2048x6144, .bf16⟩ : BufTy).Contents (Elt Ideal)) (x1 : (⟨S1024x1536, .bf16⟩ : BufTy).Contents (Elt Ideal))

theorem v6_at (j : S2048x4096.Idx) :
    val_main_v6 (F := Ideal) x0 x1 j = slabRowRow (x0 : S2048x6144.Idx → EReal) (x1 : S1024x1536.Idx → EReal) 1536 1024 (j 0).val (j 1).val := by
  have h0 : (j 0).val < 2048 := (j 0).isLt
  have h1 : (j 1).val < 4096 := (j 1).isLt
  rw [val_main_v6_apply, val_main_v5_apply]
  unfold slabRowRow
  rw [Finset.sum_range]
  refine Finset.sum_congr rfl fun k _ => ?_
  have hk := k.isLt
  rw [val_main_v2_apply, val_main_v1_apply, val_main_v3_apply]
  show (x0 _ : EReal) * x1 _ = _
  refine congrArg₂ (· * ·) (at2_eq (x0 : S2048x6144.Idx → EReal) _ ?_ ?_) (at2_eq (x1 : S1024x1536.Idx → EReal) _ ?_ rfl)
  · show (((j 0).val * 4096 + (j 1).val) / 1024 * 1536 + k.val) / 6144 = (j 0).val; omega
  · show (((j 0).val * 4096 + (j 1).val) / 1024 * 1536 + k.val) % 6144 = 1536 * ((j 1).val / 1024) + k.val; omega
  · show ((j 0).val * 4096 + (j 1).val) % 1024 = (j 1).val % 1024; omega

end Cert.Reference26Ideal.Mat

namespace Cert.Reference23Ideal.Mat

open Cert.Reference23Ideal Cert.Reference23Ideal.Gen Cert.Reference23Ideal.Read Cert.Nat2

variable (x0 : (⟨S512x16384, .bf16⟩ : BufTy).Contents (Elt Ideal)) (x1 : (⟨S1024x1536, .bf16⟩ : BufTy).Contents (Elt Ideal))

theorem v5_at (j : S512x24576.Idx) :
    val_main_v5 (F := Ideal) x0 x1 j = slabRowCol (x0 : S512x16384.Idx → EReal) (x1 : S1024x1536.Idx → EReal) 1024 1536 (j 0).val (j 1).val := by
  have h0 : (j 0).val < 512 := (j 0).isLt
  have h1 : (j 1).val < 24576 := (j 1).isLt
  rw [val_main_v5_apply, val_main_v4_apply]
  show val_main_v3 (F := Ideal) x0 x1 _ = _
  rw [val_main_v3_apply]
  unfold slabRowCol
  rw [Finset.sum_range]
  refine Finset.sum_congr rfl fun k _ => ?_
  have hk := k.isLt
  rw [val_main_v1_apply, val_main_v0_apply, val_main_v2_apply]
  show (x0 _ : EReal) * x1 _ = _
  refine congrArg₂ (· * ·) (at2_eq (x0 : S512x16384.Idx → EReal) _ ?_ ?_) (at2_eq (x1 : S1024x1536.Idx → EReal) _ rfl ?_)
  · show (((j 0).val * 24576 + (j 1).val) / 1536 * 1024 + k.val) / 16384 = (j 0).val; omega
  · show (((j 0).val * 24576 + (j 1).val) / 1536 * 1024 + k.val) % 16384 = 1024 * ((j 1).val / 1536) + k.val; omega
  · show ((j 0).val * 24576 + (j 1).val) % 1536 = (j 1).val % 1536; omega

end Cert.Reference23Ideal.Mat

namespace Cert.Reference25Ideal.Mat

open Cert.Reference25Ideal Cert.Reference25Ideal.Gen Cert.Reference25Ideal.Read Cert.Nat2

variable (x0 : (⟨S512x16384, .bf16⟩ : BufTy).Contents (Elt Ideal)) (x1 : (⟨S512x24576, .bf16⟩ : BufTy).Contents (Elt Ideal))

theorem v9_at (j : S1024x1536.Idx) :
    val_main_v9 (F := Ideal) x0 x1 j = slabColDot (x0 : S512x16384.Idx → EReal) (x1 : S512x24576.Idx → EReal) 1024 1536 512 16 (j 0).val (j 1).val := by
  have h0 : (j 0).val < 1024 := (j 0).isLt
  have h1 : (j 1).val < 1536 := (j 1).isLt
  rw [val_main_v9_apply, val_main_v8_apply]
  show val_main_v7 (F := Ideal) x0 x1 _ = _
  rw [val_main_v7_apply]
  unfold slabColDot
  refine Eq.trans ?_ (sum_slabs (fun k s => at2 (x0 : S512x16384.Idx → EReal) k (1024 * s + (j 0).val) * at2 (x1 : S512x24576.Idx → EReal) k (1536 * s + (j 1).val)) 16 512)
  rw [show 512 * 16 = 8192 from rfl, Finset.sum_range]
  refine Finset.sum_congr rfl fun T _ => ?_
  have hT := T.isLt
  rw [val_main_v6_apply, val_main_v5_apply, val_main_v2_apply, val_main_v1_apply, mul_comm]
  show (x0 _ : EReal) * x1 _ = _
  refine congrArg₂ (· * ·) (at2_eq (x0 : S512x16384.Idx → EReal) _ ?_ ?_) (at2_eq (x1 : S512x24576.Idx → EReal) _ ?_ ?_)
  · show (T.val * 1024 + (j 0).val) / 16384 = T.val / 16; omega
  · show (T.val * 1024 + (j 0).val) % 16384 = 1024 * (T.val % 16) + (j 0).val; omega
  · show (T.val * 1536 + (j 1).val) / 24576 = T.val / 16; omega
  · show (T.val * 1536 + (j 1).val) % 24576 = 1536 * (T.val % 16) + (j 1).val; omega

end Cert.Reference25Ideal.Mat

namespace Cert.Reference27Ideal.Mat

open Cert.Reference27Ideal Cert.Reference27Ideal.Gen Cert.Reference27Ideal.Read Cert.Nat2

variable (x0 : (⟨S512x24576, .bf16⟩ : BufTy).Contents (Elt Ideal)) (x1 : (⟨S1024x1536, .bf16⟩ : BufTy).Contents (Elt Ideal))

theorem v6_at (j : S512x16384.Idx) :
    val_main_v6 (F := Ideal) x0 x1 j = slabRowRow (x0 : S512x24576.Idx → EReal) (x1 : S1024x1536.Idx → EReal) 1536 1024 (j 0).val (j 1).val := by
  have h0 : (j 0).val < 512 := (j 0).isLt
  have h1 : (j 1).val < 16384 := (j 1).isLt
  rw [val_main_v6_apply, val_main_v5_apply]
  unfold slabRowRow
  rw [Finset.sum_range]
  refine Finset.sum_congr rfl fun k _ => ?_
  have hk := k.isLt
  rw [val_main_v2_apply, val_main_v1_apply, val_main_v3_apply]
  show (x0 _ : EReal) * x1 _ = _
  refine congrArg₂ (· * ·) (at2_eq (x0 : S512x24576.Idx → EReal) _ ?_ ?_) (at2_eq (x1 : S1024x1536.Idx → EReal) _ ?_ rfl)
  · show (((j 0).val * 16384 + (j 1).val) / 1024 * 1536 + k.val) / 24576 = (j 0).val; omega
  · show (((j 0).val * 16384 + (j 1).val) / 1024 * 1536 + k.val) % 24576 = 1536 * ((j 1).val / 1024) + k.val; omega
  · show ((j 0).val * 16384 + (j 1).val) % 1024 = (j 1).val % 1024; omega

end Cert.Reference27Ideal.Mat

end
-- ==== Proof.SlabNn2.lean ====
module

public import proofs.«01_k».proof.Defs
public import proofs.«01_k».proof.Proof.Gen.Kernel23Ideal.Value
public import proofs.«01_k».proof.Proof.Slab
public import Idealize.ShloMosaic.Lib.Pipeline.Value
public import Idealize.ShloMosaic.Lib.Pipeline.ValueKit
public import Idealize.ShloMosaic.Lib.KernelVsHost
public import Idealize.ShloMosaic.Lib.Tactic
public import Idealize.ShloMosaic.Lib.Pointwise

@[expose] public section

set_option maxRecDepth 16384

noncomputable section

open Idealize.ShloMosaic Idealize.ShloMosaic.TcCoe Idealize.SL.Sem

/-! The product into the third attention group: what the blocks hold, and the array the run ends with. -/

namespace Cert.Kernel23Ideal.Mat

open Cert.Kernel23Ideal Cert.Kernel23Ideal.Gen Cert.Nat2

set_option maxHeartbeats 4000000

variable (m : (ℓ : Loc nD τ sig) → Buf (Elt Ideal) ℓ) (c : Dev nD)

theorem pay1_apply (x0 : Vec Ideal S512x1024 .bf16) (x1 : Vec Ideal S1024x512 .bf16) (y : S512x512.Idx) :
    k0_pay1 x0 x1 y = ∑ k : Fin 1024, at2 x0 (y 0).val k.val * at2 x1 k.val (y 1).val := by
  unfold k0_pay1
  pointwise
  refine Finset.sum_congr rfl fun k _ => ?_
  show x0 (ValueIdx.ix2 (y 0) k) * x1 (ValueIdx.ix2 k (y 1)) = _
  rw [at2_eq x0 (ValueIdx.ix2 (y 0) k) rfl rfl, at2_eq x1 (ValueIdx.ix2 k (y 1)) rfl rfl]
  try rfl

theorem out_A (t : Fin cfg0.N) (y : S512x512.Idx) :
    out0_2 (iblk m c 0 t : Vec Ideal S512x1024 .bf16) (iblk m c 1 t : Vec Ideal S1024x512 .bf16) y = k0_pay1 (F := Ideal) (iblk m c 0 t) (iblk m c 1 t) y := by
  unfold out0_2
  frame_out

/-! ## The blocks are parts of the arguments -/

abbrev argA : S512x16384.Idx → EReal := m ((c : Thread nD τ).loc main_arg0)
abbrev argB : S1024x1536.Idx → EReal := m ((c : Thread nD τ).loc main_arg1)

theorem idx0 : ∀ t : Fin cfg0.N, win0_0.index t 0 = 0 ∧ win0_0.index t 1 = t.val / 3 :=
  (by decide +kernel : ∀ t : Fin grid0.N, win0_0.index t 0 = 0 ∧ win0_0.index t 1 = t.val / 3)
theorem idx1 : ∀ t : Fin cfg0.N, win0_1.index t 0 = 0 ∧ win0_1.index t 1 = t.val % 3 :=
  (by decide +kernel : ∀ t : Fin grid0.N, win0_1.index t 0 = 0 ∧ win0_1.index t 1 = t.val % 3)
theorem idx2 : ∀ t : Fin cfg0.N, win0_2.index t 0 = 0 ∧ win0_2.index t 1 = t.val :=
  (by decide +kernel : ∀ t : Fin grid0.N, win0_2.index t 0 = 0 ∧ win0_2.index t 1 = t.val)

theorem blk0 (t : Fin cfg0.N) (r l : ℕ) (hr : r < 512) (hl : l < 1024) :
    at2 (iblk m c 0 t : Vec Ideal S512x1024 .bf16) r l = at2 (argA m c) (512 * (0) + r) (1024 * (t.val / 3) + l) := by
  conv_lhs => unfold at2
  rw [dif_pos ⟨hr, hl⟩]
  unfold iblk
  rw [View.read_apply]
  show V m c main_arg0 _ = _
  rw [V_main_arg0]
  refine at2_eq (m ((c : Thread nD τ).loc main_arg0) : S512x16384.Idx → EReal) _ ?_ ?_
  · show win0_0.index t 0 * 512 + 1 * r = _; rw [(idx0 t).1]; omega
  · show win0_0.index t 1 * 1024 + 1 * l = _; rw [(idx0 t).2]; omega

theorem blk1 (t : Fin cfg0.N) (r l : ℕ) (hr : r < 1024) (hl : l < 512) :
    at2 (iblk m c 1 t : Vec Ideal S1024x512 .bf16) r l = at2 (argB m c) (1024 * (0) + r) (512 * (t.val % 3) + l) := by
  conv_lhs => unfold at2
  rw [dif_pos ⟨hr, hl⟩]
  unfold iblk
  rw [View.read_apply]
  show V m c main_arg1 _ = _
  rw [V_main_arg1]
  refine at2_eq (m ((c : Thread nD τ).loc main_arg1) : S1024x1536.Idx → EReal) _ ?_ ?_
  · show win0_1.index t 0 * 1024 + 1 * r = _; rw [(idx1 t).1]; omega
  · show win0_1.index t 1 * 512 + 1 * l = _; rw [(idx1 t).2]; omega

/-- The result: in every slab, the slab's rows against the columns of the weight. -/
def res : Buf (Elt Ideal) ((c : Thread nD τ).loc main_v0) :=
  fun i : S512x24576.Idx => slabRowCol (argA m c) (argB m c) 1024 1536 (i 0).val (i 1).val

theorem out_eq (t : Fin cfg0.N) (y : S512x512.Idx) :
    out0_2 (iblk m c 0 t : Vec Ideal S512x1024 .bf16) (iblk m c 1 t : Vec Ideal S1024x512 .bf16) y = slabRowCol (argA m c) (argB m c) 1024 1536 (y 0).val (512 * t.val + (y 1).val) := by
  have hy : (y 1).val < 512 := (y 1).isLt
  rw [out_A]
  refine (pay1_apply (iblk m c 0 t) (iblk m c 1 t) y).trans ?_
  unfold slabRowCol
  rw [Finset.sum_range]
  refine Finset.sum_congr rfl fun k _ => ?_
  have e0 := blk0 m c t (y 0).val k.val (y 0).isLt k.isLt
  have e1 := blk1 m c t k.val (y 1).val k.isLt (y 1).isLt
  rw [e0, e1]
  rw [show (512 * t.val + (y 1).val) / 1536 = t.val / 3 from by omega, show (512 * t.val + (y 1).val) % 1536 = 512 * (t.val % 3) + (y 1).val from by omega]
  simp only [Nat.mul_zero, Nat.zero_add]

theorem flushed_res (t : Fin cfg0.N) :
    (dats m 0 c).flushed 2 t = ((cfg0.win 2).blk t).view.read (Elt Ideal) (res m c) := by
  rw [Cert.Kernel23Ideal.Value.flushed2]
  funext j
  rw [View.read_apply]
  show out0_2 (iblk m c 0 t : Vec Ideal S512x1024 .bf16) (iblk m c 1 t : Vec Ideal S1024x512 .bf16) (fun a => ⟨(j a).val, (j a).isLt⟩) = slabRowCol (argA m c) (argB m c) 1024 1536 (win0_2.index t 0 * 512 + 1 * (j 0).val) (win0_2.index t 1 * 512 + 1 * (j 1).val)
  rw [out_eq m c t, (idx2 t).1, (idx2 t).2]
  congr 1 <;> dsimp only <;> omega

theorem cover (i : S512x24576.Idx) :
    ∃ t : Fin cfg0.N, (cfg0.win 2).flush t = true ∧ i ∈ ((cfg0.win 2).blk t).view.set := by
  have h0 : (i 0 : ℕ) < 512 := (i 0).isLt
  have h1 : (i 1 : ℕ) < 24576 := (i 1).isLt
  have hN : cfg0.N = 48 := N_0
  let t : Fin cfg0.N := ⟨(i 1 : ℕ) / 512, by omega⟩
  have e : t.val = (i 1 : ℕ) / 512 := rfl
  refine ⟨t, flush0_2 t, ?_⟩
  show i ∈ ((View.whole main_v0).slice (win0_2.rect t)).set
  rw [View.set_slice_whole, Rect.mem_set_unit]
  intro a
  match a with
  | ⟨0, _⟩ =>
    show win0_2.index t 0 * 512 ≤ (i 0 : ℕ) ∧ (i 0 : ℕ) < win0_2.index t 0 * 512 + 512
    rw [(idx2 t).1]; omega
  | ⟨1, _⟩ =>
    show win0_2.index t 1 * 512 ≤ (i 1 : ℕ) ∧ (i 1 : ℕ) < win0_2.index t 1 * 512 + 512
    rw [(idx2 t).2]; omega

theorem final : (dats m 0 c).arrAt 2 cfg0.N = res m c :=
  (dats m 0 c).arrAt_eq_of_cover 2 (res m c) (fun t _ => flushed_res m c t) cover

end Cert.Kernel23Ideal.Mat

end
-- ==== Proof.SlabTn1.lean ====
module

public import proofs.«01_k».proof.Defs
public import proofs.«01_k».proof.Proof.Gen.Kernel24Ideal.Value
public import proofs.«01_k».proof.Proof.Slab
public import Idealize.ShloMosaic.Lib.Pipeline.Value
public import Idealize.ShloMosaic.Lib.Pipeline.ValueKit
public import Idealize.ShloMosaic.Lib.KernelVsHost
public import Idealize.ShloMosaic.Lib.Tactic
public import Idealize.ShloMosaic.Lib.Pointwise

@[expose] public section

set_option maxRecDepth 16384

noncomputable section

open Idealize.ShloMosaic Idealize.ShloMosaic.TcCoe Idealize.SL.Sem

/-! The gradient of the weight into the second attention group: what the blocks hold, and the array the run ends with. -/

namespace Cert.Kernel24Ideal.Mat

open Cert.Kernel24Ideal Cert.Kernel24Ideal.Gen Cert.Nat2

set_option maxHeartbeats 4000000

variable (m : (ℓ : Loc nD τ sig) → Buf (Elt Ideal) ℓ) (c : Dev nD)

/-- One point's product: columns of the left block against columns of the right block. -/
theorem pay1_apply (x0 : Vec Ideal S2048x1024 .bf16) (x1 : Vec Ideal S2048x768 .bf16) (y : S1024x768.Idx) :
    k0_pay1 x0 x1 y = ∑ k : Fin 2048, at2 x0 k.val (y 0).val * at2 x1 k.val (y 1).val := by
  unfold k0_pay1
  pointwise
  refine Finset.sum_congr rfl fun k _ => ?_
  show x0 (ValueIdx.ix2 k (y 0)) * x1 (ValueIdx.ix2 k (y 1)) = _
  rw [at2_eq x0 (ValueIdx.ix2 k (y 0)) rfl rfl, at2_eq x1 (ValueIdx.ix2 k (y 1)) rfl rfl]

/-- What the point before left. -/
abbrev prev (t : Fin cfg0.N) := outsAt0 m c (t.val - 1) (Nat.lt_of_le_of_lt (Nat.sub_le _ _) t.isLt)

theorem scr_0 (t : Fin cfg0.N) (h : t.val % 4 = 0) (y : S1024x768.Idx) :
    (outsAt0 m c t.val t.isLt).2 y = k0_pay1 (F := Ideal) (iblk m c 0 t) (iblk m c 1 t) y := by
  rw [outsAt0_A m c t h (by omega) (by omega)]; dsimp only
  frame_out
  unfold k0_pay2
  pointwise

theorem scr_mid (t : Fin cfg0.N) (h : 1 ≤ t.val % 4 ∧ t.val % 4 ≤ 2) (y : S1024x768.Idx) :
    (outsAt0 m c t.val t.isLt).2 y = (prev m c t).2 y + k0_pay1 (F := Ideal) (iblk m c 0 t) (iblk m c 1 t) y := by
  rw [outsAt0_B m c t (by omega) h (by omega)]; dsimp only
  frame_out
  unfold k0_pay3
  pointwise
  refine congrArg (· + _) ?_
  exact congrFun (Memref.IsWhole.read_unread (m := Memref.whole cc0_scratch0) _ _) y

theorem out_C (t : Fin cfg0.N) (h : t.val % 4 = 3) (y : S1024x768.Idx) :
    (outsAt0 m c t.val t.isLt).1 y = (prev m c t).2 y + k0_pay1 (F := Ideal) (iblk m c 0 t) (iblk m c 1 t) y := by
  rw [outsAt0_C m c t (by omega) (by omega) h]; dsimp only
  frame_out
  unfold k0_pay4
  pointwise
  refine congrArg (· + _) ?_
  exact congrFun (Memref.IsWhole.read_unread (m := Memref.whole cc0_scratch0) _ _) y

/-! ## The blocks are parts of the arguments -/

abbrev argA : S2048x4096.Idx → EReal := m ((c : Thread nD τ).loc main_arg0)
abbrev argB : S2048x6144.Idx → EReal := m ((c : Thread nD τ).loc main_arg1)

theorem idx0 : ∀ t : Fin cfg0.N, win0_0.index t 0 = 0 ∧ win0_0.index t 1 = t.val % 4 :=
  (by decide +kernel : ∀ t : Fin grid0.N, win0_0.index t 0 = 0 ∧ win0_0.index t 1 = t.val % 4)
theorem idx1 : ∀ t : Fin cfg0.N, win0_1.index t 0 = 0 ∧ win0_1.index t 1 = 2 * (t.val % 4) + t.val / 4 :=
  (by decide +kernel : ∀ t : Fin grid0.N, win0_1.index t 0 = 0 ∧ win0_1.index t 1 = 2 * (t.val % 4) + t.val / 4)
theorem idx2 : ∀ t : Fin cfg0.N, win0_2.index t 0 = 0 ∧ win0_2.index t 1 = t.val / 4 :=
  (by decide +kernel : ∀ t : Fin grid0.N, win0_2.index t 0 = 0 ∧ win0_2.index t 1 = t.val / 4)

theorem blk0 (t : Fin cfg0.N) (r l : ℕ) (hr : r < 2048) (hl : l < 1024) :
    at2 (iblk m c 0 t : Vec Ideal S2048x1024 .bf16) r l = at2 (argA m c) (2048 * (0) + r) (1024 * (t.val % 4) + l) := by
  conv_lhs => unfold at2
  rw [dif_pos ⟨hr, hl⟩]
  unfold iblk
  rw [View.read_apply]
  show V m c main_arg0 _ = _
  rw [V_main_arg0]
  refine at2_eq (m ((c : Thread nD τ).loc main_arg0) : S2048x4096.Idx → EReal) _ ?_ ?_
  · show win0_0.index t 0 * 2048 + 1 * r = _; rw [(idx0 t).1]; omega
  · show win0_0.index t 1 * 1024 + 1 * l = _; rw [(idx0 t).2]; omega

theorem blk1 (t : Fin cfg0.N) (r l : ℕ) (hr : r < 2048) (hl : l < 768) :
    at2 (iblk m c 1 t : Vec Ideal S2048x768 .bf16) r l = at2 (argB m c) (2048 * (0) + r) (768 * (2 * (t.val % 4) + t.val / 4) + l) := by
  conv_lhs => unfold at2
  rw [dif_pos ⟨hr, hl⟩]
  unfold iblk
  rw [View.read_apply]
  show V m c main_arg1 _ = _
  rw [V_main_arg1]
  refine at2_eq (m ((c : Thread nD τ).loc main_arg1) : S2048x6144.Idx → EReal) _ ?_ ?_
  · show win0_1.index t 0 * 2048 + 1 * r = _; rw [(idx1 t).1]; omega
  · show win0_1.index t 1 * 768 + 1 * l = _; rw [(idx1 t).2]; omega

/-- The first slabs' part of the result. -/
abbrev upto (n r l : ℕ) : EReal := slabColDot (argA m c) (argB m c) 1024 1536 2048 n r l

/-- One point adds its slab. -/
theorem part_eq (t : Fin cfg0.N) (y : S1024x768.Idx) :
    upto m c (t.val % 4) (y 0).val (768 * (t.val / 4) + (y 1).val) + k0_pay1 (F := Ideal) (iblk m c 0 t) (iblk m c 1 t) y
      = upto m c (t.val % 4 + 1) (y 0).val (768 * (t.val / 4) + (y 1).val) := by
  show slabColDot _ _ _ _ _ _ _ _ + _ = slabColDot _ _ _ _ _ _ _ _
  rw [slabColDot_succ]
  refine congrArg (_ + ·) ((pay1_apply (iblk m c 0 t) (iblk m c 1 t) y).trans ?_)
  rw [Finset.sum_range]
  refine Finset.sum_congr rfl fun k _ => ?_
  have e0 := blk0 m c t k.val (y 0).val k.isLt (y 0).isLt
  have e1 := blk1 m c t k.val (y 1).val k.isLt (y 1).isLt
  rw [e0, e1]
  rw [show 768 * (2 * (t.val % 4) + t.val / 4) + (y 1).val = 1536 * (t.val % 4) + (768 * (t.val / 4) + (y 1).val) from by omega]
  simp only [Nat.mul_zero, Nat.zero_add]

/-- What the scratch holds after each point but the last of a run. -/
theorem scr_eq (j : ℕ) (hj : j ≤ 2) : ∀ (t : Fin cfg0.N), t.val % 4 = j → ∀ y : S1024x768.Idx,
    (outsAt0 m c t.val t.isLt).2 y = upto m c (j + 1) (y 0).val (768 * (t.val / 4) + (y 1).val) := by
  induction j with
  | zero =>
    intro t ht y
    rw [scr_0 m c t ht y]
    have e := part_eq m c t y
    rw [ht] at e
    refine Eq.trans ?_ e
    have z : upto m c 0 (y 0).val (768 * (t.val / 4) + (y 1).val) = 0 := Finset.sum_range_zero _
    rw [z, zero_add]
  | succ j ih =>
    intro t ht y
    rw [scr_mid m c t (by omega) y]
    have hp : (t.val - 1) % 4 = j := by omega
    have hq : (t.val - 1) / 4 = t.val / 4 := by omega
    have e1 := ih (by omega) ⟨t.val - 1, Nat.lt_of_le_of_lt (Nat.sub_le _ _) t.isLt⟩ hp y
    have e := part_eq m c t y
    rw [ht] at e
    refine Eq.trans ?_ e
    refine congrArg (· + _) (e1.trans ?_)
    show upto m c _ _ (768 * ((t.val - 1) / 4) + _) = _
    rw [hq]

/-- The result: in every slab the columns of the left argument against the columns of the right, summed over the slabs. -/
def res : Buf (Elt Ideal) ((c : Thread nD τ).loc main_v0) :=
  fun i : S1024x1536.Idx => upto m c 4 (i 0).val (i 1).val

/-- The last point of a run leaves its block of the result. -/
theorem out_eq (t : Fin cfg0.N) (h : t.val % 4 = 3) (y : S1024x768.Idx) :
    (outsAt0 m c t.val t.isLt).1 y = upto m c 4 (y 0).val (768 * (t.val / 4) + (y 1).val) := by
  rw [out_C m c t h y]
  have hp : (t.val - 1) % 4 = 2 := by omega
  have hq : (t.val - 1) / 4 = t.val / 4 := by omega
  have e1 := scr_eq m c 2 (Nat.le_refl _) ⟨t.val - 1, Nat.lt_of_le_of_lt (Nat.sub_le _ _) t.isLt⟩ hp y
  have e := part_eq m c t y
  rw [h] at e
  refine Eq.trans ?_ e
  refine congrArg (· + _) (e1.trans ?_)
  show upto m c _ _ (768 * ((t.val - 1) / 4) + _) = _
  rw [hq]

theorem flushed_res (t : Fin cfg0.N) (hf : (cfg0.win 2).flush t = true) :
    (dats m 0 c).flushed 2 t = ((cfg0.win 2).blk t).view.read (Elt Ideal) (res m c) := by
  have h2 : t.val % 4 = 3 := (flush0_2 t).mp hf
  rw [Cert.Kernel24Ideal.Value.flushed2]
  funext j
  rw [View.read_apply]
  show (outsAt0 m c t.val t.isLt).1 (fun a => ⟨(j a).val, (j a).isLt⟩) = upto m c 4 (win0_2.index t 0 * 1024 + 1 * (j 0).val) (win0_2.index t 1 * 768 + 1 * (j 1).val)
  rw [out_eq m c t h2, (idx2 t).1, (idx2 t).2]
  congr 1 <;> dsimp only <;> omega

theorem cover (i : S1024x1536.Idx) :
    ∃ t : Fin cfg0.N, (cfg0.win 2).flush t = true ∧ i ∈ ((cfg0.win 2).blk t).view.set := by
  have h0 : (i 0 : ℕ) < 1024 := (i 0).isLt
  have h1 : (i 1 : ℕ) < 1536 := (i 1).isLt
  have hN : cfg0.N = 8 := N_0
  let t : Fin cfg0.N := ⟨4 * ((i 1 : ℕ) / 768) + 3, by omega⟩
  have e : t.val = 4 * ((i 1 : ℕ) / 768) + 3 := rfl
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t 0 * 1024 ≤ (i 0 : ℕ) ∧ (i 0 : ℕ) < win0_2.index t 0 * 1024 + 1024
    rw [(idx2 t).1]; omega
  | ⟨1, _⟩ =>
    show win0_2.index t 1 * 768 ≤ (i 1 : ℕ) ∧ (i 1 : ℕ) < win0_2.index t 1 * 768 + 768
    rw [(idx2 t).2]; omega

theorem final : (dats m 0 c).arrAt 2 cfg0.N = res m c :=
  (dats m 0 c).arrAt_eq_of_cover 2 (res m c) (fun t hf => flushed_res m c t hf) cover

end Cert.Kernel24Ideal.Mat

end
-- ==== Proof.SlabTn2.lean ====
module

public import proofs.«01_k».proof.Defs
public import proofs.«01_k».proof.Proof.Gen.Kernel25Ideal.Value
public import proofs.«01_k».proof.Proof.Slab
public import Idealize.ShloMosaic.Lib.Pipeline.Value
public import Idealize.ShloMosaic.Lib.Pipeline.ValueKit
public import Idealize.ShloMosaic.Lib.KernelVsHost
public import Idealize.ShloMosaic.Lib.Tactic
public import Idealize.ShloMosaic.Lib.Pointwise

@[expose] public section

set_option maxRecDepth 16384

noncomputable section

open Idealize.ShloMosaic Idealize.ShloMosaic.TcCoe Idealize.SL.Sem

/-! The gradient of the weight into the third attention group: what the blocks hold, and the array the run ends with. -/

namespace Cert.Kernel25Ideal.Mat

open Cert.Kernel25Ideal Cert.Kernel25Ideal.Gen Cert.Nat2

set_option maxHeartbeats 4000000

variable (m : (ℓ : Loc nD τ sig) → Buf (Elt Ideal) ℓ) (c : Dev nD)

/-- One point's product: columns of the left block against columns of the right block. -/
theorem pay1_apply (x0 : Vec Ideal S512x1024 .bf16) (x1 : Vec Ideal S512x768 .bf16) (y : S1024x768.Idx) :
    k0_pay1 x0 x1 y = ∑ k : Fin 512, at2 x0 k.val (y 0).val * at2 x1 k.val (y 1).val := by
  unfold k0_pay1
  pointwise
  refine Finset.sum_congr rfl fun k _ => ?_
  show x0 (ValueIdx.ix2 k (y 0)) * x1 (ValueIdx.ix2 k (y 1)) = _
  rw [at2_eq x0 (ValueIdx.ix2 k (y 0)) rfl rfl, at2_eq x1 (ValueIdx.ix2 k (y 1)) rfl rfl]

/-- What the point before left. -/
abbrev prev (t : Fin cfg0.N) := outsAt0 m c (t.val - 1) (Nat.lt_of_le_of_lt (Nat.sub_le _ _) t.isLt)

theorem scr_0 (t : Fin cfg0.N) (h : t.val % 16 = 0) (y : S1024x768.Idx) :
    (outsAt0 m c t.val t.isLt).2 y = k0_pay1 (F := Ideal) (iblk m c 0 t) (iblk m c 1 t) y := by
  rw [outsAt0_A m c t h (by omega) (by omega)]; dsimp only
  frame_out
  unfold k0_pay2
  pointwise

theorem scr_mid (t : Fin cfg0.N) (h : 1 ≤ t.val % 16 ∧ t.val % 16 ≤ 14) (y : S1024x768.Idx) :
    (outsAt0 m c t.val t.isLt).2 y = (prev m c t).2 y + k0_pay1 (F := Ideal) (iblk m c 0 t) (iblk m c 1 t) y := by
  rw [outsAt0_B m c t (by omega) h (by omega)]; dsimp only
  frame_out
  unfold k0_pay3
  pointwise
  refine congrArg (· + _) ?_
  exact congrFun (Memref.IsWhole.read_unread (m := Memref.whole cc0_scratch0) _ _) y

theorem out_C (t : Fin cfg0.N) (h : t.val % 16 = 15) (y : S1024x768.Idx) :
    (outsAt0 m c t.val t.isLt).1 y = (prev m c t).2 y + k0_pay1 (F := Ideal) (iblk m c 0 t) (iblk m c 1 t) y := by
  rw [outsAt0_C m c t (by omega) (by omega) h]; dsimp only
  frame_out
  unfold k0_pay4
  pointwise
  refine congrArg (· + _) ?_
  exact congrFun (Memref.IsWhole.read_unread (m := Memref.whole cc0_scratch0) _ _) y

/-! ## The blocks are parts of the arguments -/

abbrev argA : S512x16384.Idx → EReal := m ((c : Thread nD τ).loc main_arg0)
abbrev argB : S512x24576.Idx → EReal := m ((c : Thread nD τ).loc main_arg1)

theorem idx0 : ∀ t : Fin cfg0.N, win0_0.index t 0 = 0 ∧ win0_0.index t 1 = t.val % 16 :=
  (by decide +kernel : ∀ t : Fin grid0.N, win0_0.index t 0 = 0 ∧ win0_0.index t 1 = t.val % 16)
theorem idx1 : ∀ t : Fin cfg0.N, win0_1.index t 0 = 0 ∧ win0_1.index t 1 = 2 * (t.val % 16) + t.val / 16 :=
  (by decide +kernel : ∀ t : Fin grid0.N, win0_1.index t 0 = 0 ∧ win0_1.index t 1 = 2 * (t.val % 16) + t.val / 16)
theorem idx2 : ∀ t : Fin cfg0.N, win0_2.index t 0 = 0 ∧ win0_2.index t 1 = t.val / 16 :=
  (by decide +kernel : ∀ t : Fin grid0.N, win0_2.index t 0 = 0 ∧ win0_2.index t 1 = t.val / 16)

theorem blk0 (t : Fin cfg0.N) (r l : ℕ) (hr : r < 512) (hl : l < 1024) :
    at2 (iblk m c 0 t : Vec Ideal S512x1024 .bf16) r l = at2 (argA m c) (512 * (0) + r) (1024 * (t.val % 16) + l) := by
  conv_lhs => unfold at2
  rw [dif_pos ⟨hr, hl⟩]
  unfold iblk
  rw [View.read_apply]
  show V m c main_arg0 _ = _
  rw [V_main_arg0]
  refine at2_eq (m ((c : Thread nD τ).loc main_arg0) : S512x16384.Idx → EReal) _ ?_ ?_
  · show win0_0.index t 0 * 512 + 1 * r = _; rw [(idx0 t).1]; omega
  · show win0_0.index t 1 * 1024 + 1 * l = _; rw [(idx0 t).2]; omega

theorem blk1 (t : Fin cfg0.N) (r l : ℕ) (hr : r < 512) (hl : l < 768) :
    at2 (iblk m c 1 t : Vec Ideal S512x768 .bf16) r l = at2 (argB m c) (512 * (0) + r) (768 * (2 * (t.val % 16) + t.val / 16) + l) := by
  conv_lhs => unfold at2
  rw [dif_pos ⟨hr, hl⟩]
  unfold iblk
  rw [View.read_apply]
  show V m c main_arg1 _ = _
  rw [V_main_arg1]
  refine at2_eq (m ((c : Thread nD τ).loc main_arg1) : S512x24576.Idx → EReal) _ ?_ ?_
  · show win0_1.index t 0 * 512 + 1 * r = _; rw [(idx1 t).1]; omega
  · show win0_1.index t 1 * 768 + 1 * l = _; rw [(idx1 t).2]; omega

/-- The first slabs' part of the result. -/
abbrev upto (n r l : ℕ) : EReal := slabColDot (argA m c) (argB m c) 1024 1536 512 n r l

/-- One point adds its slab. -/
theorem part_eq (t : Fin cfg0.N) (y : S1024x768.Idx) :
    upto m c (t.val % 16) (y 0).val (768 * (t.val / 16) + (y 1).val) + k0_pay1 (F := Ideal) (iblk m c 0 t) (iblk m c 1 t) y
      = upto m c (t.val % 16 + 1) (y 0).val (768 * (t.val / 16) + (y 1).val) := by
  show slabColDot _ _ _ _ _ _ _ _ + _ = slabColDot _ _ _ _ _ _ _ _
  rw [slabColDot_succ]
  refine congrArg (_ + ·) ((pay1_apply (iblk m c 0 t) (iblk m c 1 t) y).trans ?_)
  rw [Finset.sum_range]
  refine Finset.sum_congr rfl fun k _ => ?_
  have e0 := blk0 m c t k.val (y 0).val k.isLt (y 0).isLt
  have e1 := blk1 m c t k.val (y 1).val k.isLt (y 1).isLt
  rw [e0, e1]
  rw [show 768 * (2 * (t.val % 16) + t.val / 16) + (y 1).val = 1536 * (t.val % 16) + (768 * (t.val / 16) + (y 1).val) from by omega]
  simp only [Nat.mul_zero, Nat.zero_add]

/-- What the scratch holds after each point but the last of a run. -/
theorem scr_eq (j : ℕ) (hj : j ≤ 14) : ∀ (t : Fin cfg0.N), t.val % 16 = j → ∀ y : S1024x768.Idx,
    (outsAt0 m c t.val t.isLt).2 y = upto m c (j + 1) (y 0).val (768 * (t.val / 16) + (y 1).val) := by
  induction j with
  | zero =>
    intro t ht y
    rw [scr_0 m c t ht y]
    have e := part_eq m c t y
    rw [ht] at e
    refine Eq.trans ?_ e
    have z : upto m c 0 (y 0).val (768 * (t.val / 16) + (y 1).val) = 0 := Finset.sum_range_zero _
    rw [z, zero_add]
  | succ j ih =>
    intro t ht y
    rw [scr_mid m c t (by omega) y]
    have hp : (t.val - 1) % 16 = j := by omega
    have hq : (t.val - 1) / 16 = t.val / 16 := by omega
    have e1 := ih (by omega) ⟨t.val - 1, Nat.lt_of_le_of_lt (Nat.sub_le _ _) t.isLt⟩ hp y
    have e := part_eq m c t y
    rw [ht] at e
    refine Eq.trans ?_ e
    refine congrArg (· + _) (e1.trans ?_)
    show upto m c _ _ (768 * ((t.val - 1) / 16) + _) = _
    rw [hq]

/-- The result: in every slab the columns of the left argument against the columns of the right, summed over the slabs. -/
def res : Buf (Elt Ideal) ((c : Thread nD τ).loc main_v0) :=
  fun i : S1024x1536.Idx => upto m c 16 (i 0).val (i 1).val

/-- The last point of a run leaves its block of the result. -/
theorem out_eq (t : Fin cfg0.N) (h : t.val % 16 = 15) (y : S1024x768.Idx) :
    (outsAt0 m c t.val t.isLt).1 y = upto m c 16 (y 0).val (768 * (t.val / 16) + (y 1).val) := by
  rw [out_C m c t h y]
  have hp : (t.val - 1) % 16 = 14 := by omega
  have hq : (t.val - 1) / 16 = t.val / 16 := by omega
  have e1 := scr_eq m c 14 (Nat.le_refl _) ⟨t.val - 1, Nat.lt_of_le_of_lt (Nat.sub_le _ _) t.isLt⟩ hp y
  have e := part_eq m c t y
  rw [h] at e
  refine Eq.trans ?_ e
  refine congrArg (· + _) (e1.trans ?_)
  show upto m c _ _ (768 * ((t.val - 1) / 16) + _) = _
  rw [hq]

theorem flushed_res (t : Fin cfg0.N) (hf : (cfg0.win 2).flush t = true) :
    (dats m 0 c).flushed 2 t = ((cfg0.win 2).blk t).view.read (Elt Ideal) (res m c) := by
  have h2 : t.val % 16 = 15 := (flush0_2 t).mp hf
  rw [Cert.Kernel25Ideal.Value.flushed2]
  funext j
  rw [View.read_apply]
  show (outsAt0 m c t.val t.isLt).1 (fun a => ⟨(j a).val, (j a).isLt⟩) = upto m c 16 (win0_2.index t 0 * 1024 + 1 * (j 0).val) (win0_2.index t 1 * 768 + 1 * (j 1).val)
  rw [out_eq m c t h2, (idx2 t).1, (idx2 t).2]
  congr 1 <;> dsimp only <;> omega

theorem cover (i : S1024x1536.Idx) :
    ∃ t : Fin cfg0.N, (cfg0.win 2).flush t = true ∧ i ∈ ((cfg0.win 2).blk t).view.set := by
  have h0 : (i 0 : ℕ) < 1024 := (i 0).isLt
  have h1 : (i 1 : ℕ) < 1536 := (i 1).isLt
  have hN : cfg0.N = 32 := N_0
  let t : Fin cfg0.N := ⟨16 * ((i 1 : ℕ) / 768) + 15, by omega⟩
  have e : t.val = 16 * ((i 1 : ℕ) / 768) + 15 := rfl
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t 0 * 1024 ≤ (i 0 : ℕ) ∧ (i 0 : ℕ) < win0_2.index t 0 * 1024 + 1024
    rw [(idx2 t).1]; omega
  | ⟨1, _⟩ =>
    show win0_2.index t 1 * 768 ≤ (i 1 : ℕ) ∧ (i 1 : ℕ) < win0_2.index t 1 * 768 + 768
    rw [(idx2 t).2]; omega

theorem final : (dats m 0 c).arrAt 2 cfg0.N = res m c :=
  (dats m 0 c).arrAt_eq_of_cover 2 (res m c) (fun t hf => flushed_res m c t hf) cover

end Cert.Kernel25Ideal.Mat

end
-- ==== Proof.SlabNt1.lean ====
module

public import proofs.«01_k».proof.Defs
public import proofs.«01_k».proof.Proof.Gen.Kernel26Ideal.Frame
public import proofs.«01_k».proof.Proof.Slab
public import Idealize.ShloMosaic.Lib.Pipeline.Value
public import Idealize.ShloMosaic.Lib.Pipeline.ValueKit
public import Idealize.ShloMosaic.Lib.KernelVsHost
public import Idealize.ShloMosaic.Lib.Tactic
public import Idealize.ShloMosaic.Lib.Pointwise

@[expose] public section

set_option maxRecDepth 16384

noncomputable section

open Idealize.ShloMosaic Idealize.ShloMosaic.TcCoe Idealize.SL.Sem

/-! The gradient of the input of the second attention group: what the blocks hold, and the array the run ends with. -/

namespace Cert.Kernel26Ideal.Mat

open Cert.Kernel26Ideal Cert.Kernel26Ideal.Gen Cert.Nat2

set_option maxHeartbeats 4000000

variable (m : (ℓ : Loc nD τ sig) → Buf (Elt Ideal) ℓ) (c : Dev nD)

theorem pay2_apply (v : Vec Ideal S2048x1024 .f32) (x0 : Vec Ideal S2048x768 .bf16) (x1 : Vec Ideal S1024x768 .bf16) (y : S2048x1024.Idx) :
    k0_pay2 v x0 x1 y = v y + ∑ k : Fin 768, at2 x0 (y 0).val k.val * at2 x1 (y 1).val k.val := by
  unfold k0_pay2
  pointwise
  refine congrArg (v y + ·) (Finset.sum_congr rfl fun k _ => ?_)
  show x0 (ValueIdx.ix2 (y 0) k) * x1 (ValueIdx.ix2 (y 1) k) = _
  rw [at2_eq x0 (ValueIdx.ix2 (y 0) k) rfl rfl, at2_eq x1 (ValueIdx.ix2 (y 1) k) rfl rfl]
  try rfl

theorem pay1_apply (y : S2048x1024.Idx) : k0_pay1 (F := Ideal) y = 0 := by
  unfold k0_pay1
  pointwise

/-- What the point before left. -/
abbrev prev (t : Fin cfg0.N) := outsAt0 m c (t.val - 1) (Nat.lt_of_le_of_lt (Nat.sub_le _ _) t.isLt)

theorem scr_A (t : Fin cfg0.N) (h : t.val % 2 = 0) (y : S2048x1024.Idx) :
    (outsAt0 m c t.val t.isLt).2 y = k0_pay2 (F := Ideal) (k0_pay1 (F := Ideal)) (iblk m c 0 t) (iblk m c 1 t) y := by
  rw [outsAt0_A m c t h (by omega)]; dsimp only
  frame_out

theorem out_B (t : Fin cfg0.N) (h : t.val % 2 = 1) (y : S2048x1024.Idx) :
    (outsAt0 m c t.val t.isLt).1 y = k0_pay2 (F := Ideal) (prev m c t).2 (iblk m c 0 t) (iblk m c 1 t) y := by
  rw [outsAt0_B m c t (by omega) h]; dsimp only
  frame_out
  exact congrArg (fun v => k0_pay2 (F := Ideal) v (iblk m c 0 t) (iblk m c 1 t) y) (Memref.IsWhole.read_unread (m := Memref.whole cc0_scratch0) _ _)

/-! ## The blocks are parts of the arguments -/

abbrev argA : S2048x6144.Idx → EReal := m ((c : Thread nD τ).loc main_arg0)
abbrev argB : S1024x1536.Idx → EReal := m ((c : Thread nD τ).loc main_arg1)

theorem idx0 : ∀ t : Fin cfg0.N, win0_0.index t 0 = 0 ∧ win0_0.index t 1 = t.val :=
  (by decide +kernel : ∀ t : Fin grid0.N, win0_0.index t 0 = 0 ∧ win0_0.index t 1 = t.val)
theorem idx1 : ∀ t : Fin cfg0.N, win0_1.index t 0 = 0 ∧ win0_1.index t 1 = t.val % 2 :=
  (by decide +kernel : ∀ t : Fin grid0.N, win0_1.index t 0 = 0 ∧ win0_1.index t 1 = t.val % 2)
theorem idx2 : ∀ t : Fin cfg0.N, win0_2.index t 0 = 0 ∧ win0_2.index t 1 = t.val / 2 :=
  (by decide +kernel : ∀ t : Fin grid0.N, win0_2.index t 0 = 0 ∧ win0_2.index t 1 = t.val / 2)

theorem blk0 (t : Fin cfg0.N) (r l : ℕ) (hr : r < 2048) (hl : l < 768) :
    at2 (iblk m c 0 t : Vec Ideal S2048x768 .bf16) r l = at2 (argA m c) (2048 * (0) + r) (768 * (t.val) + l) := by
  conv_lhs => unfold at2
  rw [dif_pos ⟨hr, hl⟩]
  unfold iblk
  rw [View.read_apply]
  show V m c main_arg0 _ = _
  rw [V_main_arg0]
  refine at2_eq (m ((c : Thread nD τ).loc main_arg0) : S2048x6144.Idx → EReal) _ ?_ ?_
  · show win0_0.index t 0 * 2048 + 1 * r = _; rw [(idx0 t).1]; omega
  · show win0_0.index t 1 * 768 + 1 * l = _; rw [(idx0 t).2]; omega

theorem blk1 (t : Fin cfg0.N) (r l : ℕ) (hr : r < 1024) (hl : l < 768) :
    at2 (iblk m c 1 t : Vec Ideal S1024x768 .bf16) r l = at2 (argB m c) (1024 * (0) + r) (768 * (t.val % 2) + l) := by
  conv_lhs => unfold at2
  rw [dif_pos ⟨hr, hl⟩]
  unfold iblk
  rw [View.read_apply]
  show V m c main_arg1 _ = _
  rw [V_main_arg1]
  refine at2_eq (m ((c : Thread nD τ).loc main_arg1) : S1024x1536.Idx → EReal) _ ?_ ?_
  · show win0_1.index t 0 * 1024 + 1 * r = _; rw [(idx1 t).1]; omega
  · show win0_1.index t 1 * 768 + 1 * l = _; rw [(idx1 t).2]; omega

/-- The result: in every slab, the slab's rows against the rows of the weight. -/
def res : Buf (Elt Ideal) ((c : Thread nD τ).loc main_v0) :=
  fun i : S2048x4096.Idx => slabRowRow (argA m c) (argB m c) 1536 1024 (i 0).val (i 1).val

theorem part_eq (t : Fin cfg0.N) (y : S2048x1024.Idx) :
    ∑ k : Fin 768, at2 (iblk m c 0 t : Vec Ideal S2048x768 .bf16) (y 0).val k.val * at2 (iblk m c 1 t : Vec Ideal S1024x768 .bf16) (y 1).val k.val
      = ∑ k : Fin 768, at2 (argA m c) (y 0).val (1536 * (t.val / 2) + (768 * (t.val % 2) + k.val)) * at2 (argB m c) (y 1).val (768 * (t.val % 2) + k.val) := by
  refine Finset.sum_congr rfl fun k _ => ?_
  rw [blk0 m c t (y 0).val k.val (y 0).isLt k.isLt, blk1 m c t (y 1).val k.val (y 1).isLt k.isLt]
  rw [show 768 * t.val + k.val = 1536 * (t.val / 2) + (768 * (t.val % 2) + k.val) from by omega]
  simp only [Nat.mul_zero, Nat.zero_add]

/-- The second point of a pair leaves its block of the result. -/
theorem out_eq (t : Fin cfg0.N) (h : t.val % 2 = 1) (y : S2048x1024.Idx) :
    (outsAt0 m c t.val t.isLt).1 y = slabRowRow (argA m c) (argB m c) 1536 1024 (y 0).val (1024 * (t.val / 2) + (y 1).val) := by
  have hy : (y 1).val < 1024 := (y 1).isLt
  have hp : t.val - 1 < cfg0.N := Nat.lt_of_le_of_lt (Nat.sub_le _ _) t.isLt
  have h0 : (⟨t.val - 1, hp⟩ : Fin cfg0.N).val % 2 = 0 := by dsimp only; omega
  rw [out_B m c t h]
  refine (pay2_apply _ (iblk m c 0 t) (iblk m c 1 t) y).trans ?_
  refine Eq.trans (congrArg (· + _) ((scr_A m c ⟨t.val - 1, hp⟩ h0 y).trans (pay2_apply _ (iblk m c 0 ⟨t.val - 1, hp⟩) (iblk m c 1 ⟨t.val - 1, hp⟩) y))) ?_
  rw [pay1_apply, zero_add, part_eq, part_eq]
  dsimp only
  rw [show (t.val - 1) % 2 = 0 from by omega, show (t.val - 1) / 2 = t.val / 2 from by omega, h]
  unfold slabRowRow
  rw [show (1024 * (t.val / 2) + (y 1).val) / 1024 = t.val / 2 from by omega, show (1024 * (t.val / 2) + (y 1).val) % 1024 = (y 1).val from by omega]
  refine Eq.trans ?_ (sum_two (fun k => at2 (argA m c) (y 0).val (1536 * (t.val / 2) + k) * at2 (argB m c) (y 1).val k) 768 768)
  simp only [Nat.mul_zero, Nat.zero_add, Nat.mul_one]

theorem flushed_res (t : Fin cfg0.N) (hf : (cfg0.win 2).flush t = true) :
    (dats m 0 c).flushed 2 t = ((cfg0.win 2).blk t).view.read (Elt Ideal) (res m c) := by
  have h2 : t.val % 2 = 1 := (flush0_2 t).mp hf
  show (cfg0.win 2).cut (grid0.coords t) ((dats m 0 c).after 2 t) = _
  rw [after0_2]
  funext j
  rw [View.read_apply]
  show (outsAt0 m c t.val t.isLt).1 (fun a => ⟨(j a).val, (j a).isLt⟩) = slabRowRow (argA m c) (argB m c) 1536 1024 (win0_2.index t 0 * 2048 + 1 * (j 0).val) (win0_2.index t 1 * 1024 + 1 * (j 1).val)
  rw [out_eq m c t h2, (idx2 t).1, (idx2 t).2]
  congr 1 <;> dsimp only <;> omega

theorem cover (i : S2048x4096.Idx) :
    ∃ t : Fin cfg0.N, (cfg0.win 2).flush t = true ∧ i ∈ ((cfg0.win 2).blk t).view.set := by
  have h0 : (i 0 : ℕ) < 2048 := (i 0).isLt
  have h1 : (i 1 : ℕ) < 4096 := (i 1).isLt
  have hN : cfg0.N = 8 := N_0
  let t : Fin cfg0.N := ⟨2 * ((i 1 : ℕ) / 1024) + 1, by omega⟩
  have e : t.val = 2 * ((i 1 : ℕ) / 1024) + 1 := rfl
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t 0 * 2048 ≤ (i 0 : ℕ) ∧ (i 0 : ℕ) < win0_2.index t 0 * 2048 + 2048
    rw [(idx2 t).1]; omega
  | ⟨1, _⟩ =>
    show win0_2.index t 1 * 1024 ≤ (i 1 : ℕ) ∧ (i 1 : ℕ) < win0_2.index t 1 * 1024 + 1024
    rw [(idx2 t).2]; omega

theorem final : (dats m 0 c).arrAt 2 cfg0.N = res m c :=
  (dats m 0 c).arrAt_eq_of_cover 2 (res m c) (fun t hf => flushed_res m c t hf) cover

/-- Every run ends with the result in its array, and with the arguments as they were. -/
theorem run_res (ρ : Dev nD → PrngReg) :
    θ_run defs (onTc (τ := τ) (main (F := Ideal))) ⟨m, fun _ => 0, ρ⟩ fun r => ∀ c : Dev nD,
      r.2.mem ((c : Thread nD τ).loc main_v0) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (run_main m ρ)
  have hin : ∀ w : Fin 3, (cfg0.win w).isOut = false → _ := fun w hw => ((h c).1 w).trans (((dats m 0 c).arrAt_in w hw _).trans (A_eq m c w))
  exact ⟨(h c).1 2, (hin 0 rfl).trans (V_main_arg0 m c), (hin 1 rfl).trans (V_main_arg1 m c)⟩

end Cert.Kernel26Ideal.Mat

end
-- ==== Proof.SlabNt2.lean ====
module

public import proofs.«01_k».proof.Defs
public import proofs.«01_k».proof.Proof.Gen.Kernel27Ideal.Frame
public import proofs.«01_k».proof.Proof.Slab
public import Idealize.ShloMosaic.Lib.Pipeline.Value
public import Idealize.ShloMosaic.Lib.Pipeline.ValueKit
public import Idealize.ShloMosaic.Lib.KernelVsHost
public import Idealize.ShloMosaic.Lib.Tactic
public import Idealize.ShloMosaic.Lib.Pointwise

@[expose] public section

set_option maxRecDepth 16384

noncomputable section

open Idealize.ShloMosaic Idealize.ShloMosaic.TcCoe Idealize.SL.Sem

/-! The gradient of the input of the third attention group: what the blocks hold, and the array the run ends with. -/

namespace Cert.Kernel27Ideal.Mat

open Cert.Kernel27Ideal Cert.Kernel27Ideal.Gen Cert.Nat2

set_option maxHeartbeats 4000000

variable (m : (ℓ : Loc nD τ sig) → Buf (Elt Ideal) ℓ) (c : Dev nD)

theorem pay2_apply (v : Vec Ideal S512x1024 .f32) (x0 : Vec Ideal S512x768 .bf16) (x1 : Vec Ideal S1024x768 .bf16) (y : S512x1024.Idx) :
    k0_pay2 v x0 x1 y = v y + ∑ k : Fin 768, at2 x0 (y 0).val k.val * at2 x1 (y 1).val k.val := by
  unfold k0_pay2
  pointwise
  refine congrArg (v y + ·) (Finset.sum_congr rfl fun k _ => ?_)
  show x0 (ValueIdx.ix2 (y 0) k) * x1 (ValueIdx.ix2 (y 1) k) = _
  rw [at2_eq x0 (ValueIdx.ix2 (y 0) k) rfl rfl, at2_eq x1 (ValueIdx.ix2 (y 1) k) rfl rfl]
  try rfl

theorem pay1_apply (y : S512x1024.Idx) : k0_pay1 (F := Ideal) y = 0 := by
  unfold k0_pay1
  pointwise

/-- What the point before left. -/
abbrev prev (t : Fin cfg0.N) := outsAt0 m c (t.val - 1) (Nat.lt_of_le_of_lt (Nat.sub_le _ _) t.isLt)

theorem scr_A (t : Fin cfg0.N) (h : t.val % 2 = 0) (y : S512x1024.Idx) :
    (outsAt0 m c t.val t.isLt).2 y = k0_pay2 (F := Ideal) (k0_pay1 (F := Ideal)) (iblk m c 0 t) (iblk m c 1 t) y := by
  rw [outsAt0_A m c t h (by omega)]; dsimp only
  frame_out

theorem out_B (t : Fin cfg0.N) (h : t.val % 2 = 1) (y : S512x1024.Idx) :
    (outsAt0 m c t.val t.isLt).1 y = k0_pay2 (F := Ideal) (prev m c t).2 (iblk m c 0 t) (iblk m c 1 t) y := by
  rw [outsAt0_B m c t (by omega) h]; dsimp only
  frame_out
  exact congrArg (fun v => k0_pay2 (F := Ideal) v (iblk m c 0 t) (iblk m c 1 t) y) (Memref.IsWhole.read_unread (m := Memref.whole cc0_scratch0) _ _)

/-! ## The blocks are parts of the arguments -/

abbrev argA : S512x24576.Idx → EReal := m ((c : Thread nD τ).loc main_arg0)
abbrev argB : S1024x1536.Idx → EReal := m ((c : Thread nD τ).loc main_arg1)

theorem idx0 : ∀ t : Fin cfg0.N, win0_0.index t 0 = 0 ∧ win0_0.index t 1 = t.val :=
  (by decide +kernel : ∀ t : Fin grid0.N, win0_0.index t 0 = 0 ∧ win0_0.index t 1 = t.val)
theorem idx1 : ∀ t : Fin cfg0.N, win0_1.index t 0 = 0 ∧ win0_1.index t 1 = t.val % 2 :=
  (by decide +kernel : ∀ t : Fin grid0.N, win0_1.index t 0 = 0 ∧ win0_1.index t 1 = t.val % 2)
theorem idx2 : ∀ t : Fin cfg0.N, win0_2.index t 0 = 0 ∧ win0_2.index t 1 = t.val / 2 :=
  (by decide +kernel : ∀ t : Fin grid0.N, win0_2.index t 0 = 0 ∧ win0_2.index t 1 = t.val / 2)

theorem blk0 (t : Fin cfg0.N) (r l : ℕ) (hr : r < 512) (hl : l < 768) :
    at2 (iblk m c 0 t : Vec Ideal S512x768 .bf16) r l = at2 (argA m c) (512 * (0) + r) (768 * (t.val) + l) := by
  conv_lhs => unfold at2
  rw [dif_pos ⟨hr, hl⟩]
  unfold iblk
  rw [View.read_apply]
  show V m c main_arg0 _ = _
  rw [V_main_arg0]
  refine at2_eq (m ((c : Thread nD τ).loc main_arg0) : S512x24576.Idx → EReal) _ ?_ ?_
  · show win0_0.index t 0 * 512 + 1 * r = _; rw [(idx0 t).1]; omega
  · show win0_0.index t 1 * 768 + 1 * l = _; rw [(idx0 t).2]; omega

theorem blk1 (t : Fin cfg0.N) (r l : ℕ) (hr : r < 1024) (hl : l < 768) :
    at2 (iblk m c 1 t : Vec Ideal S1024x768 .bf16) r l = at2 (argB m c) (1024 * (0) + r) (768 * (t.val % 2) + l) := by
  conv_lhs => unfold at2
  rw [dif_pos ⟨hr, hl⟩]
  unfold iblk
  rw [View.read_apply]
  show V m c main_arg1 _ = _
  rw [V_main_arg1]
  refine at2_eq (m ((c : Thread nD τ).loc main_arg1) : S1024x1536.Idx → EReal) _ ?_ ?_
  · show win0_1.index t 0 * 1024 + 1 * r = _; rw [(idx1 t).1]; omega
  · show win0_1.index t 1 * 768 + 1 * l = _; rw [(idx1 t).2]; omega

/-- The result: in every slab, the slab's rows against the rows of the weight. -/
def res : Buf (Elt Ideal) ((c : Thread nD τ).loc main_v0) :=
  fun i : S512x16384.Idx => slabRowRow (argA m c) (argB m c) 1536 1024 (i 0).val (i 1).val

theorem part_eq (t : Fin cfg0.N) (y : S512x1024.Idx) :
    ∑ k : Fin 768, at2 (iblk m c 0 t : Vec Ideal S512x768 .bf16) (y 0).val k.val * at2 (iblk m c 1 t : Vec Ideal S1024x768 .bf16) (y 1).val k.val
      = ∑ k : Fin 768, at2 (argA m c) (y 0).val (1536 * (t.val / 2) + (768 * (t.val % 2) + k.val)) * at2 (argB m c) (y 1).val (768 * (t.val % 2) + k.val) := by
  refine Finset.sum_congr rfl fun k _ => ?_
  rw [blk0 m c t (y 0).val k.val (y 0).isLt k.isLt, blk1 m c t (y 1).val k.val (y 1).isLt k.isLt]
  rw [show 768 * t.val + k.val = 1536 * (t.val / 2) + (768 * (t.val % 2) + k.val) from by omega]
  simp only [Nat.mul_zero, Nat.zero_add]

/-- The second point of a pair leaves its block of the result. -/
theorem out_eq (t : Fin cfg0.N) (h : t.val % 2 = 1) (y : S512x1024.Idx) :
    (outsAt0 m c t.val t.isLt).1 y = slabRowRow (argA m c) (argB m c) 1536 1024 (y 0).val (1024 * (t.val / 2) + (y 1).val) := by
  have hy : (y 1).val < 1024 := (y 1).isLt
  have hp : t.val - 1 < cfg0.N := Nat.lt_of_le_of_lt (Nat.sub_le _ _) t.isLt
  have h0 : (⟨t.val - 1, hp⟩ : Fin cfg0.N).val % 2 = 0 := by dsimp only; omega
  rw [out_B m c t h]
  refine (pay2_apply _ (iblk m c 0 t) (iblk m c 1 t) y).trans ?_
  refine Eq.trans (congrArg (· + _) ((scr_A m c ⟨t.val - 1, hp⟩ h0 y).trans (pay2_apply _ (iblk m c 0 ⟨t.val - 1, hp⟩) (iblk m c 1 ⟨t.val - 1, hp⟩) y))) ?_
  rw [pay1_apply, zero_add, part_eq, part_eq]
  dsimp only
  rw [show (t.val - 1) % 2 = 0 from by omega, show (t.val - 1) / 2 = t.val / 2 from by omega, h]
  unfold slabRowRow
  rw [show (1024 * (t.val / 2) + (y 1).val) / 1024 = t.val / 2 from by omega, show (1024 * (t.val / 2) + (y 1).val) % 1024 = (y 1).val from by omega]
  refine Eq.trans ?_ (sum_two (fun k => at2 (argA m c) (y 0).val (1536 * (t.val / 2) + k) * at2 (argB m c) (y 1).val k) 768 768)
  simp only [Nat.mul_zero, Nat.zero_add, Nat.mul_one]

theorem flushed_res (t : Fin cfg0.N) (hf : (cfg0.win 2).flush t = true) :
    (dats m 0 c).flushed 2 t = ((cfg0.win 2).blk t).view.read (Elt Ideal) (res m c) := by
  have h2 : t.val % 2 = 1 := (flush0_2 t).mp hf
  show (cfg0.win 2).cut (grid0.coords t) ((dats m 0 c).after 2 t) = _
  rw [after0_2]
  funext j
  rw [View.read_apply]
  show (outsAt0 m c t.val t.isLt).1 (fun a => ⟨(j a).val, (j a).isLt⟩) = slabRowRow (argA m c) (argB m c) 1536 1024 (win0_2.index t 0 * 512 + 1 * (j 0).val) (win0_2.index t 1 * 1024 + 1 * (j 1).val)
  rw [out_eq m c t h2, (idx2 t).1, (idx2 t).2]
  congr 1 <;> dsimp only <;> omega

theorem cover (i : S512x16384.Idx) :
    ∃ t : Fin cfg0.N, (cfg0.win 2).flush t = true ∧ i ∈ ((cfg0.win 2).blk t).view.set := by
  have h0 : (i 0 : ℕ) < 512 := (i 0).isLt
  have h1 : (i 1 : ℕ) < 16384 := (i 1).isLt
  have hN : cfg0.N = 32 := N_0
  let t : Fin cfg0.N := ⟨2 * ((i 1 : ℕ) / 1024) + 1, by omega⟩
  have e : t.val = 2 * ((i 1 : ℕ) / 1024) + 1 := rfl
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t 0 * 512 ≤ (i 0 : ℕ) ∧ (i 0 : ℕ) < win0_2.index t 0 * 512 + 512
    rw [(idx2 t).1]; omega
  | ⟨1, _⟩ =>
    show win0_2.index t 1 * 1024 ≤ (i 1 : ℕ) ∧ (i 1 : ℕ) < win0_2.index t 1 * 1024 + 1024
    rw [(idx2 t).2]; omega

theorem final : (dats m 0 c).arrAt 2 cfg0.N = res m c :=
  (dats m 0 c).arrAt_eq_of_cover 2 (res m c) (fun t hf => flushed_res m c t hf) cover

/-- Every run ends with the result in its array, and with the arguments as they were. -/
theorem run_res (ρ : Dev nD → PrngReg) :
    θ_run defs (onTc (τ := τ) (main (F := Ideal))) ⟨m, fun _ => 0, ρ⟩ fun r => ∀ c : Dev nD,
      r.2.mem ((c : Thread nD τ).loc main_v0) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (run_main m ρ)
  have hin : ∀ w : Fin 3, (cfg0.win w).isOut = false → _ := fun w hw => ((h c).1 w).trans (((dats m 0 c).arrAt_in w hw _).trans (A_eq m c w))
  exact ⟨(h c).1 2, (hin 0 rfl).trans (V_main_arg0 m c), (hin 1 rfl).trans (V_main_arg1 m c)⟩

end Cert.Kernel27Ideal.Mat

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Reference27Ideal
public import proofs.«01_k».proof.Proof.Gen.Reference27Ideal.Run
public import proofs.«01_k».proof.Proof.Gen.Reference27Ideal.Read
public import proofs.«01_k».proof.Proof.ScFinal
public import proofs.«01_k».proof.Proof.ScRef
public import proofs.«01_k».proof.Proof.MlpDz
public import proofs.«01_k».proof.Proof.MlpRef
public import proofs.«01_k».proof.Proof.MlpGwDown
public import proofs.«01_k».proof.Proof.MlpGwUp
public import proofs.«01_k».proof.Proof.RmsAlg
public import proofs.«01_k».proof.Proof.RmsUp1
public import proofs.«01_k».proof.Proof.RmsRefUp1
public import proofs.«01_k».proof.Proof.Norm
public import proofs.«01_k».proof.Proof.NormFrame
public import proofs.«01_k».proof.Proof.NormUp1
public import proofs.«01_k».proof.Proof.NormUp1Value
public import proofs.«01_k».proof.Proof.NormRef
public import proofs.«01_k».proof.Proof.MlpDown1
public import proofs.«01_k».proof.Proof.MlpDownRef
public import proofs.«01_k».proof.Proof.MlpDz0
public import proofs.«01_k».proof.Proof.MlpRef0
public import proofs.«01_k».proof.Proof.RmsUp0
public import proofs.«01_k».proof.Proof.RmsRefUp0
public import proofs.«01_k».proof.Proof.NormUp0
public import proofs.«01_k».proof.Proof.NormUp0Value
public import proofs.«01_k».proof.Proof.MlpDown0
public import proofs.«01_k».proof.Proof.NtSquare
public import proofs.«01_k».proof.Proof.NnRef
public import proofs.«01_k».proof.Proof.GwSquare
public import proofs.«01_k».proof.Proof.GwRef
public import proofs.«01_k».proof.Proof.GwScIn
public import proofs.«01_k».proof.Proof.RmsScIn
public import proofs.«01_k».proof.Proof.RmsRefScIn
public import proofs.«01_k».proof.Proof.NormScIn
public import proofs.«01_k».proof.Proof.NormScInValue
public import proofs.«01_k».proof.Proof.NnRes
public import proofs.«01_k».proof.Proof.NnConv
public import proofs.«01_k».proof.Proof.NnQkv
public import proofs.«01_k».proof.Proof.NtPair
public import proofs.«01_k».proof.Proof.NtPairRef
public import proofs.«01_k».proof.Proof.GwQkv
public import proofs.«01_k».proof.Proof.Slab
public import proofs.«01_k».proof.Proof.SlabNn1
public import proofs.«01_k».proof.Proof.SlabRef
public import proofs.«01_k».proof.Proof.SlabNn2
public import proofs.«01_k».proof.Proof.SlabTn1
public import proofs.«01_k».proof.Proof.SlabTn2
public import proofs.«01_k».proof.Proof.SlabNt1
public import proofs.«01_k».proof.Proof.SlabNt2
public import Idealize.ShloMosaic.Adequacy
public import Idealize.ShloMosaic.Init

@[expose] public section

noncomputable section

namespace Cert.Proof

open Idealize.ShloMosaic Idealize.SL.Sem Cert.Kernel

/-- The reference's frame: its run read at its arguments; it declares no semaphore. -/
theorem frame_ref : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- The gradient of the short gated convolution: kernel and reference end with equal arrays. -/
theorem algebraic : Cert.algebraic_KernelIdeal_ReferenceIdeal := by
  intro m g m' g' _ hagree
  refine ⟨fun c => Cert.KernelIdeal.Duo.resU m c, fun c => Cert.KernelIdeal.Duo.resW m c, ?_, ?_⟩
  · exact (θ_run Cert.KernelIdeal.defs _ _).mono
      (fun _ h c => ⟨(h c).1.trans (Cert.KernelIdeal.Duo.final6 m c), (h c).2.1.trans (Cert.KernelIdeal.Duo.final7 m c), (h c).2.2⟩)
      (Cert.KernelIdeal.Value.run_blocks m g)
  · refine (θ_run Cert.ReferenceIdeal.defs _ _).mono
      (fun _ h c => ⟨(h c).1.trans ?_, (h c).2.1.trans ?_, (h c).2.2⟩)
      (Cert.ReferenceIdeal.Value.run (F := Ideal) m' g')
    · rw [Cert.ReferenceIdeal.Read.val_main_v69_eq, (hagree c).1, (hagree c).2.1, (hagree c).2.2]
      funext j
      exact Cert.ReferenceIdeal.Duo.v69_at _ _ _ j
    · refine (Cert.ReferenceIdeal.Read.val_main_v70_eq _ _).trans ?_
      rw [(hagree c).1, (hagree c).2.1]
      funext j
      exact Cert.ReferenceIdeal.Duo.v70_at _ _ j

/-- The reference's frame: its run read at its arguments; it declares no semaphore. -/
theorem frame_ref2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The gradient of the hidden activation of the second MLP: kernel and reference end with equal arrays. -/
theorem algebraic2 : Cert.algebraic_Kernel2Ideal_Reference2Ideal := by
  intro m g m' g' _ hagree
  refine ⟨fun c => Cert.Kernel2Ideal.Mat.res m c, ?_, ?_⟩
  · exact (θ_run Cert.Kernel2Ideal.defs _ _).mono
      (fun _ h c => ⟨(h c).1.trans (Cert.Kernel2Ideal.Mat.final m c), (h c).2⟩)
      (Cert.Kernel2Ideal.Value.run_blocks m g)
  · refine (θ_run Cert.Reference2Ideal.defs _ _).mono
      (fun _ h c => ⟨(h c).1.trans ?_, (h c).2⟩)
      (Cert.Reference2Ideal.Value.run (F := Ideal) m' g')
    refine (Cert.Reference2Ideal.Read.val_main_v17_eq _ _ _).trans ?_
    rw [(hagree c).1, (hagree c).2.1, (hagree c).2.2]
    funext j
    exact Cert.Reference2Ideal.Mat.v17_at _ _ _ j

/-- The reference's frame: its run read at its arguments; it declares no semaphore. -/
theorem frame_ref3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The gradient of the second weight of an MLP: kernel and reference end with equal arrays. -/
theorem algebraic3 : Cert.algebraic_Kernel3Ideal_Reference3Ideal := by
  intro m g m' g' _ hagree
  refine ⟨fun c => Cert.Kernel3Ideal.Mat.res m c, ?_, ?_⟩
  · exact (θ_run Cert.Kernel3Ideal.defs _ _).mono
      (fun _ h c => ⟨(h c).1.trans (Cert.Kernel3Ideal.Mat.final m c), (h c).2⟩)
      (Cert.Kernel3Ideal.Value.run_blocks m g)
  · refine (θ_run Cert.Reference3Ideal.defs _ _).mono
      (fun _ h c => ⟨(h c).1.trans ?_, (h c).2⟩)
      (Cert.Reference3Ideal.Value.run (F := Ideal) m' g')
    refine (Cert.Reference3Ideal.Read.val_main_v9_eq _ _).trans ?_
    rw [(hagree c).1, (hagree c).2]
    funext j
    exact Cert.Reference3Ideal.Mat.v9_at _ _ j

/-- The reference's frame: its run read at its arguments; it declares no semaphore. -/
theorem frame_ref4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The gradient of the first weight of an MLP: kernel and reference end with equal arrays. -/
theorem algebraic4 : Cert.algebraic_Kernel4Ideal_Reference4Ideal := by
  intro m g m' g' _ hagree
  refine ⟨fun c => Cert.Kernel4Ideal.Mat.res m c, ?_, ?_⟩
  · exact (θ_run Cert.Kernel4Ideal.defs _ _).mono
      (fun _ h c => ⟨(h c).1.trans (Cert.Kernel4Ideal.Mat.final m c), (h c).2⟩)
      (Cert.Kernel4Ideal.Value.run_blocks m g)
  · refine (θ_run Cert.Reference4Ideal.defs _ _).mono
      (fun _ h c => ⟨(h c).1.trans ?_, (h c).2⟩)
      (Cert.Reference4Ideal.Value.run (F := Ideal) m' g')
    refine (Cert.Reference4Ideal.Read.val_main_v7_eq _ _).trans ?_
    rw [(hagree c).1, (hagree c).2]
    funext j
    exact Cert.Reference4Ideal.Mat.v7_at _ _ j

/-- The reference's frame: its run read at its arguments; it declares no semaphore. -/
theorem frame_ref5 : Cert.quiescent_Reference5Ideal := fun m ρ _ =>
  (θ_run Cert.Reference5Ideal.defs _ _).mono (fun r h => ⟨fun c => (h c).2.2.2, Idealize.ShloMosaic.sem_eq_zero_of_no_sems (by decide) r.2⟩)
    (Cert.Reference5Ideal.Value.run (F := Ideal) m ρ)

/-- The gradient through the normalisation into the second MLP: kernel and reference end with equal arrays. -/
theorem algebraic5 : Cert.algebraic_Kernel5Ideal_Reference5Ideal := by
  intro m g m' g' _ hagree
  refine ⟨fun c => Cert.Kernel5Ideal.Mat.res5 m c, fun c => Cert.Kernel5Ideal.Mat.res6 m c, fun c => Cert.Kernel5Ideal.Mat.res7 m c, ?_, ?_⟩
  · exact (θ_run Cert.Kernel5Ideal.defs _ _).mono
      (fun _ h c => ⟨(h c).1.trans (Cert.Kernel5Ideal.Mat.final5 m c), (h c).2.1.trans (Cert.Kernel5Ideal.Mat.final6 m c),
        (h c).2.2.1.trans (Cert.Kernel5Ideal.Mat.final7 m c), (h c).2.2.2⟩)
      (Cert.Kernel5Ideal.Value.run_blocks m g)
  · refine (θ_run Cert.Reference5Ideal.defs _ _).mono
      (fun _ h c => ⟨(h c).1.trans ?_, (h c).2.1.trans ?_, (h c).2.2.1.trans ?_, (h c).2.2.2⟩)
      (Cert.Reference5Ideal.Value.run (F := Ideal) m' g')
    · rw [Cert.Reference5Ideal.Read.val_main_v40_eq, (hagree c).1, (hagree c).2.1, (hagree c).2.2.1, (hagree c).2.2.2.1, (hagree c).2.2.2.2]
      funext j
      exact Cert.Reference5Ideal.Mat.v40_at _ _ _ _ _ j
    · rw [Cert.Reference5Ideal.Read.val_main_v41_eq, (hagree c).1, (hagree c).2.1, (hagree c).2.2.1, (hagree c).2.2.2.1, (hagree c).2.2.2.2]
      funext j
      exact Cert.Reference5Ideal.Mat.v41_at _ _ _ _ _ j
    · refine (Cert.Reference5Ideal.Read.val_main_v42_eq _ _ _).trans ?_
      rw [(hagree c).1, (hagree c).2.1, (hagree c).2.2.1]
      funext j
      exact Cert.Reference5Ideal.Mat.v42_at _ _ _ j

/-- The reference's frame: its run read at its arguments; it declares no semaphore. -/
theorem frame_ref6 : Cert.quiescent_Reference6Ideal := fun m ρ _ =>
  (θ_run Cert.Reference6Ideal.defs _ _).mono (fun r h => ⟨fun c => (h c).2.2, Idealize.ShloMosaic.sem_eq_zero_of_no_sems (by decide) r.2⟩)
    (Cert.Reference6Ideal.Value.run (F := Ideal) m ρ)

/-- The frames, from one run over any float values. -/
theorem frame_ideal6 : Cert.quiescent_Kernel6Ideal := fun m ρ _ => Cert.Kernel6Ideal.Held.quiet (F := Ideal) m ρ
theorem frame_kernel6 : Cert.quiescent_Kernel6 := Cert.Kernel6Ideal.Held.quiet_printed

/-- The normalised product into the second MLP: kernel and reference end with equal arrays. -/
theorem algebraic6 : Cert.algebraic_Kernel6Ideal_Reference6Ideal := by
  intro m g m' g' _ hagree
  refine ⟨fun c => Cert.Kernel6Ideal.Mat.resN m c, fun c => Cert.Kernel6Ideal.Mat.resO m c, ?_, ?_⟩
  · exact Cert.Kernel6Ideal.Mat.run_res m g
  · refine (θ_run Cert.Reference6Ideal.defs _ _).mono
      (fun _ h c => ⟨(h c).1.trans ?_, (h c).2.1.trans ?_, (h c).2.2⟩)
      (Cert.Reference6Ideal.Value.run (F := Ideal) m' g')
    · refine (Cert.Reference6Ideal.Read.val_main_v12_eq _ _).trans ?_
      rw [(hagree c).1, (hagree c).2.1]
      funext j
      exact Cert.Reference6Ideal.Mat.v12_at _ _ j
    · refine (Cert.Reference6Ideal.Read.val_main_v18_eq _ _ _).trans ?_
      rw [(hagree c).1, (hagree c).2.1, (hagree c).2.2]
      funext j
      exact Cert.Reference6Ideal.Mat.v18_at _ _ _ j

/-- The reference's frame: its run read at its arguments; it declares no semaphore. -/
theorem frame_ref7 : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

/-- The second product of the second MLP: kernel and reference end with equal arrays. -/
theorem algebraic7 : Cert.algebraic_Kernel7Ideal_Reference7Ideal := by
  intro m g m' g' _ hagree
  refine ⟨fun c => Cert.Kernel7Ideal.Mat.res m c, ?_, ?_⟩
  · exact (θ_run Cert.Kernel7Ideal.defs _ _).mono
      (fun _ h c => ⟨(h c).1.trans (Cert.Kernel7Ideal.Mat.final m c), (h c).2⟩)
      (Cert.Kernel7Ideal.Value.run_blocks m g)
  · refine (θ_run Cert.Reference7Ideal.defs _ _).mono
      (fun _ h c => ⟨(h c).1.trans ?_, (h c).2⟩)
      (Cert.Reference7Ideal.Value.run (F := Ideal) m' g')
    refine (Cert.Reference7Ideal.Read.val_main_v7_eq _ _ _).trans ?_
    rw [(hagree c).1, (hagree c).2.1, (hagree c).2.2]
    funext j
    exact Cert.Reference7Ideal.Mat.v7_at _ _ _ j

/-- The reference's frame: its run read at its arguments; it declares no semaphore. -/
theorem frame_ref8 : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

/-- The gradient of the hidden activation of the first MLP: kernel and reference end with equal arrays. -/
theorem algebraic8 : Cert.algebraic_Kernel8Ideal_Reference8Ideal := by
  intro m g m' g' _ hagree
  refine ⟨fun c => Cert.Kernel8Ideal.Mat.res m c, ?_, ?_⟩
  · exact (θ_run Cert.Kernel8Ideal.defs _ _).mono
      (fun _ h c => ⟨(h c).1.trans (Cert.Kernel8Ideal.Mat.final m c), (h c).2⟩)
      (Cert.Kernel8Ideal.Value.run_blocks m g)
  · refine (θ_run Cert.Reference8Ideal.defs _ _).mono
      (fun _ h c => ⟨(h c).1.trans ?_, (h c).2⟩)
      (Cert.Reference8Ideal.Value.run (F := Ideal) m' g')
    refine (Cert.Reference8Ideal.Read.val_main_v17_eq _ _ _).trans ?_
    rw [(hagree c).1, (hagree c).2.1, (hagree c).2.2]
    funext j
    exact Cert.Reference8Ideal.Mat.v17_at _ _ _ j

/-- The reference's frame: its run read at its arguments; it declares no semaphore. -/
theorem frame_ref9 : Cert.quiescent_Reference9Ideal := fun m ρ _ =>
  (θ_run Cert.Reference9Ideal.defs _ _).mono (fun r h => ⟨fun c => (h c).2.2.2, Idealize.ShloMosaic.sem_eq_zero_of_no_sems (by decide) r.2⟩)
    (Cert.Reference9Ideal.Value.run (F := Ideal) m ρ)

/-- The gradient through the normalisation into the first MLP: kernel and reference end with equal arrays. -/
theorem algebraic9 : Cert.algebraic_Kernel9Ideal_Reference9Ideal := by
  intro m g m' g' _ hagree
  refine ⟨fun c => Cert.Kernel9Ideal.Mat.res5 m c, fun c => Cert.Kernel9Ideal.Mat.res6 m c, fun c => Cert.Kernel9Ideal.Mat.res7 m c, ?_, ?_⟩
  · exact (θ_run Cert.Kernel9Ideal.defs _ _).mono
      (fun _ h c => ⟨(h c).1.trans (Cert.Kernel9Ideal.Mat.final5 m c), (h c).2.1.trans (Cert.Kernel9Ideal.Mat.final6 m c),
        (h c).2.2.1.trans (Cert.Kernel9Ideal.Mat.final7 m c), (h c).2.2.2⟩)
      (Cert.Kernel9Ideal.Value.run_blocks m g)
  · refine (θ_run Cert.Reference9Ideal.defs _ _).mono
      (fun _ h c => ⟨(h c).1.trans ?_, (h c).2.1.trans ?_, (h c).2.2.1.trans ?_, (h c).2.2.2⟩)
      (Cert.Reference9Ideal.Value.run (F := Ideal) m' g')
    · rw [Cert.Reference9Ideal.Read.val_main_v40_eq, (hagree c).1, (hagree c).2.1, (hagree c).2.2.1, (hagree c).2.2.2.1, (hagree c).2.2.2.2]
      funext j
      exact Cert.Reference9Ideal.Mat.v40_at _ _ _ _ _ j
    · rw [Cert.Reference9Ideal.Read.val_main_v41_eq, (hagree c).1, (hagree c).2.1, (hagree c).2.2.1, (hagree c).2.2.2.1, (hagree c).2.2.2.2]
      funext j
      exact Cert.Reference9Ideal.Mat.v41_at _ _ _ _ _ j
    · refine (Cert.Reference9Ideal.Read.val_main_v42_eq _ _ _).trans ?_
      rw [(hagree c).1, (hagree c).2.1, (hagree c).2.2.1]
      funext j
      exact Cert.Reference9Ideal.Mat.v42_at _ _ _ j

/-- The reference's frame: its run read at its arguments; it declares no semaphore. -/
theorem frame_ref10 : Cert.quiescent_Reference10Ideal := fun m ρ _ =>
  (θ_run Cert.Reference10Ideal.defs _ _).mono (fun r h => ⟨fun c => (h c).2.2, Idealize.ShloMosaic.sem_eq_zero_of_no_sems (by decide) r.2⟩)
    (Cert.Reference10Ideal.Value.run (F := Ideal) m ρ)

/-- The frames, from one run over any float values. -/
theorem frame_ideal10 : Cert.quiescent_Kernel10Ideal := fun m ρ _ => Cert.Kernel10Ideal.Held.quiet (F := Ideal) m ρ
theorem frame_kernel10 : Cert.quiescent_Kernel10 := Cert.Kernel10Ideal.Held.quiet_printed

/-- The normalised product into the first MLP: kernel and reference end with equal arrays. -/
theorem algebraic10 : Cert.algebraic_Kernel10Ideal_Reference10Ideal := by
  intro m g m' g' _ hagree
  refine ⟨fun c => Cert.Kernel10Ideal.Mat.resN m c, fun c => Cert.Kernel10Ideal.Mat.resO m c, ?_, ?_⟩
  · exact Cert.Kernel10Ideal.Mat.run_res m g
  · refine (θ_run Cert.Reference10Ideal.defs _ _).mono
      (fun _ h c => ⟨(h c).1.trans ?_, (h c).2.1.trans ?_, (h c).2.2⟩)
      (Cert.Reference10Ideal.Value.run (F := Ideal) m' g')
    · refine (Cert.Reference10Ideal.Read.val_main_v12_eq _ _).trans ?_
      rw [(hagree c).1, (hagree c).2.1]
      funext j
      exact Cert.Reference10Ideal.Mat.v12_at _ _ j
    · refine (Cert.Reference10Ideal.Read.val_main_v18_eq _ _ _).trans ?_
      rw [(hagree c).1, (hagree c).2.1, (hagree c).2.2]
      funext j
      exact Cert.Reference10Ideal.Mat.v18_at _ _ _ j

/-- The reference's frame: its run read at its arguments; it declares no semaphore. -/
theorem frame_ref11 : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

/-- The second product of the first MLP: kernel and reference end with equal arrays. -/
theorem algebraic11 : Cert.algebraic_Kernel11Ideal_Reference11Ideal := by
  intro m g m' g' _ hagree
  refine ⟨fun c => Cert.Kernel11Ideal.Mat.res m c, ?_, ?_⟩
  · exact (θ_run Cert.Kernel11Ideal.defs _ _).mono
      (fun _ h c => ⟨(h c).1.trans (Cert.Kernel11Ideal.Mat.final m c), (h c).2⟩)
      (Cert.Kernel11Ideal.Value.run_blocks m g)
  · refine (θ_run Cert.Reference11Ideal.defs _ _).mono
      (fun _ h c => ⟨(h c).1.trans ?_, (h c).2⟩)
      (Cert.Reference11Ideal.Value.run (F := Ideal) m' g')
    refine (Cert.Reference11Ideal.Read.val_main_v7_eq _ _ _).trans ?_
    rw [(hagree c).1, (hagree c).2.1, (hagree c).2.2]
    funext j
    exact Cert.Reference11Ideal.Mat.v7_at _ _ _ j

/-- The reference's frame: its run read at its arguments; it declares no semaphore. -/
theorem frame_ref12 : Cert.quiescent_Reference12Ideal := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)

/-- The gradient of the operand of a square product: kernel and reference end with equal arrays. -/
theorem algebraic12 : Cert.algebraic_Kernel12Ideal_Reference12Ideal := by
  intro m g m' g' _ hagree
  refine ⟨fun c => Cert.Kernel12Ideal.Mat.res m c, ?_, ?_⟩
  · exact (θ_run Cert.Kernel12Ideal.defs _ _).mono
      (fun _ h c => ⟨(h c).1.trans (Cert.Kernel12Ideal.Mat.final m c), (h c).2⟩)
      (Cert.Kernel12Ideal.Value.run_blocks m g)
  · refine (θ_run Cert.Reference12Ideal.defs _ _).mono
      (fun _ h c => ⟨(h c).1.trans ?_, (h c).2⟩)
      (Cert.Reference12Ideal.Value.run (F := Ideal) m' g')
    refine (Cert.Reference12Ideal.Read.val_main_v4_eq _ _).trans ?_
    rw [(hagree c).1, (hagree c).2]
    funext j
    exact Cert.Reference12Ideal.Mat.v4_at _ _ j

/-- The reference's frame: its run read at its arguments; it declares no semaphore. -/
theorem frame_ref13 : Cert.quiescent_Reference13Ideal := fun m ρ _ =>
  (θ_run Cert.Reference13Ideal.defs _ _).mono (fun r h => ⟨fun c => (h c).2, Idealize.ShloMosaic.sem_eq_zero_of_no_sems (by decide) r.2⟩)
    (Cert.Reference13Ideal.Value.run (F := Ideal) m ρ)

/-- The gradient of a square weight: kernel and reference end with equal arrays. -/
theorem algebraic13 : Cert.algebraic_Kernel13Ideal_Reference13Ideal := by
  intro m g m' g' _ hagree
  refine ⟨fun c => Cert.Kernel13Ideal.Mat.res m c, ?_, ?_⟩
  · exact (θ_run Cert.Kernel13Ideal.defs _ _).mono
      (fun _ h c => ⟨(h c).1.trans (Cert.Kernel13Ideal.Mat.final m c), (h c).2⟩)
      (Cert.Kernel13Ideal.Value.run_blocks m g)
  · refine (θ_run Cert.Reference13Ideal.defs _ _).mono
      (fun _ h c => ⟨(h c).1.trans ?_, (h c).2⟩)
      (Cert.Reference13Ideal.Value.run (F := Ideal) m' g')
    refine (Cert.Reference13Ideal.Read.val_main_v7_eq _ _).trans ?_
    rw [(hagree c).1, (hagree c).2]
    funext j
    exact Cert.Reference13Ideal.Mat.v7_at _ _ j

/-- The reference's frame: its run read at its arguments; it declares no semaphore. -/
theorem frame_ref14 : Cert.quiescent_Reference14Ideal := fun m ρ _ =>
  (θ_run Cert.Reference14Ideal.defs _ _).mono (fun r h => ⟨fun c => (h c).2, Idealize.ShloMosaic.sem_eq_zero_of_no_sems (by decide) r.2⟩)
    (Cert.Reference14Ideal.Value.run (F := Ideal) m ρ)

/-- The gradient of the weight into the short convolution: kernel and reference end with equal arrays. -/
theorem algebraic14 : Cert.algebraic_Kernel14Ideal_Reference14Ideal := by
  intro m g m' g' _ hagree
  refine ⟨fun c => Cert.Kernel14Ideal.Mat.res m c, ?_, ?_⟩
  · exact (θ_run Cert.Kernel14Ideal.defs _ _).mono
      (fun _ h c => ⟨(h c).1.trans (Cert.Kernel14Ideal.Mat.final m c), (h c).2⟩)
      (Cert.Kernel14Ideal.Value.run_blocks m g)
  · refine (θ_run Cert.Reference14Ideal.defs _ _).mono
      (fun _ h c => ⟨(h c).1.trans ?_, (h c).2⟩)
      (Cert.Reference14Ideal.Value.run (F := Ideal) m' g')
    refine (Cert.Reference14Ideal.Read.val_main_v7_eq _ _).trans ?_
    rw [(hagree c).1, (hagree c).2]
    funext j
    exact Cert.Reference14Ideal.Mat.v7_at _ _ j

/-- The reference's frame: its run read at its arguments; it declares no semaphore. -/
theorem frame_ref15 : Cert.quiescent_Reference15Ideal := fun m ρ _ =>
  (θ_run Cert.Reference15Ideal.defs _ _).mono (fun r h => ⟨fun c => (h c).2.2.2, Idealize.ShloMosaic.sem_eq_zero_of_no_sems (by decide) r.2⟩)
    (Cert.Reference15Ideal.Value.run (F := Ideal) m ρ)

/-- The gradient through the normalisation into the short convolution: kernel and reference end with equal arrays. -/
theorem algebraic15 : Cert.algebraic_Kernel15Ideal_Reference15Ideal := by
  intro m g m' g' _ hagree
  refine ⟨fun c => Cert.Kernel15Ideal.Mat.res5 m c, fun c => Cert.Kernel15Ideal.Mat.res6 m c, fun c => Cert.Kernel15Ideal.Mat.res7 m c, ?_, ?_⟩
  · exact (θ_run Cert.Kernel15Ideal.defs _ _).mono
      (fun _ h c => ⟨(h c).1.trans (Cert.Kernel15Ideal.Mat.final5 m c), (h c).2.1.trans (Cert.Kernel15Ideal.Mat.final6 m c),
        (h c).2.2.1.trans (Cert.Kernel15Ideal.Mat.final7 m c), (h c).2.2.2⟩)
      (Cert.Kernel15Ideal.Value.run_blocks m g)
  · refine (θ_run Cert.Reference15Ideal.defs _ _).mono
      (fun _ h c => ⟨(h c).1.trans ?_, (h c).2.1.trans ?_, (h c).2.2.1.trans ?_, (h c).2.2.2⟩)
      (Cert.Reference15Ideal.Value.run (F := Ideal) m' g')
    · rw [Cert.Reference15Ideal.Read.val_main_v38_eq, (hagree c).1, (hagree c).2.1, (hagree c).2.2.1, (hagree c).2.2.2.1, (hagree c).2.2.2.2]
      funext j
      exact Cert.Reference15Ideal.Mat.v38_at _ _ _ _ _ j
    · rw [Cert.Reference15Ideal.Read.val_main_v39_eq, (hagree c).1, (hagree c).2.1, (hagree c).2.2.1, (hagree c).2.2.2.1, (hagree c).2.2.2.2]
      funext j
      exact Cert.Reference15Ideal.Mat.v39_at _ _ _ _ _ j
    · refine (Cert.Reference15Ideal.Read.val_main_v40_eq _ _ _).trans ?_
      rw [(hagree c).1, (hagree c).2.1, (hagree c).2.2.1]
      funext j
      exact Cert.Reference15Ideal.Mat.v40_at _ _ _ j

/-- The reference's frame: its run read at its arguments; it declares no semaphore. -/
theorem frame_ref16 : Cert.quiescent_Reference16Ideal := fun m ρ _ =>
  (θ_run Cert.Reference16Ideal.defs _ _).mono (fun r h => ⟨fun c => (h c).2.2, Idealize.ShloMosaic.sem_eq_zero_of_no_sems (by decide) r.2⟩)
    (Cert.Reference16Ideal.Value.run (F := Ideal) m ρ)

/-- The frames, from one run over any float values. -/
theorem frame_ideal16 : Cert.quiescent_Kernel16Ideal := fun m ρ _ => Cert.Kernel16Ideal.Held.quiet (F := Ideal) m ρ
theorem frame_kernel16 : Cert.quiescent_Kernel16 := Cert.Kernel16Ideal.Held.quiet_printed

/-- The normalised product into the short convolution: kernel and reference end with equal arrays. -/
theorem algebraic16 : Cert.algebraic_Kernel16Ideal_Reference16Ideal := by
  intro m g m' g' _ hagree
  refine ⟨fun c => Cert.Kernel16Ideal.Mat.resN m c, fun c => Cert.Kernel16Ideal.Mat.resO m c, ?_, ?_⟩
  · exact Cert.Kernel16Ideal.Mat.run_res m g
  · refine (θ_run Cert.Reference16Ideal.defs _ _).mono
      (fun _ h c => ⟨(h c).1.trans ?_, (h c).2.1.trans ?_, (h c).2.2⟩)
      (Cert.Reference16Ideal.Value.run (F := Ideal) m' g')
    · refine (Cert.Reference16Ideal.Read.val_main_v12_eq _ _).trans ?_
      rw [(hagree c).1, (hagree c).2.1]
      funext j
      exact Cert.Reference16Ideal.Mat.v12_at _ _ j
    · refine (Cert.Reference16Ideal.Read.val_main_v16_eq _ _ _).trans ?_
      rw [(hagree c).1, (hagree c).2.1, (hagree c).2.2]
      funext j
      exact Cert.Reference16Ideal.Mat.v16_at _ _ _ j

/-- The reference's frame: its run read at its arguments; it declares no semaphore. -/
theorem frame_ref17 : Cert.quiescent_Reference17Ideal := fun m ρ _ =>
  (θ_run Cert.Reference17Ideal.defs _ _).mono (fun r h => ⟨fun c => (h c).2, Idealize.ShloMosaic.sem_eq_zero_of_no_sems (by decide) r.2⟩)
    (Cert.Reference17Ideal.Value.run (F := Ideal) m ρ)

/-- A product added to the residual stream: kernel and reference end with equal arrays. -/
theorem algebraic17 : Cert.algebraic_Kernel17Ideal_Reference17Ideal := by
  intro m g m' g' _ hagree
  refine ⟨fun c => Cert.Kernel17Ideal.Mat.res m c, ?_, ?_⟩
  · exact (θ_run Cert.Kernel17Ideal.defs _ _).mono
      (fun _ h c => ⟨(h c).1.trans (Cert.Kernel17Ideal.Mat.final m c), (h c).2⟩)
      (Cert.Kernel17Ideal.Value.run_blocks m g)
  · refine (θ_run Cert.Reference17Ideal.defs _ _).mono
      (fun _ h c => ⟨(h c).1.trans ?_, (h c).2⟩)
      (Cert.Reference17Ideal.Value.run (F := Ideal) m' g')
    refine (Cert.Reference17Ideal.Read.val_main_v3_eq _ _ _).trans ?_
    rw [(hagree c).1, (hagree c).2.1, (hagree c).2.2]
    funext j
    exact Cert.Reference17Ideal.Mat.v3_at _ _ _ j

/-- The reference's frame: its run read at its arguments; it declares no semaphore. -/
theorem frame_ref18 : Cert.quiescent_Reference18Ideal := fun m ρ _ =>
  (θ_run Cert.Reference18Ideal.defs _ _).mono (fun r h => ⟨fun c => (h c).2, Idealize.ShloMosaic.sem_eq_zero_of_no_sems (by decide) r.2⟩)
    (Cert.Reference18Ideal.Value.run (F := Ideal) m ρ)

/-- The product into the long convolution: kernel and reference end with equal arrays. -/
theorem algebraic18 : Cert.algebraic_Kernel18Ideal_Reference18Ideal := by
  intro m g m' g' _ hagree
  refine ⟨fun c => Cert.Kernel18Ideal.Mat.res m c, ?_, ?_⟩
  · exact (θ_run Cert.Kernel18Ideal.defs _ _).mono
      (fun _ h c => ⟨(h c).1.trans (Cert.Kernel18Ideal.Mat.final m c), (h c).2⟩)
      (Cert.Kernel18Ideal.Value.run_blocks m g)
  · refine (θ_run Cert.Reference18Ideal.defs _ _).mono
      (fun _ h c => ⟨(h c).1.trans ?_, (h c).2⟩)
      (Cert.Reference18Ideal.Value.run (F := Ideal) m' g')
    refine (Cert.Reference18Ideal.Read.val_main_v2_eq _ _).trans ?_
    rw [(hagree c).1, (hagree c).2]
    funext j
    exact Cert.Reference18Ideal.Mat.v2_at _ _ j

/-- The reference's frame: its run read at its arguments; it declares no semaphore. -/
theorem frame_ref19 : Cert.quiescent_Reference19Ideal := fun m ρ _ =>
  (θ_run Cert.Reference19Ideal.defs _ _).mono (fun r h => ⟨fun c => (h c).2, Idealize.ShloMosaic.sem_eq_zero_of_no_sems (by decide) r.2⟩)
    (Cert.Reference19Ideal.Value.run (F := Ideal) m ρ)

/-- The product into the first attention group: kernel and reference end with equal arrays. -/
theorem algebraic19 : Cert.algebraic_Kernel19Ideal_Reference19Ideal := by
  intro m g m' g' _ hagree
  refine ⟨fun c => Cert.Kernel19Ideal.Mat.res m c, ?_, ?_⟩
  · exact (θ_run Cert.Kernel19Ideal.defs _ _).mono
      (fun _ h c => ⟨(h c).1.trans (Cert.Kernel19Ideal.Mat.final m c), (h c).2⟩)
      (Cert.Kernel19Ideal.Value.run_blocks m g)
  · refine (θ_run Cert.Reference19Ideal.defs _ _).mono
      (fun _ h c => ⟨(h c).1.trans ?_, (h c).2⟩)
      (Cert.Reference19Ideal.Value.run (F := Ideal) m' g')
    refine (Cert.Reference19Ideal.Read.val_main_v3_eq _ _).trans ?_
    rw [(hagree c).1, (hagree c).2]
    funext j
    exact Cert.Reference19Ideal.Mat.v3_at _ _ j

/-- The reference's frame: its run read at its arguments; it declares no semaphore. -/
theorem frame_ref20 : Cert.quiescent_Reference20Ideal := fun m ρ _ =>
  (θ_run Cert.Reference20Ideal.defs _ _).mono (fun r h => ⟨fun c => (h c).2, Idealize.ShloMosaic.sem_eq_zero_of_no_sems (by decide) r.2⟩)
    (Cert.Reference20Ideal.Value.run (F := Ideal) m ρ)

/-- The gradient of the attention block's normalised input: kernel and reference end with equal arrays. -/
theorem algebraic20 : Cert.algebraic_Kernel20Ideal_Reference20Ideal := by
  intro m g m' g' _ hagree
  refine ⟨fun c => Cert.Kernel20Ideal.Mat.res m c, ?_, ?_⟩
  · exact (θ_run Cert.Kernel20Ideal.defs _ _).mono
      (fun _ h c => ⟨(h c).1.trans (Cert.Kernel20Ideal.Mat.final m c), (h c).2⟩)
      (Cert.Kernel20Ideal.Mat.run_res m g)
  · refine (θ_run Cert.Reference20Ideal.defs _ _).mono
      (fun _ h c => ⟨(h c).1.trans ?_, (h c).2⟩)
      (Cert.Reference20Ideal.Value.run (F := Ideal) m' g')
    refine (Cert.Reference20Ideal.Read.val_main_v9_eq _ _ _ _).trans ?_
    rw [(hagree c).1, (hagree c).2.1, (hagree c).2.2.1, (hagree c).2.2.2]
    funext j
    exact Cert.Reference20Ideal.Mat.v9_at _ _ _ _ j

/-- The reference's frame: its run read at its arguments; it declares no semaphore. -/
theorem frame_ref21 : Cert.quiescent_Reference21Ideal := fun m ρ _ =>
  (θ_run Cert.Reference21Ideal.defs _ _).mono (fun r h => ⟨fun c => (h c).2, Idealize.ShloMosaic.sem_eq_zero_of_no_sems (by decide) r.2⟩)
    (Cert.Reference21Ideal.Value.run (F := Ideal) m ρ)

/-- The gradient of the weight into the first attention group: kernel and reference end with equal arrays. -/
theorem algebraic21 : Cert.algebraic_Kernel21Ideal_Reference21Ideal := by
  intro m g m' g' _ hagree
  refine ⟨fun c => Cert.Kernel21Ideal.Mat.res m c, ?_, ?_⟩
  · exact (θ_run Cert.Kernel21Ideal.defs _ _).mono
      (fun _ h c => ⟨(h c).1.trans (Cert.Kernel21Ideal.Mat.final m c), (h c).2⟩)
      (Cert.Kernel21Ideal.Value.run_blocks m g)
  · refine (θ_run Cert.Reference21Ideal.defs _ _).mono
      (fun _ h c => ⟨(h c).1.trans ?_, (h c).2⟩)
      (Cert.Reference21Ideal.Value.run (F := Ideal) m' g')
    refine (Cert.Reference21Ideal.Read.val_main_v7_eq _ _).trans ?_
    rw [(hagree c).1, (hagree c).2]
    funext j
    exact Cert.Reference21Ideal.Mat.v7_at _ _ j

/-- The reference's frame: its run read at its arguments; it declares no semaphore. -/
theorem frame_ref22 : Cert.quiescent_Reference22Ideal := fun m ρ _ =>
  (θ_run Cert.Reference22Ideal.defs _ _).mono (fun r h => ⟨fun c => (h c).2, Idealize.ShloMosaic.sem_eq_zero_of_no_sems (by decide) r.2⟩)
    (Cert.Reference22Ideal.Value.run (F := Ideal) m ρ)

/-- The product into the second attention group: kernel and reference end with equal arrays. -/
theorem algebraic22 : Cert.algebraic_Kernel22Ideal_Reference22Ideal := by
  intro m g m' g' _ hagree
  refine ⟨fun c => Cert.Kernel22Ideal.Mat.res m c, ?_, ?_⟩
  · exact (θ_run Cert.Kernel22Ideal.defs _ _).mono
      (fun _ h c => ⟨(h c).1.trans (Cert.Kernel22Ideal.Mat.final m c), (h c).2⟩)
      (Cert.Kernel22Ideal.Value.run_blocks m g)
  · refine (θ_run Cert.Reference22Ideal.defs _ _).mono
      (fun _ h c => ⟨(h c).1.trans ?_, (h c).2⟩)
      (Cert.Reference22Ideal.Value.run (F := Ideal) m' g')
    refine (Cert.Reference22Ideal.Read.val_main_v5_eq _ _).trans ?_
    rw [(hagree c).1, (hagree c).2]
    funext j
    exact Cert.Reference22Ideal.Mat.v5_at _ _ j

/-- The reference's frame: its run read at its arguments; it declares no semaphore. -/
theorem frame_ref23 : Cert.quiescent_Reference23Ideal := fun m ρ _ =>
  (θ_run Cert.Reference23Ideal.defs _ _).mono (fun r h => ⟨fun c => (h c).2, Idealize.ShloMosaic.sem_eq_zero_of_no_sems (by decide) r.2⟩)
    (Cert.Reference23Ideal.Value.run (F := Ideal) m ρ)

/-- The product into the third attention group: kernel and reference end with equal arrays. -/
theorem algebraic23 : Cert.algebraic_Kernel23Ideal_Reference23Ideal := by
  intro m g m' g' _ hagree
  refine ⟨fun c => Cert.Kernel23Ideal.Mat.res m c, ?_, ?_⟩
  · exact (θ_run Cert.Kernel23Ideal.defs _ _).mono
      (fun _ h c => ⟨(h c).1.trans (Cert.Kernel23Ideal.Mat.final m c), (h c).2⟩)
      (Cert.Kernel23Ideal.Value.run_blocks m g)
  · refine (θ_run Cert.Reference23Ideal.defs _ _).mono
      (fun _ h c => ⟨(h c).1.trans ?_, (h c).2⟩)
      (Cert.Reference23Ideal.Value.run (F := Ideal) m' g')
    refine (Cert.Reference23Ideal.Read.val_main_v5_eq _ _).trans ?_
    rw [(hagree c).1, (hagree c).2]
    funext j
    exact Cert.Reference23Ideal.Mat.v5_at _ _ j

/-- The reference's frame: its run read at its arguments; it declares no semaphore. -/
theorem frame_ref24 : Cert.quiescent_Reference24Ideal := fun m ρ _ =>
  (θ_run Cert.Reference24Ideal.defs _ _).mono (fun r h => ⟨fun c => (h c).2, Idealize.ShloMosaic.sem_eq_zero_of_no_sems (by decide) r.2⟩)
    (Cert.Reference24Ideal.Value.run (F := Ideal) m ρ)

/-- The gradient of the weight into the second attention group: kernel and reference end with equal arrays. -/
theorem algebraic24 : Cert.algebraic_Kernel24Ideal_Reference24Ideal := by
  intro m g m' g' _ hagree
  refine ⟨fun c => Cert.Kernel24Ideal.Mat.res m c, ?_, ?_⟩
  · exact (θ_run Cert.Kernel24Ideal.defs _ _).mono
      (fun _ h c => ⟨(h c).1.trans (Cert.Kernel24Ideal.Mat.final m c), (h c).2⟩)
      (Cert.Kernel24Ideal.Value.run_blocks m g)
  · refine (θ_run Cert.Reference24Ideal.defs _ _).mono
      (fun _ h c => ⟨(h c).1.trans ?_, (h c).2⟩)
      (Cert.Reference24Ideal.Value.run (F := Ideal) m' g')
    refine (Cert.Reference24Ideal.Read.val_main_v9_eq _ _).trans ?_
    rw [(hagree c).1, (hagree c).2]
    funext j
    exact Cert.Reference24Ideal.Mat.v9_at _ _ j

/-- The reference's frame: its run read at its arguments; it declares no semaphore. -/
theorem frame_ref25 : Cert.quiescent_Reference25Ideal := fun m ρ _ =>
  (θ_run Cert.Reference25Ideal.defs _ _).mono (fun r h => ⟨fun c => (h c).2, Idealize.ShloMosaic.sem_eq_zero_of_no_sems (by decide) r.2⟩)
    (Cert.Reference25Ideal.Value.run (F := Ideal) m ρ)

/-- The gradient of the weight into the third attention group: kernel and reference end with equal arrays. -/
theorem algebraic25 : Cert.algebraic_Kernel25Ideal_Reference25Ideal := by
  intro m g m' g' _ hagree
  refine ⟨fun c => Cert.Kernel25Ideal.Mat.res m c, ?_, ?_⟩
  · exact (θ_run Cert.Kernel25Ideal.defs _ _).mono
      (fun _ h c => ⟨(h c).1.trans (Cert.Kernel25Ideal.Mat.final m c), (h c).2⟩)
      (Cert.Kernel25Ideal.Value.run_blocks m g)
  · refine (θ_run Cert.Reference25Ideal.defs _ _).mono
      (fun _ h c => ⟨(h c).1.trans ?_, (h c).2⟩)
      (Cert.Reference25Ideal.Value.run (F := Ideal) m' g')
    refine (Cert.Reference25Ideal.Read.val_main_v9_eq _ _).trans ?_
    rw [(hagree c).1, (hagree c).2]
    funext j
    exact Cert.Reference25Ideal.Mat.v9_at _ _ j

/-- The reference's frame: its run read at its arguments; it declares no semaphore. -/
theorem frame_ref26 : Cert.quiescent_Reference26Ideal := fun m ρ _ =>
  (θ_run Cert.Reference26Ideal.defs _ _).mono (fun r h => ⟨fun c => (h c).2, Idealize.ShloMosaic.sem_eq_zero_of_no_sems (by decide) r.2⟩)
    (Cert.Reference26Ideal.Value.run (F := Ideal) m ρ)

/-- The gradient of the second attention group's input: kernel and reference end with equal arrays. -/
theorem algebraic26 : Cert.algebraic_Kernel26Ideal_Reference26Ideal := by
  intro m g m' g' _ hagree
  refine ⟨fun c => Cert.Kernel26Ideal.Mat.res m c, ?_, ?_⟩
  · exact (θ_run Cert.Kernel26Ideal.defs _ _).mono
      (fun _ h c => ⟨(h c).1.trans (Cert.Kernel26Ideal.Mat.final m c), (h c).2⟩)
      (Cert.Kernel26Ideal.Mat.run_res m g)
  · refine (θ_run Cert.Reference26Ideal.defs _ _).mono
      (fun _ h c => ⟨(h c).1.trans ?_, (h c).2⟩)
      (Cert.Reference26Ideal.Value.run (F := Ideal) m' g')
    refine (Cert.Reference26Ideal.Read.val_main_v6_eq _ _).trans ?_
    rw [(hagree c).1, (hagree c).2]
    funext j
    exact Cert.Reference26Ideal.Mat.v6_at _ _ j

/-- The reference's frame: its run read at its arguments; it declares no semaphore. -/
theorem frame_ref27 : Cert.quiescent_Reference27Ideal := fun m ρ _ =>
  (θ_run Cert.Reference27Ideal.defs _ _).mono (fun r h => ⟨fun c => (h c).2, Idealize.ShloMosaic.sem_eq_zero_of_no_sems (by decide) r.2⟩)
    (Cert.Reference27Ideal.Value.run (F := Ideal) m ρ)

/-- The gradient of the third attention group's input: kernel and reference end with equal arrays. -/
theorem algebraic27 : Cert.algebraic_Kernel27Ideal_Reference27Ideal := by
  intro m g m' g' _ hagree
  refine ⟨fun c => Cert.Kernel27Ideal.Mat.res m c, ?_, ?_⟩
  · exact (θ_run Cert.Kernel27Ideal.defs _ _).mono
      (fun _ h c => ⟨(h c).1.trans (Cert.Kernel27Ideal.Mat.final m c), (h c).2⟩)
      (Cert.Kernel27Ideal.Mat.run_res m g)
  · refine (θ_run Cert.Reference27Ideal.defs _ _).mono
      (fun _ h c => ⟨(h c).1.trans ?_, (h c).2⟩)
      (Cert.Reference27Ideal.Value.run (F := Ideal) m' g')
    refine (Cert.Reference27Ideal.Read.val_main_v6_eq _ _).trans ?_
    rw [(hagree c).1, (hagree c).2]
    funext j
    exact Cert.Reference27Ideal.Mat.v6_at _ _ j

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts,
  fun m ρ _ => Cert.Kernel.Gen.frame m ρ, fun m ρ _ => Cert.KernelIdeal.Gen.frame m ρ, frame_ref,
  fun m ρ _ => Cert.Kernel2.Gen.frame m ρ, fun m ρ _ => Cert.Kernel2Ideal.Gen.frame m ρ, frame_ref2,
  fun m ρ _ => Cert.Kernel3.Gen.frame m ρ, fun m ρ _ => Cert.Kernel3Ideal.Gen.frame m ρ, frame_ref3,
  fun m ρ _ => Cert.Kernel4.Gen.frame m ρ, fun m ρ _ => Cert.Kernel4Ideal.Gen.frame m ρ, frame_ref4,
  fun m ρ _ => Cert.Kernel5.Gen.frame m ρ, fun m ρ _ => Cert.Kernel5Ideal.Gen.frame m ρ, frame_ref5,
  frame_kernel6, frame_ideal6, frame_ref6,
  fun m ρ _ => Cert.Kernel7.Gen.frame m ρ, fun m ρ _ => Cert.Kernel7Ideal.Gen.frame m ρ, frame_ref7,
  fun m ρ _ => Cert.Kernel8.Gen.frame m ρ, fun m ρ _ => Cert.Kernel8Ideal.Gen.frame m ρ, frame_ref8,
  fun m ρ _ => Cert.Kernel9.Gen.frame m ρ, fun m ρ _ => Cert.Kernel9Ideal.Gen.frame m ρ, frame_ref9,
  frame_kernel10, frame_ideal10, frame_ref10,
  fun m ρ _ => Cert.Kernel11.Gen.frame m ρ, fun m ρ _ => Cert.Kernel11Ideal.Gen.frame m ρ, frame_ref11,
  fun m ρ _ => Cert.Kernel12.Gen.frame m ρ, fun m ρ _ => Cert.Kernel12Ideal.Gen.frame m ρ, frame_ref12,
  fun m ρ _ => Cert.Kernel13.Gen.frame m ρ, fun m ρ _ => Cert.Kernel13Ideal.Gen.frame m ρ, frame_ref13,
  fun m ρ _ => Cert.Kernel14.Gen.frame m ρ, fun m ρ _ => Cert.Kernel14Ideal.Gen.frame m ρ, frame_ref14,
  fun m ρ _ => Cert.Kernel15.Gen.frame m ρ, fun m ρ _ => Cert.Kernel15Ideal.Gen.frame m ρ, frame_ref15,
  frame_kernel16, frame_ideal16, frame_ref16,
  fun m ρ _ => Cert.Kernel17.Gen.frame m ρ, fun m ρ _ => Cert.Kernel17Ideal.Gen.frame m ρ, frame_ref17,
  fun m ρ _ => Cert.Kernel18.Gen.frame m ρ, fun m ρ _ => Cert.Kernel18Ideal.Gen.frame m ρ, frame_ref18,
  fun m ρ _ => Cert.Kernel19.Gen.frame m ρ, fun m ρ _ => Cert.Kernel19Ideal.Gen.frame m ρ, frame_ref19,
  fun m ρ _ => Cert.Kernel20.Gen.frame m ρ, fun m ρ _ => Cert.Kernel20Ideal.Gen.frame m ρ, frame_ref20,
  fun m ρ _ => Cert.Kernel21.Gen.frame m ρ, fun m ρ _ => Cert.Kernel21Ideal.Gen.frame m ρ, frame_ref21,
  fun m ρ _ => Cert.Kernel22.Gen.frame m ρ, fun m ρ _ => Cert.Kernel22Ideal.Gen.frame m ρ, frame_ref22,
  fun m ρ _ => Cert.Kernel23.Gen.frame m ρ, fun m ρ _ => Cert.Kernel23Ideal.Gen.frame m ρ, frame_ref23,
  fun m ρ _ => Cert.Kernel24.Gen.frame m ρ, fun m ρ _ => Cert.Kernel24Ideal.Gen.frame m ρ, frame_ref24,
  fun m ρ _ => Cert.Kernel25.Gen.frame m ρ, fun m ρ _ => Cert.Kernel25Ideal.Gen.frame m ρ, frame_ref25,
  fun m ρ _ => Cert.Kernel26.Gen.frame m ρ, fun m ρ _ => Cert.Kernel26Ideal.Gen.frame m ρ, frame_ref26,
  fun m ρ _ => Cert.Kernel27.Gen.frame m ρ, fun m ρ _ => Cert.Kernel27Ideal.Gen.frame m ρ, frame_ref27,
  trivial, algebraic, trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14, trivial, algebraic15, trivial, algebraic16, trivial, algebraic17, trivial, algebraic18, trivial, algebraic19, trivial, algebraic20, trivial, algebraic21, trivial, algebraic22, trivial, algebraic23, trivial, algebraic24, trivial, algebraic25, trivial, algebraic26, trivial, algebraic27⟩

end Cert.Proof

end
